-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_Gathered (m : (ℓ : Loc Cert.Gathered.nD Cert.Gathered.τ Cert.Gathered.sig) → Buf (Elt Bits) ℓ) : Prop :=
  True

def Pre_Gathered_in_range [hPre_in_range : Cert.Pre_in_range.Facts] (m : (ℓ : Loc Cert.Gathered.nD Cert.Gathered.τ Cert.Gathered.sig) → Buf (Elt Bits) ℓ) : Prop :=
  ∀ c : Dev Cert.Gathered.nD,
    (Cert.Pre_in_range.fn (F := Bits) (m ((c.tc : Thread Cert.Gathered.nD Cert.Gathered.τ).loc Cert.Gathered.main_arg0)) (m ((c.tc : Thread Cert.Gathered.nD Cert.Gathered.τ).loc Cert.Gathered.main_arg1))) = (fun _ => 1#1)

def Pre_GatheredIdeal (m : (ℓ : Loc Cert.GatheredIdeal.nD Cert.GatheredIdeal.τ Cert.GatheredIdeal.sig) → Buf (Elt Ideal) ℓ) : Prop :=
  True

def Pre_GatheredIdeal_in_range [hPre_in_range : Cert.Pre_in_range.Facts] (m : (ℓ : Loc Cert.GatheredIdeal.nD Cert.GatheredIdeal.τ Cert.GatheredIdeal.sig) → Buf (Elt Ideal) ℓ) : Prop :=
  ∀ c : Dev Cert.GatheredIdeal.nD,
    (Cert.Pre_in_range.fn (F := Ideal) (m ((c.tc : Thread Cert.GatheredIdeal.nD Cert.GatheredIdeal.τ).loc Cert.GatheredIdeal.main_arg0)) (m ((c.tc : Thread Cert.GatheredIdeal.nD Cert.GatheredIdeal.τ).loc Cert.GatheredIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_Gathered [hGathered : Cert.Gathered.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1))
      ∧ r.2.sem = fun _ => 0)

def quiescent_Gathered_pre_in_range [hGathered : Cert.Gathered.Facts] [hPre_in_range : Cert.Pre_in_range.Facts] : Prop :=
  ∀ (m : (ℓ : Loc Cert.Gathered.nD Cert.Gathered.τ Cert.Gathered.sig) → Buf (Elt Bits) ℓ) (g : Dev Cert.Gathered.nD → PrngReg), Pre_Gathered_in_range m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1))
      ∧ r.2.sem = fun _ => 0)

def quiescent_GatheredIdeal [hGatheredIdeal : Cert.GatheredIdeal.Facts] : Prop :=
  ∀ (m : (ℓ : Loc Cert.GatheredIdeal.nD Cert.GatheredIdeal.τ Cert.GatheredIdeal.sig) → Buf (Elt Ideal) ℓ) (g : Dev Cert.GatheredIdeal.nD → PrngReg), Pre_GatheredIdeal m →
    θ_run (Cert.GatheredIdeal.defs (F := Ideal)) (onTc (τ := Cert.GatheredIdeal.τ) (Cert.GatheredIdeal.main (F := Ideal))) ⟨m, fun _ => 0, g⟩ (fun r => (∀ c : Dev Cert.GatheredIdeal.nD,
      r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0)
      ∧ r.2.mem ((c.tc : Thread Cert.GatheredIdeal.nD Cert.GatheredIdeal.τ).loc Cert.GatheredIdeal.main_arg1) = m ((c.tc : Thread Cert.GatheredIdeal.nD Cert.GatheredIdeal.τ).loc Cert.GatheredIdeal.main_arg1))
      ∧ r.2.sem = fun _ => 0)

def quiescent_GatheredIdeal_pre_in_range [hGatheredIdeal : Cert.GatheredIdeal.Facts] [hPre_in_range : Cert.Pre_in_range.Facts] : Prop :=
  ∀ (m : (ℓ : Loc Cert.GatheredIdeal.nD Cert.GatheredIdeal.τ Cert.GatheredIdeal.sig) → Buf (Elt Ideal) ℓ) (g : Dev Cert.GatheredIdeal.nD → PrngReg), Pre_GatheredIdeal_in_range m →
    θ_run (Cert.GatheredIdeal.defs (F := Ideal)) (onTc (τ := Cert.GatheredIdeal.τ) (Cert.GatheredIdeal.main (F := Ideal))) ⟨m, fun _ => 0, g⟩ (fun r => (∀ c : Dev Cert.GatheredIdeal.nD,
      r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0)
      ∧ r.2.mem ((c.tc : Thread Cert.GatheredIdeal.nD Cert.GatheredIdeal.τ).loc Cert.GatheredIdeal.main_arg1) = m ((c.tc : Thread Cert.GatheredIdeal.nD Cert.GatheredIdeal.τ).loc Cert.GatheredIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def algebraic_GatherIdeal_GatheredIdeal [hGatherIdeal : Cert.GatherIdeal.Facts] [hGatheredIdeal : Cert.GatheredIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatheredIdeal.nD Cert.GatheredIdeal.τ Cert.GatheredIdeal.sig) → Buf (Elt Ideal) ℓ) (g' : Dev Cert.GatheredIdeal.nD → PrngReg), Pre_GatherIdeal m →
    (∀ c : Dev Cert.GatherIdeal.nD,
      m' ((c.tc : Thread Cert.GatheredIdeal.nD Cert.GatheredIdeal.τ).loc Cert.GatheredIdeal.main_arg0) = m ((c.tc : Thread Cert.GatherIdeal.nD Cert.GatherIdeal.τ).loc Cert.GatherIdeal.main_arg0)
      ∧ m' ((c.tc : Thread Cert.GatheredIdeal.nD Cert.GatheredIdeal.τ).loc Cert.GatheredIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatheredIdeal.defs (F := Ideal)) (onTc (τ := Cert.GatheredIdeal.τ) (Cert.GatheredIdeal.main (F := Ideal))) ⟨m', fun _ => 0, g'⟩ (fun r => ∀ c : Dev Cert.GatheredIdeal.nD,
          r.2.mem ((c.tc : Thread Cert.GatheredIdeal.nD Cert.GatheredIdeal.τ).loc Cert.GatheredIdeal.main_v3) = v0 c
          ∧ r.2.mem ((c.tc : Thread Cert.GatheredIdeal.nD Cert.GatheredIdeal.τ).loc Cert.GatheredIdeal.main_arg0) = m' ((c.tc : Thread Cert.GatheredIdeal.nD Cert.GatheredIdeal.τ).loc Cert.GatheredIdeal.main_arg0)
          ∧ r.2.mem ((c.tc : Thread Cert.GatheredIdeal.nD Cert.GatheredIdeal.τ).loc Cert.GatheredIdeal.main_arg1) = m' ((c.tc : Thread Cert.GatheredIdeal.nD Cert.GatheredIdeal.τ).loc Cert.GatheredIdeal.main_arg1))

def bitexact_Gather_Gathered [hGather : Cert.Gather.Facts] [hGathered : Cert.Gathered.Facts] [hPre_in_range : Cert.Pre_in_range.Facts] : Prop :=
  ∀ (m : (ℓ : Loc Cert.Gather.nD Cert.Gather.τ Cert.Gather.sig) → Buf (Elt Bits) ℓ) (g : Dev Cert.Gather.nD → PrngReg)
    (m' : (ℓ : Loc Cert.Gathered.nD Cert.Gathered.τ Cert.Gathered.sig) → Buf (Elt Bits) ℓ) (g' : Dev Cert.Gathered.nD → PrngReg), Pre_Gather m →
    (∀ c : Dev Cert.Gather.nD,
      m' ((c.tc : Thread Cert.Gathered.nD Cert.Gathered.τ).loc Cert.Gathered.main_arg0) = m ((c.tc : Thread Cert.Gather.nD Cert.Gather.τ).loc Cert.Gather.main_arg0)
      ∧ m' ((c.tc : Thread Cert.Gathered.nD Cert.Gathered.τ).loc Cert.Gathered.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v2)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v2) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Gathered.defs (F := Bits)) (onTc (τ := Cert.Gathered.τ) (Cert.Gathered.main (F := Bits))) ⟨m', fun _ => 0, g'⟩ (fun r => ∀ c : Dev Cert.Gathered.nD,
          r.2.mem ((c.tc : Thread Cert.Gathered.nD Cert.Gathered.τ).loc Cert.Gathered.main_v3) = v0 c
          ∧ r.2.mem ((c.tc : Thread Cert.Gathered.nD Cert.Gathered.τ).loc Cert.Gathered.main_arg0) = m' ((c.tc : Thread Cert.Gathered.nD Cert.Gathered.τ).loc Cert.Gathered.main_arg0)
          ∧ r.2.mem ((c.tc : Thread Cert.Gathered.nD Cert.Gathered.τ).loc Cert.Gathered.main_arg1) = m' ((c.tc : Thread Cert.Gathered.nD Cert.Gathered.τ).loc Cert.Gathered.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGathered : Cert.Gathered.Facts) (hGatheredIdeal : Cert.GatheredIdeal.Facts) (hPre_in_range : Cert.Pre_in_range.Facts),
    quiescent_KernelIdeal (hKernelIdeal := hKernelIdeal)
    ∧ quiescent_ReferenceIdeal (hReferenceIdeal := hReferenceIdeal)
    ∧ quiescent_Gather (hGather := hGather) (hPre_in_range := hPre_in_range)
    ∧ quiescent_GatherIdeal (hGatherIdeal := hGatherIdeal) (hPre_in_range := hPre_in_range)
    ∧ quiescent_Gathered (hGathered := hGathered)
    ∧ quiescent_Gathered_pre_in_range (hGathered := hGathered) (hPre_in_range := hPre_in_range)
    ∧ quiescent_GatheredIdeal (hGatheredIdeal := hGatheredIdeal)
    ∧ quiescent_GatheredIdeal_pre_in_range (hGatheredIdeal := hGatheredIdeal) (hPre_in_range := hPre_in_range)
    ∧ algebraic_KernelIdeal_ReferenceIdeal (hKernelIdeal := hKernelIdeal) (hReferenceIdeal := hReferenceIdeal)
    ∧ preserves_Gather_GatherIdeal
    ∧ algebraic_GatherIdeal_GatheredIdeal (hGatherIdeal := hGatherIdeal) (hGatheredIdeal := hGatheredIdeal) (hPre_in_range := hPre_in_range)
    ∧ bitexact_Gather_Gathered (hGather := hGather) (hGathered := hGathered) (hPre_in_range := hPre_in_range)
-- ==== Pre_in_range.lean ====
abbrev S8x128x8192 : Shape := ⟨3, ![8, 128, 8192]⟩
abbrev S8x2048 : Shape := ⟨2, ![8, 2048]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel

variable [Facts]

def fn {F : FTy → Type} [FloatOps F] (main_arg0 : FVec F S8x128x8192 .f32) (main_arg1 : IVec S8x2048 32) : IVec S_ 1 :=
  let main_c : IVec S_ 32 := constantI S_ 32 0#32
  let main_v0 : IVec S8x2048 32 := broadcastInDim S8x2048 ![] bcast_S_S8x2048 main_c
  let main_v1 : IVec S8x2048 1 := cmpi .sge main_arg1 main_v0
  let main_c_0 : IVec S_ 32 := constantI S_ 32 8192#32
  let main_v2 : IVec S8x2048 32 := broadcastInDim S8x2048 ![] bcast_S_S8x2048 main_c_0
  let main_v3 : IVec S8x2048 1 := cmpi .slt main_arg1 main_v2
  let main_v4 : IVec S8x2048 1 := andi main_v1 main_v3
  let main_c_1 : IVec S_ 1 := constantI S_ 1 1#1
  let main_v5 : IVec S_ 1 := (fun x v => Host.reduce IntOp.andi x v reducesTo_S8x2048_S_d0_1 h_S_) main_v4 main_c_1
  main_v5
-- ==== KernelIdeal.lean ====
abbrev S8x3x8192 : Shape := ⟨3, ![8, 3, 8192]⟩
abbrev S8x128x8192 : Shape := ⟨3, ![8, 128, 8192]⟩
abbrev S2x4x3x2x4096 : Shape := ⟨5, ![2, 4, 3, 2, 4096]⟩
abbrev S2x3x4x2x4096 : Shape := ⟨5, ![2, 3, 4, 2, 4096]⟩
abbrev S2x3x8x4096 : Shape := ⟨4, ![2, 3, 8, 4096]⟩
abbrev S8x2048 : Shape := ⟨2, ![8, 2048]⟩
abbrev S2x8x4096 : Shape := ⟨3, ![2, 8, 4096]⟩
abbrev S8x4096 : Shape := ⟨2, ![8, 4096]⟩
abbrev S8x128 : Shape := ⟨2, ![8, 128]⟩
abbrev S8x1 : Shape := ⟨2, ![8, 1]⟩
abbrev S1x8x4096 : Shape := ⟨3, ![1, 8, 4096]⟩
abbrev S8 : Shape := ⟨1, ![8]⟩
abbrev S1x1 : Shape := ⟨2, ![1, 1]⟩
abbrev S7x1 : Shape := ⟨2, ![7, 1]⟩
abbrev S1x1x8x4096 : Shape := ⟨4, ![1, 1, 8, 4096]⟩
abbrev S1x128 : Shape := ⟨2, ![1, 128]⟩
abbrev S128 : Shape := ⟨1, ![128]⟩
abbrev S8x1x2048 : Shape := ⟨3, ![8, 1, 2048]⟩
abbrev S8x3x2048 : Shape := ⟨3, ![8, 3, 2048]⟩
abbrev S1024x8192 : Shape := ⟨2, ![1024, 8192]⟩
abbrev S1024x2048 : Shape := ⟨2, ![1024, 2048]⟩
abbrev S2048 : Shape := ⟨1, ![2048]⟩
abbrev S2x8192 : Shape := ⟨2, ![2, 8192]⟩
abbrev S2x2048 : Shape := ⟨2, ![2, 2048]⟩
abbrev S_ : Shape := ⟨0, ![]⟩
abbrev S1x2048 : Shape := ⟨2, ![1, 2048]⟩
abbrev S1x8192 : Shape := ⟨2, ![1, 8192]⟩
abbrev S8192 : Shape := ⟨1, ![8192]⟩
abbrev S16 : Shape := ⟨1, ![16]⟩
abbrev S1x16 : Shape := ⟨2, ![1, 16]⟩
abbrev S8x128x2048 : Shape := ⟨3, ![8, 128, 2048]⟩

abbrev nBuf : Table → Nat
  | .hbm => 16
  | .local .tc .vmem => 6
  | .local .scVector .vmem => 3
  | _ => 0

abbrev bufTy : (tb : Table) → Fin (nBuf tb) → BufTy
  | .hbm, ⟨0, _⟩ => ⟨S8x3x8192, .f32⟩
  | .hbm, ⟨1, _⟩ => ⟨S8x128x8192, .f32⟩
  | .hbm, ⟨2, _⟩ => ⟨S2x4x3x2x4096, .f32⟩
  | .hbm, ⟨3, _⟩ => ⟨S2x3x4x2x4096, .f32⟩
  | .hbm, ⟨4, _⟩ => ⟨S2x3x8x4096, .f32⟩
  | .hbm, ⟨5, _⟩ => ⟨S8x2048, .i32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x3x2048, .f32⟩
  | .hbm, ⟨13, _⟩ => ⟨S1024x8192, .f32⟩
  | .hbm, ⟨14, _⟩ => ⟨S1024x2048, .f32⟩
  | .hbm, ⟨15, _⟩ => ⟨S8x128x2048, .f32⟩
  | .local .tc .vmem, ⟨0, _⟩ => ⟨S2x3x8x4096, .f32⟩
  | .local .tc .vmem, ⟨1, _⟩ => ⟨S8x2048, .i32⟩
  | .local .tc .vmem, ⟨2, _⟩ => ⟨S8x2048, .f32⟩
  | .local .tc .vmem, ⟨3, _⟩ => ⟨S8x2048, .f32⟩
  | .local .tc .vmem, ⟨4, _⟩ => ⟨S8x2048, .f32⟩
  | .local .tc .vmem, ⟨5, _⟩ => ⟨S2x8x4096, .f32⟩
  | .local .scVector .vmem, ⟨0, _⟩ => ⟨S2048, .i32⟩
  | .local .scVector .vmem, ⟨1, _⟩ => ⟨S2x8192, .f32⟩
  | .local .scVector .vmem, ⟨2, _⟩ => ⟨S2x2048, .f32⟩
  | _, _ => ⟨S8x3x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v8_scv : Ref sig .scVector := ⟨.hbm, 13, rfl⟩
abbrev main_v3_0_scv : Ref sig .scVector := ⟨.hbm, 5, rfl⟩
abbrev main_v9_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c0_i32_14 : BitVec 32 := 0#32
  let c16_i32 : BitVec 32 := 16#32
  let v48 : BitVec 32 := Scalar.addi c0_i32_14 c16_i32
  let c1_i32_15 : BitVec 32 := 1#32
  ⟨c0_i32_14, v48, c1_i32_15⟩
@[reducible] def k0_t2_loop : Scf.Loop 32 :=
  let c0_i32_18 : BitVec 32 := 0#32
  let c128_i32 : BitVec 32 := 128#32
  let v51 : BitVec 32 := Scalar.addi c0_i32_18 c128_i32
  let c1_i32_19 : BitVec 32 := 1#32
  ⟨c0_i32_18, v51, c1_i32_19⟩
def k0_mult1 (k0_t1 : Fin k0_t1_loop.trips) : BitVec 32 :=
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  v53
def k0_off1 (k0_t1 : Fin k0_t1_loop.trips) : Fin 2 → Nat :=
  let c0_22 : Index := 0#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v58 : Index := Scalar.indexCast v54
  ![0, v58.toNat]
def k0_off2 (k0_t1 : Fin k0_t1_loop.trips) : Fin 2 → Nat :=
  let c1 : Index := 1#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v83 : Index := Scalar.indexCast v54
  ![1, v83.toNat]
def k0_off3 (k0_t1 : Fin k0_t1_loop.trips) : Fin 2 → Nat :=
  let c2 : Index := 2#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v108 : Index := Scalar.indexCast v54
  ![2, v108.toNat]
def k0_off4 (k0_t1 : Fin k0_t1_loop.trips) : Fin 2 → Nat :=
  let c3 : Index := 3#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v133 : Index := Scalar.indexCast v54
  ![3, v133.toNat]
def k0_off5 (k0_t1 : Fin k0_t1_loop.trips) : Fin 2 → Nat :=
  let c4 : Index := 4#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v158 : Index := Scalar.indexCast v54
  ![4, v158.toNat]
def k0_off6 (k0_t1 : Fin k0_t1_loop.trips) : Fin 2 → Nat :=
  let c5 : Index := 5#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v183 : Index := Scalar.indexCast v54
  ![5, v183.toNat]
def k0_off7 (k0_t1 : Fin k0_t1_loop.trips) : Fin 2 → Nat :=
  let c6 : Index := 6#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v208 : Index := Scalar.indexCast v54
  ![6, v208.toNat]
def k0_off8 (k0_t1 : Fin k0_t1_loop.trips) : Fin 2 → Nat :=
  let c7 : Index := 7#32
  let c0_i32_14 : BitVec 32 := 0#32
  let c1_i32_15 : BitVec 32 := 1#32
  let arg6 : BitVec 32 := Scf.iv c0_i32_14 c1_i32_15 k0_t1
  let c128_i32_21 : BitVec 32 := 128#32
  let v53 : BitVec 32 := Scalar.muli arg6 c128_i32_21
  let v54 : BitVec 32 := v53
  let v233 : Index := Scalar.indexCast v54
  ![7, v233.toNat]
abbrev stage0_0 : Fin 1 → Memref sig .tc .vmem S2x3x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v1 c4_i32
  let c0_i32_3 : BitVec 32 := 0#32
  let v16 : BitVec 1 := Scalar.cmpi .ne v15 c0_i32_3
  let v17 : BitVec 1 := Scalar.andi v14 v16
  let v3 : BitVec 32 := Scalar.divsi v1 c4_i32
  let c1_i32 : BitVec 32 := 1#32
  let v18 : BitVec 32 := Scalar.subi v3 c1_i32
  let v19 : BitVec 32 := Scalar.select v17 v18 v3
  let c0_i32_30_r0 : BitVec 32 := 0#32
  ![v19.toNat, 0]
def k1_off2 (i : grid1.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v20 : BitVec 32 := Scalar.addi v2 c0_i32_4
  let c0_i32_7 : BitVec 32 := 0#32
  ![v20.toNat, 0]
@[reducible] def k1_t1_loop : Scf.Loop 32 :=
  let c0_i32_17 : BitVec 32 := 0#32
  let c16_i32 : BitVec 32 := 16#32
  let v38 : BitVec 32 := Scalar.addi c0_i32_17 c16_i32
  let c1_i32_18 : BitVec 32 := 1#32
  ⟨c0_i32_17, v38, c1_i32_18⟩
def k1_cond1 (k1_t1 : Fin k1_t1_loop.trips) : BitVec 1 :=
  let c0_i32_17 : BitVec 32 := 0#32
  let c1_i32_18 : BitVec 32 := 1#32
  let arg12 : BitVec 32 := Scf.iv c0_i32_17 c1_i32_18 k1_t1
  let c0_i32_32 : BitVec 32 := 0#32
  let v60 : BitVec 1 := Scalar.cmpi .sgt arg12 c0_i32_32
  let v61 : BitVec 32 := Scalar.extui v60
  let c0_i32_33 : BitVec 32 := 0#32
  let v62 : BitVec 1 := Scalar.cmpi .ne v61 c0_i32_33
  v62

def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_78 : BitVec 32 := 2#32
  let c0_i32_17 : BitVec 32 := 0#32
  let c1_i32_18 : BitVec 32 := 1#32
  let arg12 : BitVec 32 := Scf.iv c0_i32_17 c1_i32_18 k1_t1
  let c1_i32_77 : BitVec 32 := 1#32
  let v118 : BitVec 32 := Scalar.subi arg12 c1_i32_77
  let v119 : BitVec 32 := Scalar.muli c2_i32_78 v118
  let c0_i32_79 : BitVec 32 := 0#32
  let v120 : BitVec 32 := Scalar.addi v119 c0_i32_79
  let v121 : BitVec 32 := Scalar.addi v2 v120
  let c0_i32_82 : BitVec 32 := 0#32
  ![v121.toNat, 0]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_30 : BitVec 32 := 2#32
  let c0_i32_17 : BitVec 32 := 0#32
  let c1_i32_18 : BitVec 32 := 1#32
  let arg12 : BitVec 32 := Scf.iv c0_i32_17 c1_i32_18 k1_t1
  let v58 : BitVec 32 := Scalar.muli c2_i32_30 arg12
  let c0_i32_31 : BitVec 32 := 0#32
  let v59 : BitVec 32 := Scalar.addi v58 c0_i32_31
  let v63 : BitVec 32 := Scalar.addi v2 v59
  let c0_i32_36 : BitVec 32 := 0#32
  ![v63.toNat, 0]
@[reducible] def k1_t2_loop : Scf.Loop 32 :=
  let c0_i32_41 : BitVec 32 := 0#32
  let c32_i32_42 : BitVec 32 := 32#32
  let v73 : BitVec 32 := Scalar.addi c0_i32_41 c32_i32_42
  let c1_i32_43 : BitVec 32 := 1#32
  ⟨c0_i32_41, v73, c1_i32_43⟩
def k1_off5 (k1_t2 : Fin k1_t2_loop.trips) : Fin 1 → Nat :=
  let c0_i32_41 : BitVec 32 := 0#32
  let c1_i32_43 : BitVec 32 := 1#32
  let arg14 : BitVec 32 := Scf.iv c0_i32_41 c1_i32_43 k1_t2
  let c64_i32 : BitVec 32 := 64#32
  let v118 : BitVec 32 := Scalar.muli arg14 c64_i32
  let c0_i32_77 : BitVec 32 := 0#32
  let v119 : BitVec 32 := Scalar.addi v118 c0_i32_77
  let v120 : Index := Scalar.indexCast v119
  ![v120.toNat]

def k1_chk1 (v72 : IVec S16 32) (v121 : IVec S16 32) : Prop :=
  (∀ a x, ((![v72, v121] : Fin 2 → IVec S16 32) a x).toNat < S2x8192.size a)
theorem k1_idx1_inb : ∀ (v72 : IVec S16 32) (v121 : IVec S16 32) (k1_hw1 : k1_chk1 v72 v121), ∀ a x, ((![v72, v121] : Fin 2 → IVec S16 32) a x).toNat < S2x8192.size a := fun v72 v121 k1_hw1 => k1_hw1
def k1_off6 (k1_t2 : Fin k1_t2_loop.trips) : Fin 2 → Nat :=
  let c0_i32_78 : BitVec 32 := 0#32
  let v123 : Index := Scalar.indexCast c0_i32_78
  let c0_i32_41 : BitVec 32 := 0#32
  let c1_i32_43 : BitVec 32 := 1#32
  let arg14 : BitVec 32 := Scf.iv c0_i32_41 c1_i32_43 k1_t2
  let c64_i32 : BitVec 32 := 64#32
  let v118 : BitVec 32 := Scalar.muli arg14 c64_i32
  let c0_i32_77 : BitVec 32 := 0#32
  let v119 : BitVec 32 := Scalar.addi v118 c0_i32_77
  let v124 : Index := Scalar.indexCast v119
  ![0, v124.toNat]
def k1_off7 (k1_t2 : Fin k1_t2_loop.trips) : Fin 1 → Nat :=
  let c0_i32_41 : BitVec 32 := 0#32
  let c1_i32_43 : BitVec 32 := 1#32
  let arg14 : BitVec 32 := Scf.iv c0_i32_41 c1_i32_43 k1_t2
  let c64_i32_79 : BitVec 32 := 64#32
  let v126 : BitVec 32 := Scalar.muli arg14 c64_i32_79
  let c16_i32_80 : BitVec 32 := 16#32
  let v127 : BitVec 32 := Scalar.addi v126 c16_i32_80
  let v128 : Index := Scalar.indexCast v127
  ![v128.toNat]

def k1_chk2 (v72 : IVec S16 32) (v129 : IVec S16 32) : Prop :=
  (∀ a x, ((![v72, v129] : Fin 2 → IVec S16 32) a x).toNat < S2x8192.size a)
theorem k1_idx2_inb : ∀ (v72 : IVec S16 32) (v129 : IVec S16 32) (k1_hw2 : k1_chk2 v72 v129), ∀ a x, ((![v72, v129] : Fin 2 → IVec S16 32) a x).toNat < S2x8192.size a := fun v72 v129 k1_hw2 => k1_hw2
def k1_off8 (k1_t2 : Fin k1_t2_loop.trips) : Fin 2 → Nat :=
  let c0_i32_81 : BitVec 32 := 0#32
  let v131 : Index := Scalar.indexCast c0_i32_81
  let c0_i32_41 : BitVec 32 := 0#32
  let c1_i32_43 : BitVec 32 := 1#32
  let arg14 : BitVec 32 := Scf.iv c0_i32_41 c1_i32_43 k1_t2
  let c64_i32_79 : BitVec 32 := 64#32
  let v126 : BitVec 32 := Scalar.muli arg14 c64_i32_79
  let c16_i32_80 : BitVec 32 := 16#32
  let v127 : BitVec 32 := Scalar.addi v126 c16_i32_80
  let v132 : Index := Scalar.indexCast v127
  ![0, v132.toNat]
def k1_off9 (k1_t2 : Fin k1_t2_loop.trips) : Fin 1 → Nat :=
  let c0_i32_41 : BitVec 32 := 0#32
  let c1_i32_43 : BitVec 32 := 1#32
  let arg14 : BitVec 32 := Scf.iv c0_i32_41 c1_i32_43 k1_t2
  let c64_i32_82 : BitVec 32 := 64#32
  let v134 : BitVec 32 := Scalar.muli arg14 c64_i32_82
  let c32_i32_83 : BitVec 32 := 32#32
  let v135 : BitVec 32 := Scalar.addi v134 c32_i32_83
  let v136 : Index := Scalar.indexCast v135
  ![v136.toNat]

def k1_chk3 (v72 : IVec S16 32) (v137 : IVec S16 32) : Prop :=
  (∀ a x, ((![v72, v137] : Fin 2 → IVec S16 32) a x).toNat < S2x8192.size a)
theorem k1_idx3_inb : ∀ (v72 : IVec S16 32) (v137 : IVec S16 32) (k1_hw3 : k1_chk3 v72 v137), ∀ a x, ((![v72, v137] : Fin 2 → IVec S16 32) a x).toNat < S2x8192.size a := fun v72 v137 k1_hw3 => k1_hw3
def k1_off10 (k1_t2 : Fin k1_t2_loop.trips) : Fin 2 → Nat :=
  let c0_i32_84 : BitVec 32 := 0#32
  let v139 : Index := Scalar.indexCast c0_i32_84
  let c0_i32_41 : BitVec 32 := 0#32
  let c1_i32_43 : BitVec 32 := 1#32
  let arg14 : BitVec 32 := Scf.iv c0_i32_41 c1_i32_43 k1_t2
  let c64_i32_82 : BitVec 32 := 64#32
  let v134 : BitVec 32 := Scalar.muli arg14 c64_i32_82
  let c32_i32_83 : BitVec 32 := 32#32
  let v135 : BitVec 32 := Scalar.addi v134 c32_i32_83
  let v140 : Index := Scalar.indexCast v135
  ![0, v140.toNat]
def k1_off11 (k1_t2 : Fin k1_t2_loop.trips) : Fin 1 → Nat :=
  let c0_i32_41 : BitVec 32 := 0#32
  let c1_i32_43 : BitVec 32 := 1#32
  let arg14 : BitVec 32 := Scf.iv c0_i32_41 c1_i32_43 k1_t2
  let c64_i32_85 : BitVec 32 := 64#32
  let v142 : BitVec 32 := Scalar.muli arg14 c64_i32_85
  let c48_i32 : BitVec 32 := 48#32
  let v143 : BitVec 32 := Scalar.addi v142 c48_i32
  let v144 : Index := Scalar.indexCast v143
  ![v144.toNat]

def k1_chk4 (v72 : IVec S16 32) (v145 : IVec S16 32) : Prop :=
  (∀ a x, ((![v72, v145] : Fin 2 → IVec S16 32) a x).toNat < S2x8192.size a)
theorem k1_idx4_inb : ∀ (v72 : IVec S16 32) (v145 : IVec S16 32) (k1_hw4 : k1_chk4 v72 v145), ∀ a x, ((![v72, v145] : Fin 2 → IVec S16 32) a x).toNat < S2x8192.size a := fun v72 v145 k1_hw4 => k1_hw4
def k1_off12 (k1_t2 : Fin k1_t2_loop.trips) : Fin 2 → Nat :=
  let c0_i32_86 : BitVec 32 := 0#32
  let v147 : Index := Scalar.indexCast c0_i32_86
  let c0_i32_41 : BitVec 32 := 0#32
  let c1_i32_43 : BitVec 32 := 1#32
  let arg14 : BitVec 32 := Scf.iv c0_i32_41 c1_i32_43 k1_t2
  let c64_i32_85 : BitVec 32 := 64#32
  let v142 : BitVec 32 := Scalar.muli arg14 c64_i32_85
  let c48_i32 : BitVec 32 := 48#32
  let v143 : BitVec 32 := Scalar.addi v142 c48_i32
  let v148 : Index := Scalar.indexCast v143
  ![0, v148.toNat]
def k1_off13 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_30 : BitVec 32 := 2#32
  let c0_i32_17 : BitVec 32 := 0#32
  let c1_i32_18 : BitVec 32 := 1#32
  let arg12 : BitVec 32 := Scf.iv c0_i32_17 c1_i32_18 k1_t1
  let v58 : BitVec 32 := Scalar.muli c2_i32_30 arg12
  let c0_i32_31 : BitVec 32 := 0#32
  let v59 : BitVec 32 := Scalar.addi v58 c0_i32_31
  let v75 : BitVec 32 := Scalar.addi v2 v59
  let c0_i32_47 : BitVec 32 := 0#32
  ![v75.toNat, 0]
def k1_cond2 (k1_t1 : Fin k1_t1_loop.trips) : BitVec 1 :=
  let c0_i32_17 : BitVec 32 := 0#32
  let c1_i32_18 : BitVec 32 := 1#32
  let arg12 : BitVec 32 := Scf.iv c0_i32_17 c1_i32_18 k1_t1
  let c1_i32_50 : BitVec 32 := 1#32
  let v84 : BitVec 32 := Scalar.addi arg12 c1_i32_50
  let c16_i32_51 : BitVec 32 := 16#32
  let v85 : BitVec 1 := Scalar.cmpi .slt v84 c16_i32_51
  let v86 : BitVec 32 := Scalar.extui v85
  let c0_i32_52 : BitVec 32 := 0#32
  let v87 : BitVec 1 := Scalar.cmpi .ne v86 c0_i32_52
  v87

def k1_off14 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_30 : BitVec 32 := 2#32
  let c0_i32_17 : BitVec 32 := 0#32
  let c1_i32_18 : BitVec 32 := 1#32
  let arg12 : BitVec 32 := Scf.iv c0_i32_17 c1_i32_18 k1_t1
  let v58 : BitVec 32 := Scalar.muli c2_i32_30 arg12
  let c0_i32_31 : BitVec 32 := 0#32
  let v59 : BitVec 32 := Scalar.addi v58 c0_i32_31
  let c2_i32_77 : BitVec 32 := 2#32
  let v118 : BitVec 32 := Scalar.addi v59 c2_i32_77
  let v119 : BitVec 32 := Scalar.addi v2 v118
  let c0_i32_80 : BitVec 32 := 0#32
  ![v119.toNat, 0]
def k1_cond3 (k1_t1 : Fin k1_t1_loop.trips) : BitVec 1 :=
  let c0_i32_17 : BitVec 32 := 0#32
  let c1_i32_18 : BitVec 32 := 1#32
  let arg12 : BitVec 32 := Scf.iv c0_i32_17 c1_i32_18 k1_t1
  let c0_i32_55 : BitVec 32 := 0#32
  let v90 : BitVec 1 := Scalar.cmpi .sgt arg12 c0_i32_55
  let v91 : BitVec 32 := Scalar.extui v90
  let c0_i32_56 : BitVec 32 := 0#32
  let v92 : BitVec 1 := Scalar.cmpi .ne v91 c0_i32_56
  v92

def k1_off15 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_78 : BitVec 32 := 2#32
  let c0_i32_17 : BitVec 32 := 0#32
  let c1_i32_18 : BitVec 32 := 1#32
  let arg12 : BitVec 32 := Scf.iv c0_i32_17 c1_i32_18 k1_t1
  let c1_i32_77 : BitVec 32 := 1#32
  let v118 : BitVec 32 := Scalar.subi arg12 c1_i32_77
  let v119 : BitVec 32 := Scalar.muli c2_i32_78 v118
  let c1_i32_79 : BitVec 32 := 1#32
  let v120 : BitVec 32 := Scalar.addi v119 c1_i32_79
  let v121 : BitVec 32 := Scalar.addi v2 v120
  let c0_i32_82 : BitVec 32 := 0#32
  ![v121.toNat, 0]
def k1_off16 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_53 : BitVec 32 := 2#32
  let c0_i32_17 : BitVec 32 := 0#32
  let c1_i32_18 : BitVec 32 := 1#32
  let arg12 : BitVec 32 := Scf.iv c0_i32_17 c1_i32_18 k1_t1
  let v88 : BitVec 32 := Scalar.muli c2_i32_53 arg12
  let c1_i32_54 : BitVec 32 := 1#32
  let v89 : BitVec 32 := Scalar.addi v88 c1_i32_54
  let v93 : BitVec 32 := Scalar.addi v2 v89
  let c0_i32_59 : BitVec 32 := 0#32
  ![v93.toNat, 0]
@[reducible] def k1_t3_loop : Scf.Loop 32 :=
  let c0_i32_64 : BitVec 32 := 0#32
  let c32_i32_65 : BitVec 32 := 32#32
  let v103 : BitVec 32 := Scalar.addi c0_i32_64 c32_i32_65
  let c1_i32_66 : BitVec 32 := 1#32
  ⟨c0_i32_64, v103, c1_i32_66⟩
def k1_off17 (k1_t3 : Fin k1_t3_loop.trips) : Fin 1 → Nat :=
  let c0_i32_64 : BitVec 32 := 0#32
  let c1_i32_66 : BitVec 32 := 1#32
  let arg14 : BitVec 32 := Scf.iv c0_i32_64 c1_i32_66 k1_t3
  let c64_i32 : BitVec 32 := 64#32
  let v118 : BitVec 32 := Scalar.muli arg14 c64_i32
  let c0_i32_77 : BitVec 32 := 0#32
  let v119 : BitVec 32 := Scalar.addi v118 c0_i32_77
  let v120 : Index := Scalar.indexCast v119
  ![v120.toNat]

def k1_chk5 (v102 : IVec S16 32) (v121 : IVec S16 32) : Prop :=
  (∀ a x, ((![v102, v121] : Fin 2 → IVec S16 32) a x).toNat < S2x8192.size a)
theorem k1_idx5_inb : ∀ (v102 : IVec S16 32) (v121 : IVec S16 32) (k1_hw5 : k1_chk5 v102 v121), ∀ a x, ((![v102, v121] : Fin 2 → IVec S16 32) a x).toNat < S2x8192.size a := fun v102 v121 k1_hw5 => k1_hw5
def k1_off18 (k1_t3 : Fin k1_t3_loop.trips) : Fin 2 → Nat :=
  let c1_i32_78 : BitVec 32 := 1#32
  let v123 : Index := Scalar.indexCast c1_i32_78
  let c0_i32_64 : BitVec 32 := 0#32
  let c1_i32_66 : BitVec 32 := 1#32
  let arg14 : BitVec 32 := Scf.iv c0_i32_64 c1_i32_66 k1_t3
  let c64_i32 : BitVec 32 := 64#32
  let v118 : BitVec 32 := Scalar.muli arg14 c64_i32
  let c0_i32_77 : BitVec 32 := 0#32
  let v119 : BitVec 32 := Scalar.addi v118 c0_i32_77
  let v124 : Index := Scalar.indexCast v119
  ![1, v124.toNat]
def k1_off19 (k1_t3 : Fin k1_t3_loop.trips) : Fin 1 → Nat :=
  let c0_i32_64 : BitVec 32 := 0#32
  let c1_i32_66 : BitVec 32 := 1#32
  let arg14 : BitVec 32 := Scf.iv c0_i32_64 c1_i32_66 k1_t3
  let c64_i32_79 : BitVec 32 := 64#32
  let v126 : BitVec 32 := Scalar.muli arg14 c64_i32_79
  let c16_i32_80 : BitVec 32 := 16#32
  let v127 : BitVec 32 := Scalar.addi v126 c16_i32_80
  let v128 : Index := Scalar.indexCast v127
  ![v128.toNat]

def k1_chk6 (v102 : IVec S16 32) (v129 : IVec S16 32) : Prop :=
  (∀ a x, ((![v102, v129] : Fin 2 → IVec S16 32) a x).toNat < S2x8192.size a)
theorem k1_idx6_inb : ∀ (v102 : IVec S16 32) (v129 : IVec S16 32) (k1_hw6 : k1_chk6 v102 v129), ∀ a x, ((![v102, v129] : Fin 2 → IVec S16 32) a x).toNat < S2x8192.size a := fun v102 v129 k1_hw6 => k1_hw6
def k1_off20 (k1_t3 : Fin k1_t3_loop.trips) : Fin 2 → Nat :=
  let c1_i32_81 : BitVec 32 := 1#32
  let v131 : Index := Scalar.indexCast c1_i32_81
  let c0_i32_64 : BitVec 32 := 0#32
  let c1_i32_66 : BitVec 32 := 1#32
  let arg14 : BitVec 32 := Scf.iv c0_i32_64 c1_i32_66 k1_t3
  let c64_i32_79 : BitVec 32 := 64#32
  let v126 : BitVec 32 := Scalar.muli arg14 c64_i32_79
  let c16_i32_80 : BitVec 32 := 16#32
  let v127 : BitVec 32 := Scalar.addi v126 c16_i32_80
  let v132 : Index := Scalar.indexCast v127
  ![1, v132.toNat]
def k1_off21 (k1_t3 : Fin k1_t3_loop.trips) : Fin 1 → Nat :=
  let c0_i32_64 : BitVec 32 := 0#32
  let c1_i32_66 : BitVec 32 := 1#32
  let arg14 : BitVec 32 := Scf.iv c0_i32_64 c1_i32_66 k1_t3
  let c64_i32_82 : BitVec 32 := 64#32
  let v134 : BitVec 32 := Scalar.muli arg14 c64_i32_82
  let c32_i32_83 : BitVec 32 := 32#32
  let v135 : BitVec 32 := Scalar.addi v134 c32_i32_83
  let v136 : Index := Scalar.indexCast v135
  ![v136.toNat]

def k1_chk7 (v102 : IVec S16 32) (v137 : IVec S16 32) : Prop :=
  (∀ a x, ((![v102, v137] : Fin 2 → IVec S16 32) a x).toNat < S2x8192.size a)
theorem k1_idx7_inb : ∀ (v102 : IVec S16 32) (v137 : IVec S16 32) (k1_hw7 : k1_chk7 v102 v137), ∀ a x, ((![v102, v137] : Fin 2 → IVec S16 32) a x).toNat < S2x8192.size a := fun v102 v137 k1_hw7 => k1_hw7
def k1_off22 (k1_t3 : Fin k1_t3_loop.trips) : Fin 2 → Nat :=
  let c1_i32_84 : BitVec 32 := 1#32
  let v139 : Index := Scalar.indexCast c1_i32_84
  let c0_i32_64 : BitVec 32 := 0#32
  let c1_i32_66 : BitVec 32 := 1#32
  let arg14 : BitVec 32 := Scf.iv c0_i32_64 c1_i32_66 k1_t3
  let c64_i32_82 : BitVec 32 := 64#32
  let v134 : BitVec 32 := Scalar.muli arg14 c64_i32_82
  let c32_i32_83 : BitVec 32 := 32#32
  let v135 : BitVec 32 := Scalar.addi v134 c32_i32_83
  let v140 : Index := Scalar.indexCast v135
  ![1, v140.toNat]
def k1_off23 (k1_t3 : Fin k1_t3_loop.trips) : Fin 1 → Nat :=
  let c0_i32_64 : BitVec 32 := 0#32
  let c1_i32_66 : BitVec 32 := 1#32
  let arg14 : BitVec 32 := Scf.iv c0_i32_64 c1_i32_66 k1_t3
  let c64_i32_85 : BitVec 32 := 64#32
  let v142 : BitVec 32 := Scalar.muli arg14 c64_i32_85
  let c48_i32 : BitVec 32 := 48#32
  let v143 : BitVec 32 := Scalar.addi v142 c48_i32
  let v144 : Index := Scalar.indexCast v143
  ![v144.toNat]

def k1_chk8 (v102 : IVec S16 32) (v145 : IVec S16 32) : Prop :=
  (∀ a x, ((![v102, v145] : Fin 2 → IVec S16 32) a x).toNat < S2x8192.size a)
theorem k1_idx8_inb : ∀ (v102 : IVec S16 32) (v145 : IVec S16 32) (k1_hw8 : k1_chk8 v102 v145), ∀ a x, ((![v102, v145] : Fin 2 → IVec S16 32) a x).toNat < S2x8192.size a := fun v102 v145 k1_hw8 => k1_hw8
def k1_off24 (k1_t3 : Fin k1_t3_loop.trips) : Fin 2 → Nat :=
  let c1_i32_86 : BitVec 32 := 1#32
  let v147 : Index := Scalar.indexCast c1_i32_86
  let c0_i32_64 : BitVec 32 := 0#32
  let c1_i32_66 : BitVec 32 := 1#32
  let arg14 : BitVec 32 := Scf.iv c0_i32_64 c1_i32_66 k1_t3
  let c64_i32_85 : BitVec 32 := 64#32
  let v142 : BitVec 32 := Scalar.muli arg14 c64_i32_85
  let c48_i32 : BitVec 32 := 48#32
  let v143 : BitVec 32 := Scalar.addi v142 c48_i32
  let v148 : Index := Scalar.indexCast v143
  ![1, v148.toNat]
def k1_off25 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_53 : BitVec 32 := 2#32
  let c0_i32_17 : BitVec 32 := 0#32
  let c1_i32_18 : BitVec 32 := 1#32
  let arg12 : BitVec 32 := Scf.iv c0_i32_17 c1_i32_18 k1_t1
  let v88 : BitVec 32 := Scalar.muli c2_i32_53 arg12
  let c1_i32_54 : BitVec 32 := 1#32
  let v89 : BitVec 32 := Scalar.addi v88 c1_i32_54
  let v105 : BitVec 32 := Scalar.addi v2 v89
  let c0_i32_70 : BitVec 32 := 0#32
  ![v105.toNat, 0]
def k1_cond4 (k1_t1 : Fin k1_t1_loop.trips) : BitVec 1 :=
  let c0_i32_17 : BitVec 32 := 0#32
  let c1_i32_18 : BitVec 32 := 1#32
  let arg12 : BitVec 32 := Scf.iv c0_i32_17 c1_i32_18 k1_t1
  let c1_i32_73 : BitVec 32 := 1#32
  let v114 : BitVec 32 := Scalar.addi arg12 c1_i32_73
  let c16_i32_74 : BitVec 32 := 16#32
  let v115 : BitVec 1 := Scalar.cmpi .slt v114 c16_i32_74
  let v116 : BitVec 32 := Scalar.extui v115
  let c0_i32_75 : BitVec 32 := 0#32
  let v117 : BitVec 1 := Scalar.cmpi .ne v116 c0_i32_75
  v117

def k1_off26 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_53 : BitVec 32 := 2#32
  let c0_i32_17 : BitVec 32 := 0#32
  let c1_i32_18 : BitVec 32 := 1#32
  let arg12 : BitVec 32 := Scf.iv c0_i32_17 c1_i32_18 k1_t1
  let v88 : BitVec 32 := Scalar.muli c2_i32_53 arg12
  let c1_i32_54 : BitVec 32 := 1#32
  let v89 : BitVec 32 := Scalar.addi v88 c1_i32_54
  let c2_i32_77 : BitVec 32 := 2#32
  let v118 : BitVec 32 := Scalar.addi v89 c2_i32_77
  let v119 : BitVec 32 := Scalar.addi v2 v118
  let c0_i32_80 : BitVec 32 := 0#32
  ![v119.toNat, 0]
def k1_off27 (i : grid1.Coords) (c30_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v40 : BitVec 32 := Scalar.addi v2 c30_i32
  let c0_i32_22 : BitVec 32 := 0#32
  ![v40.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x3x8192 : Shape := ⟨3, ![8, 3, 8192]⟩
abbrev S8x128x8192 : Shape := ⟨3, ![8, 128, 8192]⟩
abbrev S8x8192x3 : Shape := ⟨3, ![8, 8192, 3]⟩
abbrev S8x8192x128 : Shape := ⟨3, ![8, 8192, 128]⟩
abbrev S_ : Shape := ⟨0, ![]⟩
abbrev S8x2048 : Shape := ⟨2, ![8, 2048]⟩
abbrev S8x8192 : Shape := ⟨2, ![8, 8192]⟩
abbrev S8 : Shape := ⟨1, ![8]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x2048x1 : Shape := ⟨3, ![8, 2048, 1]⟩
abbrev S8x2048x3 : Shape := ⟨3, ![8, 2048, 3]⟩
abbrev S8x2048x128 : Shape := ⟨3, ![8, 2048, 128]⟩
abbrev S8x3x2048 : Shape := ⟨3, ![8, 3, 2048]⟩
abbrev S8x128x2048 : Shape := ⟨3, ![8, 128, 2048]⟩

abbrev nBuf : Space → Nat
  | .hbm => 114
  | .vmem => 0
  | .smem => 0
  | _ => 0

abbrev bufTy : (tb : Table) → Fin (tcTables nBuf tb) → BufTy
  | .hbm, ⟨0, _⟩ => ⟨S8x3x8192, .f32⟩
  | .hbm, ⟨1, _⟩ => ⟨S8x128x8192, .f32⟩
  | .hbm, ⟨2, _⟩ => ⟨S8x8192x3, .f32⟩
  | .hbm, ⟨3, _⟩ => ⟨S8x8192x128, .f32⟩
  | .hbm, ⟨4, _⟩ => ⟨S_, .i32⟩
  | .hbm, ⟨5, _⟩ => ⟨S8x2048, .i32⟩
  | .hbm, ⟨6, _⟩ => ⟨S_, .f32⟩
  | .hbm, ⟨7, _⟩ => ⟨S8x8192, .f32⟩
  | .hbm, ⟨8, _⟩ => ⟨S_, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8x8192x3, .f32⟩
  | .hbm, ⟨13, _⟩ => ⟨S_, .i32⟩
  | .hbm, ⟨14, _⟩ => ⟨S_, .i32⟩
  | .hbm, ⟨15, _⟩ => ⟨S8x2048, .i32⟩
  | .hbm, ⟨16, _⟩ => ⟨S8x8192, .f32⟩
  | .hbm, ⟨17, _⟩ => ⟨S8, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S8x2048, .i32⟩
  | .hbm, ⟨30, _⟩ => ⟨S8x1x1, .i32⟩
  | .hbm, ⟨31, _⟩ => ⟨S_, .i32⟩
  | .hbm, ⟨32, _⟩ => ⟨S8x1x1, .i32⟩
  | .hbm, ⟨33, _⟩ => ⟨S8x1x1, .i1⟩
  | .hbm, ⟨34, _⟩ => ⟨S_, .i32⟩
  | .hbm, ⟨35, _⟩ => ⟨S8x1x1, .i32⟩
  | .hbm, ⟨36, _⟩ => ⟨S8x1x1, .i32⟩
  | .hbm, ⟨37, _⟩ => ⟨S8x1x1, .i32⟩
  | .hbm, ⟨38, _⟩ => ⟨S1, .i32⟩
  | .hbm, ⟨39, _⟩ => ⟨S_, .i32⟩
  | .hbm, ⟨40, _⟩ => ⟨S8x1x1, .i32⟩
  | .hbm, ⟨41, _⟩ => ⟨S8x1x1, .i1⟩
  | .hbm, ⟨42, _⟩ => ⟨S1x1x1, .i32⟩
  | .hbm, ⟨43, _⟩ => ⟨S8x1x1, .i32⟩
  | .hbm, ⟨44, _⟩ => ⟨S8x1x1, .i1⟩
  | .hbm, ⟨45, _⟩ => ⟨S8x1x1, .i1⟩
  | .hbm, ⟨46, _⟩ => ⟨S_, .i1⟩
  | .hbm, ⟨47, _⟩ => ⟨S8x1, .i1⟩
  | .hbm, ⟨48, _⟩ => ⟨S8x1x3, .f32⟩
  | .hbm, ⟨49, _⟩ => ⟨S8x1x3, .i1⟩
  | .hbm, ⟨50, _⟩ => ⟨S_, .f32⟩
  | .hbm, ⟨51, _⟩ => ⟨S8x1x3, .f32⟩
  | .hbm, ⟨52, _⟩ => ⟨S8x1x3, .f32⟩
  | .hbm, ⟨53, _⟩ => ⟨S8x8192x3, .f32⟩
  | .hbm, ⟨54, _⟩ => ⟨S8x8192x3, .f32⟩
  | .hbm, ⟨55, _⟩ => ⟨S8x8192x3, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192, .i32⟩
  | .hbm, ⟨60, _⟩ => ⟨S_, .f32⟩
  | .hbm, ⟨61, _⟩ => ⟨S_, .i32⟩
  | .hbm, ⟨62, _⟩ => ⟨S8, .f32⟩
  | .hbm, ⟨63, _⟩ => ⟨S8, .i32⟩
  | .hbm, ⟨64, _⟩ => ⟨S_, .i32⟩
  | .hbm, ⟨65, _⟩ => ⟨S_, .i32⟩
  | .hbm, ⟨66, _⟩ => ⟨S8x2048x1, .i32⟩
  | .hbm, ⟨67, _⟩ => ⟨S_, .i32⟩
  | .hbm, ⟨68, _⟩ => ⟨S8x2048x1, .i32⟩
  | .hbm, ⟨69, _⟩ => ⟨S8x2048x1, .i1⟩
  | .hbm, ⟨70, _⟩ => ⟨S_, .i32⟩
  | .hbm, ⟨71, _⟩ => ⟨S8x2048x1, .i32⟩
  | .hbm, ⟨72, _⟩ => ⟨S8x2048x1, .i32⟩
  | .hbm, ⟨73, _⟩ => ⟨S8x2048x1, .i32⟩
  | .hbm, ⟨74, _⟩ => ⟨S1, .i32⟩
  | .hbm, ⟨75, _⟩ => ⟨S_, .i32⟩
  | .hbm, ⟨76, _⟩ => ⟨S8x2048x1, .i32⟩
  | .hbm, ⟨77, _⟩ => ⟨S8x2048x1, .i1⟩
  | .hbm, ⟨78, _⟩ => ⟨S1x1x1, .i32⟩
  | .hbm, ⟨79, _⟩ => ⟨S8x2048x1, .i32⟩
  | .hbm, ⟨80, _⟩ => ⟨S8x2048x1, .i1⟩
  | .hbm, ⟨81, _⟩ => ⟨S8x2048x1, .i1⟩
  | .hbm, ⟨82, _⟩ => ⟨S_, .i1⟩
  | .hbm, ⟨83, _⟩ => ⟨S8x2048, .i1⟩
  | .hbm, ⟨84, _⟩ => ⟨S8x2048x3, .f32⟩
  | .hbm, ⟨85, _⟩ => ⟨S8x2048x3, .i1⟩
  | .hbm, ⟨86, _⟩ => ⟨S_, .f32⟩
  | .hbm, ⟨87, _⟩ => ⟨S8x2048x3, .f32⟩
  | .hbm, ⟨88, _⟩ => ⟨S8x2048x3, .f32⟩
  | .hbm, ⟨89, _⟩ => ⟨S8x2048x1, .i32⟩
  | .hbm, ⟨90, _⟩ => ⟨S_, .i32⟩
  | .hbm, ⟨91, _⟩ => ⟨S8x2048x1, .i32⟩
  | .hbm, ⟨92, _⟩ => ⟨S8x2048x1, .i1⟩
  | .hbm, ⟨93, _⟩ => ⟨S_, .i32⟩
  | .hbm, ⟨94, _⟩ => ⟨S8x2048x1, .i32⟩
  | .hbm, ⟨95, _⟩ => ⟨S8x2048x1, .i32⟩
  | .hbm, ⟨96, _⟩ => ⟨S8x2048x1, .i32⟩
  | .hbm, ⟨97, _⟩ => ⟨S1, .i32⟩
  | .hbm, ⟨98, _⟩ => ⟨S_, .i32⟩
  | .hbm, ⟨99, _⟩ => ⟨S8x2048x1, .i32⟩
  | .hbm, ⟨100, _⟩ => ⟨S8x2048x1, .i1⟩
  | .hbm, ⟨101, _⟩ => ⟨S1x1x1, .i32⟩
  | .hbm, ⟨102, _⟩ => ⟨S8x2048x1, .i32⟩
  | .hbm, ⟨103, _⟩ => ⟨S8x2048x1, .i1⟩
  | .hbm, ⟨104, _⟩ => ⟨S8x2048x1, .i1⟩
  | .hbm, ⟨105, _⟩ => ⟨S_, .i1⟩
  | .hbm, ⟨106, _⟩ => ⟨S8x2048, .i1⟩
  | .hbm, ⟨107, _⟩ => ⟨S8x2048x128, .f32⟩
  | .hbm, ⟨108, _⟩ => ⟨S8x2048x128, .i1⟩
  | .hbm, ⟨109, _⟩ => ⟨S_, .f32⟩
  | .hbm, ⟨110, _⟩ => ⟨S8x2048x128, .f32⟩
  | .hbm, ⟨111, _⟩ => ⟨S8x2048x128, .f32⟩
  | .hbm, ⟨112, _⟩ => ⟨S8x3x2048, .f32⟩
  | .hbm, ⟨113, _⟩ => ⟨S8x128x2048, .f32⟩
  | _, _ => ⟨S8x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_c_1 : Ref sig .tc := ⟨.hbm, 10, rfl⟩
abbrev main_c_2 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_while0c_c_8 : Ref sig .tc := ⟨.hbm, 18, rfl⟩
abbrev main_while0c_v12 : Ref sig .tc := ⟨.hbm, 19, rfl⟩
abbrev main_while0b_c_8 : Ref sig .tc := ⟨.hbm, 20, rfl⟩
abbrev main_while0b_v12 : Ref sig .tc := ⟨.hbm, 21, rfl⟩
abbrev main_while0b_c_9 : Ref sig .tc := ⟨.hbm, 22, rfl⟩
abbrev main_while0b_v13 : Ref sig .tc := ⟨.hbm, 23, rfl⟩
abbrev main_while0b_c_10 : Ref sig .tc := ⟨.hbm, 24, rfl⟩
abbrev main_while0b_v14 : Ref sig .tc := ⟨.hbm, 25, rfl⟩
abbrev main_while0b_v15 : Ref sig .tc := ⟨.hbm, 26, rfl⟩
abbrev main_while0b_v16 : Ref sig .tc := ⟨.hbm, 27, rfl⟩
abbrev main_while0b_v17 : Ref sig .tc := ⟨.hbm, 28, rfl⟩
abbrev main_while0b_v18 : Ref sig .tc := ⟨.hbm, 29, rfl⟩
abbrev main_while0b_v19 : Ref sig .tc := ⟨.hbm, 30, rfl⟩
abbrev main_while0b_call0_c : Ref sig .tc := ⟨.hbm, 31, rfl⟩
abbrev main_while0b_call0_v0 : Ref sig .tc := ⟨.hbm, 32, rfl⟩
abbrev main_while0b_call0_v1 : Ref sig .tc := ⟨.hbm, 33, rfl⟩
abbrev main_while0b_call0_c_0 : Ref sig .tc := ⟨.hbm, 34, rfl⟩
abbrev main_while0b_call0_v2 : Ref sig .tc := ⟨.hbm, 35, rfl⟩
abbrev main_while0b_call0_v3 : Ref sig .tc := ⟨.hbm, 36, rfl⟩
abbrev main_while0b_call0_v4 : Ref sig .tc := ⟨.hbm, 37, rfl⟩
abbrev main_while0b_call0_c_1 : Ref sig .tc := ⟨.hbm, 38, rfl⟩
abbrev main_while0b_call0_c_2 : Ref sig .tc := ⟨.hbm, 39, rfl⟩
abbrev main_while0b_call0_v5 : Ref sig .tc := ⟨.hbm, 40, rfl⟩
abbrev main_while0b_call0_v6 : Ref sig .tc := ⟨.hbm, 41, rfl⟩
abbrev main_while0b_call0_v7 : Ref sig .tc := ⟨.hbm, 42, rfl⟩
abbrev main_while0b_call0_v8 : Ref sig .tc := ⟨.hbm, 43, rfl⟩
abbrev main_while0b_call0_v9 : Ref sig .tc := ⟨.hbm, 44, rfl⟩
abbrev main_while0b_call0_v10 : Ref sig .tc := ⟨.hbm, 45, rfl⟩
abbrev main_while0b_call0_c_3 : Ref sig .tc := ⟨.hbm, 46, rfl⟩
abbrev main_while0b_call0_v11 : Ref sig .tc := ⟨.hbm, 47, rfl⟩
abbrev main_while0b_call0_v12 : Ref sig .tc := ⟨.hbm, 48, rfl⟩
abbrev main_while0b_call0_v13 : Ref sig .tc := ⟨.hbm, 49, rfl⟩
abbrev main_while0b_call0_cst : Ref sig .tc := ⟨.hbm, 50, rfl⟩
abbrev main_while0b_call0_v14 : Ref sig .tc := ⟨.hbm, 51, rfl⟩
abbrev main_while0b_v20 : Ref sig .tc := ⟨.hbm, 52, rfl⟩
abbrev main_while0b_v21 : Ref sig .tc := ⟨.hbm, 53, rfl⟩
abbrev main_while0b_v22 : Ref sig .tc := ⟨.hbm, 54, rfl⟩
abbrev main_while0b_v23 : Ref sig .tc := ⟨.hbm, 55, rfl⟩
abbrev main_while0b_cst_11 : Ref sig .tc := ⟨.hbm, 56, rfl⟩
abbrev main_while0b_v24 : Ref sig .tc := ⟨.hbm, 57, rfl⟩
abbrev main_while0b_v25 : Ref sig .tc := ⟨.hbm, 58, rfl⟩
abbrev main_while0b_call1_v0 : Ref sig .tc := ⟨.hbm, 59, rfl⟩
abbrev main_while0b_call1_cst : Ref sig .tc := ⟨.hbm, 60, rfl⟩
abbrev main_while0b_call1_c : Ref sig .tc := ⟨.hbm, 61, rfl⟩
abbrev main_while0b_call1_v1_0 : Ref sig .tc := ⟨.hbm, 62, rfl⟩
abbrev main_while0b_v26 : Ref sig .tc := ⟨.hbm, 63, rfl⟩
abbrev main_while0b_c_12 : Ref sig .tc := ⟨.hbm, 64, rfl⟩
abbrev main_while0b_v27 : Ref sig .tc := ⟨.hbm, 65, rfl⟩
abbrev main_v6 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_c_2 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_c_3 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v7 : Ref sig .tc := ⟨.hbm, 88, rfl⟩
abbrev main_v8 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_c_2 : Ref sig .tc := ⟨.hbm, 98, rfl⟩
abbrev main_call3_v5 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_c_3 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_cst : Ref sig .tc := ⟨.hbm, 109, rfl⟩
abbrev main_call3_v14 : Ref sig .tc := ⟨.hbm, 110, rfl⟩
abbrev main_v9 : Ref sig .tc := ⟨.hbm, 111, rfl⟩
abbrev main_v10 : Ref sig .tc := ⟨.hbm, 112, rfl⟩
abbrev main_v11 : Ref sig .tc := ⟨.hbm, 113, rfl⟩

abbrev nD : Nat := 1
abbrev τ : Topo := Topo.v7x

variable {F : FTy → Type} [FloatOps F]

abbrev main_while0_count : Scf.Loop 32 := ⟨0#32, 2048#32, 1#32⟩
-- ==== Gather.lean ====
abbrev S8x128x8192 : Shape := ⟨3, ![8, 128, 8192]⟩
abbrev S8x2048 : Shape := ⟨2, ![8, 2048]⟩
abbrev S1024x8192 : Shape := ⟨2, ![1024, 8192]⟩
abbrev S1024x2048 : Shape := ⟨2, ![1024, 2048]⟩
abbrev S2048 : Shape := ⟨1, ![2048]⟩
abbrev S2x8192 : Shape := ⟨2, ![2, 8192]⟩
abbrev S2x2048 : Shape := ⟨2, ![2, 2048]⟩
abbrev S_ : Shape := ⟨0, ![]⟩
abbrev S1x2048 : Shape := ⟨2, ![1, 2048]⟩
abbrev S1x8192 : Shape := ⟨2, ![1, 8192]⟩
abbrev S8192 : Shape := ⟨1, ![8192]⟩
abbrev S16 : Shape := ⟨1, ![16]⟩
abbrev S1x16 : Shape := ⟨2, ![1, 16]⟩
abbrev S8x128x2048 : Shape := ⟨3, ![8, 128, 2048]⟩

abbrev nBuf : Table → Nat
  | .hbm => 5
  | .local .scVector .vmem => 3
  | _ => 0

abbrev bufTy : (tb : Table) → Fin (nBuf tb) → BufTy
  | .hbm, ⟨0, _⟩ => ⟨S8x128x8192, .f32⟩
  | .hbm, ⟨1, _⟩ => ⟨S8x2048, .i32⟩
  | .hbm, ⟨2, _⟩ => ⟨S1024x8192, .f32⟩
  | .hbm, ⟨3, _⟩ => ⟨S1024x2048, .f32⟩
  | .hbm, ⟨4, _⟩ => ⟨S8x128x2048, .f32⟩
  | .local .scVector .vmem, ⟨0, _⟩ => ⟨S2048, .i32⟩
  | .local .scVector .vmem, ⟨1, _⟩ => ⟨S2x8192, .f32⟩
  | .local .scVector .vmem, ⟨2, _⟩ => ⟨S2x2048, .f32⟩
  | _, _ => ⟨S8x128x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v4 : BitVec 1 := Scalar.cmpi .sgt v1 c0_i32
  let v5 : BitVec 32 := Scalar.extui v4
  let c0_i32_0 : BitVec 32 := 0#32
  let v6 : BitVec 1 := Scalar.cmpi .slt v1 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v1 c4_i32
  let c0_i32_3 : BitVec 32 := 0#32
  let v16 : BitVec 1 := Scalar.cmpi .ne v15 c0_i32_3
  let v17 : BitVec 1 := Scalar.andi v14 v16
  let v3 : BitVec 32 := Scalar.divsi v1 c4_i32
  let c1_i32 : BitVec 32 := 1#32
  let v18 : BitVec 32 := Scalar.subi v3 c1_i32
  let v19 : BitVec 32 := Scalar.select v17 v18 v3
  let c0_i32_30_r0 : BitVec 32 := 0#32
  ![v19.toNat, 0]
def k0_off2 (i : grid0.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v20 : BitVec 32 := Scalar.addi v2 c0_i32_4
  let c0_i32_7 : BitVec 32 := 0#32
  ![v20.toNat, 0]
@[reducible] def k0_t1_loop : Scf.Loop 32 :=
  let c0_i32_17 : BitVec 32 := 0#32
  let c16_i32 : BitVec 32 := 16#32
  let v38 : BitVec 32 := Scalar.addi c0_i32_17 c16_i32
  let c1_i32_18 : BitVec 32 := 1#32
  ⟨c0_i32_17, v38, c1_i32_18⟩
def k0_cond1 (k0_t1 : Fin k0_t1_loop.trips) : BitVec 1 :=
  let c0_i32_17 : BitVec 32 := 0#32
  let c1_i32_18 : BitVec 32 := 1#32
  let arg12 : BitVec 32 := Scf.iv c0_i32_17 c1_i32_18 k0_t1
  let c0_i32_32 : BitVec 32 := 0#32
  let v60 : BitVec 1 := Scalar.cmpi .sgt arg12 c0_i32_32
  let v61 : BitVec 32 := Scalar.extui v60
  let c0_i32_33 : BitVec 32 := 0#32
  let v62 : BitVec 1 := Scalar.cmpi .ne v61 c0_i32_33
  v62

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_78 : BitVec 32 := 2#32
  let c0_i32_17 : BitVec 32 := 0#32
  let c1_i32_18 : BitVec 32 := 1#32
  let arg12 : BitVec 32 := Scf.iv c0_i32_17 c1_i32_18 k0_t1
  let c1_i32_77 : BitVec 32 := 1#32
  let v118 : BitVec 32 := Scalar.subi arg12 c1_i32_77
  let v119 : BitVec 32 := Scalar.muli c2_i32_78 v118
  let c0_i32_79 : BitVec 32 := 0#32
  let v120 : BitVec 32 := Scalar.addi v119 c0_i32_79
  let v121 : BitVec 32 := Scalar.addi v2 v120
  let c0_i32_82 : BitVec 32 := 0#32
  ![v121.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_30 : BitVec 32 := 2#32
  let c0_i32_17 : BitVec 32 := 0#32
  let c1_i32_18 : BitVec 32 := 1#32
  let arg12 : BitVec 32 := Scf.iv c0_i32_17 c1_i32_18 k0_t1
  let v58 : BitVec 32 := Scalar.muli c2_i32_30 arg12
  let c0_i32_31 : BitVec 32 := 0#32
  let v59 : BitVec 32 := Scalar.addi v58 c0_i32_31
  let v63 : BitVec 32 := Scalar.addi v2 v59
  let c0_i32_36 : BitVec 32 := 0#32
  ![v63.toNat, 0]
@[reducible] def k0_t2_loop : Scf.Loop 32 :=
  let c0_i32_41 : BitVec 32 := 0#32
  let c32_i32_42 : BitVec 32 := 32#32
  let v73 : BitVec 32 := Scalar.addi c0_i32_41 c32_i32_42
  let c1_i32_43 : BitVec 32 := 1#32
  ⟨c0_i32_41, v73, c1_i32_43⟩
def k0_off5 (k0_t2 : Fin k0_t2_loop.trips) : Fin 1 → Nat :=
  let c0_i32_41 : BitVec 32 := 0#32
  let c1_i32_43 : BitVec 32 := 1#32
  let arg14 : BitVec 32 := Scf.iv c0_i32_41 c1_i32_43 k0_t2
  let c64_i32 : BitVec 32 := 64#32
  let v118 : BitVec 32 := Scalar.muli arg14 c64_i32
  let c0_i32_77 : BitVec 32 := 0#32
  let v119 : BitVec 32 := Scalar.addi v118 c0_i32_77
  let v120 : Index := Scalar.indexCast v119
  ![v120.toNat]

def k0_chk1 (v72 : IVec S16 32) (v121 : IVec S16 32) : Prop :=
  (∀ a x, ((![v72, v121] : Fin 2 → IVec S16 32) a x).toNat < S2x8192.size a)
theorem k0_idx1_inb : ∀ (v72 : IVec S16 32) (v121 : IVec S16 32) (k0_hw1 : k0_chk1 v72 v121), ∀ a x, ((![v72, v121] : Fin 2 → IVec S16 32) a x).toNat < S2x8192.size a := fun v72 v121 k0_hw1 => k0_hw1
def k0_off6 (k0_t2 : Fin k0_t2_loop.trips) : Fin 2 → Nat :=
  let c0_i32_78 : BitVec 32 := 0#32
  let v123 : Index := Scalar.indexCast c0_i32_78
  let c0_i32_41 : BitVec 32 := 0#32
  let c1_i32_43 : BitVec 32 := 1#32
  let arg14 : BitVec 32 := Scf.iv c0_i32_41 c1_i32_43 k0_t2
  let c64_i32 : BitVec 32 := 64#32
  let v118 : BitVec 32 := Scalar.muli arg14 c64_i32
  let c0_i32_77 : BitVec 32 := 0#32
  let v119 : BitVec 32 := Scalar.addi v118 c0_i32_77
  let v124 : Index := Scalar.indexCast v119
  ![0, v124.toNat]
def k0_off7 (k0_t2 : Fin k0_t2_loop.trips) : Fin 1 → Nat :=
  let c0_i32_41 : BitVec 32 := 0#32
  let c1_i32_43 : BitVec 32 := 1#32
  let arg14 : BitVec 32 := Scf.iv c0_i32_41 c1_i32_43 k0_t2
  let c64_i32_79 : BitVec 32 := 64#32
  let v126 : BitVec 32 := Scalar.muli arg14 c64_i32_79
  let c16_i32_80 : BitVec 32 := 16#32
  let v127 : BitVec 32 := Scalar.addi v126 c16_i32_80
  let v128 : Index := Scalar.indexCast v127
  ![v128.toNat]

def k0_chk2 (v72 : IVec S16 32) (v129 : IVec S16 32) : Prop :=
  (∀ a x, ((![v72, v129] : Fin 2 → IVec S16 32) a x).toNat < S2x8192.size a)
theorem k0_idx2_inb : ∀ (v72 : IVec S16 32) (v129 : IVec S16 32) (k0_hw2 : k0_chk2 v72 v129), ∀ a x, ((![v72, v129] : Fin 2 → IVec S16 32) a x).toNat < S2x8192.size a := fun v72 v129 k0_hw2 => k0_hw2
def k0_off8 (k0_t2 : Fin k0_t2_loop.trips) : Fin 2 → Nat :=
  let c0_i32_81 : BitVec 32 := 0#32
  let v131 : Index := Scalar.indexCast c0_i32_81
  let c0_i32_41 : BitVec 32 := 0#32
  let c1_i32_43 : BitVec 32 := 1#32
  let arg14 : BitVec 32 := Scf.iv c0_i32_41 c1_i32_43 k0_t2
  let c64_i32_79 : BitVec 32 := 64#32
  let v126 : BitVec 32 := Scalar.muli arg14 c64_i32_79
  let c16_i32_80 : BitVec 32 := 16#32
  let v127 : BitVec 32 := Scalar.addi v126 c16_i32_80
  let v132 : Index := Scalar.indexCast v127
  ![0, v132.toNat]
def k0_off9 (k0_t2 : Fin k0_t2_loop.trips) : Fin 1 → Nat :=
  let c0_i32_41 : BitVec 32 := 0#32
  let c1_i32_43 : BitVec 32 := 1#32
  let arg14 : BitVec 32 := Scf.iv c0_i32_41 c1_i32_43 k0_t2
  let c64_i32_82 : BitVec 32 := 64#32
  let v134 : BitVec 32 := Scalar.muli arg14 c64_i32_82
  let c32_i32_83 : BitVec 32 := 32#32
  let v135 : BitVec 32 := Scalar.addi v134 c32_i32_83
  let v136 : Index := Scalar.indexCast v135
  ![v136.toNat]

def k0_chk3 (v72 : IVec S16 32) (v137 : IVec S16 32) : Prop :=
  (∀ a x, ((![v72, v137] : Fin 2 → IVec S16 32) a x).toNat < S2x8192.size a)
theorem k0_idx3_inb : ∀ (v72 : IVec S16 32) (v137 : IVec S16 32) (k0_hw3 : k0_chk3 v72 v137), ∀ a x, ((![v72, v137] : Fin 2 → IVec S16 32) a x).toNat < S2x8192.size a := fun v72 v137 k0_hw3 => k0_hw3
def k0_off10 (k0_t2 : Fin k0_t2_loop.trips) : Fin 2 → Nat :=
  let c0_i32_84 : BitVec 32 := 0#32
  let v139 : Index := Scalar.indexCast c0_i32_84
  let c0_i32_41 : BitVec 32 := 0#32
  let c1_i32_43 : BitVec 32 := 1#32
  let arg14 : BitVec 32 := Scf.iv c0_i32_41 c1_i32_43 k0_t2
  let c64_i32_82 : BitVec 32 := 64#32
  let v134 : BitVec 32 := Scalar.muli arg14 c64_i32_82
  let c32_i32_83 : BitVec 32 := 32#32
  let v135 : BitVec 32 := Scalar.addi v134 c32_i32_83
  let v140 : Index := Scalar.indexCast v135
  ![0, v140.toNat]
def k0_off11 (k0_t2 : Fin k0_t2_loop.trips) : Fin 1 → Nat :=
  let c0_i32_41 : BitVec 32 := 0#32
  let c1_i32_43 : BitVec 32 := 1#32
  let arg14 : BitVec 32 := Scf.iv c0_i32_41 c1_i32_43 k0_t2
  let c64_i32_85 : BitVec 32 := 64#32
  let v142 : BitVec 32 := Scalar.muli arg14 c64_i32_85
  let c48_i32 : BitVec 32 := 48#32
  let v143 : BitVec 32 := Scalar.addi v142 c48_i32
  let v144 : Index := Scalar.indexCast v143
  ![v144.toNat]

def k0_chk4 (v72 : IVec S16 32) (v145 : IVec S16 32) : Prop :=
  (∀ a x, ((![v72, v145] : Fin 2 → IVec S16 32) a x).toNat < S2x8192.size a)
theorem k0_idx4_inb : ∀ (v72 : IVec S16 32) (v145 : IVec S16 32) (k0_hw4 : k0_chk4 v72 v145), ∀ a x, ((![v72, v145] : Fin 2 → IVec S16 32) a x).toNat < S2x8192.size a := fun v72 v145 k0_hw4 => k0_hw4
def k0_off12 (k0_t2 : Fin k0_t2_loop.trips) : Fin 2 → Nat :=
  let c0_i32_86 : BitVec 32 := 0#32
  let v147 : Index := Scalar.indexCast c0_i32_86
  let c0_i32_41 : BitVec 32 := 0#32
  let c1_i32_43 : BitVec 32 := 1#32
  let arg14 : BitVec 32 := Scf.iv c0_i32_41 c1_i32_43 k0_t2
  let c64_i32_85 : BitVec 32 := 64#32
  let v142 : BitVec 32 := Scalar.muli arg14 c64_i32_85
  let c48_i32 : BitVec 32 := 48#32
  let v143 : BitVec 32 := Scalar.addi v142 c48_i32
  let v148 : Index := Scalar.indexCast v143
  ![0, v148.toNat]
def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_30 : BitVec 32 := 2#32
  let c0_i32_17 : BitVec 32 := 0#32
  let c1_i32_18 : BitVec 32 := 1#32
  let arg12 : BitVec 32 := Scf.iv c0_i32_17 c1_i32_18 k0_t1
  let v58 : BitVec 32 := Scalar.muli c2_i32_30 arg12
  let c0_i32_31 : BitVec 32 := 0#32
  let v59 : BitVec 32 := Scalar.addi v58 c0_i32_31
  let v75 : BitVec 32 := Scalar.addi v2 v59
  let c0_i32_47 : BitVec 32 := 0#32
  ![v75.toNat, 0]
def k0_cond2 (k0_t1 : Fin k0_t1_loop.trips) : BitVec 1 :=
  let c0_i32_17 : BitVec 32 := 0#32
  let c1_i32_18 : BitVec 32 := 1#32
  let arg12 : BitVec 32 := Scf.iv c0_i32_17 c1_i32_18 k0_t1
  let c1_i32_50 : BitVec 32 := 1#32
  let v84 : BitVec 32 := Scalar.addi arg12 c1_i32_50
  let c16_i32_51 : BitVec 32 := 16#32
  let v85 : BitVec 1 := Scalar.cmpi .slt v84 c16_i32_51
  let v86 : BitVec 32 := Scalar.extui v85
  let c0_i32_52 : BitVec 32 := 0#32
  let v87 : BitVec 1 := Scalar.cmpi .ne v86 c0_i32_52
  v87

def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_30 : BitVec 32 := 2#32
  let c0_i32_17 : BitVec 32 := 0#32
  let c1_i32_18 : BitVec 32 := 1#32
  let arg12 : BitVec 32 := Scf.iv c0_i32_17 c1_i32_18 k0_t1
  let v58 : BitVec 32 := Scalar.muli c2_i32_30 arg12
  let c0_i32_31 : BitVec 32 := 0#32
  let v59 : BitVec 32 := Scalar.addi v58 c0_i32_31
  let c2_i32_77 : BitVec 32 := 2#32
  let v118 : BitVec 32 := Scalar.addi v59 c2_i32_77
  let v119 : BitVec 32 := Scalar.addi v2 v118
  let c0_i32_80 : BitVec 32 := 0#32
  ![v119.toNat, 0]
def k0_cond3 (k0_t1 : Fin k0_t1_loop.trips) : BitVec 1 :=
  let c0_i32_17 : BitVec 32 := 0#32
  let c1_i32_18 : BitVec 32 := 1#32
  let arg12 : BitVec 32 := Scf.iv c0_i32_17 c1_i32_18 k0_t1
  let c0_i32_55 : BitVec 32 := 0#32
  let v90 : BitVec 1 := Scalar.cmpi .sgt arg12 c0_i32_55
  let v91 : BitVec 32 := Scalar.extui v90
  let c0_i32_56 : BitVec 32 := 0#32
  let v92 : BitVec 1 := Scalar.cmpi .ne v91 c0_i32_56
  v92

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_78 : BitVec 32 := 2#32
  let c0_i32_17 : BitVec 32 := 0#32
  let c1_i32_18 : BitVec 32 := 1#32
  let arg12 : BitVec 32 := Scf.iv c0_i32_17 c1_i32_18 k0_t1
  let c1_i32_77 : BitVec 32 := 1#32
  let v118 : BitVec 32 := Scalar.subi arg12 c1_i32_77
  let v119 : BitVec 32 := Scalar.muli c2_i32_78 v118
  let c1_i32_79 : BitVec 32 := 1#32
  let v120 : BitVec 32 := Scalar.addi v119 c1_i32_79
  let v121 : BitVec 32 := Scalar.addi v2 v120
  let c0_i32_82 : BitVec 32 := 0#32
  ![v121.toNat, 0]
def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_53 : BitVec 32 := 2#32
  let c0_i32_17 : BitVec 32 := 0#32
  let c1_i32_18 : BitVec 32 := 1#32
  let arg12 : BitVec 32 := Scf.iv c0_i32_17 c1_i32_18 k0_t1
  let v88 : BitVec 32 := Scalar.muli c2_i32_53 arg12
  let c1_i32_54 : BitVec 32 := 1#32
  let v89 : BitVec 32 := Scalar.addi v88 c1_i32_54
  let v93 : BitVec 32 := Scalar.addi v2 v89
  let c0_i32_59 : BitVec 32 := 0#32
  ![v93.toNat, 0]
@[reducible] def k0_t3_loop : Scf.Loop 32 :=
  let c0_i32_64 : BitVec 32 := 0#32
  let c32_i32_65 : BitVec 32 := 32#32
  let v103 : BitVec 32 := Scalar.addi c0_i32_64 c32_i32_65
  let c1_i32_66 : BitVec 32 := 1#32
  ⟨c0_i32_64, v103, c1_i32_66⟩
def k0_off17 (k0_t3 : Fin k0_t3_loop.trips) : Fin 1 → Nat :=
  let c0_i32_64 : BitVec 32 := 0#32
  let c1_i32_66 : BitVec 32 := 1#32
  let arg14 : BitVec 32 := Scf.iv c0_i32_64 c1_i32_66 k0_t3
  let c64_i32 : BitVec 32 := 64#32
  let v118 : BitVec 32 := Scalar.muli arg14 c64_i32
  let c0_i32_77 : BitVec 32 := 0#32
  let v119 : BitVec 32 := Scalar.addi v118 c0_i32_77
  let v120 : Index := Scalar.indexCast v119
  ![v120.toNat]

def k0_chk5 (v102 : IVec S16 32) (v121 : IVec S16 32) : Prop :=
  (∀ a x, ((![v102, v121] : Fin 2 → IVec S16 32) a x).toNat < S2x8192.size a)
theorem k0_idx5_inb : ∀ (v102 : IVec S16 32) (v121 : IVec S16 32) (k0_hw5 : k0_chk5 v102 v121), ∀ a x, ((![v102, v121] : Fin 2 → IVec S16 32) a x).toNat < S2x8192.size a := fun v102 v121 k0_hw5 => k0_hw5
def k0_off18 (k0_t3 : Fin k0_t3_loop.trips) : Fin 2 → Nat :=
  let c1_i32_78 : BitVec 32 := 1#32
  let v123 : Index := Scalar.indexCast c1_i32_78
  let c0_i32_64 : BitVec 32 := 0#32
  let c1_i32_66 : BitVec 32 := 1#32
  let arg14 : BitVec 32 := Scf.iv c0_i32_64 c1_i32_66 k0_t3
  let c64_i32 : BitVec 32 := 64#32
  let v118 : BitVec 32 := Scalar.muli arg14 c64_i32
  let c0_i32_77 : BitVec 32 := 0#32
  let v119 : BitVec 32 := Scalar.addi v118 c0_i32_77
  let v124 : Index := Scalar.indexCast v119
  ![1, v124.toNat]
def k0_off19 (k0_t3 : Fin k0_t3_loop.trips) : Fin 1 → Nat :=
  let c0_i32_64 : BitVec 32 := 0#32
  let c1_i32_66 : BitVec 32 := 1#32
  let arg14 : BitVec 32 := Scf.iv c0_i32_64 c1_i32_66 k0_t3
  let c64_i32_79 : BitVec 32 := 64#32
  let v126 : BitVec 32 := Scalar.muli arg14 c64_i32_79
  let c16_i32_80 : BitVec 32 := 16#32
  let v127 : BitVec 32 := Scalar.addi v126 c16_i32_80
  let v128 : Index := Scalar.indexCast v127
  ![v128.toNat]

def k0_chk6 (v102 : IVec S16 32) (v129 : IVec S16 32) : Prop :=
  (∀ a x, ((![v102, v129] : Fin 2 → IVec S16 32) a x).toNat < S2x8192.size a)
theorem k0_idx6_inb : ∀ (v102 : IVec S16 32) (v129 : IVec S16 32) (k0_hw6 : k0_chk6 v102 v129), ∀ a x, ((![v102, v129] : Fin 2 → IVec S16 32) a x).toNat < S2x8192.size a := fun v102 v129 k0_hw6 => k0_hw6
def k0_off20 (k0_t3 : Fin k0_t3_loop.trips) : Fin 2 → Nat :=
  let c1_i32_81 : BitVec 32 := 1#32
  let v131 : Index := Scalar.indexCast c1_i32_81
  let c0_i32_64 : BitVec 32 := 0#32
  let c1_i32_66 : BitVec 32 := 1#32
  let arg14 : BitVec 32 := Scf.iv c0_i32_64 c1_i32_66 k0_t3
  let c64_i32_79 : BitVec 32 := 64#32
  let v126 : BitVec 32 := Scalar.muli arg14 c64_i32_79
  let c16_i32_80 : BitVec 32 := 16#32
  let v127 : BitVec 32 := Scalar.addi v126 c16_i32_80
  let v132 : Index := Scalar.indexCast v127
  ![1, v132.toNat]
def k0_off21 (k0_t3 : Fin k0_t3_loop.trips) : Fin 1 → Nat :=
  let c0_i32_64 : BitVec 32 := 0#32
  let c1_i32_66 : BitVec 32 := 1#32
  let arg14 : BitVec 32 := Scf.iv c0_i32_64 c1_i32_66 k0_t3
  let c64_i32_82 : BitVec 32 := 64#32
  let v134 : BitVec 32 := Scalar.muli arg14 c64_i32_82
  let c32_i32_83 : BitVec 32 := 32#32
  let v135 : BitVec 32 := Scalar.addi v134 c32_i32_83
  let v136 : Index := Scalar.indexCast v135
  ![v136.toNat]

def k0_chk7 (v102 : IVec S16 32) (v137 : IVec S16 32) : Prop :=
  (∀ a x, ((![v102, v137] : Fin 2 → IVec S16 32) a x).toNat < S2x8192.size a)
theorem k0_idx7_inb : ∀ (v102 : IVec S16 32) (v137 : IVec S16 32) (k0_hw7 : k0_chk7 v102 v137), ∀ a x, ((![v102, v137] : Fin 2 → IVec S16 32) a x).toNat < S2x8192.size a := fun v102 v137 k0_hw7 => k0_hw7
def k0_off22 (k0_t3 : Fin k0_t3_loop.trips) : Fin 2 → Nat :=
  let c1_i32_84 : BitVec 32 := 1#32
  let v139 : Index := Scalar.indexCast c1_i32_84
  let c0_i32_64 : BitVec 32 := 0#32
  let c1_i32_66 : BitVec 32 := 1#32
  let arg14 : BitVec 32 := Scf.iv c0_i32_64 c1_i32_66 k0_t3
  let c64_i32_82 : BitVec 32 := 64#32
  let v134 : BitVec 32 := Scalar.muli arg14 c64_i32_82
  let c32_i32_83 : BitVec 32 := 32#32
  let v135 : BitVec 32 := Scalar.addi v134 c32_i32_83
  let v140 : Index := Scalar.indexCast v135
  ![1, v140.toNat]
def k0_off23 (k0_t3 : Fin k0_t3_loop.trips) : Fin 1 → Nat :=
  let c0_i32_64 : BitVec 32 := 0#32
  let c1_i32_66 : BitVec 32 := 1#32
  let arg14 : BitVec 32 := Scf.iv c0_i32_64 c1_i32_66 k0_t3
  let c64_i32_85 : BitVec 32 := 64#32
  let v142 : BitVec 32 := Scalar.muli arg14 c64_i32_85
  let c48_i32 : BitVec 32 := 48#32
  let v143 : BitVec 32 := Scalar.addi v142 c48_i32
  let v144 : Index := Scalar.indexCast v143
  ![v144.toNat]

def k0_chk8 (v102 : IVec S16 32) (v145 : IVec S16 32) : Prop :=
  (∀ a x, ((![v102, v145] : Fin 2 → IVec S16 32) a x).toNat < S2x8192.size a)
theorem k0_idx8_inb : ∀ (v102 : IVec S16 32) (v145 : IVec S16 32) (k0_hw8 : k0_chk8 v102 v145), ∀ a x, ((![v102, v145] : Fin 2 → IVec S16 32) a x).toNat < S2x8192.size a := fun v102 v145 k0_hw8 => k0_hw8
def k0_off24 (k0_t3 : Fin k0_t3_loop.trips) : Fin 2 → Nat :=
  let c1_i32_86 : BitVec 32 := 1#32
  let v147 : Index := Scalar.indexCast c1_i32_86
  let c0_i32_64 : BitVec 32 := 0#32
  let c1_i32_66 : BitVec 32 := 1#32
  let arg14 : BitVec 32 := Scf.iv c0_i32_64 c1_i32_66 k0_t3
  let c64_i32_85 : BitVec 32 := 64#32
  let v142 : BitVec 32 := Scalar.muli arg14 c64_i32_85
  let c48_i32 : BitVec 32 := 48#32
  let v143 : BitVec 32 := Scalar.addi v142 c48_i32
  let v148 : Index := Scalar.indexCast v143
  ![1, v148.toNat]
def k0_off25 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_53 : BitVec 32 := 2#32
  let c0_i32_17 : BitVec 32 := 0#32
  let c1_i32_18 : BitVec 32 := 1#32
  let arg12 : BitVec 32 := Scf.iv c0_i32_17 c1_i32_18 k0_t1
  let v88 : BitVec 32 := Scalar.muli c2_i32_53 arg12
  let c1_i32_54 : BitVec 32 := 1#32
  let v89 : BitVec 32 := Scalar.addi v88 c1_i32_54
  let v105 : BitVec 32 := Scalar.addi v2 v89
  let c0_i32_70 : BitVec 32 := 0#32
  ![v105.toNat, 0]
def k0_cond4 (k0_t1 : Fin k0_t1_loop.trips) : BitVec 1 :=
  let c0_i32_17 : BitVec 32 := 0#32
  let c1_i32_18 : BitVec 32 := 1#32
  let arg12 : BitVec 32 := Scf.iv c0_i32_17 c1_i32_18 k0_t1
  let c1_i32_73 : BitVec 32 := 1#32
  let v114 : BitVec 32 := Scalar.addi arg12 c1_i32_73
  let c16_i32_74 : BitVec 32 := 16#32
  let v115 : BitVec 1 := Scalar.cmpi .slt v114 c16_i32_74
  let v116 : BitVec 32 := Scalar.extui v115
  let c0_i32_75 : BitVec 32 := 0#32
  let v117 : BitVec 1 := Scalar.cmpi .ne v116 c0_i32_75
  v117

def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_53 : BitVec 32 := 2#32
  let c0_i32_17 : BitVec 32 := 0#32
  let c1_i32_18 : BitVec 32 := 1#32
  let arg12 : BitVec 32 := Scf.iv c0_i32_17 c1_i32_18 k0_t1
  let v88 : BitVec 32 := Scalar.muli c2_i32_53 arg12
  let c1_i32_54 : BitVec 32 := 1#32
  let v89 : BitVec 32 := Scalar.addi v88 c1_i32_54
  let c2_i32_77 : BitVec 32 := 2#32
  let v118 : BitVec 32 := Scalar.addi v89 c2_i32_77
  let v119 : BitVec 32 := Scalar.addi v2 v118
  let c0_i32_80 : BitVec 32 := 0#32
  ![v119.toNat, 0]
def k0_off27 (i : grid0.Coords) (c30_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v40 : BitVec 32 := Scalar.addi v2 c30_i32
  let c0_i32_22 : BitVec 32 := 0#32
  ![v40.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Gathered.lean ====
abbrev S8x128x8192 : Shape := ⟨3, ![8, 128, 8192]⟩
abbrev S8x2048 : Shape := ⟨2, ![8, 2048]⟩
abbrev S8x8192x128 : Shape := ⟨3, ![8, 8192, 128]⟩
abbrev S8x2048x1 : Shape := ⟨3, ![8, 2048, 1]⟩
abbrev S_ : Shape := ⟨0, ![]⟩
abbrev S1 : Shape := ⟨1, ![1]⟩
abbrev S1x1x1 : Shape := ⟨3, ![1, 1, 1]⟩
abbrev S8x2048x128 : Shape := ⟨3, ![8, 2048, 128]⟩
abbrev S8x128x2048 : Shape := ⟨3, ![8, 128, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x128x8192, .f32⟩
  | .hbm, ⟨1, _⟩ => ⟨S8x2048, .i32⟩
  | .hbm, ⟨2, _⟩ => ⟨S8x8192x128, .f32⟩
  | .hbm, ⟨3, _⟩ => ⟨S8x2048x1, .i32⟩
  | .hbm, ⟨4, _⟩ => ⟨S_, .i32⟩
  | .hbm, ⟨5, _⟩ => ⟨S8x2048x1, .i32⟩
  | .hbm, ⟨6, _⟩ => ⟨S8x2048x1, .i1⟩
  | .hbm, ⟨7, _⟩ => ⟨S_, .i32⟩
  | .hbm, ⟨8, _⟩ => ⟨S8x2048x1, .i32⟩
  | .hbm, ⟨9, _⟩ => ⟨S8x2048x1, .i32⟩
  | .hbm, ⟨10, _⟩ => ⟨S8x2048x1, .i32⟩
  | .hbm, ⟨11, _⟩ => ⟨S1, .i32⟩
  | .hbm, ⟨12, _⟩ => ⟨S_, .i32⟩
  | .hbm, ⟨13, _⟩ => ⟨S8x2048x1, .i32⟩
  | .hbm, ⟨14, _⟩ => ⟨S8x2048x1, .i1⟩
  | .hbm, ⟨15, _⟩ => ⟨S1x1x1, .i32⟩
  | .hbm, ⟨16, _⟩ => ⟨S8x2048x1, .i32⟩
  | .hbm, ⟨17, _⟩ => ⟨S8x2048x1, .i1⟩
  | .hbm, ⟨18, _⟩ => ⟨S8x2048x1, .i1⟩
  | .hbm, ⟨19, _⟩ => ⟨S_, .i1⟩
  | .hbm, ⟨20, _⟩ => ⟨S8x2048, .i1⟩
  | .hbm, ⟨21, _⟩ => ⟨S8x2048x128, .f32⟩
  | .hbm, ⟨22, _⟩ => ⟨S8x2048x128, .i1⟩
  | .hbm, ⟨23, _⟩ => ⟨S_, .f32⟩
  | .hbm, ⟨24, _⟩ => ⟨S8x2048x128, .f32⟩
  | .hbm, ⟨25, _⟩ => ⟨S8x2048x128, .f32⟩
  | .hbm, ⟨26, _⟩ => ⟨S8x128x2048, .f32⟩
  | _, _ => ⟨S8x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩

abbrev nD : Nat := 1
abbrev τ : Topo := Topo.v7x

variable {F : FTy → Type} [FloatOps F]
-- ==== Proof.Rules.lean ====
/-
  Two rules for a buffer one half of which a transfer is writing while the core reads the whole of it.

  A double-buffered tile holds its two slots in one buffer. While a transfer fills one slot, the core loads the WHOLE
  buffer (an indexed load names the buffer, not the slot) and uses only elements of the other slot. The slot being filled is
  therefore held in write mode (`Lib/WriteMode.lean`): its elements have agreed targets, one share of it travels with the
  transfer and the other stays with the core. `wp_dmaFill` issues such a transfer, `fill_done` gives the slot back at
  its targets once the transfer has been waited for, `wp_load_beside` loads the whole buffer in between.
-/
module

public import Idealize.ShloMosaic.Lib.WriteMode
public import Idealize.ShloMosaic.Lib.Transfers

@[expose] public section

noncomputable section

namespace Cert.Proof.Rules

open Idealize.ShloMosaic Idealize.ShloMosaic.Transfers
open Idealize.SL Idealize.SL.RA
open Idealize.SL.BI (sProp Storable)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type} [Preorder Lvl] {Λ : Labels}
variable {emb : UEmb (WmRA nD τ sig Val) U} {ιwm : Name}

local notation "𝕄" => MT nD τ sig Ix Val Name U Lvl

variable (EC : UEmb Counters (MT nD τ sig Ix Val Name U Lvl))
variable {defs : Defs nD τ sig Val Λ} (𝒱 : Variants) (c : Thread nD τ) (bd : Option 𝒱.V)

/-- The half of a slot being filled that stays with the core: old values `f`, targets `g`, nothing known written. -/
def Kept (emb : UEmb (WmRA nD τ sig Val) U) (ℓ : Loc nD τ sig) (S : Finset (Idx ℓ)) (f g : Buf Val ℓ) : sProp 𝕄 :=
  willBeTo emb ℓ S fullShare.left f (fun i => some (g i)) ∅

/-- The half that travels with the transfer and comes back marked written. -/
def Filled (emb : UEmb (WmRA nD τ sig Val) U) (ℓ : Loc nD τ sig) (S : Finset (Idx ℓ)) (f g : Buf Val ℓ) : sProp 𝕄 :=
  willBeTo emb ℓ S fullShare.right f (fun i => some (g i)) S

instance {ℓ : Loc nD τ sig} {S : Finset (Idx ℓ)} {f g : Buf Val ℓ} : Storable (upEmb : UEmb _ 𝕄) (Filled emb ℓ S f g) := by
  unfold Filled; infer_instance

/-- A definite value, seen at an equal element type, is the value seen there. -/
theorem cast_some {e e' : EltTy} (h : e = e') (x : Val e) (u : Val e')
    (hu : cast (congrArg (fun e => Option (Val e)) h) (some x) = some u) : cast (congrArg Val h) x = u := by
  subst h; exact Option.some.inj hu

omit [Preorder Lvl] in
/-- Write-mode ownership splits along the share; each half carries marks of its own. -/
theorem willBe_share {ℓ : Loc nD τ sig} {S W W₁ W₂ : Finset (Idx ℓ)} {f : Buf Val ℓ} {g : Tgt Val ℓ} (hW : W = W₁ ∪ W₂) :
    (willBeTo emb ℓ S fullShare f g W : sProp 𝕄)
      ⊣⊢ iprop(willBeTo emb ℓ S fullShare.left f g W₁ ∗ willBeTo emb ℓ S fullShare.right f g W₂) := by
  subst hW
  refine BI.Region.held_share (PosShare.mem_left_op_right fullShare) fun i _ => ?_
  simp only [Finset.mem_union, Bool.decide_or]
  exact Region.WB.mem_mk_op_mk _ _ _ _

/-- Both halves together, the transfer's marked written: the slot again, at its targets. -/
theorem fill_done {ℓ : Loc nD τ sig} {S : Finset (Idx ℓ)} {f g : Buf Val ℓ} {E : Set Name} (hE : ιwm ∈ E := by simp) :
    (iprop(wmInv emb ιwm ∗ Kept emb ℓ S f g ∗ Filled emb ℓ S f g) : sProp 𝕄) ⊢ iprop(|={E}=> (ℓ ↦[S]{fullShare} g)) := by
  iintro ⟨Hi, Hk, Hf⟩
  ihave H := (willBe_share (emb := emb) (ℓ := ℓ) (S := S) (W := S) (W₁ := ∅) (W₂ := S) (f := f) (g := fun i => some (g i))
    (Finset.empty_union S).symm).2 $$ [Hk Hf]
  · unfold Kept Filled
    isplitl [Hk] <;> iassumption
  imod (willBeTo_castOut_some hE) $$ [Hi H] with H
  · isplitl [Hi] <;> iassumption
  imodintro
  iapply (Entails.of_eq (pointsTo_congr (ℓ := ℓ) (I := S) (q := fullShare) (f := S.piecewise g f) (g := g)
    fun i hi => Finset.piecewise_eq_of_mem _ _ _ hi)) $$ H

/-- A transfer into a slot the core will read around while it is in flight: the slot enters write mode at the values the
    transfer brings, one half going with the transfer. -/
theorem wp_dmaFill [Infinite Name] [EC.LandsIn (upEmb : UEmb _ 𝕄)] {α : Type} {Q : α → sProp 𝕄} {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {fd : Buf Val (dst.view.loc c)} (g : Buf Val (dst.view.loc c)) (ι : Ix) (N : ℕ) (hN : dst.view.amount sm = N) (hN0 : 0 < N)
    (hg : dst.view.read Val g = src.view.read Val fs) :
    (iprop(wmInv emb ιwm ∗ (src.view.loc c ↦[src.view.set]{q} fs) ∗ (dst.view.loc c ↦[dst.view.set]{fullShare} fd) ∗ semVal (c, sm) 0) : sProp 𝕄)
      ⊢ iprop((Kept emb (dst.view.loc c) dst.view.set fd g
                ∗ Flight EC c sm ι N iprop(Filled emb (dst.view.loc c) dst.view.set fd g ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  have hadm : dst.view.Admitted Val (fun i => some (g i)) (src.view.read Val fs) Finset.univ := by
    intro x _ u hu
    rw [← hg]
    exact cast_some dst.view.elt_eq _ _ hu
  iintro ⟨#Hi, Hs, Hd, Hv⟩ Hk
  imod (pointsTo_castIn (emb := emb) (ιwm := ιwm) (fun i => some (g i))) $$ [Hd] with Hd
  · isplitr; · iexact Hi
    iexact Hd
  ihave H := (willBe_share (emb := emb) (S := dst.view.set) (W := ∅) (W₁ := ∅) (W₂ := ∅) (f := fd) (g := fun i => some (g i))
    (Finset.empty_union ∅).symm).1 $$ Hd
  icases H with ⟨Hl, Hr⟩
  imod (flight_alloc EC hN0 iprop(Filled emb (dst.view.loc c) dst.view.set fd g ∗ (src.view.loc c ↦[src.view.set]{q} fs))
    (g := (c, sm))) $$ Hv with ⟨%γ, %δ, %κ, #Hinv, Hγ, Hδ⟩
  iapply (wp_enqueueDmaAs 𝒱 c bd Set.univ ι N hN) $$ [Hs Hr] [Hγ]
  · isplitl [Hs]; · iexact Hs
    iapply (willBeTo_writeUpdate (emb := emb) (ιwm := ιwm) c (W := ∅) subset_rfl hadm)
    isplitr; · iexact Hi
    iexact Hr
  · iapply (flight_creditUpdate EC (δ := δ))
    unfold Filled
    rw [Finset.empty_union]
    isplitr; · iexact Hinv
    iexact Hγ
  iintro Hcred
  iapply Hk
  isplitl [Hl]; · unfold Kept; iexact Hl
  iapply (flight_intro EC c (κ := κ))
  isplitr; · iexact Hinv
  isplitl [Hδ] <;> iassumption

/-- A load of a buffer of which `S₁` is held outright and `S₂` in write mode: the read contents agree with what is held on
    `S₁`; nothing is used of them on `S₂`. -/
theorem wp_load_beside {α : Type} {Q : α → sProp 𝕄} {cs : CoreSpace} {s : Shape} {e : EltTy} {m : Memref sig c.2.kind cs s e}
    {r : LoadRect s} {hl : m.view.LoadsAt r} {k : (r.shape.Idx → Val e) → Prog (TpuEff nD τ sig Val Λ c.2) α}
    {S₁ S₂ : Finset (Idx (m.view.loc c))} {q : PosShare TreeShare} {f₁ f : Buf Val (m.view.loc c)} {g : Tgt Val (m.view.loc c)}
    {W : Finset (Idx (m.view.loc c))} (hS : m.view.setOn r.set ⊆ S₁ ∪ S₂) (hd : Disjoint S₁ S₂) :
    (iprop(wmInv emb ιwm ∗ (m.view.loc c ↦[S₁]{fullShare} f₁) ∗ willBeTo emb (m.view.loc c) S₂ q f g W) : sProp 𝕄)
      ⊢ iprop((∀ cur, ⌜∀ i ∈ S₁, cur i = f₁ i⌝
            -∗ (m.view.loc c ↦[S₁]{fullShare} f₁) -∗ (willBeTo emb (m.view.loc c) S₂ q f g W)
            -∗ wp frame (wpE defs 𝒱 c bd) Set.univ (k (m.view.readAt Val r cur)) Q)
        -∗ wp frame (wpE defs 𝒱 c bd) Set.univ (.op (.load m r hl) k) Q) := by
  iintro ⟨Hi, H1, H2⟩ Hk
  imod (willBeTo_acc (E := Set.univ) (by simp)) $$ [Hi H2] with ⟨%cur, %W', %hW, Hraw, %hcur, Hclose⟩
  · isplitl [Hi] <;> iassumption
  imodintro
  ihave H := (pointsTo_join (ℓ := m.view.loc c) (q := fullShare) hd) $$ [H1 Hraw]
  · isplitl [H1] <;> iassumption
  iapply (fp_load c hS) $$ H
  iintro H
  ihave H := (pointsTo_union hd).1 $$ H
  icases H with ⟨H1, Hraw⟩
  have e1 : ∀ i ∈ S₁, S₂.piecewise cur f₁ i = f₁ i := fun i hi =>
    Finset.piecewise_eq_of_notMem _ _ _ (Finset.disjoint_left.mp hd hi)
  have e2 : ∀ i ∈ S₂, S₂.piecewise cur f₁ i = cur i := fun i hi => Finset.piecewise_eq_of_mem _ _ _ hi
  ihave H1 := (Entails.of_eq (pointsTo_congr (ℓ := m.view.loc c) (q := fullShare) e1)) $$ H1
  ihave Hraw := (Entails.of_eq (pointsTo_congr (ℓ := m.view.loc c) (q := fullShare) e2)) $$ Hraw
  ispecialize Hclose $$ %cur %∅
    %⟨Finset.empty_subset _, fun i h => absurd h (Finset.notMem_empty i), fun _ _ _ => rfl⟩ Hraw
  imod Hclose with Htok
  imodintro
  rw [Finset.union_empty]
  iapply Hk $$ %(S₂.piecewise cur f₁) %e1 H1 Htok

end Cert.Proof.Rules

end

end
-- ==== Proof.Rows.lean ====
/-
  Rows of a two-dimensional buffer: the sets of elements that whole rows make up, what a window of one row reads, and
  when two contents agree on what a window covers. Nothing here is about a particular program.
-/
module

public import Idealize.ShloMosaic.Lib.Transfers
public import Idealize.ShloMosaic.Lib.ValueIdxCore

@[expose] public section

noncomputable section

namespace Cert.Proof.Rows

open Idealize.ShloMosaic Idealize.ShloMosaic.ValueIdx
open Idealize.SL Idealize.SL.RA
open Idealize.SL.BI (sProp Storable)
open scoped Idealize.SL.BI
open Idealize.SL.BI.BIBase Idealize.SL.BI.Laws Idealize.SL.Sem Idealize.SL.ProofMode

/-! ## Elements named by natural numbers -/

/-- The element of a two-dimensional array at row `i`, column `j`, each taken modulo its extent. -/
def at2 {n m : ℕ} [NeZero n] [NeZero m] {α : Type} (f : (⟨2, ![n, m]⟩ : Shape).Idx → α) (i j : ℕ) : α :=
  f (ix2 (Fin.ofNat n i) (Fin.ofNat m j))

theorem ofNat_val {n : ℕ} [NeZero n] (i : Fin n) : Fin.ofNat n i.val = i := Fin.ext (Nat.mod_eq_of_lt i.isLt)

theorem at2_val {n m : ℕ} [NeZero n] [NeZero m] {α : Type} (f : (⟨2, ![n, m]⟩ : Shape).Idx → α) (x : (⟨2, ![n, m]⟩ : Shape).Idx) :
    at2 f (x 0).val (x 1).val = f x := by
  unfold at2
  exact congrArg f ((congrArg₂ ix2 (ofNat_val (n := n) (x 0)) (ofNat_val (n := m) (x 1))).trans (eq_ix2 x).symm)

theorem at2_ix2 {n m : ℕ} [NeZero n] [NeZero m] {α : Type} (f : (⟨2, ![n, m]⟩ : Shape).Idx → α) (i : Fin n) (j : Fin m) :
    at2 f i.val j.val = f (ix2 i j) := at2_val f (ix2 i j)

/-! ## Rows -/

/-- The elements of rows `lo` to `hi` (exclusive). -/
def rows (n m lo hi : ℕ) : Finset (⟨2, ![n, m]⟩ : Shape).Idx := Finset.univ.filter fun x => lo ≤ (x 0).val ∧ (x 0).val < hi

theorem mem_rows {n m lo hi : ℕ} {x : (⟨2, ![n, m]⟩ : Shape).Idx} : x ∈ rows n m lo hi ↔ lo ≤ (x 0).val ∧ (x 0).val < hi := by
  simp [rows]

theorem rows_disjoint {n m lo hi lo' hi' : ℕ} (h : hi ≤ lo') : Disjoint (rows n m lo hi) (rows n m lo' hi') :=
  Finset.disjoint_left.mpr fun _ h1 h2 => by have := (mem_rows.mp h1).2; have := (mem_rows.mp h2).1; omega

theorem rows_union {n m lo mid hi : ℕ} (h : lo ≤ mid) (h' : mid ≤ hi) : rows n m lo mid ∪ rows n m mid hi = rows n m lo hi := by
  ext x; simp only [Finset.mem_union, mem_rows]; omega

theorem rows_empty {n m lo : ℕ} : rows n m lo lo = ∅ := by
  ext x; simp only [mem_rows, Finset.notMem_empty, iff_false]; omega

theorem rows_all {n m : ℕ} : rows n m 0 n = Finset.univ := by
  ext x; simp only [mem_rows, Finset.mem_univ, iff_true]; exact ⟨Nat.zero_le _, (x 0).isLt⟩

section View

variable {sig : RefSig} {κ : Kind} {sp : Space} {e : EltTy} {n m : ℕ} {Val : EltTy → Type}

/-- The window of one row, squeezed to a vector, covers the row. -/
theorem row_set (v : View sig κ sp (⟨2, ![n, m]⟩ : Shape) e) {off : Fin 2 → ℕ} (r : ℕ) (ho : off = ![r, 0]) {size : Fin 2 → ℕ} (hs : size = ![1, m])
    (inb : ∀ a, off a + size a ≤ (⟨2, ![n, m]⟩ : Shape).size a) {s' : Shape} (hn : s'.numel = (Rect.unit (s := ⟨2, ![n, m]⟩) off size inb).shape.numel) :
    ((v.slice (Rect.unit (s := ⟨2, ![n, m]⟩) off size inb)).reshape s' hn).set = v.setOn (rows n m r (r + 1)) := by
  subst ho hs
  rw [View.set_reshape, View.set_slice]
  unfold View.setOn
  congr 1
  ext x
  rw [Rect.mem_set_unit, mem_rows, Fin.forall_fin_two]
  have h1 : (x 1).val < m := (x 1).isLt
  simp only [Matrix.cons_val_zero, Matrix.cons_val_one]
  omega

/-- What the window of one row, squeezed to a vector, reads. -/
theorem row_read (v : View sig κ sp (⟨2, ![n, m]⟩ : Shape) e) {off : Fin 2 → ℕ} (r : ℕ) (hr : r < n) (ho : off = ![r, 0]) {size : Fin 2 → ℕ} (hs : size = ![1, m])
    (inb : ∀ a, off a + size a ≤ (⟨2, ![n, m]⟩ : Shape).size a)
    (hn : (⟨1, ![m]⟩ : Shape).numel = (Rect.unit (s := ⟨2, ![n, m]⟩) off size inb).shape.numel) (f : v.ty.Contents Val) (y : (⟨1, ![m]⟩ : Shape).Idx) :
    ((v.slice (Rect.unit (s := ⟨2, ![n, m]⟩) off size inb)).reshape ⟨1, ![m]⟩ hn).read Val f y = v.read Val f (ix2 ⟨r, hr⟩ (y 0)) := by
  subst ho hs
  have hy : Shape.reshapeEquiv hn y = (ix2 (0 : Fin 1) (y 0) : (⟨2, ![1, m]⟩ : Shape).Idx) :=
    Shape.reshapeEquiv_eq_of_rowMajor hn (by
      rw [Shape.rowMajor_val_one]
      refine (Shape.rowMajor_val_two (d := ![1, m]) _).trans ?_
      show 0 * m + (y 0).val = (y 0).val
      omega)
  show v.read Val f ((Rect.unit (s := ⟨2, ![n, m]⟩) ![r, 0] ![1, m] inb).emb (Shape.reshapeEquiv hn y)) = _
  congr 1
  rw [hy]
  funext a
  apply Fin.ext
  match a with
  | ⟨0, _⟩ => show r + 1 * 0 = r; omega
  | ⟨1, _⟩ => show 0 + 1 * (y 0).val = (y 0).val; omega

end View

section Pts

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

omit [Preorder Lvl] in
/-- Contents that read alike through a view are alike on its elements. -/
theorem pts_of_read {c : Thread nD τ} {sp : Space} {s : Shape} {e : EltTy} (v : View sig c.2.kind sp s e) {q : PosShare TreeShare}
    {f g : Buf Val (v.loc c)} (h : v.read Val f = v.read Val g) :
    (v.loc c ↦[v.set]{q} f : sProp 𝕄) = v.loc c ↦[v.set]{q} g := by
  refine pointsTo_congr fun i hi => ?_
  obtain ⟨x, -, rfl⟩ := Finset.mem_map.mp hi
  have hx := congrFun h x
  rw [View.read_apply, View.read_apply] at hx
  exact (cast_bijective _).injective hx

end Pts

end Cert.Proof.Rows

end

end
-- ==== Proof.Setup.lean ====
/-
  The gather as the launch theorem sees it: the program's configuration, the ghost state, the buffers by the names the
  subcores use, and the value every element of the result is to have.

  The kernel runs on two SparseCores of sixteen vector subcores. Subcore `(c, i)` owns thirty-two rows of the (1024, 8192)
  feature array, those from `64 i + 32 c` on, and the same rows of the (1024, 2048) result; all of its rows belong to one
  batch entry (128 rows each), whose row of the (8, 2048) index array it fetches once. Result row `r` holds, at `j`, the
  element of feature row `r` the index array names at `(r / 128, j)`.
-/
module

public import proofs.«01_k».proof.Defs
public import proofs.«01_k».proof.Proof.Rules
public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Cert.Proof.Rules Cert.Proof.Rows

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, the sampling call's windows, write mode, the transfers' counters -/

abbrev UH : Type := URounds (GSem nD τ sig) ℕ
abbrev UP : Type := URounds (GSem nD τ sig) Unit
abbrev UU (F : FTy → Type) : Type := UH × (UP × (WmRA nD τ sig (Elt F) × Counters))

local notation "𝕄" => MT nD τ sig (HIx 1) (Elt F) ℕ (UU F) ℕ

abbrev EH : Emb UH (MT nD τ sig (HIx 1) (Elt F) ℕ (UU F) ℕ) := embL
/-- Where the sampling call's windows' rounds sit. -/
def EP : Emb UP (MT nD τ sig (HIx 1) (Elt F) ℕ (UU F) ℕ) :=
  ((Emb.inl : Emb UP (UP × (WmRA nD τ sig (Elt F) × Counters))).trans (Emb.inr : Emb (UP × (WmRA nD τ sig (Elt F) × Counters)) (UU F))).trans
    (uEmb (nD := nD) (τ := τ) (sig := sig) (Ix := HIx 1) (Val := Elt F) (Name := ℕ) (U := UU F) (Lvl := ℕ)).toEmb
instance EP_landsIn : (EP : Emb UP 𝕄).LandsIn (upEmb : UEmb _ 𝕄) := by unfold EP; infer_instance
/-- Where the write-mode library's algebra sits. -/
abbrev EW : UEmb (WmRA nD τ sig (Elt F)) (UU F) := ((UEmb.inl : UEmb (WmRA nD τ sig (Elt F)) (WmRA nD τ sig (Elt F) × Counters)).trans (UEmb.inr : UEmb _ (UP × (WmRA nD τ sig (Elt F) × Counters)))).trans UEmb.inr
/-- Where the transfers' counters sit. -/
abbrev EC : UEmb Counters (MT nD τ sig (HIx 1) (Elt F) ℕ (UU F) ℕ) := countersEmb

/-! ## The buffers -/

/-- The feature array, the index array and the result, as locations of device `d`. -/
abbrev xLoc (d : Dev nD) : Loc nD τ sig := (SparseCore.T d).loc main_v8
abbrev iLoc (d : Dev nD) : Loc nD τ sig := (SparseCore.T d).loc main_v3_0
abbrev oLoc (d : Dev nD) : Loc nD τ sig := (SparseCore.T d).loc main_v9

/-- The same as a subcore names them, and its three scratches: the indices, the two feature slots, the two result slots. -/
abbrev xV : Memref sig .scVector .hbm S1024x8192 .f32 := Memref.whole main_v8_scv
abbrev iV : Memref sig .scVector .hbm S8x2048 .i32 := Memref.whole main_v3_0_scv
abbrev oV : Memref sig .scVector .hbm S1024x2048 .f32 := Memref.whole main_v9_scv
abbrev sI : Memref sig .scVector .vmem S2048 .i32 := Memref.whole cc1_scratch0
abbrev sR : Memref sig .scVector .vmem S2x8192 .f32 := Memref.whole cc1_scratch1
abbrev sO : Memref sig .scVector .vmem S2x2048 .f32 := Memref.whole cc1_scratch2

/-! ## The values -/

/-- A feature array's contents and an index array's. -/
abbrev Feat (F : FTy → Type) : Type := S1024x8192.Idx → Elt F .f32
abbrev Inds : Type := S8x2048.Idx → BitVec 32

/-- The value of the result at row `r`, column `j`. -/
def gath (fv : Feat F) (iv : Inds) (r j : ℕ) : Elt F .f32 := at2 fv r (at2 iv (r / 128) j).toNat

/-- The whole result. -/
def result (fv : Feat F) (iv : Inds) : S1024x2048.Idx → Elt F .f32 := fun x => gath fv iv (x 0).val (x 1).val

/-- A slot's contents when feature row `r` fills it (every row of the buffer alike: only the slot's is read). -/
def featSlot (fv : Feat F) (r : ℕ) : S2x8192.Idx → Elt F .f32 := fun x => at2 fv r (x 1).val
/-- A result slot's contents when row `r` has been gathered into it. -/
def outSlot (fv : Feat F) (iv : Inds) (r : ℕ) : S2x2048.Idx → Elt F .f32 := fun x => gath fv iv r (x 1).val
/-- The index scratch's contents for batch entry `b`. -/
def indBuf (iv : Inds) (b : ℕ) : S2048.Idx → BitVec 32 := fun x => at2 iv b (x 0).val

/-! ## The rows of a subcore -/

/-- Subcore `(c, i)`'s first row. -/
def base (c i : ℕ) : ℕ := 64 * i + 32 * c
abbrev tileX (lo hi : ℕ) : Finset S1024x8192.Idx := rows 1024 8192 lo hi
abbrev tileO (lo hi : ℕ) : Finset S1024x2048.Idx := rows 1024 2048 lo hi
abbrev slotR (b : ℕ) : Finset S2x8192.Idx := rows 2 8192 b (b + 1)
abbrev slotO (b : ℕ) : Finset S2x2048.Idx := rows 2 2048 b (b + 1)

abbrev cV (L : grid1.Coords) : Fin τ.nSC := (L 0).castLE hcore1
abbrev jV (L : grid1.Coords) : Fin τ.nSub := (L 1).castLE hsub1
/-- The thread of the subcore at grid coordinates `L` of device `d`. -/
abbrev thr (d : Dev nD) (L : grid1.Coords) : Thread nD τ := V d (cV L) (jV L)

end Cert.Proof.Gather

end

end
-- ==== Proof.Gather.lean ====
/-
  One trip of the gather's inner loop: four times, sixteen index words are loaded, the sixteen elements they name are
  gathered from a feature slot, and stored in the result slot. The trip is stated once, for either slot.
-/
module

public import proofs.«01_k».proof.Proof.Setup

@[expose] public section

noncomputable section

namespace Cert.Proof.Gather

open Cert.KernelIdeal Cert.KernelIdeal.Gen
open Cert.Proof.Rules Cert.Proof.Rows

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid1.Coords) (fv : Feat F) (iv : Inds)

/-- The index scratch holds batch entry `b`'s indices. -/
def IndPts (b : ℕ) : sProp 𝕄 := (sI).view.loc (thr d L) ↦[Finset.univ]{fullShare} (indBuf iv b : Buf (Elt F) ((sI).view.loc (thr d L)))

/-- Feature slot `b` holds feature row `r`. -/
def SlotPts (b r : ℕ) : sProp 𝕄 := (sR).view.loc (thr d L) ↦[slotR b]{fullShare} (featSlot fv r : Buf (Elt F) ((sR).view.loc (thr d L)))

/-- Feature slot `b` is in write mode. -/
def Beside (b : ℕ) (q : PosShare TreeShare) (f : Buf (Elt F) ((sR).view.loc (thr d L))) (g : Tgt (Elt F) ((sR).view.loc (thr d L)))
    (W : Finset (Idx ((sR).view.loc (thr d L)))) : sProp 𝕄 := willBeTo EW ((sR).view.loc (thr d L)) (slotR b) q f g W

/-- The first `n` columns of result slot `b` hold row `r`'s values. -/
def Gathered (b r n : ℕ) : sProp 𝕄 :=
  iprop(∃ fo : Buf (Elt F) ((sO).view.loc (thr d L)),
    ⌜∀ x : S2x2048.Idx, (x 0).val = b → (x 1).val < n → (fo x : Elt F .f32) = gath fv iv r (x 1).val⌝
      ∗ (sO).view.loc (thr d L) ↦[slotO b]{fullShare} fo)

/-- What an inner trip runs on, `n` columns done: slot `b`, row `r`, of batch entry `e`. -/
def InTrip (b b' e r : ℕ) (q : PosShare TreeShare) (f : Buf (Elt F) ((sR).view.loc (thr d L))) (g : Tgt (Elt F) ((sR).view.loc (thr d L)))
    (W : Finset (Idx ((sR).view.loc (thr d L)))) (n : ℕ) : sProp 𝕄 :=
  iprop(IndPts d L iv e ∗ SlotPts d L fv b r ∗ Beside d L b' q f g W ∗ Gathered d L fv iv b r n)

/-- The columns a group's index load names. -/
theorem ind_read {n : ℕ} (hn : n + 16 ≤ 2048) (in1 : ∀ a, (![n] : Fin 1 → ℕ) a + S16.size a ≤ S2048.size a) (b : ℕ) (x : S16.Idx) :
    (sI).view.readAt (Elt F) (Rect.unit (s := S2048) ![n] S16.size in1).toLoadRect (indBuf iv b) x = at2 iv b (n + (x 0).val) := by
  show at2 iv b _ = _
  congr 1
  show n + 1 * (x 0).val = _
  omega

/-- After a group's store the first `n + 16` columns are done. -/
theorem stored {b r n : ℕ} {fo : S2x2048.Idx → Elt F .f32} (hfo : ∀ x : S2x2048.Idx, (x 0).val = b → (x 1).val < n → fo x = gath fv iv r (x 1).val)
    {in2 : ∀ a, (![b, n] : Fin 2 → ℕ) a + S1x16.size a ≤ S2x2048.size a} {y : Vec F S16 .f32} (hy : ∀ x : S16.Idx, y x = gath fv iv r (n + (x 0).val)) :
    ∀ x : S2x2048.Idx, (x 0).val = b → (x 1).val < n + 16 →
      ((sO).access (Rect.unit (s := S2x2048) ![b, n] S1x16.size in2)).write (Elt F) fo (shapeCast S1x16 y shapeCasts_S16_S1x16) Finset.univ x = gath fv iv r (x 1).val := by
  intro x hx0 hx1
  by_cases h : (x 1).val < n
  · rw [View.write_of_not_mem]
    · exact hfo x hx0 h
    · intro hm
      obtain ⟨z, -, hz⟩ := Finset.mem_map.mp hm
      have := congrArg (fun i : S2x2048.Idx => (i 1).val) hz
      have h1 : n + 1 * (z 1).val = (x 1).val := this
      omega
  · have hlt : (x 1).val - n < 16 := by omega
    have hz : ((sO).access (Rect.unit (s := S2x2048) ![b, n] S1x16.size in2)).emb (ix2 (0 : Fin 1) (⟨(x 1).val - n, hlt⟩ : Fin 16)) = x := by
      funext a
      apply Fin.ext
      match a with
      | ⟨0, _⟩ => show b + 1 * 0 = (x 0).val; omega
      | ⟨1, _⟩ => show n + 1 * ((x 1).val - n) = (x 1).val; omega
    have hw := View.write_emb_of_mem (v := (sO).access (Rect.unit (s := S2x2048) ![b, n] S1x16.size in2)) (Val := Elt F) fo
      (shapeCast S1x16 y shapeCasts_S16_S1x16) (M := Finset.univ) (Finset.mem_univ (ix2 (0 : Fin 1) (⟨(x 1).val - n, hlt⟩ : Fin 16)))
    rw [hz] at hw
    refine hw.trans ?_
    have hcast : shapeCast S1x16 y shapeCasts_S16_S1x16 (ix2 (0 : Fin 1) (⟨(x 1).val - n, hlt⟩ : Fin 16)) = gath fv iv r (n + ((x 1).val - n)) :=
      (congrArg y (Shape.reshapeEquiv_eq_of_rowMajor _ (by
        rw [Shape.rowMajor_val_one]
        refine Eq.trans ?_ (Shape.rowMajor_val_two (d := ![1, 16]) _).symm
        show (x 1).val - n = 0 * 16 + ((x 1).val - n)
        omega))).trans (hy (ix1 (⟨(x 1).val - n, hlt⟩ : Fin 16)))
    rw [show n + ((x 1).val - n) = (x 1).val by omega] at hcast
    exact hcast

/-- One group of sixteen columns. -/
theorem group_wp {α : Type} {Q : α → sProp 𝕄} {ι : ℕ} {b b' e r n : ℕ} (hb : (b = 0 ∧ b' = 1) ∨ (b = 1 ∧ b' = 0)) (hn : n + 16 ≤ 2048) (he : e = r / 128)
    (hr : ∀ x, (iv x).toNat < 8192)
    {q : PosShare TreeShare} {f : Buf (Elt F) ((sR).view.loc (thr d L))} {g : Tgt (Elt F) ((sR).view.loc (thr d L))}
    {W : Finset (Idx ((sR).view.loc (thr d L)))}
    {vb : IVec S16 32} (hvb : ∀ x, (vb x).toNat = b)
    {o1 : Fin 1 → ℕ} (ho1 : o1 = ![n]) {o2 : Fin 2 → ℕ} (ho2 : o2 = ![b, n]) {in1 : ∀ a, o1 a + S16.size a ≤ S2048.size a}
    {in2 : ∀ a, o2 a + S1x16.size a ≤ S2x2048.size a}
    {C : IVec S16 32 → Prop} {dec : ∀ v, Decidable (C v)} (hinb : ∀ v, C v → ∀ a x, ((![vb, v] : Fin 2 → IVec S16 32) a x).toNat < S2x8192.size a)
    (hC : ∀ v, (∀ a x, ((![vb, v] : Fin 2 → IVec S16 32) a x).toNat < S2x8192.size a) → C v)
    {k : Prog (TpuEff nD τ sig (Elt F) Λ₀ (.scVector (cV L) (jV L))) α} :
    (iprop(wmInv EW ι ∗ InTrip d L fv iv b b' e r q f g W n) : sProp 𝕄)
      ⊢ iprop((InTrip d L fv iv b b' e r q f g W (n + 16) -∗ wp frame (wpE (defs₀ (F := F)) 𝒱₀ (thr d L) none) Set.univ k Q)
        -∗ wp frame (wpE (defs₀ (F := F)) 𝒱₀ (thr d L) none) Set.univ (do
          let v : Vec F S16 .i32 ← Prog.lift (.load sI (Rect.unit (s := S2048) o1 S16.size in1).toLoadRect (View.loadsAt_vmem h_S16))
          have hw : C v := (← Prog.lift (TpuEff.assume (C v) (dec v))).down
          let y : Vec F S16 .f32 ← SparseCore.vectorLoadIdx sR ![vb, v] (hinb v hw) (View.loads_vmem h_S2x8192)
          let _ld : Vec F S1x16 .f32 ← Prog.lift (.load sO (Rect.unit (s := S2x2048) o2 S1x16.size in2).toLoadRect (View.loadsAt_vmem h_S1x16))
          Prog.lift (.store sO (Rect.unit (s := S2x2048) o2 S1x16.size in2) (shapeCast S1x16 y shapeCasts_S16_S1x16) Finset.univ (View.stores_vmem_bits_univ h_S1x16 rfl) (.inl rfl))
          k) Q) := by
  subst ho1 ho2
  unfold InTrip IndPts SlotPts Beside Gathered
  iintro ⟨#Hi, HI, HS, HB, %fo, %hfo, HO⟩ Hk
  simp only [SparseCore.vectorLoadIdx, Prog.lift, Prog.bind_op, Prog.bind_ret, Prog.bind_assoc]
  iapply (wp_load 𝒱₀ (thr d L) none Set.univ (m := sI) (Finset.subset_univ _)) $$ HI
  iintro HI
  generalize hv : (sI).view.readAt (Elt F) (Rect.unit (s := S2048) ![n] S16.size in1).toLoadRect (indBuf iv e) = v
  have hv' : ∀ x, v x = at2 iv e (n + (x 0).val) := fun x => by rw [← hv]; exact ind_read iv hn in1 e x
  have hvlt : ∀ x, (v x).toNat < 8192 := fun x => by rw [hv']; exact hr _
  have hCv : C v := hC v fun a x => by
    match a with
    | ⟨0, _⟩ => show (vb x).toNat < 2; rw [hvb]; omega
    | ⟨1, _⟩ => exact hvlt x
  rw [wp_assume_of 𝒱₀ (thr d L) none Set.univ hCv]
  have hsl : slotR b ∪ slotR b' = Finset.univ := by
    ext x
    have := (x 0).isLt
    simp only [Finset.mem_union, mem_rows, Finset.mem_univ, iff_true]
    have h2 : (x 0).val < 2 := (x 0).isLt
    omega
  have hdj : Disjoint (slotR b) (slotR b') := by
    rcases hb with ⟨rfl, rfl⟩ | ⟨rfl, rfl⟩
    · exact rows_disjoint (by omega)
    · exact (rows_disjoint (by omega)).symm
  iapply (wp_load_beside (emb := EW) 𝒱₀ (thr d L) none (m := sR) (by rw [hsl]; exact Finset.subset_univ _) hdj) $$ [HS HB]
  · isplitr; · iexact Hi
    isplitl [HS]
    · iexact HS
    · iexact HB
  iintro %cur %hcur HS HB
  generalize hy : loadIdx ((sR).view.readAt (Elt F) (LoadRect.whole S2x8192) cur) ![vb, v] (hinb v hCv) = y
  have hy' : ∀ x : S16.Idx, y x = gath fv iv r (n + (x 0).val) := by
    intro x
    rw [← hy]
    have hidx : idxAt ![vb, v] (hinb v hCv) x ∈ slotR b := mem_rows.mpr (by
      show b ≤ (vb x).toNat ∧ (vb x).toNat < b + 1
      rw [hvb]; omega)
    have h1 : loadIdx ((sR).view.readAt (Elt F) (LoadRect.whole S2x8192) cur) ![vb, v] (hinb v hCv) x
        = cur (idxAt ![vb, v] (hinb v hCv) x) := by
      show cur _ = _
      congr 1
      funext a
      apply Fin.ext
      match a with
      | ⟨0, _⟩ => show 0 + 1 * (vb x).toNat = (vb x).toNat; omega
      | ⟨1, _⟩ => show 0 + 1 * (v x).toNat = (v x).toNat; omega
    rw [h1, hcur _ hidx]
    show at2 fv r (v x).toNat = _
    rw [hv', he]
    rfl
  have hwin : ∀ z ∈ (Rect.unit (s := S2x2048) ![b, n] S1x16.size in2).set, (z : S2x2048.Idx) ∈ slotO b := fun z hz => by
    have h0 := (Rect.mem_set_unit.mp hz) 0
    have h0' : b ≤ (z 0).val ∧ (z 0).val < b + 1 := h0
    exact mem_rows.mpr h0'
  iapply (wp_load 𝒱₀ (thr d L) none Set.univ (m := sO) (S := slotO b) (r := (Rect.unit (s := S2x2048) ![b, n] S1x16.size in2).toLoadRect) ?hl) $$ HO
  case hl =>
    intro x hx
    obtain ⟨z, hz, rfl⟩ := Finset.mem_map.mp hx
    exact hwin z hz
  iintro HO
  iapply (wp_store 𝒱₀ (thr d L) none Set.univ (m := sO) (S := slotO b) (r := (Rect.unit (s := S2x2048) ![b, n] S1x16.size in2)) ?hst) $$ HO
  case hst =>
    intro x hx
    obtain ⟨z, -, rfl⟩ := Finset.mem_map.mp hx
    have hz : (z 0).val < 1 := (z 0).isLt
    exact mem_rows.mpr (show b ≤ b + 1 * (z 0).val ∧ b + 1 * (z 0).val < b + 1 by omega)
  iintro HO
  iapply Hk
  isplitl [HI]; · iexact HI
  isplitl [HS]; · iexact HS
  isplitl [HB]; · iexact HB
  iexists (((sO).access (Rect.unit (s := S2x2048) ![b, n] S1x16.size in2)).write (Elt F) fo (shapeCast S1x16 y shapeCasts_S16_S1x16) Finset.univ)
  isplitr
  · ipureintro; exact stored fv iv hfo hy'
  · iexact HO

/-- An inner trip of slot 0. -/
theorem trip0 {ι e r : ℕ} (he : e = r / 128) (hr : ∀ x, (iv x).toNat < 8192) (t1 : Fin k1_t1_loop.trips) (v2 c0 c1 : BitVec 32)
    {q : PosShare TreeShare} {f : Buf (Elt F) ((sR).view.loc (thr d L))} {g : Tgt (Elt F) ((sR).view.loc (thr d L))}
    {W : Finset (Idx ((sR).view.loc (thr d L)))} (t : Fin k1_t2_loop.trips) (acc : BitVec 32) :
    (iprop(wmInv EW ι ∗ InTrip d L fv iv 0 1 e r q f g W (64 * t.val)) : sProp 𝕄)
      ⊢ wp frame (wpE (defs₀ (F := F)) 𝒱₀ (thr d L) none) Set.univ
          (k1_t2_body L xV (Memref.isWhole_whole _) iV (Memref.isWhole_whole _) oV (Memref.isWhole_whole _) sI (Memref.isWhole_whole _)
            sR (Memref.isWhole_whole _) sO (Memref.isWhole_whole _) cc1_scratch3 cc1_scratch4 cc1_scratch5 cc1_scratch6 cc1_scoped0 v2 c0 c1 t1
            (broadcast S16 0#32) t acc)
          (fun _ => InTrip d L fv iv 0 1 e r q f g W (64 * (t.val + 1))) := by
  have ht : t.val < 32 := lt_of_lt_of_le t.isLt k1_t2_abs.2.1
  unfold k1_t2_body
  iintro ⟨#Hi, H⟩
  iapply (group_wp d L fv iv (n := 64 * t.val) (C := k1_chk1 (broadcast S16 0#32)) (.inl ⟨rfl, rfl⟩) (by omega) he hr (fun _ => rfl)
    (k1_off5_eq t) (k1_off6_eq t) (fun v h => k1_idx1_inb _ v h) (fun _ h => h)) $$ [H]
  · isplitr
    · iexact Hi
    · iexact H
  iintro H
  iapply (group_wp d L fv iv (n := 64 * t.val + 16) (C := k1_chk2 (broadcast S16 0#32)) (.inl ⟨rfl, rfl⟩) (by omega) he hr (fun _ => rfl)
    (k1_off7_eq t) (k1_off8_eq t) (fun v h => k1_idx2_inb _ v h) (fun _ h => h)) $$ [H]
  · isplitr
    · iexact Hi
    · iexact H
  iintro H
  iapply (group_wp d L fv iv (n := 64 * t.val + 32) (C := k1_chk3 (broadcast S16 0#32)) (.inl ⟨rfl, rfl⟩) (by omega) he hr (fun _ => rfl)
    (k1_off9_eq t) (k1_off10_eq t) (fun v h => k1_idx3_inb _ v h) (fun _ h => h)) $$ [H]
  · isplitr
    · iexact Hi
    · iexact H
  iintro H
  iapply (group_wp d L fv iv (n := 64 * t.val + 48) (C := k1_chk4 (broadcast S16 0#32)) (.inl ⟨rfl, rfl⟩) (by omega) he hr (fun _ => rfl)
    (k1_off11_eq t) (k1_off12_eq t) (fun v h => k1_idx4_inb _ v h) (fun _ h => h)) $$ [H]
  · isplitr
    · iexact Hi
    · iexact H
  iintro H
  rw [Prog.pure_eq_ret, wp_ret]
  imodintro
  iexact H

/-- An inner trip of slot 1. -/
theorem trip1 {ι e r : ℕ} (he : e = r / 128) (hr : ∀ x, (iv x).toNat < 8192)
    {q : PosShare TreeShare} {f : Buf (Elt F) ((sR).view.loc (thr d L))} {g : Tgt (Elt F) ((sR).view.loc (thr d L))}
    {W : Finset (Idx ((sR).view.loc (thr d L)))} (t : Fin k1_t3_loop.trips) (acc : BitVec 32) :
    (iprop(wmInv EW ι ∗ InTrip d L fv iv 1 0 e r q f g W (64 * t.val)) : sProp 𝕄)
      ⊢ wp frame (wpE (defs₀ (F := F)) 𝒱₀ (thr d L) none) Set.univ
          (k1_t3_body L xV (Memref.isWhole_whole _) iV (Memref.isWhole_whole _) oV (Memref.isWhole_whole _) sI (Memref.isWhole_whole _)
            sR (Memref.isWhole_whole _) sO (Memref.isWhole_whole _) cc1_scratch3 cc1_scratch4 cc1_scratch5 cc1_scratch6 cc1_scoped0
            (broadcast S16 1#32) t acc)
          (fun _ => InTrip d L fv iv 1 0 e r q f g W (64 * (t.val + 1))) := by
  have ht : t.val < 32 := lt_of_lt_of_le t.isLt k1_t3_abs.2.1
  unfold k1_t3_body
  iintro ⟨#Hi, H⟩
  iapply (group_wp d L fv iv (n := 64 * t.val) (C := k1_chk5 (broadcast S16 1#32)) (.inr ⟨rfl, rfl⟩) (by omega) he hr (fun _ => rfl)
    (k1_off17_eq t) (k1_off18_eq t) (fun v h => k1_idx5_inb _ v h) (fun _ h => h)) $$ [H]
  · isplitr
    · iexact Hi
    · iexact H
  iintro H
  iapply (group_wp d L fv iv (n := 64 * t.val + 16) (C := k1_chk6 (broadcast S16 1#32)) (.inr ⟨rfl, rfl⟩) (by omega) he hr (fun _ => rfl)
    (k1_off19_eq t) (k1_off20_eq t) (fun v h => k1_idx6_inb _ v h) (fun _ h => h)) $$ [H]
  · isplitr
    · iexact Hi
    · iexact H
  iintro H
  iapply (group_wp d L fv iv (n := 64 * t.val + 32) (C := k1_chk7 (broadcast S16 1#32)) (.inr ⟨rfl, rfl⟩) (by omega) he hr (fun _ => rfl)
    (k1_off21_eq t) (k1_off22_eq t) (fun v h => k1_idx7_inb _ v h) (fun _ h => h)) $$ [H]
  · isplitr
    · iexact Hi
    · iexact H
  iintro H
  iapply (group_wp d L fv iv (n := 64 * t.val + 48) (C := k1_chk8 (broadcast S16 1#32)) (.inr ⟨rfl, rfl⟩) (by omega) he hr (fun _ => rfl)
    (k1_off23_eq t) (k1_off24_eq t) (fun v h => k1_idx8_inb _ v h) (fun _ h => h)) $$ [H]
  · isplitr
    · iexact Hi
    · iexact H
  iintro H
  rw [Prog.pure_eq_ret, wp_ret]
  imodintro
  iexact H

end Cert.Proof.Gather

end

end
-- ==== Proof.Copy.lean ====
/-
  The four copies and waits a row goes through, each at any row and either slot: a feature row into its slot and the wait
  for it, a gathered row out of its slot and the wait for that.
-/
module

public import proofs.«01_k».proof.Proof.Gather

@[expose] public section

noncomputable section

namespace Cert.Proof.Gather

open Cert.KernelIdeal Cert.KernelIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid1.Coords) (fv : Feat F) (iv : Inds)

/-- Feature rows `lo` to `hi`. -/
def FeatRows (lo hi : ℕ) : sProp 𝕄 := (xV).view.loc (thr d L) ↦[tileX lo hi]{fullShare} (fv : Buf (Elt F) ((xV).view.loc (thr d L)))

/-- Result rows `lo` to `hi`, holding `f`. -/
def OutRows (lo hi : ℕ) (f : S1024x2048.Idx → Elt F .f32) : sProp 𝕄 :=
  (oV).view.loc (thr d L) ↦[tileO lo hi]{fullShare} (f : Buf (Elt F) ((oV).view.loc (thr d L)))

/-- A slot nothing is known of, and its semaphore at zero. -/
def SlotFree (sm : DmaSem sig) (b : ℕ) : sProp 𝕄 :=
  iprop((∃ f, (sR).view.loc (thr d L) ↦[slotR b]{fullShare} f) ∗ semVal (thr d L, .dma sm) 0)
def OutFree (sm : DmaSem sig) (b : ℕ) : sProp 𝕄 :=
  iprop((∃ f, (sO).view.loc (thr d L) ↦[slotO b]{fullShare} f) ∗ semVal (thr d L, .dma sm) 0)

/-- What a feature row's copy, and a result row's, signal. -/
abbrev nX : ℕ := (((sR).slice (Rect.unit (s := S2x8192) ![0, 0] S1x8192.size inb_S2x8192_S1x8192_0_0) (fun _ => rfl)).squeeze S8192 squeezes_S1x8192_S8192).view.dmaCredit
abbrev nO : ℕ := (((sO).slice (Rect.unit (s := S2x2048) ![0, 0] S1x2048.size inb_S2x2048_S1x2048_0_0) (fun _ => rfl)).squeeze S2048 squeezes_S1x2048_S2048).view.dmaCredit

/-- Feature row `r` on its way into slot `b`: the half of the slot that stays. -/
def Staying (b r : ℕ) (f : Buf (Elt F) ((sR).view.loc (thr d L))) : sProp 𝕄 :=
  Kept EW ((sR).view.loc (thr d L)) (slotR b) f (featSlot fv r)

/-- The copy under way; it brings the other half, and gives the feature row back. -/
def Coming (sm : DmaSem sig) (b r : ℕ) (f : Buf (Elt F) ((sR).view.loc (thr d L))) : sProp 𝕄 :=
  Flight EC (thr d L) (.dma sm) none nX iprop(Filled EW ((sR).view.loc (thr d L)) (slotR b) f (featSlot fv r) ∗ FeatRows d L fv r (r + 1))

/-- Feature row `r` on its way into slot `b`. -/
def FeatIn (sm : DmaSem sig) (b r : ℕ) : sProp 𝕄 := iprop(∃ f, Staying d L fv b r f ∗ Coming d L fv sm b r f)

/-- Result row `r` on its way out of slot `b`. -/
def OutGo (sm : DmaSem sig) (b r : ℕ) : sProp 𝕄 :=
  Flight EC (thr d L) (.dma sm) none nO
    iprop(OutRows d L r (r + 1) (result fv iv) ∗ ∃ f, (sO).view.loc (thr d L) ↦[slotO b]{fullShare} f)

/-! ## The windows the copies name -/

/-- Feature row at `o`, slot at `o`, result slot at `o`, result row at `o`, each as a vector. -/
abbrev winX (o : Fin 2 → ℕ) (inb : ∀ a, o a + S1x8192.size a ≤ S1024x8192.size a) : Memref sig .scVector .hbm S8192 .f32 :=
  (xV.slice (Rect.unit (s := S1024x8192) o S1x8192.size inb) (fun _ => rfl)).squeeze S8192 squeezes_S1x8192_S8192
abbrev winR (o : Fin 2 → ℕ) (inb : ∀ a, o a + S1x8192.size a ≤ S2x8192.size a) : Memref sig .scVector .vmem S8192 .f32 :=
  (sR.slice (Rect.unit (s := S2x8192) o S1x8192.size inb) (fun _ => rfl)).squeeze S8192 squeezes_S1x8192_S8192
abbrev winO (o : Fin 2 → ℕ) (inb : ∀ a, o a + S1x2048.size a ≤ S2x2048.size a) : Memref sig .scVector .vmem S2048 .f32 :=
  (sO.slice (Rect.unit (s := S2x2048) o S1x2048.size inb) (fun _ => rfl)).squeeze S2048 squeezes_S1x2048_S2048
abbrev winY (o : Fin 2 → ℕ) (inb : ∀ a, o a + S1x2048.size a ≤ S1024x2048.size a) : Memref sig .scVector .hbm S2048 .f32 :=
  (oV.slice (Rect.unit (s := S1024x2048) o S1x2048.size inb) (fun _ => rfl)).squeeze S2048 squeezes_S1x2048_S2048

theorem setOn_whole {κ : Kind} (r : Ref sig κ) (M : Finset r.ty.shape.Idx) : (View.whole r).setOn M = M := by
  ext x; exact ⟨fun h => (View.mem_setOn (v := View.whole r)).mp h, fun h => (View.mem_setOn (v := View.whole r)).mpr h⟩

theorem winX_set {o : Fin 2 → ℕ} {r : ℕ} (ho : o = ![r, 0]) (inb : ∀ a, o a + S1x8192.size a ≤ S1024x8192.size a) :
    (winX o inb).view.set = tileX r (r + 1) := (row_set (xV).view r ho rfl inb squeezes_S1x8192_S8192.numel_eq).trans (setOn_whole _ _)
theorem winR_set {o : Fin 2 → ℕ} {b : ℕ} (ho : o = ![b, 0]) (inb : ∀ a, o a + S1x8192.size a ≤ S2x8192.size a) :
    (winR o inb).view.set = slotR b := (row_set (sR).view b ho rfl inb squeezes_S1x8192_S8192.numel_eq).trans (setOn_whole _ _)
theorem winO_set {o : Fin 2 → ℕ} {b : ℕ} (ho : o = ![b, 0]) (inb : ∀ a, o a + S1x2048.size a ≤ S2x2048.size a) :
    (winO o inb).view.set = slotO b := (row_set (sO).view b ho rfl inb squeezes_S1x2048_S2048.numel_eq).trans (setOn_whole _ _)
theorem winY_set {o : Fin 2 → ℕ} {r : ℕ} (ho : o = ![r, 0]) (inb : ∀ a, o a + S1x2048.size a ≤ S1024x2048.size a) :
    (winY o inb).view.set = tileO r (r + 1) := (row_set (oV).view r ho rfl inb squeezes_S1x2048_S2048.numel_eq).trans (setOn_whole _ _)

section Rules

/-- A feature row's copy is started. -/
theorem featStart {α : Type} {Q : α → sProp 𝕄} {k : PUnit → Prog (TpuEff nD τ sig (Elt F) Λ₀ (.scVector (cV L) (jV L))) α}
    {ι b r : ℕ} {sm : DmaSem sig} (hb : b < 2) (hr : r < 1024) {o : Fin 2 → ℕ} (ho : o = ![r, 0]) {ob : Fin 2 → ℕ} (hob : ob = ![b, 0])
    {inb : ∀ a, o a + S1x8192.size a ≤ S1024x8192.size a} {inbb : ∀ a, ob a + S1x8192.size a ≤ S2x8192.size a}
    {hs : (winX o inb).view.WordExact} {hd : (winR ob inbb).view.WordExact} :
    (iprop(wmInv EW ι ∗ FeatRows d L fv r (r + 1) ∗ SlotFree d L sm b) : sProp 𝕄)
      ⊢ iprop((FeatIn d L fv sm b r -∗ wp frame (wpE (defs₀ (F := F)) 𝒱₀ (thr d L) none) Set.univ (k ⟨⟩) Q)
        -∗ wp frame (wpE (defs₀ (F := F)) 𝒱₀ (thr d L) none) Set.univ
          (.op (.enqueueDma (winX o inb) (.here (winR ob inbb)) (.dma sm) hs hd ⟨Or.inl rfl, trivial⟩) k) Q) := by
  have hg : (winR ob inbb).view.read (Elt F) (featSlot fv r) = (winX o inb).view.read (Elt F) fv := by
    funext y
    refine (row_read (sR).view b hb hob rfl inbb squeezes_S1x8192_S8192.numel_eq (featSlot fv r) y).trans
      (Eq.trans ?_ (row_read (xV).view r hr ho rfl inb squeezes_S1x8192_S8192.numel_eq fv y).symm)
    exact at2_ix2 fv ⟨r, hr⟩ (y 0)
  unfold SlotFree
  iintro ⟨#Hi, HX, ⟨%f0, HS⟩, Hsm⟩ Hk
  have h := wp_dmaFill (Val := Elt F) (emb := EW) (ιwm := ι) EC (defs := defs₀ (F := F)) 𝒱₀ (thr d L) none (Q := Q) (src := winX o inb) (dst := winR ob inbb)
    (sm := .dma sm) (hsrc := hs) (hdst := hd) (hsem := ⟨Or.inl rfl, trivial⟩)
    (k := k) (q := fullShare) (fs := fv) (fd := f0) (featSlot fv r) none nX rfl (by decide) hg
  rw [winX_set ho, winR_set hob] at h
  unfold FeatRows FeatIn Staying Coming
  iapply h $$ [HX HS Hsm]
  · isplitr; · iexact Hi
    isplitl [HX]; · iexact HX
    isplitl [HS]; · iexact HS
    iexact Hsm
  iintro ⟨H1, H2⟩
  iapply Hk
  iexists f0
  isplitl [H1]
  · iexact H1
  · iexact H2

/-- The wait for a feature row: the slot holds the row. -/
theorem featWait {α : Type} {Q : α → sProp 𝕄} {k : PUnit → Prog (TpuEff nD τ sig (Elt F) Λ₀ (.scVector (cV L) (jV L))) α}
    {ι b r : ℕ} {sm : DmaSem sig} {o : Fin 2 → ℕ} {ob : Fin 2 → ℕ}
    {inb : ∀ a, o a + S1x8192.size a ≤ S1024x8192.size a} {inbb : ∀ a, ob a + S1x8192.size a ≤ S2x8192.size a}
    {hs : (winX o inb).view.WordExact} {hd : (winR ob inbb).view.WordExact}
    {O : CellTallies nD τ sig (HIx 1)} :
    (iprop(wmInv EW ι ∗ FeatIn d L fv sm b r ∗ MayWaits (thr d L) none O ∗ ∃ W, owes (thr d L) O W) : sProp 𝕄)
      ⊢ iprop((SlotPts d L fv b r -∗ semVal (thr d L, .dma sm) 0 -∗ FeatRows d L fv r (r + 1) -∗ (∃ W, owes (thr d L) O W)
            -∗ wp frame (wpE (defs₀ (F := F)) 𝒱₀ (thr d L) none) Set.univ (k ⟨⟩) Q)
        -∗ wp frame (wpE (defs₀ (F := F)) 𝒱₀ (thr d L) none) Set.univ
          (.op (.waitDma2 sm (winX o inb) (winR ob inbb) hs hd) k) Q) := by
  unfold FeatIn Staying Coming
  iintro ⟨#Hi, ⟨%f0, Hs, Hc⟩, #Hmw, %W, HO⟩ Hk
  ihave Hm := (MayWaits.elim (SemLoc.dma sm)) $$ Hmw
  iapply (wp_waitLocalO EC 𝒱₀ (thr d L) none (srcw := winX o inb) (dstw := winR ob inbb) none (N := nX) rfl) $$ [Hc HO Hm]
  · isplitl [Hc]; · iexact Hc
    isplitl [HO]; · iexact HO
    iexact Hm
  iintro ⟨⟨Hf, HX⟩, Hsm, HO⟩
  imod (fill_done (emb := EW) (ιwm := ι)) $$ [Hs Hf] with HS
  · isplitr; · iexact Hi
    isplitl [Hs]; · iexact Hs
    iexact Hf
  iapply Hk $$ [HS] Hsm HX [HO]
  · unfold SlotPts; iexact HS
  · iexists _; iexact HO

/-- A result row's copy is started. -/
theorem outStart {α : Type} {Q : α → sProp 𝕄} {k : PUnit → Prog (TpuEff nD τ sig (Elt F) Λ₀ (.scVector (cV L) (jV L))) α}
    {b r : ℕ} {sm : DmaSem sig} (hb : b < 2) (hr : r < 1024) {o : Fin 2 → ℕ} (ho : o = ![r, 0]) {ob : Fin 2 → ℕ} (hob : ob = ![b, 0])
    {inb : ∀ a, o a + S1x2048.size a ≤ S1024x2048.size a} {inbb : ∀ a, ob a + S1x2048.size a ≤ S2x2048.size a}
    {hs : (winO ob inbb).view.WordExact} {hd : (winY o inb).view.WordExact} {f0 : S1024x2048.Idx → Elt F .f32} :
    (iprop(Gathered d L fv iv b r 2048 ∗ OutRows d L r (r + 1) f0 ∗ semVal (thr d L, .dma sm) 0) : sProp 𝕄)
      ⊢ iprop((OutGo d L fv iv sm b r -∗ wp frame (wpE (defs₀ (F := F)) 𝒱₀ (thr d L) none) Set.univ (k ⟨⟩) Q)
        -∗ wp frame (wpE (defs₀ (F := F)) 𝒱₀ (thr d L) none) Set.univ
          (.op (.enqueueDma (winO ob inbb) (.here (winY o inb)) (.dma sm) hs hd ⟨Or.inl rfl, trivial⟩) k) Q) := by
  unfold Gathered OutRows OutGo
  iintro ⟨⟨%fo, %hfo, HS⟩, HY, Hsm⟩ Hk
  have hval : (winY o inb).view.read (Elt F) ((winY o inb).view.write (Elt F) f0 ((winO ob inbb).view.read (Elt F) fo) Finset.univ)
      = (winY o inb).view.read (Elt F) (result fv iv) := by
    rw [View.read_write_univ]
    funext y
    refine (row_read (sO).view b hb hob rfl inbb squeezes_S1x2048_S2048.numel_eq fo y).trans
      (Eq.trans ?_ (row_read (oV).view r hr ho rfl inb squeezes_S1x2048_S2048.numel_eq (result fv iv) y).symm)
    exact hfo (ix2 ⟨b, hb⟩ (y 0)) rfl (y 0).isLt
  have hpts := pts_of_read (Ix := HIx 1) (Name := ℕ) (U := UU F) (Lvl := ℕ) (c := thr d L) (winY o inb).view (q := fullShare) hval
  have h := wp_dmaLocal EC (defs := defs₀ (F := F)) 𝒱₀ (thr d L) none (Q := Q) (src := winO ob inbb) (dst := winY o inb) (via := .same)
    (sm := .dma sm) (hsrc := hs) (hdst := hd) (hsem := ⟨Or.inl rfl, trivial⟩)
    (k := k) (q := fullShare) (fs := fo) (fd := f0) none nO rfl (by decide) subset_rfl
  rw [winO_set hob, winY_set ho] at h
  rw [winY_set ho] at hpts
  iapply h $$ [HS HY Hsm]
  · isplitl [HS]; · iexact HS
    isplitl [HY]; · iexact HY
    iexact Hsm
  iintro H
  iapply Hk
  iapply (Flight_mono EC (thr d L) ?_) $$ H
  iintro ⟨HY, HS⟩
  isplitl [HY]
  · unfold OutRows; iapply (Entails.of_eq hpts) $$ HY
  · iexists fo; iexact HS

/-- The wait for a result row: it holds its values, and the slot is free. -/
theorem outWait {α : Type} {Q : α → sProp 𝕄} {k : PUnit → Prog (TpuEff nD τ sig (Elt F) Λ₀ (.scVector (cV L) (jV L))) α}
    {b r : ℕ} {sm : DmaSem sig} {o : Fin 2 → ℕ} {ob : Fin 2 → ℕ}
    {inb : ∀ a, o a + S1x2048.size a ≤ S1024x2048.size a} {inbb : ∀ a, ob a + S1x2048.size a ≤ S2x2048.size a}
    {hs : (winO ob inbb).view.WordExact} {hd : (winY o inb).view.WordExact}
    {O : CellTallies nD τ sig (HIx 1)} :
    (iprop(OutGo d L fv iv sm b r ∗ MayWaits (thr d L) none O ∗ ∃ W, owes (thr d L) O W) : sProp 𝕄)
      ⊢ iprop((OutRows d L r (r + 1) (result fv iv) -∗ OutFree d L sm b -∗ (∃ W, owes (thr d L) O W)
            -∗ wp frame (wpE (defs₀ (F := F)) 𝒱₀ (thr d L) none) Set.univ (k ⟨⟩) Q)
        -∗ wp frame (wpE (defs₀ (F := F)) 𝒱₀ (thr d L) none) Set.univ
          (.op (.waitDma2 sm (winO ob inbb) (winY o inb) hs hd) k) Q) := by
  unfold OutGo OutFree
  iintro ⟨Hc, #Hmw, %W, HO⟩ Hk
  ihave Hm := (MayWaits.elim (SemLoc.dma sm)) $$ Hmw
  iapply (wp_waitLocalO EC 𝒱₀ (thr d L) none (srcw := winO ob inbb) (dstw := winY o inb) none (N := nO) rfl) $$ [Hc HO Hm]
  · isplitl [Hc]; · iexact Hc
    isplitl [HO]; · iexact HO
    iexact Hm
  iintro ⟨⟨HY, HS⟩, Hsm, HO⟩
  iapply Hk $$ HY [HS Hsm] [HO]
  · isplitl [HS]; · iexact HS
    iexact Hsm
  · iexists _; iexact HO

end Rules

end Cert.Proof.Gather

end

end
-- ==== Proof.Half.lean ====
/-
  Half a trip of the outer loop: one row, through one slot. The row's slot is waited for and gathered from while the other
  slot's copy is under way, the result row is sent out, and the copy of the row two further on is started into the slot.
-/
module

public import proofs.«01_k».proof.Proof.Copy

@[expose] public section

noncomputable section

namespace Cert.Proof.Gather

open Cert.KernelIdeal Cert.KernelIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid1.Coords) (fv : Feat F) (iv : Inds)

theorem feat_rows {lo mid hi : ℕ} (h : lo ≤ mid) (h' : mid ≤ hi) :
    (FeatRows d L fv lo hi : sProp 𝕄) ⊣⊢ iprop(FeatRows d L fv lo mid ∗ FeatRows d L fv mid hi) := by
  unfold FeatRows
  rw [show tileX lo hi = tileX lo mid ∪ tileX mid hi from (rows_union h h').symm]
  exact pointsTo_union (rows_disjoint le_rfl)

theorem out_rows {lo mid hi : ℕ} (h : lo ≤ mid) (h' : mid ≤ hi) (f : S1024x2048.Idx → Elt F .f32) :
    (OutRows d L lo hi f : sProp 𝕄) ⊣⊢ iprop(OutRows d L lo mid f ∗ OutRows d L mid hi f) := by
  unfold OutRows
  rw [show tileO lo hi = tileO lo mid ∪ tileO mid hi from (rows_union h h').symm]
  exact pointsTo_union (rows_disjoint le_rfl)

/-- Feature slot `b` when row `B + h` is the next to use it: the row is on its way in, or there is none. -/
def FeatSt (sm : DmaSem sig) (B b h : ℕ) : sProp 𝕄 := if h < 32 then FeatIn d L fv sm b (B + h) else SlotFree d L sm b

/-- Result slot `b` when row `B + h` is the next to use it: row `B + h - 2` is on its way out, or none has been. -/
def OutSt (sm : DmaSem sig) (B b h : ℕ) : sProp 𝕄 := if 2 ≤ h then OutGo d L fv iv sm b (B + h - 2) else OutFree d L sm b

/-- The subcore's state before row `B + h`, which uses slot `b`; `f0` is what the result array held. -/
def Half (B : ℕ) (f0 : S1024x2048.Idx → Elt F .f32) (b b' : ℕ) (sx so sx' so' : DmaSem sig) (h : ℕ) : sProp 𝕄 :=
  iprop(IndPts d L iv (B / 128) ∗ (FeatSt d L fv sx B b h ∗ FeatSt d L fv sx' B b' (h + 1))
    ∗ (OutSt d L fv iv so B b h ∗ OutSt d L fv iv so' B b' (h + 1))
    ∗ (FeatRows d L fv B (B + h) ∗ FeatRows d L fv (B + min (h + 2) 32) (B + 32))
    ∗ (OutRows d L B (B + (h - 2)) (result fv iv) ∗ OutRows d L (B + h) (B + 32) f0))

/-- The other slot, whatever its state, can stand in write mode for a while. -/
theorem beside {ι B b h : ℕ} {sm : DmaSem sig} :
    (iprop(wmInv EW ι ∗ FeatSt d L fv sm B b h) : sProp 𝕄)
      ⊢ iprop(|={Set.univ}=> ∃ (q : PosShare TreeShare) (f : Buf (Elt F) ((sR).view.loc (thr d L))) (g : Tgt (Elt F) ((sR).view.loc (thr d L)))
          (W : Finset (Idx ((sR).view.loc (thr d L)))), Beside d L b q f g W
            ∗ (Beside d L b q f g W -∗ |={Set.univ}=> FeatSt d L fv sm B b h)) := by
  unfold FeatSt
  by_cases hh : h < 32
  · simp only [if_pos hh]
    unfold FeatIn Staying Kept
    iintro ⟨#Hi, %f, Hs, Hc⟩
    imodintro
    iexists _, _, _, _
    isplitl [Hs]
    · unfold Beside; iexact Hs
    iintro Hs
    imodintro
    iexists f
    isplitl [Hs]
    · unfold Beside; iexact Hs
    iexact Hc
  · simp only [if_neg hh]
    unfold SlotFree
    iintro ⟨#Hi, ⟨%f, Hs⟩, Hsm⟩
    imod (pointsTo_castIn (emb := EW) (ιwm := ι) (fun i => some (f i))) $$ [Hs] with Hs
    · isplitr; · iexact Hi
      iexact Hs
    imodintro
    iexists _, _, _, _
    isplitl [Hs]
    · unfold Beside; iexact Hs
    iintro Hs
    unfold Beside
    imod (willBeTo_castOut (emb := EW) (ιwm := ι)) $$ [Hs] with ⟨%f', -, Hs⟩
    · isplitr; · iexact Hi
      iexact Hs
    imodintro
    isplitl [Hs]
    · iexists f'; iexact Hs
    iexact Hsm

/-- The wait for the row two back, where there is one. -/
theorem outFirst {α : Type} {Q : α → sProp 𝕄} {p : Prog (TpuEff nD τ sig (Elt F) Λ₀ (.scVector (cV L) (jV L))) α} {B b h : ℕ} {sm : DmaSem sig}
    {c : BitVec 1} (hc : c = 1#1 ↔ 2 ≤ h) {o : Fin 2 → ℕ} {ob : Fin 2 → ℕ}
    {inb : c = 1#1 → ∀ a, o a + S1x2048.size a ≤ S1024x2048.size a} {inbb : ∀ a, ob a + S1x2048.size a ≤ S2x2048.size a}
    {hs : (winO ob inbb).view.WordExact} {hd : ∀ hA, (winY o (inb hA)).view.WordExact} {O : CellTallies nD τ sig (HIx 1)} :
    (iprop(OutSt d L fv iv sm B b h ∗ OutRows d L B (B + (h - 2)) (result fv iv) ∗ MayWaits (thr d L) none O ∗ ∃ W, owes (thr d L) O W) : sProp 𝕄)
      ⊢ iprop((OutFree d L sm b -∗ OutRows d L B (B + (h + 1 - 2)) (result fv iv) -∗ (∃ W, owes (thr d L) O W)
            -∗ wp frame (wpE (defs₀ (F := F)) 𝒱₀ (thr d L) none) Set.univ p Q)
        -∗ wp frame (wpE (defs₀ (F := F)) 𝒱₀ (thr d L) none) Set.univ
          (if hA : c = 1#1 then Prog.op (.waitDma2 sm (winO ob inbb) (winY o (inb hA)) hs (hd hA)) (fun _ => p) else p) Q) := by
  unfold OutSt
  by_cases hh : 2 ≤ h
  · rw [dif_pos (hc.mpr hh), if_pos hh]
    iintro ⟨Hgo, HY, #Hmw, HO⟩ Hk
    iapply (outWait d L fv iv) $$ [Hgo HO]
    · isplitl [Hgo]; · iexact Hgo
      isplitr; · iexact Hmw
      iexact HO
    iintro Hrow Hfree HO
    iapply Hk $$ Hfree [HY Hrow] HO
    have e1 : B + h - 2 = B + (h - 2) := by omega
    have e2 : B + h - 2 + 1 = B + (h + 1 - 2) := by omega
    iapply (out_rows d L (mid := B + (h - 2)) (by omega) (by omega) (result fv iv)).2
    rw [e2, e1]
    isplitl [HY] <;> iassumption
  · rw [dif_neg (fun h' => hh (hc.mp h')), if_neg hh, show h + 1 - 2 = h - 2 by omega]
    iintro ⟨Hfree, HY, #Hmw, HO⟩ Hk
    iapply Hk $$ Hfree HY HO

/-- The copy of the row two further on, where there is one. -/
theorem featLast {α : Type} {Q : α → sProp 𝕄} {p : Prog (TpuEff nD τ sig (Elt F) Λ₀ (.scVector (cV L) (jV L))) α} {ι B b h : ℕ} {sm : DmaSem sig}
    (hb : b < 2) (hB : B + 32 ≤ 1024) (hh32 : h < 32)
    {c : BitVec 1} (hc : c = 1#1 ↔ h + 2 < 32) {o : Fin 2 → ℕ} (ho : o = ![B + h + 2, 0]) {ob : Fin 2 → ℕ} (hob : ob = ![b, 0])
    {inb : c = 1#1 → ∀ a, o a + S1x8192.size a ≤ S1024x8192.size a} {inbb : ∀ a, ob a + S1x8192.size a ≤ S2x8192.size a}
    {hs : ∀ hA, (winX o (inb hA)).view.WordExact} {hd : (winR ob inbb).view.WordExact} :
    (iprop(wmInv EW ι ∗ SlotFree d L sm b ∗ FeatRows d L fv (B + min (h + 2) 32) (B + 32)) : sProp 𝕄)
      ⊢ iprop((FeatSt d L fv sm B b (h + 2) -∗ FeatRows d L fv (B + min (h + 3) 32) (B + 32)
            -∗ wp frame (wpE (defs₀ (F := F)) 𝒱₀ (thr d L) none) Set.univ p Q)
        -∗ wp frame (wpE (defs₀ (F := F)) 𝒱₀ (thr d L) none) Set.univ
          (if hA : c = 1#1 then Prog.op (.enqueueDma (winX o (inb hA)) (.here (winR ob inbb)) (.dma sm) (hs hA) hd ⟨Or.inl rfl, trivial⟩) (fun _ => p) else p) Q) := by
  unfold FeatSt
  by_cases hh : h + 2 < 32
  · rw [dif_pos (hc.mpr hh), if_pos hh, show min (h + 2) 32 = h + 2 by omega, show min (h + 3) 32 = h + 3 by omega]
    iintro ⟨#Hi, Hfree, HX⟩ Hk
    ihave HX := (feat_rows d L fv (mid := B + (h + 2) + 1) (by omega) (by omega)).1 $$ HX
    icases HX with ⟨Hrow, HX⟩
    iapply (featStart d L fv (r := B + (h + 2)) hb (by omega) ho hob) $$ [Hfree Hrow]
    · isplitr; · iexact Hi
      isplitl [Hrow] <;> iassumption
    iintro Hin
    iapply Hk $$ Hin HX
  · rw [dif_neg (fun h' => hh (hc.mp h')), if_neg hh, show min (h + 2) 32 = 32 by omega, show min (h + 3) 32 = 32 by omega]
    iintro ⟨#Hi, Hfree, HX⟩ Hk
    iapply Hk $$ Hfree HX

/-- Half a trip. -/
theorem half_wp {α : Type} {Q : α → sProp 𝕄} {k : Prog (TpuEff nD τ sig (Elt F) Λ₀ (.scVector (cV L) (jV L))) α} {ι B b b' h : ℕ}
    {sx so sx' so' : DmaSem sig} {f0 : S1024x2048.Idx → Elt F .f32} {O : CellTallies nD τ sig (HIx 1)}
    (hb : b < 2) (hB : B + 32 ≤ 1024) (hB' : B % 32 = 0) (hh : h < 32)
    {cA cB : BitVec 1} (hcA : cA = 1#1 ↔ 2 ≤ h) (hcB : cB = 1#1 ↔ h + 2 < 32)
    {oA oX oY oZ oR oO : Fin 2 → ℕ} (hoY : oY = ![B + h, 0]) (hoZ : oZ = ![B + h + 2, 0]) (hoR : oR = ![b, 0]) (hoO : oO = ![b, 0])
    {inA : cA = 1#1 → ∀ a, oA a + S1x2048.size a ≤ S1024x2048.size a} {inX : ∀ a, oX a + S1x8192.size a ≤ S1024x8192.size a}
    {inY : ∀ a, oY a + S1x2048.size a ≤ S1024x2048.size a} {inZ : cB = 1#1 → ∀ a, oZ a + S1x8192.size a ≤ S1024x8192.size a}
    {inR : ∀ a, oR a + S1x8192.size a ≤ S2x8192.size a} {inO : ∀ a, oO a + S1x2048.size a ≤ S2x2048.size a}
    {l : Scf.Loop 32} {hok : l.OK} (hl : l.trips = 32) {init : BitVec 32}
    {body : Fin l.trips → BitVec 32 → Prog (TpuEff nD τ sig (Elt F) Λ₀ (.scVector (cV L) (jV L))) (BitVec 32)}
    (hbody : ∀ q f g W t acc, (iprop(wmInv EW ι ∗ InTrip d L fv iv b b' (B / 128) (B + h) q f g W (64 * t.val)) : sProp 𝕄)
      ⊢ wp frame (wpE (defs₀ (F := F)) 𝒱₀ (thr d L) none) Set.univ (body t acc)
          (fun _ => InTrip d L fv iv b b' (B / 128) (B + h) q f g W (64 * (t.val + 1)))) :
    (iprop(wmInv EW ι ∗ MayWaits (thr d L) none O ∗ Half d L fv iv B f0 b b' sx so sx' so' h ∗ ∃ W, owes (thr d L) O W) : sProp 𝕄)
      ⊢ iprop((Half d L fv iv B f0 b' b sx' so' sx so (h + 1) -∗ (∃ W, owes (thr d L) O W)
            -∗ wp frame (wpE (defs₀ (F := F)) 𝒱₀ (thr d L) none) Set.univ k Q)
        -∗ wp frame (wpE (defs₀ (F := F)) 𝒱₀ (thr d L) none) Set.univ (do
          if hA : cA = 1#1 then do
            Prog.lift (.waitDma2 so (winO oO inO) (winY oA (inA hA)) ((View.wordExact_bits rfl).reshape _ _) ((View.wordExact_bits rfl).reshape _ _))
            pure ⟨⟩
          else do
            pure ⟨⟩
          Prog.lift (.waitDma2 sx (winX oX inX) (winR oR inR) ((View.wordExact_bits rfl).reshape _ _) ((View.wordExact_bits rfl).reshape _ _))
          let _v : BitVec 32 ← Scf.Loop.for l hok init body
          Prog.lift (.enqueueDma (winO oO inO) (.here (winY oY inY)) (.dma so) ((View.wordExact_bits rfl).reshape _ _) ((View.wordExact_bits rfl).reshape _ _) ⟨Or.inl rfl, trivial⟩)
          if hC : cB = 1#1 then do
            Prog.lift (.enqueueDma (winX oZ (inZ hC)) (.here (winR oR inR)) (.dma sx) ((View.wordExact_bits rfl).reshape _ _) ((View.wordExact_bits rfl).reshape _ _) ⟨Or.inl rfl, trivial⟩)
            pure ⟨⟩
          else do
            pure ⟨⟩
          k) Q) := by
  have hor : (b = 0 ∨ b = 1) := by omega
  unfold Half
  iintro ⟨#Hi, #Hmw, ⟨HI, ⟨HF, HF'⟩, ⟨HG, HG'⟩, ⟨HXd, HXr⟩, ⟨HYd, HYr⟩⟩, HO⟩ Hk
  simp only [Prog.lift, Prog.bind_op, Prog.bind_ret]
  iapply (outFirst d L fv iv (B := B) (b := b) (h := h) (sm := so) (c := cA) hcA) $$ [HG HYd HO]
  · isplitl [HG]; · iexact HG
    isplitl [HYd]; · iexact HYd
    isplitr; · iexact Hmw
    iexact HO
  iintro HG HYd HO
  ihave HF := (Entails.of_eq (show FeatSt d L fv sx B b h = FeatIn d L fv sx b (B + h) from if_pos hh)) $$ HF
  iapply (featWait d L fv) $$ [HF HO]
  · isplitr; · iexact Hi
    isplitl [HF]; · iexact HF
    isplitr; · iexact Hmw
    iexact HO
  iintro HS Hsx Hrow HO
  imod (beside d L fv) $$ [HF'] with ⟨%q, %f, %g, %W, HB, Hback⟩
  · isplitr; · iexact Hi
    iexact HF'
  unfold OutFree
  icases HG with ⟨⟨%fo, Hfo⟩, Hso⟩
  iapply (Scf.wp_for_bind _ _ _ l.lb l.ub l.st hok init body
    (fun t _ => iprop(wmInv EW ι ∗ InTrip d L fv iv b b' (B / 128) (B + h) q f g W (64 * t)))
    (fun t acc => by
      iintro ⟨#Hi, H⟩
      iapply (wp_wand_r _ _ _)
      isplitl [H]
      · iapply (hbody q f g W t acc)
        isplitr; · iexact Hi
        iexact H
      iintro %v H
      isplitr; · iexact Hi
      iexact H)) $$ [HI HS HB Hfo]
  · isplitr; · iexact Hi
    unfold InTrip Gathered
    isplitl [HI]; · iexact HI
    isplitl [HS]; · iexact HS
    isplitl [HB]; · iexact HB
    iexists fo
    isplitr
    · ipureintro; intro x _ hx; omega
    · iexact Hfo
  iintro %acc ⟨-, H⟩
  rw [show Scf.trips l.lb l.ub l.st = 32 from hl]
  unfold InTrip
  icases H with ⟨HI, HS, HB, Hfo⟩
  imod Hback $$ HB with HF'
  ihave HYr := (out_rows d L (mid := B + h + 1) (by omega) (by omega) f0).1 $$ HYr
  icases HYr with ⟨HY1, HYr⟩
  iapply (outStart d L fv iv hb (by omega) hoY hoO) $$ [Hfo HY1 Hso]
  · isplitl [Hfo]; · iexact Hfo
    isplitl [HY1]; · iexact HY1
    iexact Hso
  iintro Hgo
  iapply (featLast d L fv (B := B) (b := b) (h := h) (sm := sx) (c := cB) hb hB hh hcB hoZ hoR) $$ [HS Hsx HXr]
  · isplitr; · iexact Hi
    isplitl [HS Hsx]
    · unfold SlotFree SlotPts
      isplitl [HS]
      · iexists _; iexact HS
      · iexact Hsx
    iexact HXr
  iintro HF HXr
  iapply Hk $$ [HI HF HF' Hgo HG' HXd Hrow HXr HYd HYr] HO
  isplitl [HI]; · iexact HI
  isplitl [HF HF']
  · isplitl [HF']
    · iexact HF'
    · iexact HF
  isplitl [Hgo HG']
  · isplitl [HG']; · iexact HG'
    unfold OutSt
    rw [if_pos (show 2 ≤ h + 1 + 1 by omega), show B + (h + 1 + 1) - 2 = B + h by omega]
    iexact Hgo
  isplitl [HXd Hrow HXr]
  · isplitl [HXd Hrow]
    · iapply (feat_rows d L fv (mid := B + h) (by omega) (by omega)).2
      isplitl [HXd]
      · iexact HXd
      · iexact Hrow
    · iexact HXr
  · isplitl [HYd]
    · iexact HYd
    · iexact HYr

end Cert.Proof.Gather

end

end
-- ==== Proof.Tile.lean ====
/-
  One subcore's run: the index row fetched, the first two feature rows started, sixteen trips of two rows each, the last two
  result rows waited for.
-/
module

public import proofs.«01_k».proof.Proof.Half

@[expose] public section

noncomputable section

namespace Cert.Proof.Gather

open Cert.KernelIdeal Cert.KernelIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid1.Coords) (fv : Feat F) (iv : Inds)

/-- The subcore's first row. -/
abbrev row0 : ℕ := base (L 0).val (L 1).val

theorem row0_le : row0 L + 32 ≤ 1024 := by
  have h0 : (L 0).val < 2 := (L 0).isLt
  have h1 : (L 1).val < 16 := (L 1).isLt
  unfold row0 base; omega

theorem row0_mod : row0 L % 32 = 0 := by unfold row0 base; omega

theorem off_row {a b : ℕ} (h : a = b) : (![a, 0] : Fin 2 → ℕ) = ![b, 0] := by rw [h]

/-! ## When the copies' conditions hold -/

theorem cond1_iff : ∀ t : Fin k1_t1_loop.trips, k1_cond1 t = 1#1 ↔ 2 ≤ 2 * t.val := by decide +kernel
theorem cond2_iff : ∀ t : Fin k1_t1_loop.trips, k1_cond2 t = 1#1 ↔ 2 * t.val + 2 < 32 := by decide +kernel
theorem cond3_iff : ∀ t : Fin k1_t1_loop.trips, k1_cond3 t = 1#1 ↔ 2 ≤ 2 * t.val + 1 := by decide +kernel
theorem cond4_iff : ∀ t : Fin k1_t1_loop.trips, k1_cond4 t = 1#1 ↔ 2 * t.val + 1 + 2 < 32 := by decide +kernel

/-- The state between trips. -/
abbrev Rows (f0 : S1024x2048.Idx → Elt F .f32) (n : ℕ) : sProp 𝕄 :=
  Half d L fv iv (row0 L) f0 0 1 cc1_scratch3.sem cc1_scratch5.sem cc1_scratch4.sem cc1_scratch6.sem n

/-- One trip: two rows. -/
theorem trip {ι : ℕ} {O : CellTallies nD τ sig (HIx 1)} {f0 : S1024x2048.Idx → Elt F .f32} (hr : ∀ x, (iv x).toNat < 8192) (v2 : BitVec 32)
    (t : Fin k1_t1_loop.trips) (acc : BitVec 32) :
    (iprop(wmInv EW ι ∗ MayWaits (thr d L) none O ∗ Rows d L fv iv f0 (2 * t.val) ∗ ∃ W, owes (thr d L) O W) : sProp 𝕄)
      ⊢ wp frame (wpE (defs₀ (F := F)) 𝒱₀ (thr d L) none) Set.univ
          (k1_t1_body L xV (Memref.isWhole_whole _) iV (Memref.isWhole_whole _) oV (Memref.isWhole_whole _) sI (Memref.isWhole_whole _)
            sR (Memref.isWhole_whole _) sO (Memref.isWhole_whole _) cc1_scratch3 cc1_scratch4 cc1_scratch5 cc1_scratch6 cc1_scoped0 v2 t acc)
          (fun _ => iprop(Rows d L fv iv f0 (2 * (t.val + 1)) ∗ ∃ W, owes (thr d L) O W)) := by
  have ht : t.val < 16 := lt_of_lt_of_le t.isLt k1_t1_abs.2.1
  have hB := row0_le L
  have hB' := row0_mod L
  unfold k1_t1_body
  rw [k1_part1_eq_skeleton]
  unfold k1_part1_skel
  iintro ⟨#Hi, #Hmw, H, HO⟩
  rw [wp_bind]
  iapply (half_wp d L fv iv (B := row0 L) (b := 0) (b' := 1) (h := 2 * t.val) (by omega) hB hB' (by omega) (cond1_iff t) (cond2_iff t)
    ((k1_off13_eq L t).trans (off_row (by unfold row0 base; omega))) ((k1_off14_eq L t).trans (off_row (by unfold row0 base; omega))) rfl rfl
    (by decide +kernel : k1_t2_loop.trips = 32)
    (fun q f g W t' acc' => trip0 d L fv iv (by omega) hr t v2 0#32 1#32 t' acc')) $$ [H HO]
  · isplitr; · iexact Hi
    isplitr; · iexact Hmw
    isplitl [H]; · iexact H
    iexact HO
  iintro H HO
  rw [Prog.pure_eq_ret, wp_ret]
  imodintro
  iapply (half_wp d L fv iv (B := row0 L) (b := 1) (b' := 0) (h := 2 * t.val + 1) (by omega) hB hB' (by omega) (cond3_iff t) (cond4_iff t)
    ((k1_off25_eq L t).trans (off_row (by unfold row0 base; omega))) ((k1_off26_eq L t).trans (off_row (by unfold row0 base; omega))) rfl rfl
    (by decide +kernel : k1_t3_loop.trips = 32)
    (fun q f g W t' acc' => trip1 d L fv iv (by omega) hr t' acc')) $$ [H HO]
  · isplitr; · iexact Hi
    isplitr; · iexact Hmw
    isplitl [H]; · iexact H
    iexact HO
  iintro H HO
  rw [Prog.pure_eq_ret, wp_ret]
  imodintro
  isplitl [H]
  · iexact H
  · iexact HO

/-! ## The index row -/

/-- The subcore's batch entry: the index row it fetches. -/
theorem off1_eq : ∀ i : grid1.Coords, k1_off1 i = ![base (i 0).val (i 1).val / 128, 0] := by decide +kernel

abbrev winI : Memref sig .scVector .hbm S2048 .i32 :=
  (iV.slice (Rect.unit (s := S8x2048) (k1_off1 L) S1x2048.size (k1_off1_inb L)) (fun _ => rfl)).squeeze S2048 squeezes_S1x2048_S2048

/-- What the index row reads. -/
theorem winI_read : (winI L).view.read (Elt F) iv = indBuf iv (row0 L / 128) := by
  have hlt : row0 L / 128 < 8 := by have := row0_le L; omega
  funext y
  exact (row_read (Val := Elt F) (iV).view (row0 L / 128) hlt (off1_eq L) rfl (k1_off1_inb L) squeezes_S1x2048_S2048.numel_eq iv y).trans
    (at2_ix2 iv ⟨row0 L / 128, hlt⟩ (y 0)).symm

abbrev nI : ℕ := (sI).view.dmaCredit

/-- The index array, at the share the subcore has of it. -/
def IndArr (q : PosShare TreeShare) : sProp 𝕄 := (iV).view.loc (thr d L) ↦[Finset.univ]{q} (iv : Buf (Elt F) ((iV).view.loc (thr d L)))

/-- The index row's fetch, start to end. -/
theorem fetch {α : Type} {Q : α → sProp 𝕄} {k : PUnit → Prog (TpuEff nD τ sig (Elt F) Λ₀ (.scVector (cV L) (jV L))) α} {q : PosShare TreeShare}
    {sm : DmaSem sig} {O : CellTallies nD τ sig (HIx 1)} {hs : (winI L).view.WordExact} {hd : (sI).view.WordExact} :
    (iprop(IndArr d L iv q ∗ (∃ f, (sI).view.loc (thr d L) ↦{fullShare} f) ∗ semVal (thr d L, .dma sm) 0
        ∗ MayWaits (thr d L) none O ∗ ∃ W, owes (thr d L) O W) : sProp 𝕄)
      ⊢ iprop((IndArr d L iv q -∗ IndPts d L iv (row0 L / 128) -∗ semVal (thr d L, .dma sm) 0 -∗ (∃ W, owes (thr d L) O W)
            -∗ wp frame (wpE (defs₀ (F := F)) 𝒱₀ (thr d L) none) Set.univ (k ⟨⟩) Q)
        -∗ wp frame (wpE (defs₀ (F := F)) 𝒱₀ (thr d L) none) Set.univ
          (.op (.enqueueDma (winI L) (.here sI) (.dma sm) hs hd ⟨Or.inl rfl, trivial⟩) fun _ => .op (.waitDma2 sm (winI L) sI hs hd) k) Q) := by
  unfold IndArr
  iintro ⟨HA, ⟨%f, HI⟩, Hsm, #Hmw, %W, HO⟩ Hk
  ihave HA := (pointsTo_split_subset (Finset.subset_univ (winI L).view.set)).1 $$ HA
  icases HA with ⟨Hrow, HA⟩
  iapply (wp_dmaLocal EC (defs := defs₀ (F := F)) 𝒱₀ (thr d L) none (Q := Q) (src := winI L) (dst := sI) (via := .same) (sm := .dma sm)
    (hsrc := hs) (hdst := hd) (hsem := ⟨Or.inl rfl, trivial⟩) (q := q) (fs := iv) (fd := f) none nI rfl (by decide) (Finset.subset_univ _)) $$ [Hrow HI Hsm]
  · isplitl [Hrow]; · iexact Hrow
    isplitl [HI]; · iexact HI
    iexact Hsm
  iintro H
  ihave Hm := (MayWaits.elim (SemLoc.dma sm)) $$ Hmw
  iapply (wp_waitLocalO EC 𝒱₀ (thr d L) none (srcw := winI L) (dstw := sI) none (N := nI) rfl) $$ [H HO Hm]
  · isplitl [H]; · iexact H
    isplitl [HO]; · iexact HO
    iexact Hm
  iintro ⟨⟨HI, Hrow⟩, Hsm, HO⟩
  iapply Hk $$ [HA Hrow] [HI] Hsm [HO]
  · iapply (pointsTo_split_subset (Finset.subset_univ (winI L).view.set)).2
    isplitl [Hrow] <;> iassumption
  · unfold IndPts
    rw [← winI_read (F := F) L iv]
    rw [show (sI).view.write (Elt F) f ((winI L).view.read (Elt F) iv) Finset.univ = (winI L).view.read (Elt F) iv from View.write_whole_univ _ _ _]
    iexact HI
  · iexists _; iexact HO

end Cert.Proof.Gather

end

end
-- ==== Proof.Task.lean ====
/-
  One subcore's run from its first copy to its last wait, from what it is handed to what it gives back.
-/
module

public import proofs.«01_k».proof.Proof.Tile

@[expose] public section

noncomputable section

namespace Cert.Proof.Gather

open Cert.KernelIdeal Cert.KernelIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid1.Coords) (fv : Feat F) (iv : Inds)

/-- The subcore's scratch buffers, and its semaphores at zero. -/
def Scr : sProp 𝕄 :=
  iprop((∃ f, (sI).view.loc (thr d L) ↦{fullShare} f) ∗ (∃ f, (sR).view.loc (thr d L) ↦{fullShare} f) ∗ ∃ f, (sO).view.loc (thr d L) ↦{fullShare} f)
def Sems : sProp 𝕄 :=
  iprop(semVal (thr d L, .dma cc1_scratch3.sem) 0 ∗ semVal (thr d L, .dma cc1_scratch4.sem) 0 ∗ semVal (thr d L, .dma cc1_scratch5.sem) 0
    ∗ semVal (thr d L, .dma cc1_scratch6.sem) 0 ∗ semVal (thr d L, .dma cc1_scoped0.sem) 0)

theorem slotR_all : (Finset.univ : Finset S2x8192.Idx) = slotR 0 ∪ slotR 1 := rows_all.symm.trans (rows_union (by omega) (by omega)).symm
theorem slotO_all : (Finset.univ : Finset S2x2048.Idx) = slotO 0 ∪ slotO 1 := rows_all.symm.trans (rows_union (by omega) (by omega)).symm

/-- The two slots of a scratch buffer, out of the whole and back. -/
theorem slotsR : (iprop(∃ f, (sR).view.loc (thr d L) ↦{fullShare} f) : sProp 𝕄)
    ⊢ iprop((∃ f, (sR).view.loc (thr d L) ↦[slotR 0]{fullShare} f) ∗ ∃ f, (sR).view.loc (thr d L) ↦[slotR 1]{fullShare} f) := by
  iintro ⟨%f, H⟩
  ihave H := (Entails.of_eq (show ((sR).view.loc (thr d L) ↦{fullShare} f : sProp 𝕄) = (sR).view.loc (thr d L) ↦[slotR 0 ∪ slotR 1]{fullShare} f from by
    rw [← slotR_all])) $$ H
  ihave H := (pointsTo_union (rows_disjoint le_rfl)).1 $$ H
  icases H with ⟨H0, H1⟩
  isplitl [H0] <;> iexists f <;> iassumption
theorem slotsO : (iprop(∃ f, (sO).view.loc (thr d L) ↦{fullShare} f) : sProp 𝕄)
    ⊢ iprop((∃ f, (sO).view.loc (thr d L) ↦[slotO 0]{fullShare} f) ∗ ∃ f, (sO).view.loc (thr d L) ↦[slotO 1]{fullShare} f) := by
  iintro ⟨%f, H⟩
  ihave H := (Entails.of_eq (show ((sO).view.loc (thr d L) ↦{fullShare} f : sProp 𝕄) = (sO).view.loc (thr d L) ↦[slotO 0 ∪ slotO 1]{fullShare} f from by
    rw [← slotO_all])) $$ H
  ihave H := (pointsTo_union (rows_disjoint le_rfl)).1 $$ H
  icases H with ⟨H0, H1⟩
  isplitl [H0] <;> iexists f <;> iassumption
theorem slotsR_join : (iprop((∃ f, (sR).view.loc (thr d L) ↦[slotR 0]{fullShare} f) ∗ ∃ f, (sR).view.loc (thr d L) ↦[slotR 1]{fullShare} f) : sProp 𝕄)
    ⊢ iprop(∃ f, (sR).view.loc (thr d L) ↦{fullShare} f) := by
  iintro ⟨⟨%f, H0⟩, %g, H1⟩
  ihave H := (pointsTo_join (ℓ := (sR).view.loc (thr d L)) (I := slotR 0) (J := slotR 1) (rows_disjoint le_rfl)) $$ [H0 H1]
  · isplitl [H0] <;> iassumption
  iexists _
  iapply (Entails.of_eq (congrArg (fun S => ((sR).view.loc (thr d L) ↦[S]{fullShare} _ : sProp 𝕄)) slotR_all.symm)) $$ H
theorem slotsO_join : (iprop((∃ f, (sO).view.loc (thr d L) ↦[slotO 0]{fullShare} f) ∗ ∃ f, (sO).view.loc (thr d L) ↦[slotO 1]{fullShare} f) : sProp 𝕄)
    ⊢ iprop(∃ f, (sO).view.loc (thr d L) ↦{fullShare} f) := by
  iintro ⟨⟨%f, H0⟩, %g, H1⟩
  ihave H := (pointsTo_join (ℓ := (sO).view.loc (thr d L)) (I := slotO 0) (J := slotO 1) (rows_disjoint le_rfl)) $$ [H0 H1]
  · isplitl [H0] <;> iassumption
  iexists _
  iapply (Entails.of_eq (congrArg (fun S => ((sO).view.loc (thr d L) ↦[S]{fullShare} _ : sProp 𝕄)) slotO_all.symm)) $$ H

/-- The whole task. -/
theorem task {ι : ℕ} {O : CellTallies nD τ sig (HIx 1)} {f0 : S1024x2048.Idx → Elt F .f32} {q : PosShare TreeShare} (hr : ∀ x, (iv x).toNat < 8192) :
    (iprop(wmInv EW ι ∗ MayWaits (thr d L) none O
        ∗ (FeatRows d L fv (row0 L) (row0 L + 32) ∗ IndArr d L iv q ∗ OutRows d L (row0 L) (row0 L + 32) f0)
        ∗ Scr d L ∗ Sems d L ∗ ∃ W, owes (thr d L) O W) : sProp 𝕄)
      ⊢ wp frame (wpE (defs₀ (F := F)) 𝒱₀ (thr d L) none) Set.univ
          (cc1_k L xV (Memref.isWhole_whole _) iV (Memref.isWhole_whole _) oV (Memref.isWhole_whole _) sI (Memref.isWhole_whole _)
            sR (Memref.isWhole_whole _) sO (Memref.isWhole_whole _) cc1_scratch3 cc1_scratch4 cc1_scratch5 cc1_scratch6 cc1_scoped0)
          (fun _ => iprop((FeatRows d L fv (row0 L) (row0 L + 32) ∗ IndArr d L iv q ∗ OutRows d L (row0 L) (row0 L + 32) (result fv iv))
            ∗ Scr d L ∗ Sems d L ∗ ∃ W, owes (thr d L) O W)) := by
  have hB := row0_le L
  rw [cc1_k_eq_skeleton]
  unfold cc1_k_skel
  rw [k1_part2_eq_skeleton]
  unfold k1_part2_skel Scr Sems
  iintro ⟨#Hi, #Hmw, ⟨HX, HA, HY⟩, ⟨HsI, HsR, HsO⟩, ⟨H3, H4, H5, H6, H0⟩, HO⟩
  simp only [Prog.lift, Prog.bind_op, Prog.bind_ret, Prog.pure_eq_ret]
  iapply (fetch d L iv) $$ [HA HsI H0 HO]
  · isplitl [HA]; · iexact HA
    isplitl [HsI]; · iexact HsI
    isplitl [H0]; · iexact H0
    isplitr; · iexact Hmw
    iexact HO
  iintro HA HI H0 HO
  ihave HsR := (slotsR (F := F) d L) $$ HsR
  ihave HsO := (slotsO (F := F) d L) $$ HsO
  icases HsR with ⟨HR0, HR1⟩
  icases HsO with ⟨HO0, HO1⟩
  ihave HX := (feat_rows d L fv (lo := row0 L) (mid := row0 L + 1) (hi := row0 L + 32) (by omega) (by omega)).1 $$ HX
  icases HX with ⟨HX0, HX⟩
  ihave HX := (feat_rows d L fv (lo := row0 L + 1) (mid := row0 L + 1 + 1) (hi := row0 L + 32) (by omega) (by omega)).1 $$ HX
  icases HX with ⟨HX1, HX⟩
  iapply (featStart d L fv (ι := ι) (b := 0) (r := row0 L) (by omega) (by omega) ((k1_off2_eq L 0).trans (off_row (by unfold row0 base; simp))) rfl) $$ [HX0 HR0 H3]
  · isplitr; · iexact Hi
    isplitl [HX0]; · iexact HX0
    unfold SlotFree
    isplitl [HR0]; · iexact HR0
    iexact H3
  iintro HF0
  iapply (featStart d L fv (ι := ι) (b := 1) (r := row0 L + 1) (by omega) (by omega) ((k1_off2_eq L 1).trans (off_row (by unfold row0 base; simp))) rfl) $$ [HX1 HR1 H4]
  · isplitr; · iexact Hi
    isplitl [HX1]; · iexact HX1
    unfold SlotFree
    isplitl [HR1]; · iexact HR1
    iexact H4
  iintro HF1
  iapply (Scf.wp_for_bind _ _ _ k1_t1_loop.lb k1_t1_loop.ub k1_t1_loop.st k1_t1_ok 0#32 _
    (fun t _ => iprop(wmInv EW ι ∗ MayWaits (thr d L) none O ∗ Rows d L fv iv f0 (2 * t) ∗ ∃ W, owes (thr d L) O W))
    (fun t acc => by
      iintro ⟨#Hi, #Hmw, H⟩
      iapply (wp_wand_r _ _ _)
      isplitl [H]
      · iapply (trip d L fv iv hr _ t acc)
        isplitr; · iexact Hi
        isplitr; · iexact Hmw
        iexact H
      iintro %v H
      isplitr; · iexact Hi
      isplitr; · iexact Hmw
      iexact H)) $$ [HI HF0 HF1 HO0 HO1 H5 H6 HX HY HO]
  · isplitr; · iexact Hi
    isplitr; · iexact Hmw
    isplitr [HO]
    · unfold Rows Half
      isplitl [HI]; · iexact HI
      isplitl [HF0 HF1]
      · isplitl [HF0]
        · iapply (Entails.of_eq (show FeatIn d L fv cc1_scratch3.sem 0 (row0 L) = FeatSt d L fv cc1_scratch3.sem (row0 L) 0 (2 * 0) from (if_pos (by omega)).symm)) $$ HF0
        · iapply (Entails.of_eq (show FeatIn d L fv cc1_scratch4.sem 1 (row0 L + 1) = FeatSt d L fv cc1_scratch4.sem (row0 L) 1 (2 * 0 + 1) from (if_pos (by omega)).symm)) $$ HF1
      isplitl [HO0 HO1 H5 H6]
      · isplitl [HO0 H5]
        · iapply (Entails.of_eq (show OutFree d L cc1_scratch5.sem 0 = OutSt d L fv iv cc1_scratch5.sem (row0 L) 0 (2 * 0) from (if_neg (by omega)).symm))
          unfold OutFree
          isplitl [HO0]; · iexact HO0
          iexact H5
        · iapply (Entails.of_eq (show OutFree d L cc1_scratch6.sem 1 = OutSt d L fv iv cc1_scratch6.sem (row0 L) 1 (2 * 0 + 1) from (if_neg (by omega)).symm))
          unfold OutFree
          isplitl [HO1]; · iexact HO1
          iexact H6
      isplitl [HX]
      · isplitr
        · unfold FeatRows
          rw [show tileX (row0 L) (row0 L + 2 * 0) = ∅ from rows_empty, pointsTo_empty]
          itrivial
        · iexact HX
      · isplitr
        · unfold OutRows
          rw [show tileO (row0 L) (row0 L + (2 * 0 - 2)) = ∅ from rows_empty, pointsTo_empty]
          itrivial
        · iexact HY
    · iexact HO
  iintro %acc ⟨-, -, H, HO⟩
  rw [show Scf.trips k1_t1_loop.lb k1_t1_loop.ub k1_t1_loop.st = 16 from by decide +kernel]
  unfold Rows Half
  icases H with ⟨HI, ⟨HF0, HF1⟩, ⟨HG0, HG1⟩, ⟨HX, -⟩, ⟨HY, -⟩⟩
  ihave HG0 := (Entails.of_eq (show OutSt d L fv iv cc1_scratch5.sem (row0 L) 0 (2 * 16) = OutGo d L fv iv cc1_scratch5.sem 0 (row0 L + 30) from if_pos (by omega))) $$ HG0
  ihave HG1 := (Entails.of_eq (show OutSt d L fv iv cc1_scratch6.sem (row0 L) 1 (2 * 16 + 1) = OutGo d L fv iv cc1_scratch6.sem 1 (row0 L + 30 + 1) from if_pos (by omega))) $$ HG1
  ihave HF0 := (Entails.of_eq (show FeatSt d L fv cc1_scratch3.sem (row0 L) 0 (2 * 16) = SlotFree d L cc1_scratch3.sem 0 from if_neg (by omega))) $$ HF0
  ihave HF1 := (Entails.of_eq (show FeatSt d L fv cc1_scratch4.sem (row0 L) 1 (2 * 16 + 1) = SlotFree d L cc1_scratch4.sem 1 from if_neg (by omega))) $$ HF1
  iapply (outWait d L fv iv) $$ [HG0 HO]
  · isplitl [HG0]; · iexact HG0
    isplitr; · iexact Hmw
    iexact HO
  iintro HY0 HG0 HO
  iapply (outWait d L fv iv) $$ [HG1 HO]
  · isplitl [HG1]; · iexact HG1
    isplitr; · iexact Hmw
    iexact HO
  iintro HY1 HG1 HO
  unfold SlotFree OutFree
  icases HF0 with ⟨HR0, H3⟩
  icases HF1 with ⟨HR1, H4⟩
  icases HG0 with ⟨HO0, H5⟩
  icases HG1 with ⟨HO1, H6⟩
  rw [wp_ret]
  imodintro
  isplitl [HX HA HY HY0 HY1]
  · isplitl [HX]; · iexact HX
    isplitl [HA]; · iexact HA
    iapply (out_rows d L (lo := row0 L) (mid := row0 L + 30) (hi := row0 L + 32) (by omega) (by omega) (result fv iv)).2
    isplitl [HY]; · iexact HY
    iapply (out_rows d L (lo := row0 L + 30) (mid := row0 L + 30 + 1) (hi := row0 L + 32) (by omega) (by omega) (result fv iv)).2
    isplitl [HY0]
    · iexact HY0
    · iexact HY1
  isplitl [HI HR0 HR1 HO0 HO1]
  · isplitl [HI]
    · unfold IndPts; iexists _; iexact HI
    isplitl [HR0 HR1]
    · iapply (slotsR_join (F := F) d L)
      isplitl [HR0] <;> iassumption
    · iapply (slotsO_join (F := F) d L)
      isplitl [HO0] <;> iassumption
  isplitr [HO]
  · isplitl [H3]; · iexact H3
    isplitl [H4]; · iexact H4
    isplitl [H5]; · iexact H5
    isplitl [H6]; · iexact H6
    iexact H0
  · iexact HO

end Cert.Proof.Gather

end

end
-- ==== Proof.Deal.lean ====
/-
  What the call's handshakes carry: each subcore's 32 feature rows, its share of the index array and its 32 result rows; how
  the three arrays are dealt to the thirty-two subcores and put together again; and a subcore's run between its handshakes.
-/
module

public import proofs.«01_k».proof.Proof.Task

@[expose] public section

noncomputable section

namespace Cert.Proof.Gather

open Cert.KernelIdeal Cert.KernelIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## The thirty-two parts -/

/-- Subcore `i` of core `c`, counted by the rows it takes. -/
def num (c : Fin 2) (i : Fin 16) : Fin 32 := ⟨c.val + 2 * i.val, by omega⟩

/-- Its share of the index array. -/
def share (n : Fin 32) : PosShare TreeShare := dealOf fullShare Finset.univ n

/-- The part of subcore `n`, the result array holding `fo`. -/
def piece (d : Dev nD) (fv : Feat F) (iv : Inds) (fo : S1024x2048.Idx → Elt F .f32) (n : Fin 32) : sProp 𝕄 :=
  iprop((xLoc d ↦[tileX (32 * n.val) (32 * n.val + 32)]{fullShare} (fv : Buf (Elt F) (xLoc d)))
    ∗ (iLoc d ↦[Finset.univ]{share n} (iv : Buf (Elt F) (iLoc d)))
    ∗ oLoc d ↦[tileO (32 * n.val) (32 * n.val + 32)]{fullShare} (fo : Buf (Elt F) (oLoc d)))

theorem blocks_cover (m : ℕ) : ((Finset.univ : Finset (Fin 32)).biUnion fun n => rows 1024 m (32 * n.val) (32 * n.val + 32)) = Finset.univ := by
  ext x
  have hx : (x 0).val < 1024 := (x 0).isLt
  simp only [Finset.mem_biUnion, Finset.mem_univ, true_and, iff_true, mem_rows]
  exact ⟨⟨(x 0).val / 32, by omega⟩, by show 32 * ((x 0).val / 32) ≤ _; omega, by show _ < 32 * ((x 0).val / 32) + 32; omega⟩
theorem blocks_disjoint (m : ℕ) : ∀ n ∈ (Finset.univ : Finset (Fin 32)), ∀ n' ∈ (Finset.univ : Finset (Fin 32)), n ≠ n' →
    Disjoint (rows 1024 m (32 * n.val) (32 * n.val + 32)) (rows 1024 m (32 * n'.val) (32 * n'.val + 32)) := fun n _ n' _ h => by
  have h' : n.val ≠ n'.val := fun e => h (Fin.ext e)
  refine Finset.disjoint_left.mpr fun x h1 h2 => ?_
  have h1 := mem_rows.mp h1
  have h2 := mem_rows.mp h2
  omega

/-- The three arrays are the thirty-two parts. -/
theorem pieces (d : Dev nD) (fv : Feat F) (iv : Inds) (fo : S1024x2048.Idx → Elt F .f32) :
    (iprop((xLoc d ↦{fullShare} (fv : Buf (Elt F) (xLoc d))) ∗ (iLoc d ↦{fullShare} (iv : Buf (Elt F) (iLoc d)))
        ∗ oLoc d ↦{fullShare} (fo : Buf (Elt F) (oLoc d))) : sProp 𝕄)
      = bigSep Finset.univ fun n => piece d fv iv fo n := by
  have hx : (xLoc d ↦{fullShare} (fv : Buf (Elt F) (xLoc d)) : sProp 𝕄)
      = bigSep Finset.univ fun n : Fin 32 => xLoc d ↦[tileX (32 * n.val) (32 * n.val + 32)]{fullShare} (fv : Buf (Elt F) (xLoc d)) :=
    (congrArg (fun S => (xLoc d ↦[S]{fullShare} (fv : Buf (Elt F) (xLoc d)) : sProp 𝕄)) (blocks_cover 8192).symm).trans
      (pointsTo_biUnion Finset.univ (ℓ := xLoc d) (fun n : Fin 32 => tileX (32 * n.val) (32 * n.val + 32)) (blocks_disjoint 8192))
  have ho : (oLoc d ↦{fullShare} (fo : Buf (Elt F) (oLoc d)) : sProp 𝕄)
      = bigSep Finset.univ fun n : Fin 32 => oLoc d ↦[tileO (32 * n.val) (32 * n.val + 32)]{fullShare} (fo : Buf (Elt F) (oLoc d)) :=
    (congrArg (fun S => (oLoc d ↦[S]{fullShare} (fo : Buf (Elt F) (oLoc d)) : sProp 𝕄)) (blocks_cover 2048).symm).trans
      (pointsTo_biUnion Finset.univ (ℓ := oLoc d) (fun n : Fin 32 => tileO (32 * n.val) (32 * n.val + 32)) (blocks_disjoint 2048))
  have hi : (iLoc d ↦{fullShare} (iv : Buf (Elt F) (iLoc d)) : sProp 𝕄)
      = bigSep Finset.univ fun n : Fin 32 => iLoc d ↦[Finset.univ]{share n} (iv : Buf (Elt F) (iLoc d)) :=
    pointsTo_deal Finset.univ Finset.univ_nonempty fullShare
  unfold piece
  rw [hx, hi, ho, bigSep_sep', bigSep_sep']

/-- Core by core and subcore by subcore they are the same parts. -/
theorem byCore (Φ : Fin 32 → sProp 𝕄) :
    (bigSep Finset.univ fun c : Fin 2 => bigSep Finset.univ fun i : Fin 16 => Φ (num c i)) = bigSep Finset.univ Φ := by
  rw [BI.bigSep_univ_comm, ← BI.bigSep_univ_prod (fun x : Fin 16 × Fin 2 => Φ (num x.2 x.1)),
    BI.bigSep_univ_equiv (finProdFinEquiv : Fin 16 × Fin 2 ≃ Fin 32) Φ]
  exact bigSep_congr fun x _ => congrArg Φ (Fin.ext rfl)

/-! ## The handshakes -/

variable (fv : Dev nD → Feat F) (iv : Dev nD → Inds) (f0 : Dev nD → S1024x2048.Idx → Elt F .f32)

abbrev numK (c : Fin ((K (F := F)).nCore 0)) (i : Fin ((K (F := F)).nSub 0)) : Fin 32 := num (Fin.cast nCore_zero c) (Fin.cast nSub_zero i)

/-- A core's start and end carry its subcores' parts, the result holding `f0` before and the gathered values after; every
    subcore knows the write-mode invariant. -/
def P : (K (F := F)).Pay (nD := nD) (Val := Elt F) (Name := ℕ) (U := UU F) where
  st := fun q d c => match q with | 0 => bigSep Finset.univ fun i : Fin ((K (F := F)).nSub 0) => piece d (fv d) (iv d) (f0 d) (numK c i)
  dn := fun q d c => match q with | 0 => bigSep Finset.univ fun i : Fin ((K (F := F)).nSub 0) => piece d (fv d) (iv d) (result (fv d) (iv d)) (numK c i)
  go := fun q d c i => match q with | 0 => piece d (fv d) (iv d) (f0 d) (numK c i)
  td := fun q d c i => match q with | 0 => piece d (fv d) (iv d) (result (fv d) (iv d)) (numK c i)
  x := fun _ _ => iprop(∃ ι : ℕ, wmInv EW ι)

instance piece_storable (d : Dev nD) (fv : Feat F) (iv : Inds) (fo : S1024x2048.Idx → Elt F .f32) (n : Fin 32) :
    BI.Storable (upEmb : UEmb _ 𝕄) (piece d fv iv fo n) := by
  unfold piece; infer_instance

instance P_storable : (P fv iv f0).IsStorable where
  st q d c := match q with
    | 0 => (inferInstance : BI.Storable (upEmb : UEmb _ 𝕄)
        (bigSep Finset.univ fun i : Fin ((K (F := F)).nSub 0) => piece d (fv d) (iv d) (f0 d) (numK c i)))
  dn q d c := match q with
    | 0 => (inferInstance : BI.Storable (upEmb : UEmb _ 𝕄)
        (bigSep Finset.univ fun i : Fin ((K (F := F)).nSub 0) => piece d (fv d) (iv d) (result (fv d) (iv d)) (numK c i)))
  go q d c i := match q with | 0 => piece_storable d (fv d) (iv d) (f0 d) (numK c i)
  td q d c i := match q with | 0 => piece_storable d (fv d) (iv d) (result (fv d) (iv d)) (numK c i)

/-- A core's start is its subcores' starts, their ends its end. -/
theorem vecSplit : (K (F := F)).VecSplit' (P fv iv f0) 0 := by
  intro d c
  show (bigSep Finset.univ fun i : Fin ((K (F := F)).nSub 0) => piece d (fv d) (iv d) (f0 d) (numK c i)) ⊢ |={Set.univ}=> iprop(
    (bigSep Finset.univ fun i : Fin ((K (F := F)).nSub 0) => piece d (fv d) (iv d) (f0 d) (numK c i))
      ∗ ((bigSep Finset.univ fun i : Fin ((K (F := F)).nSub 0) => piece d (fv d) (iv d) (result (fv d) (iv d)) (numK c i))
        -∗ bigSep Finset.univ fun i : Fin ((K (F := F)).nSub 0) => piece d (fv d) (iv d) (result (fv d) (iv d)) (numK c i)))
  iintro H
  imodintro
  isplitl [H]; · iexact H
  iintro H
  iexact H

/-- What the call takes and gives back on the host's side: the three arrays whole. -/
theorem st_eq (d : Dev nD) : (bigSep Finset.univ fun c : Fin ((K (F := F)).nCore 0) => (P fv iv f0).st 0 d c)
    = iprop((xLoc d ↦{fullShare} (fv d : Buf (Elt F) (xLoc d))) ∗ (iLoc d ↦{fullShare} (iv d : Buf (Elt F) (iLoc d)))
        ∗ oLoc d ↦{fullShare} (f0 d : Buf (Elt F) (oLoc d))) :=
  (byCore fun n => piece d (fv d) (iv d) (f0 d) n).trans (pieces d (fv d) (iv d) (f0 d)).symm
theorem dn_eq (d : Dev nD) : (bigSep Finset.univ fun c : Fin ((K (F := F)).nCore 0) => (P fv iv f0).dn 0 d c)
    = iprop((xLoc d ↦{fullShare} (fv d : Buf (Elt F) (xLoc d))) ∗ (iLoc d ↦{fullShare} (iv d : Buf (Elt F) (iLoc d)))
        ∗ oLoc d ↦{fullShare} (result (fv d) (iv d) : Buf (Elt F) (oLoc d))) :=
  (byCore fun n => piece d (fv d) (iv d) (result (fv d) (iv d)) n).trans (pieces d (fv d) (iv d) (result (fv d) (iv d))).symm

/-! ## The subcore between its handshakes -/

section Tile

variable (d : Dev nD) (L : grid1.Coords)

abbrev cell (sm : DmaSem sig) : GSem nD τ sig := (thr d L, .dma sm)

theorem cell_ne {s s' : DmaSem sig} (h : s ≠ s') : cell d L s ≠ cell d L s' := fun e => h (SemLoc.dma.inj (congrArg Prod.snd e))

theorem sep_right (A B C : sProp 𝕄) : iprop((A ∗ B) ∗ C) = iprop(A ∗ B ∗ C) := equiv_iff.mp ⟨BI.sep_assoc, BI.sep_assoc'⟩

theorem cell_mem {s : DmaSem sig} (h : (SemLoc.dma s : SemLoc sig).isScoped .scVector = true) : cell d L s ∈ ownCells (thr d L) :=
  (mem_ownCells (g := cell d L s)).mpr ⟨rfl, h⟩

/-- The subcore's semaphores are the five the kernel names, and the rest. -/
theorem ownSems0_V : ∃ R : sProp 𝕄, (ownSems0 (thr d L) : sProp 𝕄) = iprop(Sems d L ∗ R) := by
  refine ⟨bigSep ((((((ownCells (thr d L)).erase (cell d L cc1_scratch3.sem)).erase (cell d L cc1_scratch4.sem)).erase (cell d L cc1_scratch5.sem)).erase
    (cell d L cc1_scratch6.sem)).erase (cell d L cc1_scoped0.sem)) fun g => semVal g 0, ?_⟩
  unfold ownSems0 Sems
  rw [SparseCore.bigSep_erase' (cell_mem d L (s := cc1_scratch3.sem) (by decide)),
    SparseCore.bigSep_erase' (Finset.mem_erase.mpr ⟨cell_ne d L (by decide), cell_mem d L (s := cc1_scratch4.sem) (by decide)⟩),
    SparseCore.bigSep_erase' (Finset.mem_erase.mpr ⟨cell_ne d L (by decide), Finset.mem_erase.mpr ⟨cell_ne d L (by decide),
      cell_mem d L (s := cc1_scratch5.sem) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (s := cc1_scratch6.sem) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L (s := cc1_scoped0.sem) (by decide)⟩⟩⟩⟩)]
  simp only [sep_right]

/-- The subcore's buffers are its three scratches, and the rest. -/
theorem ownBufs_V : ∃ R : sProp 𝕄, (ownBufs (thr d L) : sProp 𝕄) = iprop(Scr d L ∗ R) := by
  refine ⟨bigSep ((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2))
      fun b => iprop(∃ f, ((d, b) : Loc nD τ sig) ↦{fullShare} f), ?_⟩
  have hne : ∀ {r r' : Ref sig .scVector}, r ≠ r' → (Proc.scVector (cV L) (jV L)).devRef r ≠ (Proc.scVector (cV L) (jV L)).devRef r' :=
    fun h e => h (Proc.devRef_injective _ e)
  unfold ownBufs Scr
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨hne (by decide), Finset.mem_erase.mpr ⟨hne (by decide),
      SparseCore.Cfg.mem_ownRefs_of_owner (p := Proc.scVector (cV L) (jV L)) (b := (Proc.scVector (cV L) (jV L)).devRef cc1_scratch2) rfl⟩⟩)]
  simp only [sep_right]

/-- Its part, in the words of its own run. -/
theorem piece_eq (fv : Feat F) (iv : Inds) (fo : S1024x2048.Idx → Elt F .f32) :
    (piece d fv iv fo (num (L 0) (L 1)) : sProp 𝕄)
      = iprop(FeatRows d L fv (row0 L) (row0 L + 32) ∗ IndArr d L iv (share (num (L 0) (L 1))) ∗ OutRows d L (row0 L) (row0 L + 32) fo) := by
  unfold piece
  rw [show 32 * (num (L 0) (L 1)).val = row0 L by unfold row0 base; show 32 * ((L 0).val + 2 * (L 1).val) = _; omega]
  rfl

theorem tile_body (hr : ∀ d x, (iv d x).toNat < 8192) (hF : (K (F := F)).Facts) (O : CellTallies nD τ sig (HIx 1)) (W : Waits sig (HIx 1))
    (hO : ∀ g, O g none = 0) :
    iprop(levAts (K (F := F)).L (K (F := F)).lev ∗ (∃ ι : ℕ, wmInv EW ι) ∗ piece d (fv d) (iv d) (f0 d) (num (L 0) (L 1))
        ∗ scopedBufs (thr d L) ∗ scopedSems0 (thr d L) ∗ owes (thr d L) O W)
      ⊢ wp frame (wpE (defs₀ (F := F)) 𝒱₀ (thr d L) none) Set.univ
          (cc1_k L xV (Memref.isWhole_whole _) iV (Memref.isWhole_whole _) oV (Memref.isWhole_whole _) sI (Memref.isWhole_whole _)
            sR (Memref.isWhole_whole _) sO (Memref.isWhole_whole _) cc1_scratch3 cc1_scratch4 cc1_scratch5 cc1_scratch6 cc1_scoped0)
          fun _ => iprop(piece d (fv d) (iv d) (result (fv d) (iv d)) (num (L 0) (L 1))
            ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨RS, hS⟩ := ownSems0_V (F := F) d L
  obtain ⟨RB, hB⟩ := ownBufs_V (F := F) d L
  rw [(K (F := F)).scopedBufs_V hF d (cV L) (jV L), SparseCore.Cfg.scopedSems0_V (Val := Elt F) d (cV L) (jV L), hS, hB, piece_eq, piece_eq]
  iintro ⟨#Hlv, ⟨%ι, #Hi⟩, Hp, ⟨Hscr, HRB⟩, ⟨Hsem, HRS⟩, HO⟩
  ihave Hmw := (show levAts (K (F := F)).L (K (F := F)).lev ⊢ Transfers.MayWaits (thr d L) (none : HIx 1) O from
    (K (F := F)).mayWaits_none (thr := thr d L) hO) $$ Hlv
  iapply (wp_wand_r _ _ _)
  isplitl [Hp Hscr Hsem HO Hmw]
  · iapply (task d L (fv d) (iv d) (ι := ι) (O := O) (f0 := f0 d) (q := share (num (L 0) (L 1))) (hr d))
    isplitr; · iexact Hi
    isplitl [Hmw]; · iexact Hmw
    isplitl [Hp]; · iexact Hp
    isplitl [Hscr]; · iexact Hscr
    isplitl [Hsem]; · iexact Hsem
    iexists _; iexact HO
  iintro %_ ⟨Hp, Hscr, Hsem, %W', HO⟩
  isplitl [Hp]; · iexact Hp
  isplitl [Hscr HRB]
  · isplitl [Hscr] <;> iassumption
  isplitl [Hsem HRS]
  · isplitl [Hsem] <;> iassumption
  iexists W'
  isplitr
  · ipureintro
    intro p _
    rcases p.2 with _ | q
    · exact .inr (.inl rfl)
    · exact .inr (.inr (congrArg some (Subsingleton.elim q 0)))
  · iexact HO

/-- The grid coordinates of subcore `s` of core `c`. -/
def coords (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coords c s) xV (Memref.isWhole_whole _) iV (Memref.isWhole_whole _) oV (Memref.isWhole_whole _)
          sI (Memref.isWhole_whole _) sR (Memref.isWhole_whole _) sO (Memref.isWhole_whole _) cc1_scratch3 cc1_scratch4 cc1_scratch5 cc1_scratch6 cc1_scoped0)
          ⟨⟩ c s := rfl

theorem tileObl (hr : ∀ d x, (iv d x).toNat < 8192) (hF : (K (F := F)).Facts) : (K (F := F)).TileObl (D (F := F)) 𝒱 (P fv iv f0) v₀ 0 := by
  intro d c i O W hO _ _
  simp only [show (P fv iv f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body fv iv f0 d (coords ⟨_, hci.1⟩ ⟨_, hci.2⟩) hr hF O W hO

end Tile

end Cert.Proof.Gather

end

end
-- ==== Proof.Spec.lean ====
/-
  Farthest-point sampling over the extended reals, as both programs compute it.

  For one batch, `x d n` is coordinate `d` of point `n`. `dist x i` holds, before sample `i` is taken, every point's
  least squared distance from the samples taken so far, capped by the constant the programs start from; `far x i` is
  sample `i`: the first point at which `dist x i` is greatest.
-/
module

public import Idealize.ShloMosaic.PureOps.Ideal
public import Mathlib.Data.EReal.Basic

@[expose] public section

noncomputable section

namespace Cert.Proof.Fps

open Idealize.ShloMosaic

/-- `n` is the first place at which `f` takes its greatest value. -/
structure FirstMax {N : ℕ} (f : Fin N → EReal) (n : Fin N) : Prop where
  max : ∀ k, f k ≤ f n
  first : ∀ k, f k = f n → n ≤ k

theorem FirstMax.unique {N : ℕ} {f : Fin N → EReal} {n m : Fin N} (h : FirstMax f n) (h' : FirstMax f m) : n = m :=
  le_antisymm (h.first m (le_antisymm (h.max m) (h'.max n))) (h'.first n (le_antisymm (h'.max n) (h.max m)))

theorem exists_firstMax (f : Fin 8192 → EReal) : ∃ n, FirstMax f n := by
  obtain ⟨m, -, hm⟩ := Finset.exists_max_image (Finset.univ : Finset (Fin 8192)) f ⟨0, Finset.mem_univ _⟩
  have hne : (Finset.univ.filter fun k => f k = f m).Nonempty := ⟨m, by simp⟩
  refine ⟨(Finset.univ.filter fun k => f k = f m).min' hne, ?_, ?_⟩
  · intro k
    have := (Finset.mem_filter.mp (Finset.min'_mem _ hne)).2
    rw [this]; exact hm k (Finset.mem_univ _)
  · intro k hk
    have := (Finset.mem_filter.mp (Finset.min'_mem _ hne)).2
    exact Finset.min'_le _ _ (by simp [hk, this])

/-- The first place of the greatest value. -/
def argmax (f : Fin 8192 → EReal) : Fin 8192 := Classical.choose (exists_firstMax f)

theorem argmax_spec (f : Fin 8192 → EReal) : FirstMax f (argmax f) := Classical.choose_spec (exists_firstMax f)

/-- The squared distance of point `n` from point `p`. -/
def sqd (x : Fin 3 → Fin 8192 → EReal) (p n : Fin 8192) : EReal :=
  (x 0 n - x 0 p) * (x 0 n - x 0 p) + (x 1 n - x 1 p) * (x 1 n - x 1 p) + (x 2 n - x 2 p) * (x 2 n - x 2 p)

/-- The cap every distance starts from. -/
def cap : EReal := FloatOps.ofBits (F := Ideal) .f32 0x501502F9#32

/-- Every point's least squared distance from the first `i` samples. -/
def dist (x : Fin 3 → Fin 8192 → EReal) : ℕ → Fin 8192 → EReal
  | 0 => fun _ => cap
  | i + 1 => fun n => min (dist x i n) (sqd x (argmax (dist x i)) n)

/-- Sample `i`. -/
def far (x : Fin 3 → Fin 8192 → EReal) (i : ℕ) : Fin 8192 := argmax (dist x i)

theorem far_spec (x : Fin 3 → Fin 8192 → EReal) (i : ℕ) : FirstMax (dist x i) (far x i) := argmax_spec _

theorem dist_zero (x : Fin 3 → Fin 8192 → EReal) (n : Fin 8192) : dist x 0 n = cap := rfl

theorem dist_succ (x : Fin 3 → Fin 8192 → EReal) (i : ℕ) (n : Fin 8192) :
    dist x (i + 1) n = min (dist x i n) (sqd x (far x i) n) := rfl

/-- The first sample is point 0. -/
theorem far_zero (x : Fin 3 → Fin 8192 → EReal) : far x 0 = 0 :=
  le_antisymm ((far_spec x 0).first 0 rfl) (Fin.zero_le _)

end Cert.Proof.Fps

end
-- ==== Proof.Pairs.lean ====
/-
  How the sampling kernel reduces over one batch, at the extended reals.

  The kernel lays a batch of 8192 points out as two rows of 4096 lanes (an even row and the odd row after it), four
  batches to a block of eight rows. A reduction over a batch is taken along the lanes of every row, then each row is
  combined with its partner row. This module gives the kernel's combine a name (`comb`) and reads the three reductions
  it is used for: the value at a marked point (`pick_apply`), the greatest value (`maxV_apply`) and the first place of
  the greatest value (`argV_apply`).
-/
module

public import proofs.«01_k».proof.Proof.Spec
public import proofs.«01_k».proof.Proof.Gen.KernelIdeal.Skeleton
public import Idealize.ShloMosaic.PureOps.Ideal.Laws
public import Idealize.ShloMosaic.Lib.Pipeline.Value
public import Idealize.ShloMosaic.Lib.ValueIdx
public import Idealize.ShloMosaic.Lib.Tactic

@[expose] public section

noncomputable section

namespace Cert.Proof.Fps

open Cert.KernelIdeal Cert.KernelIdeal.Gen
open Idealize.ShloMosaic Idealize.ShloMosaic.ValueIdx

/-- A column of eight values, one per row. -/
abbrev Col : Type := FVec Ideal S8x1 .f32
/-- A block of eight rows of 4096 lanes. -/
abbrev Blk : Type := FVec Ideal S8x4096 .f32

/-- A point as a float. -/
def pt (n : Fin 8192) : EReal := ((n.val : ℝ) : EReal)

theorem pt_inj {n m : Fin 8192} (h : pt n = pt m) : n = m := by
  unfold pt at h
  exact Fin.ext (by exact_mod_cast h)

theorem pt_le {n m : Fin 8192} (h : n ≤ m) : pt n ≤ pt m := by
  unfold pt
  have : n.val ≤ m.val := h
  exact_mod_cast this

/-- The point row `r`, lane `l` of a block holds. -/
def flat (r : Fin 8) (l : Fin 4096) : Fin 8192 := ⟨(r.val % 2) * 4096 + l.val, by omega⟩

/-- The even row and the odd row of row `r`'s batch. -/
def ev (r : Fin 8) : Fin 8 := ⟨2 * (r.val / 2), by omega⟩
def od (r : Fin 8) : Fin 8 := ⟨2 * (r.val / 2) + 1, by omega⟩

theorem ev_half (r : Fin 8) : (ev r).val / 2 = r.val / 2 := by simp only [ev]; omega
theorem od_half (r : Fin 8) : (od r).val / 2 = r.val / 2 := by simp only [od]; omega

theorem flat_ev (r : Fin 8) (l : Fin 4096) : (flat (ev r) l).val = l.val := by simp only [flat, ev]; omega
theorem flat_od (r : Fin 8) (l : Fin 4096) : (flat (od r) l).val = 4096 + l.val := by simp only [flat, od]; omega

/-- Every point lies in one of the two rows. -/
theorem flat_cases (r : Fin 8) (p : Fin 8192) : (∃ l, flat (ev r) l = p) ∨ ∃ l, flat (od r) l = p := by
  by_cases h : p.val < 4096
  · exact .inl ⟨⟨p.val, h⟩, Fin.ext (flat_ev _ _)⟩
  · refine .inr ⟨⟨p.val - 4096, by omega⟩, Fin.ext ((flat_od _ _).trans ?_)⟩
    show 4096 + (p.val - 4096) = p.val
    omega

/-! ## The combine -/

/-- A column turned up by one row, and down by one row. -/
def up (v : Col) : Col :=
  concatenate S8x1 0 [⟨S7x1, extractStridedSlice S7x1 ![1, 0] v slices_S8x1_o1_0_S7x1⟩, ⟨S1x1, extractStridedSlice S1x1 ![0, 0] v slices_S8x1_o0_0_S1x1⟩]
    concatenates_S7x1_S1x1_S8x1_d0
def down (v : Col) : Col :=
  concatenate S8x1 0 [⟨S1x1, extractStridedSlice S1x1 ![7, 0] v slices_S8x1_o7_0_S1x1⟩, ⟨S7x1, extractStridedSlice S7x1 ![0, 0] v slices_S8x1_o0_0_S7x1⟩]
    concatenates_S1x1_S7x1_S8x1_d0

/-- A column combined with itself, each row with its partner row. -/
def comb (op : Col → Col → Col) (v41 : IVec S8x1 1) (v : Col) : Col := select v41 (op v (up v)) (op v (down v))

theorem up_apply (v : Col) (r r' : Fin 8) (h : r.val + 1 = r'.val) : up v (ix2 r 0) = v (ix2 r' 0) := by
  unfold up
  refine (concatenate_pair_apply_left (s₁ := S7x1) (s₂ := S1x1) 0 _ _ _ (ix2 r 0) rfl (ix2 (⟨r.val, by omega⟩ : Fin 7) (0 : Fin 1))
    (by intro b; fin_cases b <;> rfl)).trans ?_
  refine extractStridedSlice_apply _ _ _ _ _ (fun ax => ?_)
  fin_cases ax
  · show r'.val = 1 + r.val; omega
  · rfl

theorem down_apply (v : Col) (r r' : Fin 8) (h : r'.val + 1 = r.val) : down v (ix2 r 0) = v (ix2 r' 0) := by
  unfold down
  refine (concatenate_pair_apply_right (s₁ := S1x1) (s₂ := S7x1) 0 _ _ _ (ix2 r 0) rfl rfl (ix2 (⟨r'.val, by omega⟩ : Fin 7) (0 : Fin 1))
    (by intro b hb; fin_cases b; · exact absurd rfl hb
        · rfl)
    (by show r'.val + 1 = r.val; exact h)).trans ?_
  refine extractStridedSlice_apply _ _ _ _ _ (fun ax => ?_)
  fin_cases ax
  · show r'.val = 0 + r'.val; omega
  · rfl

/-- The rows the kernel marks as even. -/
def EvenRows (v41 : IVec S8x1 1) : Prop := ∀ r : Fin 8, v41 (ix2 r 0) = if r.val % 2 = 0 then 1#1 else 0#1

theorem comb_apply {op : Col → Col → Col} {o : EReal → EReal → EReal} (hop : ∀ a b j, op a b j = o (a j) (b j))
    (hcomm : ∀ a b, o a b = o b a) {v41 : IVec S8x1 1} (h : EvenRows v41) (v : Col) (r : Fin 8) :
    comb op v41 v (ix2 r 0) = o (v (ix2 (ev r) 0)) (v (ix2 (od r) 0)) := by
  show Scalar.select (v41 (ix2 r 0)) _ _ = _
  rw [h r, hop, hop]
  by_cases hr : r.val % 2 = 0
  · rw [if_pos hr, up_apply v r (od r) (by simp only [od]; omega), show ev r = r from Fin.ext (by simp only [ev]; omega)]
    rfl
  · rw [if_neg hr, down_apply v r (ev r) (by simp only [ev]; omega), show od r = r from Fin.ext (by simp only [od]; omega),
      hcomm (v (ix2 (ev r) 0))]
    rfl

/-! ## A row reduced along its lanes -/

theorem lift_eq (h : S8x4096.Reduces [1] S8) (r : Fin 8) (l : Fin 4096) : h.lift (ix1 r) l = ix2 r l := by
  funext b; fin_cases b <;> rfl

theorem cast_apply (x : FVec Ideal S8 .f32) (r : Fin 8) : shapeCast S8x1 x shapeCasts_S8_S8x1 (ix2 r 0) = x (ix1 r) := by
  refine shapeCast_apply _ _ _ _ ?_
  rfl

/-- The sum, the greatest and the least of every row. -/
def rowSum (v : Blk) : Col := shapeCast S8x1 (multiReduction .add [1] S8 v 0x00000000#32 reduces_S8x4096_S8 (.inl rfl) rfl) shapeCasts_S8_S8x1
def rowMax (v : Blk) : Col := shapeCast S8x1 (multiReduction .maximumf [1] S8 v 0xFF800000#32 reduces_S8x4096_S8 (.inl rfl) rfl) shapeCasts_S8_S8x1
def rowMin (v : Blk) : Col := shapeCast S8x1 (multiReduction .minimumf [1] S8 v 0x7F800000#32 reduces_S8x4096_S8 (.inl rfl) rfl) shapeCasts_S8_S8x1

theorem rowSum_apply (v : Blk) (r : Fin 8) : rowSum v (ix2 r 0) = ∑ l : Fin 4096, v (ix2 r l) := by
  unfold rowSum
  rw [cast_apply]
  refine (Ideal.multiReduction_add_single _ _ _ _ _ _).trans ?_
  exact Finset.sum_congr rfl fun l _ => congrArg v (lift_eq _ r l)

theorem negInf : FloatOps.ofBits (F := Ideal) .f32 0xFF800000#32 = ⊥ := by
  show Ideal.ofBits _ _ = _
  simp [Ideal.ofBits, Ideal.ieee]
theorem posInf : FloatOps.ofBits (F := Ideal) .f32 0x7F800000#32 = ⊤ := by
  show Ideal.ofBits _ _ = _
  simp [Ideal.ofBits, Ideal.ieee]

theorem rowMax_apply (v : Blk) (r : Fin 8) : rowMax v (ix2 r 0) = (Finset.univ : Finset (Fin 4096)).fold max ⊥ fun l => v (ix2 r l) := by
  unfold rowMax
  rw [cast_apply, ← negInf]
  refine (Ideal.multiReduction_maximumf_single _ _ _ _ _ _).trans ?_
  exact Finset.fold_congr fun l _ => congrArg v (lift_eq _ r l)

theorem rowMin_apply (v : Blk) (r : Fin 8) : rowMin v (ix2 r 0) = (Finset.univ : Finset (Fin 4096)).fold min ⊤ fun l => v (ix2 r l) := by
  unfold rowMin
  rw [cast_apply, ← posInf]
  refine (multiReduction_minimumf_eq_fold _ _ _ _ _ _).trans ?_
  refine (Shape.Reduces.fold_filter_drop_single _ _ _ v (ix1 r)).trans ?_
  exact Finset.fold_congr fun l _ => congrArg v (lift_eq _ r l)

end Cert.Proof.Fps

end
-- ==== Proof.Reads.lean ====
/-
  What one step of the sampling kernel computes over a block of four batches, at the extended reals.

  `Holds v Y`: the block `v` holds the batches `Y 0 … Y 3`, each over its even and odd row. `Tells a Z`: the column `a`
  tells `Z 0 … Z 3`, each on both rows of its batch. With these, every piece of a step reads as what it does to whole
  batches: the coordinate at the chosen point (`pick_tells`), the new distances (`dist_holds`), the greatest distance
  (`max_tells`) and the point where it is first reached (`arg_tells`).
-/
module

public import proofs.«01_k».proof.Proof.Pairs

@[expose] public section

noncomputable section

namespace Cert.Proof.Fps

open Cert.KernelIdeal Cert.KernelIdeal.Gen
open Idealize.ShloMosaic Idealize.ShloMosaic.ValueIdx

def Holds (v : Blk) (Y : ℕ → Fin 8192 → EReal) : Prop := ∀ (r : Fin 8) (l : Fin 4096), v (ix2 r l) = Y (r.val / 2) (flat r l)
def Tells (a : Col) (Z : ℕ → EReal) : Prop := ∀ r : Fin 8, a (ix2 r 0) = Z (r.val / 2)

/-- A column spread over the lanes of a block. -/
def spread (a : Col) : Blk := broadcastTo S8x4096 a broadcasts_S8x1_S8x4096

theorem spread_apply (a : Col) (r : Fin 8) (l : Fin 4096) : spread a (ix2 r l) = a (ix2 r 0) := by
  refine broadcastTo_apply _ _ _ _ fun b => ?_
  fin_cases b <;> rfl

/-! ## The value at the chosen point -/

/-- The lanes whose point is the chosen one. -/
def maskV (v21 : Blk) (a : Col) : IVec S8x4096 1 := cmpf .oeq v21 (spread a)
/-- The lanes of `src` the mask keeps, summed over the batch. -/
def pickV (v41 : IVec S8x1 1) (m : IVec S8x4096 1) (src : Blk) : Col :=
  comb addf v41 (rowSum (select m src (broadcast S8x4096 (Scalar.ofBits .f32 0x00000000#32))))

theorem zeroBits : FloatOps.ofBits (F := Ideal) .f32 0x00000000#32 = 0 := by
  show Ideal.ofBits _ _ = _
  simp [Ideal.ofBits, Ideal.ieee]

theorem select_eq {x y a b : EReal} : Scalar.select (Ideal.cmp .oeq x y) a b = if x = y then a else b := by
  show (if BitVec.ofBool (decide (x = y)) = 1#1 then a else b) = _
  by_cases h : x = y <;> simp [h]

theorem masked_apply {v21 : Blk} (hv : Holds v21 fun _ => pt) {a : Col} {p : ℕ → Fin 8192} (ha : Tells a fun h => pt (p h))
    (u w : Blk) (r : Fin 8) (l : Fin 4096) :
    select (maskV v21 a) u w (ix2 r l) = if flat r l = p (r.val / 2) then u (ix2 r l) else w (ix2 r l) := by
  show Scalar.select (Ideal.cmp .oeq (v21 (ix2 r l)) (spread a (ix2 r l))) _ _ = _
  rw [select_eq, spread_apply, hv, ha]
  exact if_congr ⟨pt_inj, congrArg pt⟩ rfl rfl

theorem pick_tells {v21 : Blk} {v41 : IVec S8x1 1} {a : Col} {src : Blk} {p : ℕ → Fin 8192} {Y : ℕ → Fin 8192 → EReal}
    (hv : Holds v21 fun _ => pt) (h41 : EvenRows v41) (ha : Tells a fun h => pt (p h)) (hs : Holds src Y) :
    Tells (pickV v41 (maskV v21 a) src) fun h => Y h (p h) := by
  intro r
  have key : ∀ r' : Fin 8, rowSum (select (maskV v21 a) src (broadcast S8x4096 (Scalar.ofBits .f32 0x00000000#32))) (ix2 r' 0)
      = ∑ l : Fin 4096, if flat r' l = p (r'.val / 2) then Y (r'.val / 2) (p (r'.val / 2)) else 0 := fun r' => by
    rw [rowSum_apply]
    refine Finset.sum_congr rfl fun l _ => ?_
    rw [masked_apply hv ha]
    by_cases h : flat r' l = p (r'.val / 2)
    · rw [if_pos h, if_pos h, hs, h]
    · rw [if_neg h, if_neg h]; exact zeroBits
  unfold pickV
  rw [comb_apply (op := addf) (o := (· + ·)) (fun _ _ _ => rfl) (fun a b => add_comm a b) h41, key, key, ev_half, od_half]
  rcases flat_cases r (p (r.val / 2)) with ⟨l, h⟩ | ⟨l, h⟩
  · rw [Finset.sum_eq_single l
        (fun l' _ hl' => if_neg fun h' => hl' (Fin.ext (by have := congrArg Fin.val (h'.trans h.symm); rw [flat_ev, flat_ev] at this; exact this)))
        (fun h' => absurd (Finset.mem_univ _) h'), if_pos h]
    rw [Finset.sum_eq_zero fun l' _ => if_neg fun h' => by
        have := congrArg Fin.val (h'.trans h.symm); rw [flat_od, flat_ev] at this; have := l.isLt; omega]
    exact add_zero _
  · rw [Finset.sum_eq_single (s := Finset.univ) (f := fun l' => if flat (od r) l' = p (r.val / 2) then Y (r.val / 2) (p (r.val / 2)) else 0) l
        (fun l' _ hl' => if_neg fun h' => hl' (Fin.ext (by have := congrArg Fin.val (h'.trans h.symm); rw [flat_od, flat_od] at this; omega)))
        (fun h' => absurd (Finset.mem_univ _) h'), if_pos h]
    rw [Finset.sum_eq_zero fun l' _ => if_neg fun h' => by
        have := congrArg Fin.val (h'.trans h.symm); rw [flat_ev, flat_od] at this; have := l'.isLt; omega]
    exact zero_add _

/-! ## The new distances -/

def sqV (x : Blk) (c : Col) : Blk := mulf (subf x (spread c)) (subf x (spread c))
/-- The distances `d` lowered to the squared distance from the centre `(cx, cy, cz)`. -/
def distV (x y z : Blk) (cx cy cz : Col) (d : Blk) : Blk := minimumf d (addf (addf (sqV x cx) (sqV y cy)) (sqV z cz))

theorem dist_holds {x y z d : Blk} {cx cy cz : Col} {X D : ℕ → Fin 8192 → EReal} {Y Z : ℕ → Fin 8192 → EReal} {p : ℕ → Fin 8192}
    (hx : Holds x X) (hy : Holds y Y) (hz : Holds z Z) (hd : Holds d D)
    (hcx : Tells cx fun h => X h (p h)) (hcy : Tells cy fun h => Y h (p h)) (hcz : Tells cz fun h => Z h (p h)) :
    Holds (distV x y z cx cy cz d) fun h n =>
      min (D h n) ((X h n - X h (p h)) * (X h n - X h (p h)) + (Y h n - Y h (p h)) * (Y h n - Y h (p h))
        + (Z h n - Z h (p h)) * (Z h n - Z h (p h))) := by
  intro r l
  have sq : ∀ (w : Blk) (c : Col), sqV w c (ix2 r l) = (w (ix2 r l) - c (ix2 r 0)) * (w (ix2 r l) - c (ix2 r 0)) := fun w c => by
    show (w (ix2 r l) - spread c (ix2 r l)) * (w (ix2 r l) - spread c (ix2 r l)) = _
    rw [spread_apply]
  show min (d (ix2 r l)) (sqV x cx (ix2 r l) + sqV y cy (ix2 r l) + sqV z cz (ix2 r l)) = _
  rw [sq, sq, sq, hx, hy, hz, hd, hcx, hcy, hcz]

/-! ## The greatest distance and where it is first reached -/

def maxV (v41 : IVec S8x1 1) (d : Blk) : Col := comb maximumf v41 (rowMax d)

theorem max_tells {v41 : IVec S8x1 1} {d : Blk} {D : ℕ → Fin 8192 → EReal} {p : ℕ → Fin 8192} (h41 : EvenRows v41)
    (hd : Holds d D) (hp : ∀ h, FirstMax (D h) (p h)) : Tells (maxV v41 d) fun h => D h (p h) := by
  intro r
  unfold maxV
  rw [comb_apply (op := maximumf) (o := max) (fun _ _ _ => rfl) (fun a b => max_comm a b) h41, rowMax_apply, rowMax_apply]
  simp only [hd _ _, ev_half, od_half]
  refine le_antisymm (max_le ?_ ?_) ?_
  · exact Finset.fold_max_le _ |>.2 ⟨bot_le, fun l _ => (hp _).max _⟩
  · exact Finset.fold_max_le _ |>.2 ⟨bot_le, fun l _ => (hp _).max _⟩
  · rcases flat_cases r (p (r.val / 2)) with ⟨l, h⟩ | ⟨l, h⟩
    · exact le_max_of_le_left (Finset.le_fold_max _ |>.2 (.inr ⟨l, Finset.mem_univ _, (congrArg _ h.symm).le⟩))
    · exact le_max_of_le_right (Finset.le_fold_max _ |>.2 (.inr ⟨l, Finset.mem_univ _, (congrArg _ h.symm).le⟩))

def argV (v21 : Blk) (v41 : IVec S8x1 1) (mx : Col) (d : Blk) : Col :=
  comb minimumf v41 (rowMin (select (cmpf .oeq d (spread mx)) v21 (broadcast S8x4096 (Scalar.ofBits .f32 0x46000000#32))))

theorem manyBits : FloatOps.ofBits (F := Ideal) .f32 0x46000000#32 = ((8192 : ℝ) : EReal) := by
  show Ideal.ofBits _ _ = _
  simp [Ideal.ofBits, Ideal.ieee]
  norm_num
  rw [← EReal.coe_mul]
  norm_num

theorem pt_le_many (n : Fin 8192) : pt n ≤ ((8192 : ℝ) : EReal) := by
  unfold pt
  have : n.val ≤ 8192 := n.isLt.le
  exact_mod_cast this

theorem arg_tells {v21 : Blk} {v41 : IVec S8x1 1} {mx : Col} {d : Blk} {D : ℕ → Fin 8192 → EReal} {p : ℕ → Fin 8192}
    (hv : Holds v21 fun _ => pt) (h41 : EvenRows v41) (hd : Holds d D) (hm : Tells mx fun h => D h (p h)) (hp : ∀ h, FirstMax (D h) (p h)) :
    Tells (argV v21 v41 mx d) fun h => pt (p h) := by
  intro r
  unfold argV
  have key : ∀ (r' : Fin 8) (l : Fin 4096),
      select (cmpf .oeq d (spread mx)) v21 (broadcast S8x4096 (Scalar.ofBits .f32 0x46000000#32)) (ix2 r' l)
        = if D (r'.val / 2) (flat r' l) = D (r'.val / 2) (p (r'.val / 2)) then pt (flat r' l) else ((8192 : ℝ) : EReal) := fun r' l => by
    show Scalar.select (Ideal.cmp .oeq (d (ix2 r' l)) (spread mx (ix2 r' l))) (v21 (ix2 r' l)) (FloatOps.ofBits (F := Ideal) .f32 0x46000000#32) = _
    rw [select_eq, spread_apply, hd, hm, hv, manyBits]
  have low : ∀ (r' : Fin 8) (l : Fin 4096), pt (p (r'.val / 2))
      ≤ if D (r'.val / 2) (flat r' l) = D (r'.val / 2) (p (r'.val / 2)) then pt (flat r' l) else ((8192 : ℝ) : EReal) := fun r' l => by
    split
    · next h => exact pt_le ((hp _).first _ h)
    · exact pt_le_many _
  rw [comb_apply (op := minimumf) (o := min) (fun _ _ _ => rfl) (fun a b => min_comm a b) h41, rowMin_apply, rowMin_apply]
  simp only [key]
  refine le_antisymm ?_ (le_min ?_ ?_)
  · rcases flat_cases r (p (r.val / 2)) with ⟨l, h⟩ | ⟨l, h⟩
    · refine min_le_of_left_le (Finset.fold_min_le _ |>.2 (.inr ⟨l, Finset.mem_univ _, ?_⟩))
      rw [ev_half, if_pos (congrArg _ h), h]
    · refine min_le_of_right_le (Finset.fold_min_le _ |>.2 (.inr ⟨l, Finset.mem_univ _, ?_⟩))
      rw [od_half, if_pos (congrArg _ h), h]
  · exact Finset.le_fold_min _ |>.2 ⟨le_top, fun l _ => by have := low (ev r) l; rw [ev_half] at this ⊢; exact this⟩
  · exact Finset.le_fold_min _ |>.2 ⟨le_top, fun l _ => by have := low (od r) l; rw [od_half] at this ⊢; exact this⟩

/-! ## The record of a step -/

/-- Column `w` of a chunk's record: the even rows take `a`, the odd rows `b`. -/
def recV (v22 : IVec S8x128 32) (v41 : IVec S8x1 1) (w : BitVec 32) (a b : Col) (old : FVec Ideal S8x128 .f32) : FVec Ideal S8x128 .f32 :=
  select (cmpi .eq v22 (broadcast S8x128 w)) (broadcastTo S8x128 (shapeCast S8x1 (select v41 a b) shapeCasts_S8x1_S8x1) broadcasts_S8x1_S8x128) old

/-- The first `k` columns of a record: `A` of the batch on even rows, `B` on odd rows. -/
def Records (k : ℕ) (v : FVec Ideal S8x128 .f32) (A B : ℕ → ℕ → EReal) : Prop :=
  ∀ (r : Fin 8) (m : Fin 128), m.val < k → v (ix2 r m) = if r.val % 2 = 0 then A (r.val / 2) m.val else B (r.val / 2) m.val

theorem rec_records {v22 : IVec S8x128 32} {v41 : IVec S8x1 1} {w : BitVec 32} {a b : Col} {old : FVec Ideal S8x128 .f32}
    {k : ℕ} {A B : ℕ → ℕ → EReal} (h22 : ∀ (r : Fin 8) (m : Fin 128), v22 (ix2 r m) = BitVec.ofNat 32 m.val) (hw : w = BitVec.ofNat 32 k)
    (hk : k < 128) (h41 : EvenRows v41) (ha : Tells a fun h => A h k) (hb : Tells b fun h => B h k) (ho : Records k old A B) :
    Records (k + 1) (recV v22 v41 w a b old) A B := by
  intro r m hm
  have hsel : ∀ u v : EReal, Scalar.select (IntOp.cmpi .eq (BitVec.ofNat 32 m.val) (BitVec.ofNat 32 k)) u v = if m.val = k then u else v := by
    intro u v
    show (if BitVec.ofBool (decide _) = 1#1 then u else v) = _
    have : (BitVec.ofNat 32 m.val = BitVec.ofNat 32 k) ↔ m.val = k := by
      constructor
      · intro h
        have := congrArg BitVec.toNat h
        rw [BitVec.toNat_ofNat, BitVec.toNat_ofNat] at this
        have := m.isLt
        omega
      · intro h; rw [h]
    by_cases h : m.val = k <;> simp [h, this]
  show Scalar.select (IntOp.cmpi .eq (v22 (ix2 r m)) w) _ (old (ix2 r m)) = _
  rw [h22, hw, hsel]
  by_cases h : m.val = k
  · rw [if_pos h, h]
    have e : broadcastTo S8x128 (shapeCast S8x1 (select v41 a b) shapeCasts_S8x1_S8x1) broadcasts_S8x1_S8x128 (ix2 r m)
        = Scalar.select (v41 (ix2 r 0)) (a (ix2 r 0)) (b (ix2 r 0)) := by
      refine (broadcastTo_apply _ _ _ (ix2 r 0) fun b => ?_).trans ?_
      · fin_cases b <;> rfl
      · exact shapeCast_apply _ _ _ (ix2 r 0) rfl
    rw [e, h41 r, ha, hb]
    by_cases h2 : r.val % 2 = 0
    · rw [if_pos h2, if_pos h2]; rfl
    · rw [if_neg h2, if_neg h2]; rfl
  · rw [if_neg h]
    exact ho r m (by omega)

end Cert.Proof.Fps

end
-- ==== Proof.Step.lean ====
/-
  One step of the sampling kernel, as what it does to the eight batches.

  `State xs n k f acc` is what holds before step `n + k`, the `k`-th of a chunk that began at step `n`: the distance
  buffer `f` holds every batch's distances, the carried values tell the greatest distance of the first four batches and
  the sample of the last four, and the four records hold the chunk's first `k` columns.
-/
module

public import proofs.«01_k».proof.Proof.Reads
public import Idealize.ShloMosaic.Lib.VecWindow
public import Idealize.ShloMosaic.Lib.WritesUnit

@[expose] public section

noncomputable section

namespace Cert.Proof.Fps

open Cert.KernelIdeal Cert.KernelIdeal.Gen
open Idealize.ShloMosaic Idealize.ShloMosaic.ValueIdx

/-- What a step carries to the next. -/
abbrev Acc : Type := Col × Col × FVec Ideal S8x128 .f32 × FVec Ideal S8x128 .f32 × FVec Ideal S8x128 .f32 × FVec Ideal S8x128 .f32

abbrev Clouds : Type := ℕ → Fin 3 → Fin 8192 → EReal

/-- The records of a chunk that began at step `n`: of batch `b`, the sample and its first coordinate, … -/
def recA (xs : Clouds) (b n : ℕ) (m : ℕ) : EReal := pt (far (xs b) (n + m))
def recC (xs : Clouds) (d : Fin 3) (b n : ℕ) (m : ℕ) : EReal := xs b d (far (xs b) (n + m))

/-- The four records after `k` steps of the chunk. -/
structure Recs (xs : Clouds) (n k : ℕ) (acc : Acc) : Prop where
  a0 : Records k acc.2.2.1 (fun h => recA xs h n) (fun h => recC xs 0 h n)
  b0 : Records k acc.2.2.2.1 (fun h => recC xs 1 h n) (fun h => recC xs 2 h n)
  a1 : Records k acc.2.2.2.2.1 (fun h => recA xs (4 + h) n) (fun h => recC xs 0 (4 + h) n)
  b1 : Records k acc.2.2.2.2.2 (fun h => recC xs 1 (4 + h) n) (fun h => recC xs 2 (4 + h) n)

/-- What the carried columns tell before step `i`. -/
structure Carry (xs : Clouds) (i : ℕ) (mx fr : Col) : Prop where
  mx : Tells mx fun h => dist (xs h) i (far (xs h) i)
  fr : Tells fr fun h => pt (far (xs (4 + h)) i)

/-- The four constants of the kernel: every point's number, the even rows, the columns of a record. -/
structure Consts (v21 : Blk) (v22 : IVec S8x128 32) (v41 : IVec S8x1 1) : Prop where
  flat : Holds v21 fun _ => pt
  even : EvenRows v41
  cols : ∀ (r : Fin 8) (m : Fin 128), v22 (ix2 r m) = BitVec.ofNat 32 m.val

/-! ## The first four batches: the sample is found, then the distances lowered -/

section First
variable {v21 : Blk} {v22 : IVec S8x128 32} {v41 : IVec S8x1 1} (hc : Consts v21 v22 v41) {xs : Clouds} {i : ℕ} {g : ℕ}
  {d x y z : Blk} (hd : Holds d fun h => dist (xs (g + h)) i)
  (hx : Holds x fun h => xs (g + h) 0) (hy : Holds y fun h => xs (g + h) 1) (hz : Holds z fun h => xs (g + h) 2)
include hc hd

theorem arg_far {mx : Col} (hm : Tells mx fun h => dist (xs (g + h)) i (far (xs (g + h)) i)) :
    Tells (argV v21 v41 mx d) fun h => pt (far (xs (g + h)) i) := arg_tells hc.flat hc.even hd hm fun _ => far_spec _ _

omit hd in
theorem pick_far {fr : Col} (hf : Tells fr fun h => pt (far (xs (g + h)) i)) {src : Blk} {dd : Fin 3} (hs : Holds src fun h => xs (g + h) dd) :
    Tells (pickV v41 (maskV v21 fr) src) fun h => xs (g + h) dd (far (xs (g + h)) i) :=
  pick_tells (p := fun h => far (xs (g + h)) i) hc.flat hc.even hf hs

include hx hy hz in
theorem dist_next {fr : Col} (hf : Tells fr fun h => pt (far (xs (g + h)) i)) :
    Holds (distV x y z (pickV v41 (maskV v21 fr) x) (pickV v41 (maskV v21 fr) y) (pickV v41 (maskV v21 fr) z) d)
      fun h => dist (xs (g + h)) (i + 1) :=
  dist_holds (p := fun h => far (xs (g + h)) i) hx hy hz hd (pick_far hc hf hx) (pick_far hc hf hy) (pick_far hc hf hz)

theorem max_far : Tells (maxV v41 d) fun h => dist (xs (g + h)) i (far (xs (g + h)) i) :=
  max_tells (p := fun h => far (xs (g + h)) i) hc.even hd fun _ => far_spec _ _
end First

/-! ## The planes of the two buffers -/

/-- A block of eight rows as loaded from either buffer. -/
def blk3 (v : Vec Ideal S1x8x4096 .f32) : Blk := shapeCast S8x4096 v shapeCasts_S1x8x4096_S8x4096
def blk4 (v : Vec Ideal S1x1x8x4096 .f32) : Blk := shapeCast S8x4096 v shapeCasts_S1x1x8x4096_S8x4096
/-- A block as stored. -/
def unblk (v : Blk) : Vec Ideal S1x8x4096 .f32 := shapeCast S1x8x4096 v shapeCasts_S8x4096_S1x8x4096

theorem blk3_apply (v : Vec Ideal S1x8x4096 .f32) (r : Fin 8) (l : Fin 4096) : blk3 v (ix2 r l) = v (ix3 0 r l) := by
  refine shapeCast_apply _ _ _ _ ?_
  rw [Shape.rowMajor_val_three, Shape.rowMajor_val_two]
  show (0 * 8 + r.val) * 4096 + l.val = _
  rw [Nat.zero_mul, Nat.zero_add]; rfl

theorem blk4_apply (v : Vec Ideal S1x1x8x4096 .f32) (r : Fin 8) (l : Fin 4096) : blk4 v (ix2 r l) = v (ix4 0 0 r l) := by
  refine shapeCast_apply _ _ _ _ ?_
  rw [Shape.rowMajor_val_four, Shape.rowMajor_val_two]
  show ((0 * 1 + 0) * 8 + r.val) * 4096 + l.val = _
  simp only [Nat.zero_mul, Nat.zero_add]; rfl

theorem unblk_apply (v : Blk) (r : Fin 8) (l : Fin 4096) : unblk v (ix3 0 r l) = v (ix2 r l) := by
  refine shapeCast_apply _ _ _ _ ?_
  rw [Shape.rowMajor_val_three, Shape.rowMajor_val_two]
  show _ = (0 * 8 + r.val) * 4096 + l.val
  rw [Nat.zero_mul, Nat.zero_add]; rfl

section Bufs

/-- The distance buffer holds every batch's distances before step `i`. -/
def Dists (xs : Clouds) (i : ℕ) (R : S2x8x4096.Idx → EReal) : Prop :=
  ∀ (g : Fin 2) (r : Fin 8) (l : Fin 4096), R (ix3 g r l) = dist (xs (4 * g.val + r.val / 2)) i (flat r l)

/-- The coordinate buffer holds every batch's coordinates. -/
def Coords (xs : Clouds) (R : S2x3x8x4096.Idx → EReal) : Prop :=
  ∀ (g : Fin 2) (d : Fin 3) (r : Fin 8) (l : Fin 4096), R (ix4 g d r l) = xs (4 * g.val + r.val / 2) d (flat r l)

variable (v5 : View sig .tc .vmem S2x8x4096 .f32) (f : v5.ty.Contents (Elt Ideal))

theorem load_dists {xs : Clouds} {i : ℕ} (h : Dists xs i (v5.read (Elt Ideal) f)) (g : Fin 2) (off : Fin 3 → ℕ) (ho : off = ![g.val, 0, 0])
    (inb : ∀ a, off a + S1x8x4096.size a ≤ S2x8x4096.size a) :
    Holds (blk3 (v5.readAt (Elt Ideal) (Rect.unit (s := S2x8x4096) off S1x8x4096.size inb).toLoadRect f)) fun h => dist (xs (4 * g.val + h)) i := by
  intro r l
  subst ho
  rw [blk3_apply]
  refine Eq.trans ?_ (h g r l)
  show v5.read (Elt Ideal) f _ = _
  refine congrArg _ (funext fun a => Fin.ext ?_)
  fin_cases a
  · show g.val + 1 * 0 = g.val; omega
  · show 0 + 1 * r.val = r.val; omega
  · show 0 + 1 * l.val = l.val; omega

theorem load_coords (v0 : View sig .tc .vmem S2x3x8x4096 .f32) (X : v0.ty.Contents (Elt Ideal)) {xs : Clouds}
    (h : Coords xs (v0.read (Elt Ideal) X)) (g : Fin 2) (d : Fin 3) (off : Fin 4 → ℕ) (ho : off = ![g.val, d.val, 0, 0])
    (inb : ∀ a, off a + S1x1x8x4096.size a ≤ S2x3x8x4096.size a) :
    Holds (blk4 (v0.readAt (Elt Ideal) (Rect.unit (s := S2x3x8x4096) off S1x1x8x4096.size inb).toLoadRect X)) fun h => xs (4 * g.val + h) d := by
  intro r l
  subst ho
  rw [blk4_apply]
  refine Eq.trans ?_ (h g d r l)
  show v0.read (Elt Ideal) X _ = _
  refine congrArg _ (funext fun a => Fin.ext ?_)
  fin_cases a
  · show g.val + 1 * 0 = g.val; omega
  · show d.val + 1 * 0 = d.val; omega
  · show 0 + 1 * r.val = r.val; omega
  · show 0 + 1 * l.val = l.val; omega

/-- The buffer after both blocks are stored. -/
theorem store_dists {xs : Clouds} {i : ℕ} {A B : Blk} (hA : Holds A fun h => dist (xs (0 + h)) i) (hB : Holds B fun h => dist (xs (4 + h)) i)
    (inb0 : ∀ a, (![0, 0, 0] : Fin 3 → ℕ) a + S1x8x4096.size a ≤ S2x8x4096.size a)
    (inb1 : ∀ a, (![1, 0, 0] : Fin 3 → ℕ) a + S1x8x4096.size a ≤ S2x8x4096.size a) :
    Dists xs i (v5.read (Elt Ideal) (v5.writes (Elt Ideal) f
      [⟨Rect.unit (s := S2x8x4096) ![0, 0, 0] S1x8x4096.size inb0, unblk A⟩, ⟨Rect.unit (s := S2x8x4096) ![1, 0, 0] S1x8x4096.size inb1, unblk B⟩])) := by
  intro g r l
  fin_cases g
  · refine (View.read_writes_cons_unit_of_mem v5 f inb0 _ _ _ (ix3 0 r l) rfl ?_).trans ?_
    · intro a
      fin_cases a
      · rfl
      · show r.val = 0 + r.val; omega
      · show l.val = 0 + l.val; omega
    · rw [unblk_apply, hA]
      simp
  · refine (View.read_writes_cons_unit_of_not_mem v5 f inb0 _ _ _ rfl 0 (.inr ?_)).trans ?_
    · show 0 + 1 ≤ 1; omega
    · refine (View.read_writes_cons_unit_of_mem v5 f inb1 _ _ _ (ix3 0 r l) rfl ?_).trans ?_
      · intro a
        fin_cases a
        · rfl
        · show r.val = 0 + r.val; omega
        · show l.val = 0 + l.val; omega
      · rw [unblk_apply, hB]
        simp
end Bufs

end Cert.Proof.Fps

end
-- ==== Proof.Trip.lean ====
/-
  One trip of the sampling kernel's inner loop, run, and the loop by its invariant.
-/
module

public import proofs.«01_k».proof.Proof.Step
public import proofs.«01_k».proof.Proof.Gen.KernelIdeal.Loops
public import Idealize.ShloMosaic.Lib.Exec
public import Idealize.ShloMosaic.Lib.Tactic

@[expose] public section

noncomputable section

namespace Cert.Proof.Fps

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix Name U Lvl : Type} [DecidableEq Ix] [DecidableEq Name] [RA.URA U] [Preorder Lvl]

local notation "𝕄" => MT nD τ sig Ix (Elt Ideal) Name U Lvl

theorem zero {a : Col} {Z : ℕ → EReal} (h : Tells a fun h => Z (4 * (0 : Fin 2).val + h)) : Tells a Z :=
  fun r => (h r).trans (by simp)

theorem trip (𝒱 : Variants) (c : Dev nD) (bd : Option 𝒱.V) (E : Set Name) (arg0 : Memref sig .tc .vmem S2x3x8x4096 .f32) (harg0 : arg0.IsWhole) (arg1 : Memref sig .tc .vmem S8x2048 .i32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2x8x4096 .f32) (harg5 : arg5.IsWhole) (v21 : FVec Ideal S8x4096 .f32) (v22 : IVec S8x128 32) (v41 : IVec S8x1 1) (c0_i32_14 : BitVec 32) (c1_i32_15 : BitVec 32) (k0_t1 : Fin k0_t1_loop.trips) (arg7 : FVec Ideal S8x1 .f32) (arg8 : FVec Ideal S8x1 .f32) (X : BufTy.Contents (Elt Ideal) arg0.view.ty) (f : BufTy.Contents (Elt Ideal) arg5.view.ty) (k : Fin k0_t2_loop.trips) (acc : Acc) (xs : Clouds) (n : ℕ)
    (hC : Consts v21 v22 v41) (hX : Coords xs (arg0.view.read (Elt Ideal) X))
    (hf : Dists xs (n + k.val) (arg5.view.read (Elt Ideal) f)) (hcar : Carry xs (n + k.val) acc.1 acc.2.1) (hrec : Recs xs n k.val acc) :
    (iprop((arg0.view.loc (c : Thread nD τ) ↦[arg0.view.set]{fullShare} X) ∗ (arg5.view.loc (c : Thread nD τ) ↦[arg5.view.set]{fullShare} f)) : sProp 𝕄)
      ⊢ wp frame (wpE (defs₀ (F := Ideal)) 𝒱 (c : Thread nD τ) bd) E (k0_t2_body (F := Ideal) arg0 harg0 arg1 harg1 arg2 harg2 arg3 harg3 arg4 harg4 arg5 harg5 v21 v22 v41 c0_i32_14 c1_i32_15 k0_t1 arg7 arg8 k acc)
          (fun yld => iprop((arg0.view.loc (c : Thread nD τ) ↦[arg0.view.set]{fullShare} X) ∗ ∃ f', (arg5.view.loc (c : Thread nD τ) ↦[arg5.view.set]{fullShare} f') ∗ ⌜Dists xs (n + (k.val + 1)) (arg5.view.read (Elt Ideal) f') ∧ Carry xs (n + (k.val + 1)) yld.1 yld.2.1 ∧ Recs xs n (k.val + 1) yld⌝)) := by
  have hk : k.val < 128 := Nat.lt_of_lt_of_le k.isLt k0_t2_abs.2.1
  unfold k0_t2_body
  iintro ⟨HR, HW⟩
  sl_exec
  sl_step
  isplitl [HR]; · iexact HR
  iexists _
  isplitl [HW]; · iexact HW
  ipureintro
  have hx0 := load_coords arg0.view X hX 0 0 _ rfl inb_S2x3x8x4096_S1x1x8x4096_0_0_0_0
  have hy0 := load_coords arg0.view X hX 0 1 _ rfl inb_S2x3x8x4096_S1x1x8x4096_0_1_0_0
  have hz0 := load_coords arg0.view X hX 0 2 _ rfl inb_S2x3x8x4096_S1x1x8x4096_0_2_0_0
  have hx1 := load_coords arg0.view X hX 1 0 _ rfl inb_S2x3x8x4096_S1x1x8x4096_1_0_0_0
  have hy1 := load_coords arg0.view X hX 1 1 _ rfl inb_S2x3x8x4096_S1x1x8x4096_1_1_0_0
  have hz1 := load_coords arg0.view X hX 1 2 _ rfl inb_S2x3x8x4096_S1x1x8x4096_1_2_0_0
  have hd0 := load_dists arg5.view f hf 0 _ rfl inb_S2x8x4096_S1x8x4096_0_0_0
  have hd1 := load_dists arg5.view f hf 1 _ rfl inb_S2x8x4096_S1x8x4096_1_0_0
  have hm0 : Tells acc.1 fun h => dist (xs (4 * (0 : Fin 2).val + h)) (n + k.val) (far (xs (4 * (0 : Fin 2).val + h)) (n + k.val)) := by
    intro r
    rw [hcar.mx r]
    simp
  have hF0 := arg_far hC hd0 hm0
  have hF1 : Tells acc.2.1 fun h => pt (far (xs (4 * (1 : Fin 2).val + h)) (n + k.val)) := hcar.fr
  have hD0 := dist_next hC hd0 hx0 hy0 hz0 hF0
  have hD1 := dist_next hC hd1 hx1 hy1 hz1 hF1
  have hM0 := max_far hC hD0
  have hM1 := max_far hC hD1
  have hZ : Dists xs (n + k.val + 1) (arg5.view.read (Elt Ideal) (arg5.view.writes (Elt Ideal) arg5.view.junk (trip.sl.HW_2 arg0 arg5 v21 v41 X f acc))) :=
    store_dists arg5.view arg5.view.junk (i := n + k.val + 1) (A := distV _ _ _ _ _ _ _) (B := distV _ _ _ _ _ _ _)
      (fun r l => (hD0 r l).trans (by simp)) hD1 _ _
  have hG1 := arg_far hC (load_dists arg5.view _ hZ 1 _ rfl inb_S2x8x4096_S1x8x4096_1_0_0) hM1
  have hw : Scf.iv 0#32 1#32 k.val = BitVec.ofNat 32 k.val := by
    simp [Scf.iv]
  have hw' : trip.sl.arg9 k = BitVec.ofNat 32 k.val := hw
  refine ⟨?_, ⟨?_, ?_⟩, ⟨?_, ?_, ?_, ?_⟩⟩
  · refine store_dists arg5.view f (i := n + k.val + 1) (A := distV _ _ _ _ _ _ _) (B := distV _ _ _ _ _ _ _) ?_ hD1 _ _
    exact fun r l => (hD0 r l).trans (by simp)
  · exact fun r => (hM0 r).trans (by simp; rfl)
  · exact fun r => hG1 r
  · exact rec_records hC.cols hw' hk hC.even (zero hF0) (zero (pick_far hC hF0 hx0)) hrec.a0
  · exact rec_records hC.cols hw' hk hC.even (zero (pick_far hC hF0 hy0)) (zero (pick_far hC hF0 hz0)) hrec.b0
  · exact rec_records hC.cols hw' hk hC.even hF1 (pick_far hC hF1 hx1) hrec.a1
  · exact rec_records hC.cols hw' hk hC.even (pick_far hC hF1 hy1) (pick_far hC hF1 hz1) hrec.b1

end Cert.Proof.Fps

end
-- ==== Proof.Stores.lean ====
/-
  The columns of a chunk as stored: eight rows, each of 128 columns.
-/
module

public import proofs.«01_k».proof.Proof.Step

@[expose] public section

noncomputable section

namespace Cert.Proof.Fps

open Cert.KernelIdeal Cert.KernelIdeal.Gen
open Idealize.ShloMosaic Idealize.ShloMosaic.ValueIdx

/-- Row `q` of a record, as floats and as integers. -/
def rowF (v : FVec Ideal S8x128 .f32) (q : Fin 8) (h : S8x128.Slices ![q.val, 0] S1x128) : FVec Ideal S1x128 .f32 :=
  shapeCast S1x128 (shapeCast S128 (extractStridedSlice S1x128 ![q.val, 0] v h) shapeCasts_S1x128_S128) shapeCasts_S128_S1x128
def rowI (v : FVec Ideal S8x128 .f32) (q : Fin 8) (h : S8x128.Slices ![q.val, 0] S1x128) : IVec S1x128 32 :=
  shapeCast S1x128 (fptosi 32 (shapeCast S128 (extractStridedSlice S1x128 ![q.val, 0] v h) shapeCasts_S1x128_S128)) shapeCasts_S128_S1x128

theorem line_apply (v : FVec Ideal S8x128 .f32) (q : Fin 8) (h : S8x128.Slices ![q.val, 0] S1x128) (m : Fin 128) :
    shapeCast S128 (extractStridedSlice S1x128 ![q.val, 0] v h) shapeCasts_S1x128_S128 (ix1 m) = v (ix2 q m) := by
  refine (shapeCast_apply _ _ _ (ix2 0 m) ?_).trans ?_
  · rw [Shape.rowMajor_val_two, Shape.rowMajor_val_one]
    show 0 * 128 + m.val = m.val
    omega
  · refine extractStridedSlice_apply _ _ _ _ _ fun a => ?_
    fin_cases a
    · show q.val = q.val + 0; omega
    · show m.val = 0 + m.val; omega

theorem unline {α : Type} (v : S128.Idx → α) (m : Fin 128) : shapeCast S1x128 v shapeCasts_S128_S1x128 (ix2 0 m) = v (ix1 m) := by
  refine shapeCast_apply _ _ _ _ ?_
  rw [Shape.rowMajor_val_two, Shape.rowMajor_val_one]
  show m.val = 0 * 128 + m.val
  omega

theorem rowF_apply (v : FVec Ideal S8x128 .f32) (q : Fin 8) (h) (m : Fin 128) : rowF v q h (ix2 0 m) = v (ix2 q m) :=
  (unline _ m).trans (line_apply v q h m)

theorem toInt_pt (n : Fin 8192) : Ideal.fptosi 32 (pt n) = BitVec.ofNat 32 n.val := by
  unfold Ideal.fptosi pt
  show BitVec.ofInt 32 (max _ (min _ (if (0 : ℝ) ≤ (n.val : ℝ) then ⌊(n.val : ℝ)⌋ else ⌈(n.val : ℝ)⌉))) = _
  rw [if_pos (Nat.cast_nonneg _), Int.floor_natCast, min_eq_right (by have := n.isLt; simp; omega), max_eq_right (by simp)]
  exact BitVec.ofInt_natCast _ _

theorem rowI_apply (v : FVec Ideal S8x128 .f32) (q : Fin 8) (h) (m : Fin 128) (n : Fin 8192) (hn : v (ix2 q m) = pt n) :
    rowI v q h (ix2 0 m) = BitVec.ofNat 32 n.val := by
  refine (unline _ m).trans ?_
  show Ideal.fptosi 32 _ = _
  rw [line_apply, hn, toInt_pt]

variable {e : EltTy} (v : View sig .tc .vmem S8x2048 e) (f : v.ty.Contents (Elt Ideal))

/-- What one stored row leaves. -/
theorem piece {o : Fin 2 → ℕ} (inb : ∀ a, o a + S1x128.size a ≤ S8x2048.size a) (w : S1x128.Idx → Elt Ideal e) (L : List (View.Piece (Elt Ideal) S8x2048 e))
    (q : Fin 8) {k : ℕ} (hk : k < 16) (ho : o = ![q.val, 128 * k]) (b : Fin 8) (j : Fin 2048) :
    v.read (Elt Ideal) (v.writes (Elt Ideal) f (⟨Rect.unit (s := S8x2048) o S1x128.size inb, w⟩ :: L)) (ix2 b j)
      = if h : b = q ∧ 128 * k ≤ j.val ∧ j.val < 128 * k + 128 then w (ix2 0 ⟨j.val - 128 * k, by omega⟩) else v.read (Elt Ideal) (v.writes (Elt Ideal) f L) (ix2 b j) := by
  by_cases h : b = q ∧ 128 * k ≤ j.val ∧ j.val < 128 * k + 128
  · rw [dif_pos h]
    refine View.read_writes_cons_unit_of_mem v f inb w L _ _ ho fun a => ?_
    fin_cases a
    · show b.val = q.val + 0; rw [h.1]; rfl
    · show j.val = 128 * k + (j.val - 128 * k); omega
  · rw [dif_neg h]
    by_cases hb : b = q
    · refine View.read_writes_cons_unit_of_not_mem v f inb w L _ ho 1 ?_
      show j.val < 128 * k ∨ 128 * k + 128 ≤ j.val
      omega
    · refine View.read_writes_cons_unit_of_not_mem v f inb w L _ ho 0 ?_
      show b.val < q.val ∨ q.val + 1 ≤ b.val
      have : b.val ≠ q.val := fun h' => hb (Fin.ext h')
      omega

/-- What a chunk's eight stored rows leave: the columns before as they were, the chunk's columns as stored. -/
theorem rows_stored {k : ℕ} (hk : k < 16) {o0 o1 o2 o3 o4 o5 o6 o7 : Fin 2 → ℕ}
    (i0 : ∀ a, o0 a + S1x128.size a ≤ S8x2048.size a) (i1 : ∀ a, o1 a + S1x128.size a ≤ S8x2048.size a) (i2 : ∀ a, o2 a + S1x128.size a ≤ S8x2048.size a) (i3 : ∀ a, o3 a + S1x128.size a ≤ S8x2048.size a) (i4 : ∀ a, o4 a + S1x128.size a ≤ S8x2048.size a) (i5 : ∀ a, o5 a + S1x128.size a ≤ S8x2048.size a) (i6 : ∀ a, o6 a + S1x128.size a ≤ S8x2048.size a) (i7 : ∀ a, o7 a + S1x128.size a ≤ S8x2048.size a)
    (h0 : o0 = ![0, 128 * k]) (h1 : o1 = ![1, 128 * k]) (h2 : o2 = ![2, 128 * k]) (h3 : o3 = ![3, 128 * k]) (h4 : o4 = ![4, 128 * k]) (h5 : o5 = ![5, 128 * k]) (h6 : o6 = ![6, 128 * k]) (h7 : o7 = ![7, 128 * k])
    (w0 w1 w2 w3 w4 w5 w6 w7 : S1x128.Idx → Elt Ideal e) (P : Fin 8 → Fin 2048 → Elt Ideal e → Prop)
    (old : ∀ (b : Fin 8) (j : Fin 2048), j.val < 128 * k → P b j (v.read (Elt Ideal) f (ix2 b j)))
    (n0 : ∀ m : Fin 128, P 0 ⟨128 * k + m.val, by omega⟩ (w0 (ix2 0 m)))
    (n1 : ∀ m : Fin 128, P 1 ⟨128 * k + m.val, by omega⟩ (w1 (ix2 0 m)))
    (n2 : ∀ m : Fin 128, P 2 ⟨128 * k + m.val, by omega⟩ (w2 (ix2 0 m)))
    (n3 : ∀ m : Fin 128, P 3 ⟨128 * k + m.val, by omega⟩ (w3 (ix2 0 m)))
    (n4 : ∀ m : Fin 128, P 4 ⟨128 * k + m.val, by omega⟩ (w4 (ix2 0 m)))
    (n5 : ∀ m : Fin 128, P 5 ⟨128 * k + m.val, by omega⟩ (w5 (ix2 0 m)))
    (n6 : ∀ m : Fin 128, P 6 ⟨128 * k + m.val, by omega⟩ (w6 (ix2 0 m)))
    (n7 : ∀ m : Fin 128, P 7 ⟨128 * k + m.val, by omega⟩ (w7 (ix2 0 m))) :
    ∀ (b : Fin 8) (j : Fin 2048), j.val < 128 * (k + 1) → P b j (v.read (Elt Ideal) (v.writes (Elt Ideal) f
      [⟨Rect.unit (s := S8x2048) o7 S1x128.size i7, w7⟩, ⟨Rect.unit (s := S8x2048) o6 S1x128.size i6, w6⟩, ⟨Rect.unit (s := S8x2048) o5 S1x128.size i5, w5⟩, ⟨Rect.unit (s := S8x2048) o4 S1x128.size i4, w4⟩, ⟨Rect.unit (s := S8x2048) o3 S1x128.size i3, w3⟩, ⟨Rect.unit (s := S8x2048) o2 S1x128.size i2, w2⟩, ⟨Rect.unit (s := S8x2048) o1 S1x128.size i1, w1⟩, ⟨Rect.unit (s := S8x2048) o0 S1x128.size i0, w0⟩]) (ix2 b j)) := by
  intro b j hj
  rw [piece v f i7 w7 _ 7 hk h7, piece v f i6 w6 _ 6 hk h6, piece v f i5 w5 _ 5 hk h5, piece v f i4 w4 _ 4 hk h4, piece v f i3 w3 _ 3 hk h3, piece v f i2 w2 _ 2 hk h2, piece v f i1 w1 _ 1 hk h1, piece v f i0 w0 _ 0 hk h0]
  by_cases h : j.val < 128 * k
  · have no : ∀ q : Fin 8, ¬ (b = q ∧ 128 * k ≤ j.val ∧ j.val < 128 * k + 128) := fun q h' => by omega
    simp only [dif_neg (no _)]
    exact old b j h
  · have hr : 128 * k ≤ j.val ∧ j.val < 128 * k + 128 := by omega
    have hj' : (⟨128 * k + (j.val - 128 * k), by omega⟩ : Fin 2048) = j := Fin.ext (by show 128 * k + (j.val - 128 * k) = j.val; omega)
    fin_cases b
    · simp [hr]
      have := n0 ⟨j.val - 128 * k, by omega⟩
      rw [hj'] at this
      exact this
    · simp [hr]
      have := n1 ⟨j.val - 128 * k, by omega⟩
      rw [hj'] at this
      exact this
    · simp [hr]
      have := n2 ⟨j.val - 128 * k, by omega⟩
      rw [hj'] at this
      exact this
    · simp [hr]
      have := n3 ⟨j.val - 128 * k, by omega⟩
      rw [hj'] at this
      exact this
    · simp [hr]
      have := n4 ⟨j.val - 128 * k, by omega⟩
      rw [hj'] at this
      exact this
    · simp [hr]
      have := n5 ⟨j.val - 128 * k, by omega⟩
      rw [hj'] at this
      exact this
    · simp [hr]
      have := n6 ⟨j.val - 128 * k, by omega⟩
      rw [hj'] at this
      exact this
    · simp [hr]
      have := n7 ⟨j.val - 128 * k, by omega⟩
      rw [hj'] at this
      exact this

end Cert.Proof.Fps

end
-- ==== Proof.Chunk.lean ====
/-
  One chunk of the sampling kernel: 128 steps by the inner loop, then the chunk's columns stored.
-/
module

public import proofs.«01_k».proof.Proof.Trip
public import proofs.«01_k».proof.Proof.Stores
public import Idealize.ShloMosaic.Lib.Exec
public import Idealize.ShloMosaic.Lib.Tactic

@[expose] public section

noncomputable section

namespace Cert.Proof.Fps

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix Name U Lvl : Type} [DecidableEq Ix] [DecidableEq Name] [RA.URA U] [Preorder Lvl]

local notation "𝕄" => MT nD τ sig Ix (Elt Ideal) Name U Lvl

/-- The sampled points' numbers, of the first `N` samples. -/
def Idx (xs : Clouds) (N : ℕ) (R : S8x2048.Idx → BitVec 32) : Prop :=
  ∀ (b : Fin 8) (j : Fin 2048), j.val < N → R (ix2 b j) = BitVec.ofNat 32 (far (xs b.val) j.val).val
/-- One coordinate of the sampled points, of the first `N` samples. -/
def Crd (xs : Clouds) (d : Fin 3) (N : ℕ) (R : S8x2048.Idx → EReal) : Prop :=
  ∀ (b : Fin 8) (j : Fin 2048), j.val < N → R (ix2 b j) = xs b.val d (far (xs b.val) j.val)

theorem recs_zero (xs : Clouds) (n : ℕ) (acc : Acc) : Recs xs n 0 acc :=
  ⟨fun _ _ h => absurd h (Nat.not_lt_zero _), fun _ _ h => absurd h (Nat.not_lt_zero _), fun _ _ h => absurd h (Nat.not_lt_zero _), fun _ _ h => absurd h (Nat.not_lt_zero _)⟩

/-- The inner loop's invariant: the step's facts before step `k` of the chunk. -/
def Inner (arg5 : Memref sig .tc .vmem S2x8x4096 .f32) (xs : Clouds) (n k : ℕ) (f : BufTy.Contents (Elt Ideal) arg5.view.ty) (a : Acc) : Prop :=
  Dists xs (n + k) (arg5.view.read (Elt Ideal) f) ∧ Carry xs (n + k) a.1 a.2.1 ∧ Recs xs n k a

set_option warn.classDefReducibility false in
def inner (𝒱 : Variants) (c : Dev nD) (bd : Option 𝒱.V) (E : Set Name) (arg0 : Memref sig .tc .vmem S2x3x8x4096 .f32) (harg0 : arg0.IsWhole) (arg1 : Memref sig .tc .vmem S8x2048 .i32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2x8x4096 .f32) (harg5 : arg5.IsWhole) (v21 : FVec Ideal S8x4096 .f32) (v22 : IVec S8x128 32) (v41 : IVec S8x1 1) (k0_t1 : Fin k0_t1_loop.trips) (arg7 arg8 : Col) (X : BufTy.Contents (Elt Ideal) arg0.view.ty) (xs : Clouds) (hC : Consts v21 v22 v41)
    (hX : Coords xs (arg0.view.read (Elt Ideal) X)) (init : Acc) :
    LoopInvTy_k0_t2 (F := Ideal) Ix Name U Lvl 𝒱 c bd E arg0 harg0 arg1 harg1 arg2 harg2 arg3 harg3 arg4 harg4 arg5 harg5 v21 v22 v41 0#32 1#32 k0_t1 arg7 arg8 init where
  inv k a := iprop((arg0.view.loc (c : Thread nD τ) ↦[arg0.view.set]{fullShare} X) ∗ ∃ f, (arg5.view.loc (c : Thread nD τ) ↦[arg5.view.set]{fullShare} f) ∗ ⌜Inner arg5 xs (128 * k0_t1.val) k f a⌝)
  step k a := by
    iintro ⟨H0, ⟨%f, H5, %h⟩⟩
    iapply (trip 𝒱 c bd E arg0 harg0 arg1 harg1 arg2 harg2 arg3 harg3 arg4 harg4 arg5 harg5 v21 v22 v41 0#32 1#32 k0_t1 arg7 arg8 X f k a xs (128 * k0_t1.val) hC hX h.1 h.2.1 h.2.2)
    isplitl [H0]; · iexact H0
    iexact H5

theorem chunk (𝒱 : Variants) (c : Dev nD) (bd : Option 𝒱.V) (E : Set Name) (arg0 : Memref sig .tc .vmem S2x3x8x4096 .f32) (harg0 : arg0.IsWhole) (arg1 : Memref sig .tc .vmem S8x2048 .i32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2x8x4096 .f32) (harg5 : arg5.IsWhole) (v21 : FVec Ideal S8x4096 .f32) (v22 : IVec S8x128 32) (v41 : IVec S8x1 1) (X : BufTy.Contents (Elt Ideal) arg0.view.ty) (xs : Clouds) (hC : Consts v21 v22 v41) (hX : Coords xs (arg0.view.read (Elt Ideal) X))
    (k0_t1 : Fin k0_t1_loop.trips) (acc : Col × Col) (f1 : BufTy.Contents (Elt Ideal) arg1.view.ty) (f2 : BufTy.Contents (Elt Ideal) arg2.view.ty)
    (f3 : BufTy.Contents (Elt Ideal) arg3.view.ty) (f4 : BufTy.Contents (Elt Ideal) arg4.view.ty) (f5 : BufTy.Contents (Elt Ideal) arg5.view.ty)
    (h1 : Idx xs (128 * k0_t1.val) (arg1.view.read (Elt Ideal) f1)) (h2 : Crd xs 0 (128 * k0_t1.val) (arg2.view.read (Elt Ideal) f2))
    (h3 : Crd xs 1 (128 * k0_t1.val) (arg3.view.read (Elt Ideal) f3)) (h4 : Crd xs 2 (128 * k0_t1.val) (arg4.view.read (Elt Ideal) f4))
    (h5 : Dists xs (128 * k0_t1.val) (arg5.view.read (Elt Ideal) f5)) (hcar : Carry xs (128 * k0_t1.val) acc.1 acc.2) :
    (iprop((arg0.view.loc (c : Thread nD τ) ↦[arg0.view.set]{fullShare} X) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)) : sProp 𝕄)
      ⊢ wp frame (wpE (defs₀ (F := Ideal)) 𝒱 (c : Thread nD τ) bd) E (k0_t1_body (F := Ideal) arg0 harg0 arg1 harg1 arg2 harg2 arg3 harg3 arg4 harg4 arg5 harg5 v21 v22 v41 k0_t1 acc)
          (fun yld => iprop((arg0.view.loc (c : Thread nD τ) ↦[arg0.view.set]{fullShare} X) ∗ (∃ f, (arg1.view.loc (c : Thread nD τ) ↦[arg1.view.set]{fullShare} f) ∗ ⌜Idx xs (128 * (k0_t1.val + 1)) (arg1.view.read (Elt Ideal) f)⌝)
            ∗ (∃ f, (arg2.view.loc (c : Thread nD τ) ↦[arg2.view.set]{fullShare} f) ∗ ⌜Crd xs 0 (128 * (k0_t1.val + 1)) (arg2.view.read (Elt Ideal) f)⌝)
            ∗ (∃ f, (arg3.view.loc (c : Thread nD τ) ↦[arg3.view.set]{fullShare} f) ∗ ⌜Crd xs 1 (128 * (k0_t1.val + 1)) (arg3.view.read (Elt Ideal) f)⌝)
            ∗ (∃ f, (arg4.view.loc (c : Thread nD τ) ↦[arg4.view.set]{fullShare} f) ∗ ⌜Crd xs 2 (128 * (k0_t1.val + 1)) (arg4.view.read (Elt Ideal) f)⌝)
            ∗ (∃ f, (arg5.view.loc (c : Thread nD τ) ↦[arg5.view.set]{fullShare} f) ∗ ⌜Dists xs (128 * (k0_t1.val + 1)) (arg5.view.read (Elt Ideal) f)⌝)
            ∗ ⌜Carry xs (128 * (k0_t1.val + 1)) yld.1 yld.2⌝)) := by
  have hk : k0_t1.val < 16 := Nat.lt_of_lt_of_le k0_t1.isLt k0_t1_abs.2.1
  obtain ⟨arg7, arg8⟩ := acc
  unfold k0_t1_body
  iintro ⟨H0, H1, H2, H3, H4, H5⟩
  have hp : Inner arg5 xs (128 * k0_t1.val) 0 f5 (arg7, arg8, k0_pay44, k0_pay44, k0_pay44, k0_pay44) := ⟨h5, hcar, recs_zero _ _ _⟩
  let L := inner (Ix := Ix) (Name := Name) (U := U) (Lvl := Lvl) 𝒱 c bd E arg0 harg0 arg1 harg1 arg2 harg2 arg3 harg3 arg4 harg4 arg5 harg5 v21 v22 v41 k0_t1 arg7 arg8 X xs hC hX (arg7, arg8, k0_pay44, k0_pay44, k0_pay44, k0_pay44)
  sl_exec
  sl_step
  obtain ⟨hd, hca, hr⟩ := hL2
  rename_i acc
  have e128 : Scf.trips k0_t2_loop.lb k0_t2_loop.ub k0_t2_loop.st = 128 := by decide
  rw [e128] at hd hca hr
  have e : 128 * k0_t1.val + 128 = 128 * (k0_t1.val + 1) := by omega
  rw [e] at hd hca
  isplitl [H0]; · iexact H0
  isplitl [H1]
  · iexists _
    isplitl [H1]; · iexact H1
    ipureintro
    exact rows_stored arg1.view f1 hk _ _ _ _ _ _ _ _ (k0_off1_eq k0_t1) (k0_off2_eq k0_t1) (k0_off3_eq k0_t1) (k0_off4_eq k0_t1) (k0_off5_eq k0_t1) (k0_off6_eq k0_t1) (k0_off7_eq k0_t1) (k0_off8_eq k0_t1)
      _ _ _ _ _ _ _ _ (fun b j x => x = BitVec.ofNat 32 (far (xs b.val) j.val).val) h1
      (fun m => rowI_apply _ 0 slices_S8x128_o0_0_S1x128 m _ ((hr.a0 0 m m.isLt).trans (if_pos rfl)))
      (fun m => rowI_apply _ 2 slices_S8x128_o2_0_S1x128 m _ ((hr.a0 2 m m.isLt).trans (if_pos rfl)))
      (fun m => rowI_apply _ 4 slices_S8x128_o4_0_S1x128 m _ ((hr.a0 4 m m.isLt).trans (if_pos rfl)))
      (fun m => rowI_apply _ 6 slices_S8x128_o6_0_S1x128 m _ ((hr.a0 6 m m.isLt).trans (if_pos rfl)))
      (fun m => rowI_apply _ 0 slices_S8x128_o0_0_S1x128 m _ ((hr.a1 0 m m.isLt).trans (if_pos rfl)))
      (fun m => rowI_apply _ 2 slices_S8x128_o2_0_S1x128 m _ ((hr.a1 2 m m.isLt).trans (if_pos rfl)))
      (fun m => rowI_apply _ 4 slices_S8x128_o4_0_S1x128 m _ ((hr.a1 4 m m.isLt).trans (if_pos rfl)))
      (fun m => rowI_apply _ 6 slices_S8x128_o6_0_S1x128 m _ ((hr.a1 6 m m.isLt).trans (if_pos rfl)))
  isplitl [H2]
  · iexists _
    isplitl [H2]; · iexact H2
    ipureintro
    exact rows_stored arg2.view f2 hk _ _ _ _ _ _ _ _ (k0_off1_eq k0_t1) (k0_off2_eq k0_t1) (k0_off3_eq k0_t1) (k0_off4_eq k0_t1) (k0_off5_eq k0_t1) (k0_off6_eq k0_t1) (k0_off7_eq k0_t1) (k0_off8_eq k0_t1)
      _ _ _ _ _ _ _ _ (fun b j x => x = xs b.val 0 (far (xs b.val) j.val)) h2
      (fun m => (rowF_apply _ 1 slices_S8x128_o1_0_S1x128 m).trans ((hr.a0 1 m m.isLt).trans (if_neg (by decide))))
      (fun m => (rowF_apply _ 3 slices_S8x128_o3_0_S1x128 m).trans ((hr.a0 3 m m.isLt).trans (if_neg (by decide))))
      (fun m => (rowF_apply _ 5 slices_S8x128_o5_0_S1x128 m).trans ((hr.a0 5 m m.isLt).trans (if_neg (by decide))))
      (fun m => (rowF_apply _ 7 slices_S8x128_o7_0_S1x128 m).trans ((hr.a0 7 m m.isLt).trans (if_neg (by decide))))
      (fun m => (rowF_apply _ 1 slices_S8x128_o1_0_S1x128 m).trans ((hr.a1 1 m m.isLt).trans (if_neg (by decide))))
      (fun m => (rowF_apply _ 3 slices_S8x128_o3_0_S1x128 m).trans ((hr.a1 3 m m.isLt).trans (if_neg (by decide))))
      (fun m => (rowF_apply _ 5 slices_S8x128_o5_0_S1x128 m).trans ((hr.a1 5 m m.isLt).trans (if_neg (by decide))))
      (fun m => (rowF_apply _ 7 slices_S8x128_o7_0_S1x128 m).trans ((hr.a1 7 m m.isLt).trans (if_neg (by decide))))
  isplitl [H3]
  · iexists _
    isplitl [H3]; · iexact H3
    ipureintro
    exact rows_stored arg3.view f3 hk _ _ _ _ _ _ _ _ (k0_off1_eq k0_t1) (k0_off2_eq k0_t1) (k0_off3_eq k0_t1) (k0_off4_eq k0_t1) (k0_off5_eq k0_t1) (k0_off6_eq k0_t1) (k0_off7_eq k0_t1) (k0_off8_eq k0_t1)
      _ _ _ _ _ _ _ _ (fun b j x => x = xs b.val 1 (far (xs b.val) j.val)) h3
      (fun m => (rowF_apply _ 0 slices_S8x128_o0_0_S1x128 m).trans ((hr.b0 0 m m.isLt).trans (if_pos rfl)))
      (fun m => (rowF_apply _ 2 slices_S8x128_o2_0_S1x128 m).trans ((hr.b0 2 m m.isLt).trans (if_pos rfl)))
      (fun m => (rowF_apply _ 4 slices_S8x128_o4_0_S1x128 m).trans ((hr.b0 4 m m.isLt).trans (if_pos rfl)))
      (fun m => (rowF_apply _ 6 slices_S8x128_o6_0_S1x128 m).trans ((hr.b0 6 m m.isLt).trans (if_pos rfl)))
      (fun m => (rowF_apply _ 0 slices_S8x128_o0_0_S1x128 m).trans ((hr.b1 0 m m.isLt).trans (if_pos rfl)))
      (fun m => (rowF_apply _ 2 slices_S8x128_o2_0_S1x128 m).trans ((hr.b1 2 m m.isLt).trans (if_pos rfl)))
      (fun m => (rowF_apply _ 4 slices_S8x128_o4_0_S1x128 m).trans ((hr.b1 4 m m.isLt).trans (if_pos rfl)))
      (fun m => (rowF_apply _ 6 slices_S8x128_o6_0_S1x128 m).trans ((hr.b1 6 m m.isLt).trans (if_pos rfl)))
  isplitl [H4]
  · iexists _
    isplitl [H4]; · iexact H4
    ipureintro
    exact rows_stored arg4.view f4 hk _ _ _ _ _ _ _ _ (k0_off1_eq k0_t1) (k0_off2_eq k0_t1) (k0_off3_eq k0_t1) (k0_off4_eq k0_t1) (k0_off5_eq k0_t1) (k0_off6_eq k0_t1) (k0_off7_eq k0_t1) (k0_off8_eq k0_t1)
      _ _ _ _ _ _ _ _ (fun b j x => x = xs b.val 2 (far (xs b.val) j.val)) h4
      (fun m => (rowF_apply _ 1 slices_S8x128_o1_0_S1x128 m).trans ((hr.b0 1 m m.isLt).trans (if_neg (by decide))))
      (fun m => (rowF_apply _ 3 slices_S8x128_o3_0_S1x128 m).trans ((hr.b0 3 m m.isLt).trans (if_neg (by decide))))
      (fun m => (rowF_apply _ 5 slices_S8x128_o5_0_S1x128 m).trans ((hr.b0 5 m m.isLt).trans (if_neg (by decide))))
      (fun m => (rowF_apply _ 7 slices_S8x128_o7_0_S1x128 m).trans ((hr.b0 7 m m.isLt).trans (if_neg (by decide))))
      (fun m => (rowF_apply _ 1 slices_S8x128_o1_0_S1x128 m).trans ((hr.b1 1 m m.isLt).trans (if_neg (by decide))))
      (fun m => (rowF_apply _ 3 slices_S8x128_o3_0_S1x128 m).trans ((hr.b1 3 m m.isLt).trans (if_neg (by decide))))
      (fun m => (rowF_apply _ 5 slices_S8x128_o5_0_S1x128 m).trans ((hr.b1 5 m m.isLt).trans (if_neg (by decide))))
      (fun m => (rowF_apply _ 7 slices_S8x128_o7_0_S1x128 m).trans ((hr.b1 7 m m.isLt).trans (if_neg (by decide))))
  isplitl [H5]
  · iexists _
    isplitl [H5]; · iexact H5
    ipureintro
    exact hd
  ipureintro
  exact hca

end Cert.Proof.Fps

end
-- ==== Proof.Body.lean ====
/-
  The sampling kernel's body: the constants, the sixteen chunks, and what the five buffers hold after it.
-/
module

public import proofs.«01_k».proof.Proof.Chunk
public import Idealize.ShloMosaic.Lib.Exec
public import Idealize.ShloMosaic.Lib.Tactic

@[expose] public section

noncomputable section

namespace Cert.Proof.Fps

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {Ix Name U Lvl : Type} [DecidableEq Ix] [DecidableEq Name] [RA.URA U] [Preorder Lvl]

local notation "𝕄" => MT nD τ sig Ix (Elt Ideal) Name U Lvl

/-- The remainder by two as the kernel takes it, mended for a negative remainder. -/
def rem2 (x : BitVec 32) : BitVec 32 :=
  let t := IntOp.remsi .vector x (Scalar.select (Scalar.cmpi .eq 2#32 0#32) 1#32 2#32)
  Scalar.select (IntOp.andi (IntOp.xori (IntOp.cmpi .slt t 0#32) (Scalar.cmpi .slt (Scalar.select (Scalar.cmpi .eq 2#32 0#32) 1#32 2#32) 0#32)) (IntOp.cmpi .ne t 0#32))
    (IntOp.addi t (Scalar.select (Scalar.cmpi .eq 2#32 0#32) 1#32 2#32)) t

theorem rem2_eq : ∀ r : Fin 8, rem2 (BitVec.ofNat 32 r.val) = BitVec.ofNat 32 (r.val % 2) := by
  intro r; fin_cases r <;> rfl

set_option maxRecDepth 65536 in
theorem points_apply (r : Fin 8) (l : Fin 4096) : k0_pay78 (F := Ideal) (ix2 r l)
    = (((rem2 (iota .tc S8x4096 32 [0] iota_S8x4096_d0_w32 (ix2 r l)) * 4096#32 + iota .tc S8x4096 32 [1] iota_S8x4096_d1_w32 (ix2 r l)).toInt : ℝ) : EReal) := rfl

theorem word_eq (p l : ℕ) (hp : p < 2) (hl : l < 4096) :
    ((BitVec.ofNat 32 p * 4096#32 + BitVec.ofNat 32 l).toInt : ℝ) = ((p * 4096 + l : ℕ) : ℝ) := by
  have e : BitVec.ofNat 32 p * 4096#32 + BitVec.ofNat 32 l = BitVec.ofNat 32 (p * 4096 + l) := by
    apply BitVec.eq_of_toNat_eq
    simp only [BitVec.toNat_add, BitVec.toNat_mul, BitVec.toNat_ofNat]
    omega
  rw [e, BitVec.toInt_eq_toNat_of_lt (by rw [BitVec.toNat_ofNat]; omega), BitVec.toNat_ofNat, Nat.mod_eq_of_lt (by omega)]
  norm_cast

theorem consts : Consts (k0_pay78 (F := Ideal)) (iota .tc S8x128 32 [1] iota_S8x128_d1_w32) k0_pay79 where
  flat r l := by
    rw [points_apply, iota_single_apply, iota_single_apply]
    show (((rem2 (BitVec.ofNat 32 r.val) * 4096#32 + BitVec.ofNat 32 l.val).toInt : ℝ) : EReal) = _
    rw [rem2_eq, word_eq _ _ (Nat.mod_lt _ (by decide)) l.isLt]
    rfl
  even r := by fin_cases r <;> rfl
  cols r m := by rw [iota_single_apply]

/-- What the five buffers hold before chunk `k`, and the two carried columns. -/
structure Outer (xs : Clouds) (k : ℕ) (a : Col × Col) (r1 : S8x2048.Idx → BitVec 32) (r2 r3 r4 : S8x2048.Idx → EReal) (r5 : S2x8x4096.Idx → EReal) : Prop where
  idx : Idx xs (128 * k) r1
  c0 : Crd xs 0 (128 * k) r2
  c1 : Crd xs 1 (128 * k) r3
  c2 : Crd xs 2 (128 * k) r4
  dist : Dists xs (128 * k) r5
  carry : Carry xs (128 * k) a.1 a.2

set_option warn.classDefReducibility false in
def outer (𝒱 : Variants) (c : Dev nD) (bd : Option 𝒱.V) (E : Set Name) (arg0 : Memref sig .tc .vmem S2x3x8x4096 .f32) (harg0 : arg0.IsWhole) (arg1 : Memref sig .tc .vmem S8x2048 .i32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2x8x4096 .f32) (harg5 : arg5.IsWhole) (v21 : FVec Ideal S8x4096 .f32) (v22 : IVec S8x128 32) (v41 : IVec S8x1 1) (X : BufTy.Contents (Elt Ideal) arg0.view.ty) (xs : Clouds) (hC : Consts v21 v22 v41)
    (hX : Coords xs (arg0.view.read (Elt Ideal) X)) (init : Col × Col) :
    LoopInvTy_k0_t1 (F := Ideal) Ix Name U Lvl 𝒱 c bd E arg0 harg0 arg1 harg1 arg2 harg2 arg3 harg3 arg4 harg4 arg5 harg5 v21 v22 v41 init where
  inv k a := iprop((arg0.view.loc (c : Thread nD τ) ↦[arg0.view.set]{fullShare} X) ∗ ∃ f1, ∃ f2, ∃ f3, ∃ f4, ∃ f5, (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ ⌜Outer xs k a (arg1.view.read (Elt Ideal) f1) (arg2.view.read (Elt Ideal) f2) (arg3.view.read (Elt Ideal) f3) (arg4.view.read (Elt Ideal) f4) (arg5.view.read (Elt Ideal) f5)⌝)
  step k a := by
    iintro ⟨H0, ⟨%f1, %f2, %f3, %f4, %f5, H1, H2, H3, H4, H5, %h⟩⟩
    iapply (wp_wand_r _ _ _)
    isplitl [H0 H1 H2 H3 H4 H5]
    · iapply (chunk 𝒱 c bd E arg0 harg0 arg1 harg1 arg2 harg2 arg3 harg3 arg4 harg4 arg5 harg5 v21 v22 v41 X xs hC hX k a f1 f2 f3 f4 f5 h.idx h.c0 h.c1 h.c2 h.dist h.carry)
      isplitl [H0]; · iexact H0
      isplitl [H1]; · iexact H1
      isplitl [H2]; · iexact H2
      isplitl [H3]; · iexact H3
      isplitl [H4]; · iexact H4
      iexact H5
    iintro %y ⟨H0, ⟨%g1, H1, %h1⟩, ⟨%g2, H2, %h2⟩, ⟨%g3, H3, %h3⟩, ⟨%g4, H4, %h4⟩, ⟨%g5, H5, %h5⟩, %hc⟩
    isplitl [H0]; · iexact H0
    iexists g1, g2, g3, g4, g5
    isplitl [H1]; · iexact H1
    isplitl [H2]; · iexact H2
    isplitl [H3]; · iexact H3
    isplitl [H4]; · iexact H4
    isplitl [H5]; · iexact H5
    ipureintro
    exact ⟨h1, h2, h3, h4, h5, hc⟩

/-- The body: from any contents of its buffers to the samples of the clouds `arg0` holds. -/
theorem body (𝒱 : Variants) (c : Dev nD) (bd : Option 𝒱.V) (E : Set Name) (arg0 : Memref sig .tc .vmem S2x3x8x4096 .f32) (harg0 : arg0.IsWhole) (arg1 : Memref sig .tc .vmem S8x2048 .i32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2x8x4096 .f32) (harg5 : arg5.IsWhole) (X : BufTy.Contents (Elt Ideal) arg0.view.ty) (xs : Clouds) (hX : Coords xs (arg0.view.read (Elt Ideal) X))
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) :
    (iprop((arg0.view.loc (c : Thread nD τ) ↦[arg0.view.set]{fullShare} X) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)) : sProp 𝕄)
      ⊢ wp frame (wpE (defs₀ (F := Ideal)) 𝒱 (c : Thread nD τ) bd) E (cc0__fps_body (F := Ideal) arg0 harg0 arg1 harg1 arg2 harg2 arg3 harg3 arg4 harg4 arg5 harg5)
          (fun _ => iprop((arg0.view.loc (c : Thread nD τ) ↦[arg0.view.set]{fullShare} X) ∗ ∃ f1, ∃ f2, ∃ f3, ∃ f4, ∃ f5, (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ ⌜Idx xs 2048 (arg1.view.read (Elt Ideal) f1) ∧ Crd xs 0 2048 (arg2.view.read (Elt Ideal) f2) ∧ Crd xs 1 2048 (arg3.view.read (Elt Ideal) f3) ∧ Crd xs 2 2048 (arg4.view.read (Elt Ideal) f4)⌝)) := by
  rw [cc0__fps_body_eq_skeleton]
  unfold cc0__fps_body_skel
  iintro ⟨H0, H1, H2, H3, H4, H5⟩
  have hp : Outer xs 0 (k0_pay2 (F := Ideal), k0_pay3 (F := Ideal)) (arg1.view.read (Elt Ideal) f1) (arg2.view.read (Elt Ideal) f2) (arg3.view.read (Elt Ideal) f3) (arg4.view.read (Elt Ideal) f4) (arg5.view.read (Elt Ideal) (arg5.view.writes (Elt Ideal) arg5.view.junk [⟨Rect.unit (s := S2x8x4096) ![0, 0, 0] S2x8x4096.size inb_S2x8x4096_S2x8x4096_0_0_0, k0_pay1 (k0_pay80 (F := Ideal))⟩])) := by
    refine ⟨fun _ _ h => absurd h (Nat.not_lt_zero _), fun _ _ h => absurd h (Nat.not_lt_zero _), fun _ _ h => absurd h (Nat.not_lt_zero _), fun _ _ h => absurd h (Nat.not_lt_zero _), ?_, ⟨fun r => ?_, fun r => ?_⟩⟩
    · intro g r l
      refine (View.read_writes_cons_unit_of_mem arg5.view _ inb_S2x8x4096_S2x8x4096_0_0_0 _ [] (ix3 g r l) (ix3 g r l) rfl (fun a => ?_)).trans ?_
      · fin_cases a
        · exact (Nat.zero_add _).symm
        · exact (Nat.zero_add _).symm
        · exact (Nat.zero_add _).symm
      · show shapeCast S2x8x4096 (k0_pay80 (F := Ideal)) shapeCasts_S2x8x4096_S2x8x4096 (ix3 g r l) = _
        rw [shapeCast_apply _ _ _ (ix3 g r l) rfl]
        rfl
    · rfl
    · show FloatOps.ofBits (F := Ideal) .f32 0x00000000#32 = _
      show _ = pt (far (xs (4 + r.val / 2)) 0)
      rw [far_zero, zeroBits]
      show (0 : EReal) = (((0 : ℕ) : ℝ) : EReal)
      norm_num
  let L := outer (Ix := Ix) (Name := Name) (U := U) (Lvl := Lvl) 𝒱 c bd E arg0 harg0 arg1 harg1 arg2 harg2 arg3 harg3 arg4 harg4 arg5 harg5 (k0_pay78 (F := Ideal)) (iota .tc S8x128 32 [1] iota_S8x128_d1_w32) k0_pay79 X xs consts hX (k0_pay2 (F := Ideal), k0_pay3 (F := Ideal))
  sl_exec
  rename_i acc
  have e16 : 128 * Scf.trips k0_t1_loop.lb k0_t1_loop.ub k0_t1_loop.st = 2048 := by decide
  obtain ⟨h1, h2, h3, h4, h5, hc⟩ := hL6
  rw [e16] at h1 h2 h3 h4
  sl_step
  isplitl [H0]; · iexact H0
  iexists f1L0, f2L1, f3L2, f4L3, f5L4
  isplitl [H1]; · iexact H1
  isplitl [H2]; · iexact H2
  isplitl [H3]; · iexact H3
  isplitl [H4]; · iexact H4
  isplitl [H5]; · iexact H5
  ipureintro
  exact ⟨h1, h2, h3, h4⟩

end Cert.Proof.Fps

end
-- ==== Proof.Region.lean ====
/-
  The sampling call inside the whole program: its five windows' data, its body's obligation, and the step of the host's
  thread over it, which from the points in the array it fetches leaves the sampled indices and coordinates in the four it
  writes back.
-/
module

public import proofs.«01_k».proof.Proof.Setup
public import proofs.«01_k».proof.Proof.Body
public import proofs.«01_k».proof.Proof.Gen.KernelIdeal.Launch
public import Idealize.ShloMosaic.Lib.Pipeline.Regions
public import Idealize.ShloMosaic.Lib.Pipeline.ValueKit
public import Idealize.ShloMosaic.Lib.Tactic

@[expose] public section

noncomputable section

namespace Cert.Proof.Region

open Cert.KernelIdeal Cert.KernelIdeal.Gen
open Cert.Proof.Fps Cert.Proof.Gather

open Idealize.ShloMosaic Idealize.ShloMosaic.ValueIdx
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig (HIx 1) (Elt Ideal) ℕ (UU Ideal) ℕ

abbrev KI : SparseCore.Cfg τ sig (ΛP (F := Ideal)) 1 := K (F := Ideal)

/-! ## What the call leaves -/

/-- The sampled indices. -/
def idxs (xs : Clouds) : S8x2048.Idx → BitVec 32 := fun i => BitVec.ofNat 32 (far (xs (i 0).val) (i 1).val).val
/-- The sampled points' coordinate `k`. -/
def crds (xs : Clouds) (k : Fin 3) : S8x2048.Idx → EReal := fun i => xs (i 0).val k (far (xs (i 0).val) (i 1).val)

theorem eq_idxs {xs : Clouds} {R : S8x2048.Idx → BitVec 32} (h : Idx xs 2048 R) : R = idxs xs := by
  funext i; rw [ValueIdx.eq_ix2 i]; exact h _ _ (i 1).isLt
theorem eq_crds {xs : Clouds} {k : Fin 3} {R : S8x2048.Idx → EReal} (h : Crd xs k 2048 R) : R = crds xs k := by
  funext i; rw [ValueIdx.eq_ix2 i]; exact h _ _ (i 1).isLt

variable (xs : Dev nD → Clouds)

/-! ## The windows' data -/

variable (V : (c : Dev nD) → (b : Ref sig .tc) → Buf (Elt Ideal) ((c : Thread nD τ).loc b))

/-- The points as the fetch stages them. -/
abbrev stg (c : Dev nD) : (cfg0.win 0).block.Idx → Elt Ideal (cfg0.win 0).elt :=
  ((cfg0.win 0).blk t0_0).view.read (Elt Ideal) (V c main_v2)

theorem stg_eq (c : Dev nD) : stg V c = V c main_v2 := by
  funext j
  refine congrArg (V c main_v2) (funext fun a => Fin.ext ?_)
  refine (ValueKit.view_emb_slice_whole_unit_val _ _ _ _ _ _).trans ?_
  fin_cases a <;> simp <;> rfl

abbrev Φc (c : Dev nD) : sProp 𝕄 := Pipeline.scopedRest (Ix := HIx 1) (Name := ℕ) (U := UU Ideal) (Lvl := ℕ) (Val := Elt Ideal) spec0 c

def dat (c : Dev nD) : Dat τ (Elt Ideal) (HIx 1) ℕ (UU Ideal) ℕ cfg0 c where
  A w := V c (Pipeline.arrRef spec0 w)
  after w _ := match w with
    | ⟨0, _⟩ => stg V c
    | ⟨1, _⟩ => idxs (xs c)
    | ⟨2, _⟩ => crds (xs c) 0
    | ⟨3, _⟩ => crds (xs c) 1
    | ⟨4, _⟩ => crds (xs c) 2
  Φ _ := Φc c
  q _ := fullShare
  owed _ := KI.Otc c 0
  recorded _ := {p | KI.lev ((c : Thread nD τ), p.1) p.2 ≤ 0}

variable (adm : (p : Fin 1) → (pcfgs (F := Ideal) p).Adm)

def pdats : (p : Fin 1) → (c : Dev nD) → Dat τ (Elt Ideal) (HIx 1) ℕ (UU Ideal) ℕ (Pipeline.pin (pcfgs (F := Ideal)) adm p) c
  | ⟨0, _⟩ => fun c => dat xs V c

theorem before_in (c : Dev nD) (d : (cfg0.win 0).block.Idx → Elt Ideal (cfg0.win 0).elt) : (dat xs V c).before 0 t0_0 d = stg V c := by
  unfold Dat.before; rw [if_pos (by decide)]; rfl

variable (hX : ∀ c, Coords (xs c) (stg V c))

include hX in
theorem body_obligation (c : Dev nD) : BodyObligation (dat xs V c) (defs₀ (F := Ideal)) 𝒱₀ none Set.univ := fun t => by
  obtain rfl := fin_N0 t
  rw [bigSep_W0, bigSep_W0]
  simp only [owns_whole_eq]
  rw [show (dat xs V c).Φ t0_0.castSucc = Φc c from rfl, show (dat xs V c).Φ t0_0.succ = Φc c from rfl,
    show (dat xs V c).owesAt none t0_0.succ = (dat xs V c).owesAt none t0_0.castSucc from rfl]
  unfold Φc; rw [scopedRest0_eq]
  iintro ⟨⟨%f5, H5⟩, Howes, ⟨%d0, %f0, %hf0, H0⟩, ⟨%d1, %f1, -, H1⟩, ⟨%d2, %f2, -, H2⟩, ⟨%d3, %f3, -, H3⟩, ⟨%d4, %f4, -, H4⟩⟩
  rw [before_in] at hf0
  subst hf0
  have hb := body (Ix := HIx 1) (Name := ℕ) (U := UU Ideal) (Lvl := ℕ) 𝒱₀ c none Set.univ (stage0_0 0) (hstage0_0 0) (stage0_1 0) (hstage0_1 0) (stage0_2 0) (hstage0_2 0)
    (stage0_3 0) (hstage0_3 0) (stage0_4 0) (hstage0_4 0) (Memref.whole cc0_scratch0) (Memref.isWhole_whole _) (stg V c) (xs c) (hX c) f1 f2 f3 f4 f5
  simp only [Memref.view_whole, View.read_whole, View.set_whole] at hb
  iapply (wp_wand_r _ _ _)
  isplitl [H0 H1 H2 H3 H4 H5]
  · iapply hb
    isplitl [H0]; · iexact H0
    isplitl [H1]; · iexact H1
    isplitl [H2]; · iexact H2
    isplitl [H3]; · iexact H3
    isplitl [H4]; · iexact H4
    iexact H5
  iintro %_ ⟨H0, %g1, %g2, %g3, %g4, %g5, H1, H2, H3, H4, H5, %hg⟩
  obtain ⟨h1, h2, h3, h4⟩ := hg
  isplitl [H5]; · iexists _; iexact H5
  isplitl [Howes]; · iexact Howes
  isplitl [H0]; · iexists _; isplitr; swap; (· iexact H0); ipureintro; dsimp only [dat]
  isplitl [H1]; · iexists _; isplitr; swap; (· iexact H1); ipureintro; exact eq_idxs h1
  isplitl [H2]; · iexists _; isplitr; swap; (· iexact H2); ipureintro; exact eq_crds h2
  isplitl [H3]; · iexists _; isplitr; swap; (· iexact H3); ipureintro; exact eq_crds h3
  iexists _; isplitr; swap; (· iexact H4); ipureintro; exact eq_crds h4

/-! ## The step over the whole thread state -/

theorem arr1 (c : Dev nD) : (dat xs V c).arrAt 1 cfg0.N = idxs (xs c) := by
  refine (dat xs V c).arrAt_eq_of_after_last 1 t0_0 (by decide +kernel) _ fun j => ?_
  blk_simp
  rfl
theorem arr2 (c : Dev nD) : (dat xs V c).arrAt 2 cfg0.N = crds (xs c) 0 := by
  refine (dat xs V c).arrAt_eq_of_after_last 2 t0_0 (by decide +kernel) _ fun j => ?_
  blk_simp
  rfl
theorem arr3 (c : Dev nD) : (dat xs V c).arrAt 3 cfg0.N = crds (xs c) 1 := by
  refine (dat xs V c).arrAt_eq_of_after_last 3 t0_0 (by decide +kernel) _ fun j => ?_
  blk_simp
  rfl
theorem arr4 (c : Dev nD) : (dat xs V c).arrAt 4 cfg0.N = crds (xs c) 2 := by
  refine (dat xs V c).arrAt_eq_of_after_last 4 t0_0 (by decide +kernel) _ fun j => ?_
  blk_simp
  rfl

theorem Otc_none (d : Dev nD) (g : GSem nD τ sig) : KI.Otc (N := 1) d 0 g none = 0 := by
  by_contra h
  have := SparseCore.Cfg.lev_of_Otc_pos (K := KI) (Nat.pos_of_ne_zero h)
  simp at this

/-- What the host's thread owes before the gather's call, its waits so far below every stage of it. -/
abbrev debt (c : Dev nD) : sProp 𝕄 := iprop(∃ W, ⌜KI.WBelow (N := 1) (c : Thread nD τ) W 0⌝ ∗ owes (c : Thread nD τ) (KI.Otc (N := 1) c 0) W)

variable (Vp : (c : Dev nD) → (b : Ref sig .tc) → Buf (Elt Ideal) ((c : Thread nD τ).loc b))

set_option backward.isDefEq.respectTransparency.types false in
def reg (h1 : ∀ c, Vp c main_v3_0 = idxs (xs c)) (h2 : ∀ c, Vp c main_v3_1 = crds (xs c) 0) (h3 : ∀ c, Vp c main_v3_2 = crds (xs c) 1)
    (h4 : ∀ c, Vp c main_v3_3 = crds (xs c) 2)
    (hne : ∀ c (b : Ref sig .tc), b ≠ main_v3_0 → b ≠ main_v3_1 → b ≠ main_v3_2 → b ≠ main_v3_3 → Vp c b = V c b) :
    Pipeline.RegionSeg (pcfgs (F := Ideal)) adm (pdats xs V adm) none defs₀ 𝒱₀ (KI.L (nD := nD) (N := 1)) (KI.lev (nD := nD) (N := 1)) 0 where
  win := (launch0).win.to₀
  block_pos := (launch0).block_pos
  stage_whole := (launch0).stage_whole
  K := PEmpty
  osem k := k.elim
  ho := Pipeline.OwnSemFacts.none _
  hbody c := (body_obligation xs V hX c).loose
  hwaits c := Pipeline.cellsWaits_intro _ _ none 0 c fun w s t => KI.mayWait_none _ (Otc_none c)
  pre c := iprop(unscopedBufs c (V c) ∗ debt c)
  post c := iprop(unscopedBufs c (Vp c) ∗ debt c)
  X _ := BI.emp
  Y _ := BI.emp
  Z c := Pipeline.unscopedRest (Ix := HIx 1) (Name := ℕ) (U := UU Ideal) (Lvl := ℕ) spec0 c (V c)
  hentry c := by
    rw [Pipeline.ownSems0_none]
    have hsplit := Pipeline.arrays_of_unscopedBufs (p := 0) (pcfgs (F := Ideal)) adm (pdats xs V adm) (launch0).win (launch0).arr_whole c
      ((pdats xs V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats xs V adm 0 c).Φ 0 = Φc c from rfl]
    iintro ⟨-, -, Hr⟩; iexact Hr
  hout c := by
    rw [Pipeline.ownSems0_none, show (pdats xs V adm 0 c).Φ (Fin.last _) = Φc c from rfl]
    iintro Hr
    isplitr; · iempintro
    isplitr; · iempintro
    iexact Hr
  hexit c := by
    have hjoin := Pipeline.unscopedBufs_of_arrays (p := 0) (pcfgs (F := Ideal)) adm (Ix := HIx 1) (Name := ℕ) (U := UU Ideal) (Lvl := ℕ) (launch0).win (launch0).arr_whole c
      (pdats xs V adm) ((pdats xs V adm 0 c).share_full fun _ => rfl) (V c) (Vp c) ((pdats xs V adm 0 c).arrAt · cfg0.N)
      (fun w => by
        fin_cases w
        · exact ((pdats xs V adm 0 c).arrAt_in 0 rfl _).trans (hne c main_v2 (by decide) (by decide) (by decide) (by decide)).symm
        · exact (arr1 xs V c).trans (h1 c).symm
        · exact (arr2 xs V c).trans (h2 c).symm
        · exact (arr3 xs V c).trans (h3 c).symm
        · exact (arr4 xs V c).trans (h4 c).symm)
      (fun b hb => hne c b (fun h => hb (h ▸ Finset.mem_image.mpr ⟨1, Finset.mem_univ _, rfl⟩)) (fun h => hb (h ▸ Finset.mem_image.mpr ⟨2, Finset.mem_univ _, rfl⟩))
        (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact le_of_eq rfl
    iexact HO

end Cert.Proof.Region

end

end
-- ==== Proof.Points.lean ====
/-
  The points as the sampling call is handed them: the (8, 3, 8192) array reshaped, transposed and reshaped again into four
  rows of two batches' halves each.
-/
module

public import proofs.«01_k».proof.Proof.Step
public import Idealize.ShloMosaic.Lib.Pipeline.Value

@[expose] public section

noncomputable section

namespace Cert.Proof.Fps

open Cert.KernelIdeal Cert.KernelIdeal.Gen
open Idealize.ShloMosaic Idealize.ShloMosaic.ValueIdx

/-- The clouds an (8, 3, 8192) array holds (the batches past the eighth, of no account, at zero). -/
def cloudsOf (x : S8x3x8192.Idx → EReal) : Clouds := fun b k n => if h : b < 8 then x (ix3 ⟨b, h⟩ k n) else 0

theorem cloudsOf_lt (x : S8x3x8192.Idx → EReal) (b : Fin 8) (k : Fin 3) (n : Fin 8192) : cloudsOf x b.val k n = x (ix3 b k n) := dif_pos b.isLt

set_option maxRecDepth 65536 in
theorem coords_staged (x : S8x3x8192.Idx → EReal) (h1 : S8x3x8192.ShapeCasts S2x4x3x2x4096)
    (h2 : S2x4x3x2x4096.Transposes [0, 2, 1, 3, 4] S2x3x4x2x4096) (h3 : S2x3x4x2x4096.ShapeCasts S2x3x8x4096) :
    Coords (cloudsOf x) (shapeCast S2x3x8x4096 (transpose S2x3x4x2x4096 [0, 2, 1, 3, 4] (shapeCast S2x4x3x2x4096 x h1) h2) h3) := by
  intro g d r l
  have hb : 4 * g.val + r.val / 2 < 8 := by omega
  refine (shapeCast_apply _ h3 _ (ix5 g d (⟨r.val / 2, by omega⟩ : Fin 4) (⟨r.val % 2, by omega⟩ : Fin 2) l) ?_).trans ?_
  · rw [Shape.rowMajor_val_five, Shape.rowMajor_val_four]
    show (((g.val * 3 + d.val) * 4 + r.val / 2) * 2 + r.val % 2) * 4096 + l.val = ((g.val * 3 + d.val) * 8 + r.val) * 4096 + l.val
    omega
  refine (transpose_apply _ _ h2 _ (ix5 g (⟨r.val / 2, by omega⟩ : Fin 4) d (⟨r.val % 2, by omega⟩ : Fin 2) l) ?_).trans ?_
  · intro b; fin_cases b <;> rfl
  refine (shapeCast_apply x h1 _ (ix3 ⟨4 * g.val + r.val / 2, hb⟩ d (flat r l)) ?_).trans ?_
  · rw [Shape.rowMajor_val_five, Shape.rowMajor_val_three]
    show ((4 * g.val + r.val / 2) * 3 + d.val) * 8192 + (r.val % 2 * 4096 + l.val) = (((g.val * 4 + r.val / 2) * 3 + d.val) * 2 + r.val % 2) * 4096 + l.val
    omega
  unfold cloudsOf; rw [dif_pos hb]

end Cert.Proof.Fps

end

end
-- ==== Proof.Run.lean ====
/-
  The whole program: the points reshaped for the sampling call, the call, the sampled coordinates put together, the feature
  array reshaped, the gather's call, its result reshaped; what it leaves where.
-/
module

public import proofs.«01_k».proof.Proof.Deal
public import proofs.«01_k».proof.Proof.Region
public import proofs.«01_k».proof.Proof.Points

@[expose] public section

noncomputable section

namespace Cert.Proof.Whole

open Cert.KernelIdeal Cert.KernelIdeal.Gen
open Cert.Proof.Rules Cert.Proof.Rows Cert.Proof.Gather Cert.Proof.Fps Cert.Proof.Region

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.Pipeline (ucRefs sub_ucRefs unscopedBufs_held)
open Idealize.ShloMosaic.Rounds
open Idealize.SL Idealize.SL.RA Idealize.SL.BI
open scoped Idealize.SL.BI
open Idealize.SL.BI.BIBase Idealize.SL.BI.Laws Idealize.SL.ProofMode Idealize.SL.Sem

local notation "𝕄" => MT nD τ sig (HIx 1) (Elt Ideal) ℕ (UU Ideal) ℕ

variable (m : (ℓ : Loc nD τ sig) → Buf (Elt Ideal) ℓ) (ρ : Dev nD → PrngReg)

/-! ## The host's operations and the contents between them -/

abbrev rf (b : Ref sig .tc) : DevRef τ sig := Proc.devRef .tc b

abbrev op1 : HloOp τ sig (Elt Ideal) := StableHlo.reshape main_arg0 main_v0 (rfl : (.f32 : EltTy) = .f32) shapeCasts_S8x3x8192_S2x4x3x2x4096
abbrev op2 : HloOp τ sig (Elt Ideal) := StableHlo.unary main_v0 main_v1 ((transpose S2x3x4x2x4096 [0, 2, 1, 3, 4] · transposes_S2x4x3x2x4096_S2x3x4x2x4096_0_2_1_3_4) : (⟨S2x4x3x2x4096, .f32⟩ : BufTy).Contents (Elt Ideal) → (⟨S2x3x4x2x4096, .f32⟩ : BufTy).Contents (Elt Ideal))
abbrev op3 : HloOp τ sig (Elt Ideal) := StableHlo.reshape main_v1 main_v2 (rfl : (.f32 : EltTy) = .f32) shapeCasts_S2x3x4x2x4096_S2x3x8x4096
abbrev bc : (⟨S8x2048, .f32⟩ : BufTy).Contents (Elt Ideal) → (⟨S8x1x2048, .f32⟩ : BufTy).Contents (Elt Ideal) := broadcastInDim S8x1x2048 ![0, 2] bcast_S8x2048_S8x1x2048_0_2
abbrev op4 : HloOp τ sig (Elt Ideal) := StableHlo.unary main_v3_1 main_v4 bc
abbrev op5 : HloOp τ sig (Elt Ideal) := StableHlo.unary main_v3_2 main_v5 bc
abbrev op6 : HloOp τ sig (Elt Ideal) := StableHlo.unary main_v3_3 main_v6 bc
abbrev op7 : HloOp τ sig (Elt Ideal) := StableHlo.nary ![main_v4, main_v5, main_v6] main_v7 (fun u => (concatenate S8x3x2048 1 [⟨S8x1x2048, (u 0 : (⟨S8x1x2048, .f32⟩ : BufTy).Contents (Elt Ideal))⟩, ⟨S8x1x2048, (u 1 : (⟨S8x1x2048, .f32⟩ : BufTy).Contents (Elt Ideal))⟩, ⟨S8x1x2048, (u 2 : (⟨S8x1x2048, .f32⟩ : BufTy).Contents (Elt Ideal))⟩] concatenates_S8x1x2048_S8x1x2048_S8x1x2048_S8x3x2048_d1 : (⟨S8x3x2048, .f32⟩ : BufTy).Contents (Elt Ideal)))
abbrev op8 : HloOp τ sig (Elt Ideal) := StableHlo.reshape main_arg1 main_v8 (rfl : (.f32 : EltTy) = .f32) shapeCasts_S8x128x8192_S1024x8192
abbrev op9 : HloOp τ sig (Elt Ideal) := StableHlo.reshape main_v9 main_v10 (rfl : (.f32 : EltTy) = .f32) shapeCasts_S1024x2048_S8x128x2048

abbrev aLoc (d : Dev nD) : Loc nD τ sig := (SparseCore.T d).loc main_arg0
abbrev bLoc (d : Dev nD) : Loc nD τ sig := (SparseCore.T d).loc main_arg1
abbrev sLoc (d : Dev nD) : Loc nD τ sig := (SparseCore.T d).loc main_v7
abbrev rLoc (d : Dev nD) : Loc nD τ sig := (SparseCore.T d).loc main_v10

/-- The clouds at launch. -/
def clouds (d : Dev nD) : Clouds := cloudsOf (m (aLoc d) : S8x3x8192.Idx → EReal)

/-- The contents at launch; before the sampling call; after it; before the gather's call; after it; at the end. -/
def V0 (d : Dev nD) : Valuation τ sig (Elt Ideal) := fun b => m (d, b)
def V1 (d : Dev nD) : Valuation τ sig (Elt Ideal) := op3.result (op2.result (op1.result (V0 m d)))
def V2 (d : Dev nD) : Valuation τ sig (Elt Ideal) :=
  Function.update (Function.update (Function.update (Function.update (V1 m d) (rf main_v3_0) (idxs (clouds m d)))
    (rf main_v3_1) (crds (clouds m d) 0)) (rf main_v3_2) (crds (clouds m d) 1)) (rf main_v3_3) (crds (clouds m d) 2)
def V3 (d : Dev nD) : Valuation τ sig (Elt Ideal) := op8.result (op7.result (op6.result (op5.result (op4.result (V2 m d)))))

/-- What the gather's call is handed. -/
def fv (d : Dev nD) : Feat Ideal := V3 m d (rf main_v8)
def iv (d : Dev nD) : Inds := V3 m d (rf main_v3_0)
def f0 (d : Dev nD) : S1024x2048.Idx → Elt Ideal .f32 := V3 m d (rf main_v9)

def V4 (d : Dev nD) : Valuation τ sig (Elt Ideal) := Function.update (V3 m d) (rf main_v9) (result (fv m d) (iv m d))
def V5 (d : Dev nD) : Valuation τ sig (Elt Ideal) := op9.result (V4 m d)

/-! ## Which operation writes what -/

theorem V2_ne (d : Dev nD) (b : Ref sig .tc) (h0 : b ≠ main_v3_0) (h1 : b ≠ main_v3_1) (h2 : b ≠ main_v3_2) (h3 : b ≠ main_v3_3) : V2 m d (rf b) = V1 m d (rf b) := by
  have hr : ∀ {a b : Ref sig .tc}, a ≠ b → rf a ≠ rf b := fun h e => h (Proc.devRef_injective _ e)
  unfold V2
  rw [Function.update_of_ne (hr h3), Function.update_of_ne (hr h2), Function.update_of_ne (hr h1), Function.update_of_ne (hr h0)]

theorem staged (d : Dev nD) : Coords (clouds m d) (stg (fun c b => V1 m c (rf b)) d) := by
  have h : stg (fun c b => V1 m c (rf b)) d
      = shapeCast S2x3x8x4096 (transpose S2x3x4x2x4096 [0, 2, 1, 3, 4] (shapeCast S2x4x3x2x4096 (m (aLoc d) : S8x3x8192.Idx → EReal) shapeCasts_S8x3x8192_S2x4x3x2x4096)
          transposes_S2x4x3x2x4096_S2x3x4x2x4096_0_2_1_3_4) shapeCasts_S2x3x4x2x4096_S2x3x8x4096 := by
    refine (stg_eq (fun c b => V1 m c (rf b)) d).trans ?_
    unfold V1
    rw [StableHlo.reshape_result' (x := main_v1) (y := main_v2)]
    rw [StableHlo.unary_result (x := main_v0) (y := main_v1), StableHlo.reshape_result' (x := main_arg0) (y := main_v0)]
    rfl
  rw [h]
  exact coords_staged _ _ _ _

/-! ## The sampling call's step of the host's thread -/

abbrev adm : (p : Fin 1) → (pcfgs (F := Ideal) p).Adm := fun p => (cfgs p).toPCfg_adm

/-- The sampling call's ghost state on a core. -/
abbrev G (d : Dev nD) : sProp 𝕄 :=
  iprop(Pipeline.cellsGhost (Pipeline.pin (pcfgs (F := Ideal)) adm) EP 0 d ∗ Pipeline.toksInit (Pipeline.pin (pcfgs (F := Ideal)) adm) EP 0 d)

def seg := reg (fun d => clouds m d) (fun c b => V1 m c (rf b)) adm (staged m) (fun c b => V2 m c (rf b))
    (fun c => by
      show V2 m c (rf main_v3_0) = _
      unfold V2
      rw [Function.update_of_ne (by decide), Function.update_of_ne (by decide), Function.update_of_ne (by decide), Function.update_self])
    (fun c => by
      show V2 m c (rf main_v3_1) = _
      unfold V2
      rw [Function.update_of_ne (by decide), Function.update_of_ne (by decide), Function.update_self])
    (fun c => by
      show V2 m c (rf main_v3_2) = _
      unfold V2
      rw [Function.update_of_ne (by decide), Function.update_self])
    (fun c => by
      show V2 m c (rf main_v3_3) = _
      unfold V2
      rw [Function.update_self])
    (fun c b h0 h1 h2 h3 => V2_ne m c b h0 h1 h2 h3)

theorem seg_pre (d : Dev nD) : (seg m).pre d = iprop(held (T d) (ucRefs τ sig) (V1 m d) ∗ debt d) := by
  rw [← unscopedBufs_held]; rfl
theorem seg_post (d : Dev nD) : (seg m).post d = iprop(held (T d) (ucRefs τ sig) (V2 m d) ∗ debt d) := by
  rw [← unscopedBufs_held]; rfl

theorem seg_step (d : Dev nD) (Q : PUnit → sProp 𝕄) :
    iprop(((boundary (T d) ∗ held (T d) (ucRefs τ sig) (V2 m d) ∗ debt d) -∗ wp frame (wpE (D (F := Ideal)) 𝒱 (T d) none) Set.univ (.ret ⟨⟩) Q)
        ∗ boundary (T d) ∗ (held (T d) (ucRefs τ sig) (V1 m d) ∗ debt d) ∗ levAts (KI.L (nD := nD) (N := 1)) (KI.lev (nD := nD) (N := 1)) ∗ G d)
      ⊢ wp frame (wpE (D (F := Ideal)) 𝒱 (T d) none) Set.univ (.op (.customCall (Pipeline.entry 0) ()) fun _ => .ret ⟨⟩) Q := by
  have hinj : Function.Injective (Pipeline.cellOf (nD := nD) (τ := τ) (Pipeline.pin (pcfgs (F := Ideal)) adm)) := cellOf_inj
  have h := (seg m).wp (pcfgs (F := Ideal)) adm (pdats (fun d => clouds m d) (fun c b => V1 m c (rf b)) adm) none hinj EP defs₀ 𝒱₀ (KI.L (nD := nD) (N := 1)) (KI.lev (nD := nD) (N := 1)) d none (fun u hu => by cases hu)
    (fun _ => .ret ⟨⟩) Q
  rw [seg_pre, seg_post] at h
  exact h

theorem sample_step (d : Dev nD) (Q : PUnit → sProp 𝕄) :
    iprop(((boundary (T d) ∗ held (T d) (ucRefs τ sig) (V2 m d) ∗ debt d) -∗ Q ⟨⟩)
        ∗ boundary (T d) ∗ (held (T d) (ucRefs τ sig) (V1 m d) ∗ debt d) ∗ levAts (KI.L (nD := nD) (N := 1)) (KI.lev (nD := nD) (N := 1)) ∗ G d)
      ⊢ wp frame (wpE (KI.defs (D (F := Ideal))) 𝒱 (T d) none) Set.univ (Prog.lift (.customCall (SparseCore.inner (Pipeline.entry 0)) ())) Q := by
  have h2 := KI.wp_liftProg (N := 1) (Name := ℕ) (U := UU Ideal) (D (F := Ideal)) 𝒱 (T d) Set.univ none
    (.op (.customCall (Pipeline.entry 0) ()) fun _ => .ret PUnit.unit : Prog (TpuEff nD τ sig (Elt Ideal) (ΛP (F := Ideal)) .tc) PUnit) Q
  refine (sep_mono ?_ .rfl).trans ((seg_step m d Q).trans h2)
  iintro Hk H
  rw [wp_ret]; imodintro
  iapply Hk
  iexact H

/-! ## The launch's ghost state -/

theorem hinj : Function.Injective (Pipeline.cellOf (nD := nD) (τ := τ) (Pipeline.pin (pcfgs (F := Ideal)) adm)) := cellOf_inj

abbrev pinit : UP := initOf (Pipeline.cells (Pipeline.pin (pcfgs (F := Ideal)) adm) hinj) (Pipeline.launchToks (Pipeline.pin (pcfgs (F := Ideal)) adm) hinj)

def u₀ : UU Ideal := (initOf KI.hsCells KI.hsToks, (pinit, (wm₀ nD τ sig (Elt Ideal), (1 : Counters))))

theorem hu₀ : (ownU u₀ : sProp 𝕄)
    ⊢ |={Set.univ}=> iprop(BI.own (EH (initOf KI.hsCells KI.hsToks)) ∗ (bigSep Finset.univ fun d : Dev nD => G d)
        ∗ bigSep Finset.univ fun thr : Thread nD τ => bigSep Finset.univ fun q : Fin 1 => (P (fv m) (iv m) (f0 m)).x q thr) := by
  unfold u₀
  iintro Hu
  ihave H := (ownU_pair (initOf KI.hsCells KI.hsToks) ((pinit, (wm₀ nD τ sig (Elt Ideal), (1 : Counters))))) $$ Hu
  icases H with ⟨HH, HW⟩
  ihave H := (own_pair_emb (embR : Emb (UP × (WmRA nD τ sig (Elt Ideal) × Counters)) 𝕄) pinit (wm₀ nD τ sig (Elt Ideal), (1 : Counters))) $$ HW
  icases H with ⟨HP, HW⟩
  ihave HP := (show (BI.own (((Emb.inl : Emb UP (UP × (WmRA nD τ sig (Elt Ideal) × Counters))).trans embR) pinit) : sProp 𝕄) ⊢ BI.own (EP pinit) from Entails.of_eq rfl) $$ HP
  ihave HW := (show (BI.own (((Emb.inr : Emb (WmRA nD τ sig (Elt Ideal) × Counters) (UP × (WmRA nD τ sig (Elt Ideal) × Counters))).trans embR) (wm₀ nD τ sig (Elt Ideal), (1 : Counters))) : sProp 𝕄)
    ⊢ ownU (EW (wm₀ nD τ sig (Elt Ideal))) from Entails.of_eq rfl) $$ HW
  imod (Pipeline.fund_ghost (Pipeline.pin (pcfgs (F := Ideal)) adm) EP hinj) $$ HP with ⟨Hg, Ht⟩
  imod (wmInv_alloc (emb := EW) (Ix := HIx 1) (Name := ℕ) (Lvl := ℕ) ⟨m, fun _ => 0, fun _ => default⟩ ∅) $$ HW with ⟨%ι, -, #Hi⟩
  imodintro
  isplitl [HH]; · iexact HH
  isplitl [Hg Ht]
  · simp only [show (Finset.univ : Finset (Fin 1)) = {0} from rfl, bigSep_singleton]
    unfold G
    isplitl [Hg]
    · iexact Hg
    iexact Ht
  iapply (bigSep_intro_persistent (R := wmInv EW ι) (fun thr _ => bigSep_intro_persistent (R := wmInv EW ι) (fun q _ => by
    show wmInv EW ι ⊢ iprop(∃ ι : ℕ, wmInv EW ι)
    iintro #H
    iexists ι
    iexact H)))
  iexact Hi

/-! ## The host's own thread -/

abbrev Sm : Finset (DevRef τ sig) := {rf main_v8, rf main_v3_0, rf main_v9}
abbrev Sf : Finset (DevRef τ sig) := {rf main_arg0, rf main_arg1, rf main_v7, rf main_v10}
theorem Sm_sub : Sm ⊆ ucRefs τ sig := by decide
theorem Sf_sub : Sf ⊆ ucRefs τ sig := by decide

theorem held_Sm (d : Dev nD) (W : Valuation τ sig (Elt Ideal)) :
    (held (T d) Sm W : sProp 𝕄) = iprop((xLoc d ↦{fullShare} W (rf main_v8)) ∗ (iLoc d ↦{fullShare} W (rf main_v3_0)) ∗ (oLoc d ↦{fullShare} W (rf main_v9))) := by
  unfold held Sm
  rw [SparseCore.bigSep_insert' (by decide), SparseCore.bigSep_insert' (by decide), bigSep_singleton]

theorem held_Sf (d : Dev nD) (W : Valuation τ sig (Elt Ideal)) :
    (held (T d) Sf W : sProp 𝕄) = iprop((aLoc d ↦{fullShare} W (rf main_arg0)) ∗ (bLoc d ↦{fullShare} W (rf main_arg1))
      ∗ (sLoc d ↦{fullShare} W (rf main_v7)) ∗ (rLoc d ↦{fullShare} W (rf main_v10))) := by
  unfold held Sf
  rw [SparseCore.bigSep_insert' (by decide), SparseCore.bigSep_insert' (by decide), SparseCore.bigSep_insert' (by decide), bigSep_singleton]

theorem V4_o (d : Dev nD) : V4 m d (rf main_v9) = result (fv m d) (iv m d) := Function.update_self _ _ _
theorem V4_ne (d : Dev nD) {b : DevRef τ sig} (h : b ≠ rf main_v9) : V4 m d b = V3 m d b := Function.update_of_ne h _ _

/-- What it leaves the claim: the arguments and the two results. -/
abbrev FIN (d : Dev nD) : sProp 𝕄 := held (T d) Sf (V5 m d)

theorem unscopedBufs_eq (d : Dev nD) : (unscopedBufs d (fun b => m ((SparseCore.T d).loc b)) : sProp 𝕄) = held (T d) (ucRefs τ sig) (V0 m d) := by
  unfold unscopedBufs StableHlo.held ucRefs StableHlo.tcRefs
  rw [Finset.filter_map, bigSep_map]
  rfl

/-- What the host's thread holds beside its debt before the gather's call. -/
abbrev rest (d : Dev nD) : sProp 𝕄 :=
  iprop(atPos EH (KI.doneCell d) 0 ∅ 0 ∗ reached EH (KI.doneCell d) 0
    ∗ (bigSep Finset.univ fun c : Fin τ.nSC => reached EH (KI.startCell d c) (KI.sRank c 0))
    ∗ bigSep (SparseCore.Cfg.callsFrom 0) fun q => bigSep Finset.univ fun c : Fin (KI.nCore q) =>
        iprop(dutyTok EH (KI.startCell d (KI.core q c)) (KI.sRank (KI.core q c) q.val) 0
          ∗ cred (tallyAt (KI.doneCell d) (some (SparseCore.Cfg.Blocks.last q : Fin 1)) 1)))

theorem hmain (κ : GSem nD τ sig → ℕ) (d : Dev nD) :
    iprop(KI.ctx EH (P (fv m) (iv m) (f0 m)) κ ∗ KI.tcSt EH d 0 ∗ KI.tcRes m ρ d ∗ G d)
      ⊢ wp frame (wpE (KI.defs (D (F := Ideal))) 𝒱 (T d) none) Set.univ (main d)
          fun _ => iprop(KI.tcSt EH d 1 ∗ FIN m d ∗ KI.tcEnd d) := by
  unfold SparseCore.Cfg.tcRes SparseCore.Cfg.tcEnd
  rw [unscopedBufs_eq]
  simp only [main, wp_bind, wp_pure]
  iintro ⟨#Hctx, Hst, ⟨Hb, Hh, Hts, -⟩, HG⟩
  iapply (wp_hlo_within 𝒱 (T d) none Set.univ (op := op1) (S := ucRefs τ sig) (sub_ucRefs _ (StableHlo.reshape_bufs_sub ..)) (V := V0 m d)) $$ [Hb Hh]
  · isplitl [Hb] <;> iassumption
  iintro ⟨Hb, Hh⟩
  rw [wp_ret]; imodintro
  iapply (wp_hlo_within 𝒱 (T d) none Set.univ (op := op2) (S := ucRefs τ sig) (sub_ucRefs _ (StableHlo.unary_bufs_sub ..)) (V := op1.result (V0 m d))) $$ [Hb Hh]
  · isplitl [Hb] <;> iassumption
  iintro ⟨Hb, Hh⟩
  rw [wp_ret]; imodintro
  iapply (wp_hlo_within 𝒱 (T d) none Set.univ (op := op3) (S := ucRefs τ sig) (sub_ucRefs _ (StableHlo.reshape_bufs_sub ..)) (V := op2.result (op1.result (V0 m d)))) $$ [Hb Hh]
  · isplitl [Hb] <;> iassumption
  iintro ⟨Hb, Hh⟩
  rw [wp_ret]; imodintro
  ihave Hh := (Entails.of_eq (show (held (T d) (ucRefs τ sig) (op3.result (op2.result (op1.result (V0 m d)))) : sProp 𝕄) = held (T d) (ucRefs τ sig) (V1 m d) from rfl)) $$ Hh
  ihave Hlev := (SparseCore.Cfg.ctx_levAts (K := KI) (EH := EH) (P := P (fv m) (iv m) (f0 m)) κ) $$ Hctx
  ihave Hst := (Entails.of_eq (show (KI.tcSt EH d 0 : sProp 𝕄) = iprop(debt d ∗ rest d) from rfl)) $$ Hst
  icases Hst with ⟨Hdebt, Hst⟩
  iapply (sample_step m d _)
  isplitl [Hst Hts]
  swap
  · isplitl [Hb]; · iexact Hb
    isplitl [Hh Hdebt]
    · isplitl [Hh]; · iexact Hh
      iexact Hdebt
    isplitl [Hlev]; · iexact Hlev
    iexact HG
  iintro ⟨Hb, Hh, Hdebt⟩
  ihave Hst := (Entails.of_eq (show iprop(debt d ∗ rest d) = (KI.tcSt EH d 0 : sProp 𝕄) from rfl)) $$ [Hdebt Hst]
  · isplitl [Hdebt] <;> iassumption
  iapply (wp_hlo_within 𝒱 (T d) none Set.univ (op := op4) (S := ucRefs τ sig) (sub_ucRefs _ (StableHlo.unary_bufs_sub ..)) (V := V2 m d)) $$ [Hb Hh]
  · isplitl [Hb] <;> iassumption
  iintro ⟨Hb, Hh⟩
  rw [wp_ret]; imodintro
  iapply (wp_hlo_within 𝒱 (T d) none Set.univ (op := op5) (S := ucRefs τ sig) (sub_ucRefs _ (StableHlo.unary_bufs_sub ..)) (V := op4.result (V2 m d))) $$ [Hb Hh]
  · isplitl [Hb] <;> iassumption
  iintro ⟨Hb, Hh⟩
  rw [wp_ret]; imodintro
  iapply (wp_hlo_within 𝒱 (T d) none Set.univ (op := op6) (S := ucRefs τ sig) (sub_ucRefs _ (StableHlo.unary_bufs_sub ..)) (V := op5.result (op4.result (V2 m d)))) $$ [Hb Hh]
  · isplitl [Hb] <;> iassumption
  iintro ⟨Hb, Hh⟩
  rw [wp_ret]; imodintro
  iapply (wp_hlo_within 𝒱 (T d) none Set.univ (op := op7) (S := ucRefs τ sig) (sub_ucRefs _ (StableHlo.nary_bufs_sub ..)) (V := op6.result (op5.result (op4.result (V2 m d))))) $$ [Hb Hh]
  · isplitl [Hb] <;> iassumption
  iintro ⟨Hb, Hh⟩
  rw [wp_ret]; imodintro
  iapply (wp_hlo_within 𝒱 (T d) none Set.univ (op := op8) (S := ucRefs τ sig) (sub_ucRefs _ (StableHlo.reshape_bufs_sub ..)) (V := op7.result (op6.result (op5.result (op4.result (V2 m d)))))) $$ [Hb Hh]
  · isplitl [Hb] <;> iassumption
  iintro ⟨Hb, Hh⟩
  rw [wp_ret]; imodintro
  ihave Hh := (Entails.of_eq (show (held (T d) (ucRefs τ sig) (op8.result (op7.result (op6.result (op5.result (op4.result (V2 m d)))))) : sProp 𝕄)
    = iprop(held (T d) Sm (V3 m d) ∗ held (T d) (ucRefs τ sig \ Sm) (V3 m d)) from StableHlo.held_sub_split (T d) Sm_sub (V3 m d))) $$ Hh
  icases Hh with ⟨Hm, Hh⟩
  ihave Hm := (Entails.of_eq (held_Sm d (V3 m d))) $$ Hm
  icases Hm with ⟨Hx, Hi, Ho⟩
  iapply (KI.wp_run (D (F := Ideal)) 𝒱 (EH := EH) (P := P (fv m) (iv m) (f0 m)) κ d 0) $$ [Hst Hh Hx Hi Ho Hb Hts]
  isplitr; · iexact Hctx
  isplitl [Hst]; · iexact Hst
  isplitl [Hx Hi Ho]
  · rw [st_eq]
    isplitl [Hx]; · iexact Hx
    isplitl [Hi]; · iexact Hi
    iexact Ho
  iintro ⟨Hst, Hdn⟩
  ihave Hdn := (Entails.of_eq (dn_eq (fv m) (iv m) (f0 m) d)) $$ Hdn
  icases Hdn with ⟨Hx, Hi, Ho⟩
  iapply (wp_hlo_within 𝒱 (T d) none Set.univ (op := op9) (S := ucRefs τ sig) (sub_ucRefs _ (StableHlo.reshape_bufs_sub ..)) (V := V4 m d)) $$ [Hb Hh Hx Hi Ho]
  · isplitl [Hb]; · iexact Hb
    rw [StableHlo.held_sub_split (T d) Sm_sub (V4 m d), held_Sm, V4_o, V4_ne m d (b := rf main_v8) (by decide), V4_ne m d (b := rf main_v3_0) (by decide),
      StableHlo.held_congr (T d) (S := ucRefs τ sig \ Sm) (V := V4 m d) (V' := V3 m d) (fun b hb => V4_ne m d (fun h => (Finset.mem_sdiff.mp hb).2 (by rw [h]; decide)))]
    isplitr [Hh]; swap; · iexact Hh
    isplitl [Hx]; · iexact Hx
    isplitl [Hi]; · iexact Hi
    iexact Ho
  iintro ⟨Hb, Hh⟩
  ihave Hh := (Entails.of_eq (show (held (T d) (ucRefs τ sig) (op9.result (V4 m d)) : sProp 𝕄)
    = iprop(held (T d) Sf (V5 m d) ∗ held (T d) (ucRefs τ sig \ Sf) (V5 m d)) from StableHlo.held_sub_split (T d) Sf_sub (V5 m d))) $$ Hh
  icases Hh with ⟨Hf, -⟩
  rw [wp_ret]; imodintro; imodintro
  isplitl [Hst]; · iexact Hst
  isplitl [Hf]; · iexact Hf
  isplitl [Hb] <;> iassumption

/-! ## The run -/

def fq (d : Dev nD) (s' : Phys nD τ sig (Elt Ideal)) : Prop :=
  s'.mem.mem (aLoc d) = V5 m d (rf main_arg0) ∧ s'.mem.mem (bLoc d) = V5 m d (rf main_arg1)
    ∧ s'.mem.mem (sLoc d) = V5 m d (rf main_v7) ∧ s'.mem.mem (rLoc d) = V5 m d (rf main_v10)

theorem hfin (d : Dev nD) (s' : Phys nD τ sig (Elt Ideal)) : iprop(FIN m d ∗ SI s') ⊢ (⌜fq m d s'⌝ : sProp 𝕄) := by
  unfold FIN
  rw [held_Sf]
  iintro ⟨⟨Ha, Hb, Hs, Hr⟩, HSI⟩
  ihave H := (persistent_entails_right (SI_pointsTo_agree (st := s') (ℓ := aLoc d) (I := Finset.univ) (q := fullShare) (f := V5 m d (rf main_arg0)))) $$ [HSI Ha]
  · isplitl [HSI] <;> iassumption
  icases H with ⟨%ha, HSI, -⟩
  ihave H := (persistent_entails_right (SI_pointsTo_agree (st := s') (ℓ := bLoc d) (I := Finset.univ) (q := fullShare) (f := V5 m d (rf main_arg1)))) $$ [HSI Hb]
  · isplitl [HSI] <;> iassumption
  icases H with ⟨%hb, HSI, -⟩
  ihave H := (persistent_entails_right (SI_pointsTo_agree (st := s') (ℓ := sLoc d) (I := Finset.univ) (q := fullShare) (f := V5 m d (rf main_v7)))) $$ [HSI Hs]
  · isplitl [HSI] <;> iassumption
  icases H with ⟨%hs, HSI, -⟩
  ihave H := (SI_pointsTo_agree (st := s') (ℓ := rLoc d) (I := Finset.univ) (q := fullShare) (f := V5 m d (rf main_v10))) $$ [HSI Hr]
  · isplitl [HSI] <;> iassumption
  icases H with %hr
  ipureintro
  exact ⟨funext fun i => ha i (Finset.mem_univ i), funext fun i => hb i (Finset.mem_univ i), funext fun i => hs i (Finset.mem_univ i),
    funext fun i => hr i (Finset.mem_univ i)⟩

/-- The indices the gather's call is handed, those of the samples. -/
theorem iv_eq (d : Dev nD) : iv m d = idxs (clouds m d) := by
  have hr : ∀ {a b : Ref sig .tc}, a ≠ b → rf a ≠ rf b := fun h e => h (Proc.devRef_injective _ e)
  unfold iv V3
  rw [op8.result_of_not_mem _ (b := rf main_v3_0) (by decide), op7.result_of_not_mem _ (b := rf main_v3_0) (by decide),
    op6.result_of_not_mem _ (b := rf main_v3_0) (by decide), op5.result_of_not_mem _ (b := rf main_v3_0) (by decide),
    op4.result_of_not_mem _ (b := rf main_v3_0) (by decide)]
  unfold V2
  rw [Function.update_of_ne (by decide), Function.update_of_ne (by decide), Function.update_of_ne (by decide), Function.update_self]

theorem idxs_toNat (xs : Clouds) (x : S8x2048.Idx) : (idxs xs x).toNat = (far (xs (x 0).val) (x 1).val).val := by
  unfold idxs
  rw [BitVec.toNat_ofNat, Nat.mod_eq_of_lt (by have := (far (xs (x 0).val) (x 1).val).isLt; omega)]

theorem iv_lt (d : Dev nD) (x : S8x2048.Idx) : (iv m d x).toNat < 8192 := by
  rw [iv_eq, idxs_toNat]; exact (far _ _).isLt

def QC : PUnit × MemSt nD τ sig (Elt Ideal) → Prop := fun r =>
  (∀ c : Dev nD, r.2.mem (aLoc c) = V5 m c (rf main_arg0) ∧ r.2.mem (bLoc c) = V5 m c (rf main_arg1)
    ∧ r.2.mem (sLoc c) = V5 m c (rf main_v7) ∧ r.2.mem (rLoc c) = V5 m c (rf main_v10)) ∧ r.2.sem = fun _ => 0

theorem run_main : θ_run (Cert.KernelIdeal.defs (F := Ideal)) (Cert.KernelIdeal.threads (F := Ideal)) ⟨m, fun _ => 0, ρ⟩ (QC m) :=
  SparseCore.Cfg.θ_run_sc_quiescent (K := KI) (D := D (F := Ideal)) (𝒱 := 𝒱) (EH := EH) (P := P (fv m) (iv m) (f0 m)) (A := ∅) facts v₀
    (fun q hq => match q with | 0 => nomatch hq)
    (fun q _ => match q with | 0 => tileObl (fv m) (iv m) (f0 m) (iv_lt m) facts)
    (fun q _ => match q with | 0 => SparseCore.Cfg.VecSplit.of_plain (vecSplit (fv m) (iv m) (f0 m)))
    m ρ main (fun d => G d) (FIN m) u₀ (sep_elim_left.trans (hu₀ m)) (hmain m ρ) (fq m) (hfin m) (QC m) (fun _ h hz => ⟨h, hz⟩)

end Cert.Proof.Whole

end

end
-- ==== Proof.Arrays.lean ====
/-
  Facts of arrays, of no one program: what a gather along the middle axis reads, when an index passes a take's bounds test, and
  a `[8, 128, n]` array read as `[1024, n]` and back.
-/
module

public import Idealize.ShloMosaic.Lib.StableHlo.ReadAt
public import Idealize.ShloMosaic.Lib.ReduceAll
public import Idealize.ShloMosaic.Lib.ValueIdxCore
public import Idealize.ShloMosaic.Lib.Affine
public import Idealize.ShloMosaic.Lib.Tactic.WordOmega

@[expose] public section

noncomputable section

namespace Cert.Proof.Arrays

open Idealize.ShloMosaic Idealize.SL.Sem

/-! ## The gather along the middle axis -/

section Take
variable {α : Type}

/-- Gather along the middle axis of `[B, N, C]`, one position for each `(b, j)`, all of the last axis kept. -/
abbrev midDims (B N M C : Nat)
    (wf : GatherDims.WF ⟨3, ![B, N, C]⟩ ⟨3, ![B, M, 1]⟩ ⟨3, ![B, M, C]⟩ [2] [1] [0] [1] [0] 2 ![1, 1, C]) :
    GatherDims ⟨3, ![B, N, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ![1, 1, C]
  wf := wf

/-- Element `(b, j, c)` of it is the operand's at `(b, idx[b, j], c)`, the position clamped into `[0, N − 1]`. -/
theorem gather_mid_apply {B N M C w : Nat} (hN : 0 < N)
    (wf : GatherDims.WF ⟨3, ![B, N, C]⟩ ⟨3, ![B, M, 1]⟩ ⟨3, ![B, M, C]⟩ [2] [1] [0] [1] [0] 2 ![1, 1, C])
    (x : (⟨3, ![B, N, C]⟩ : Shape).Idx → α) (idx : IVec ⟨3, ![B, M, 1]⟩ w) (b : Fin B) (j : Fin M) (c : Fin C) :
    Host.gather (midDims B N M C wf) x idx (ix3 b j c)
      = x (ix3 b ⟨min (idx (ix3 b j 0)).toInt.toNat (N - 1), by omega⟩ c) := by
  unfold Host.gather
  congr 1
  funext a
  refine Fin.ext ?_
  show (midDims B N M C wf).start (ix3 b j c) idx a + (midDims B N M C wf).batchCoord (ix3 b j c) a
      + (midDims B N M C wf).offCoord (ix3 b j c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims B N M C wf).startIndexMap from List.mem_singleton.mpr rfl)]
    have hsi : (midDims B N M C wf).siIdx (ix3 b j c) ⟨List.idxOf (1 : Fin 3) (midDims B N M C wf).startIndexMap,
        List.idxOf_lt_length_iff.2 (List.mem_singleton.mpr rfl)⟩ = ix3 b j 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => by simp at h)]
    have hs : (midDims B N M C wf).start (ix3 b j c) idx 2 = 0 := by
      unfold GatherDims.start
      rw [dif_neg (fun h => by simp at h)]
    rw [hs]
    simp only [Nat.zero_add]
    unfold GatherDims.offCoord
    rw [dif_pos ((GatherDims.mem_sKept _ _).mpr ⟨fun h => by simp at h, fun h => by simp at h⟩)]
    rfl

end Take

/-! ## The words a take reads -/

section Words
variable {s : Shape}

/-- An index in range is left as it is by the sign correction. -/
theorem word_apply {i z n : IVec s 32} (hz : ∀ x, z x = 0#32) (h : ∀ x, (i x).toNat < 8192) (x : s.Idx) :
    select (cmpi .slt i z) (addi i n) i x = i x := by
  have hb := h x
  show Scalar.select (IntOp.cmpi .slt (i x) (z x)) (IntOp.addi (i x) (n x)) (i x) = i x
  rw [hz x]
  have : ¬ (i x).slt 0#32 := by
    rw [BitVec.slt_iff_toInt_lt, BitVec.toInt_eq_toNat_of_lt (by omega)]; simp
  have hc : IntOp.cmpi .slt (i x) 0#32 = 0#1 := by
    simp only [IntOp.cmpi, this]
    rfl
  rw [hc]
  rfl

/-- It passes the bounds test. -/
theorem within_one {w z u : IVec s 32} (hz : ∀ x, z x = 0#32) (hu : ∀ x, u x = 8191#32) (h : ∀ x, (w x).toNat < 8192) (x : s.Idx) :
    andi (cmpi .sge w z) (cmpi .sle w u) x = 1#1 := by
  have hb := h x
  show IntOp.andi (IntOp.cmpi .sge (w x) (z x)) (IntOp.cmpi .sle (w x) (u x)) = 1#1
  rw [hz x, hu x]
  generalize w x = w at hb ⊢
  have h0 : (0#32).sle w := by
    rw [BitVec.sle_iff_toInt_le, BitVec.toInt_eq_toNat_of_lt (x := w) (by omega)]; simp
  have h1 : w.sle 8191#32 := by
    rw [BitVec.sle_iff_toInt_le, BitVec.toInt_eq_toNat_of_lt (x := w) (by omega), BitVec.toInt_eq_toNat_of_lt (x := 8191#32) (by decide)]; simp; omega
  simp only [IntOp.cmpi, h0, h1]
  rfl

end Words

/-! ## Two leading axes as one -/

/-- A `[8, 128, n]` array read as `[1024, n]`: row `r` is row `r mod 128` of batch `r / 128`. -/
theorem merge_apply {α : Type} {n : ℕ} (x : (⟨3, ![8, 128, n]⟩ : Shape).Idx → α) (h : (⟨3, ![8, 128, n]⟩ : Shape).ShapeCasts ⟨2, ![1024, n]⟩)
    (b : Fin 8) (c : Fin 128) (j : Fin n) (hr : 128 * b.val + c.val < 1024) :
    shapeCast ⟨2, ![1024, n]⟩ x h (ix2 ⟨128 * b.val + c.val, hr⟩ j) = x (ix3 b c j) := by
  refine shapeCast_apply x h _ _ ?_
  rw [Shape.rowMajor_val_two, Shape.rowMajor_val_three]
  show (b.val * 128 + c.val) * n + j.val = (128 * b.val + c.val) * n + j.val
  rw [Nat.mul_comm b.val 128]

/-- A `[1024, n]` array read as `[8, 128, n]`. -/
theorem split_apply {α : Type} {n : ℕ} (x : (⟨2, ![1024, n]⟩ : Shape).Idx → α) (h : (⟨2, ![1024, n]⟩ : Shape).ShapeCasts ⟨3, ![8, 128, n]⟩)
    (b : Fin 8) (c : Fin 128) (j : Fin n) (hr : 128 * b.val + c.val < 1024) :
    shapeCast ⟨3, ![8, 128, n]⟩ x h (ix3 b c j) = x (ix2 ⟨128 * b.val + c.val, hr⟩ j) := by
  refine shapeCast_apply x h _ _ ?_
  rw [Shape.rowMajor_val_two, Shape.rowMajor_val_three]
  show (128 * b.val + c.val) * n + j.val = (b.val * 128 + c.val) * n + j.val
  rw [Nat.mul_comm b.val 128]

end Cert.Proof.Arrays

end
-- ==== Proof.Values.lean ====
/-
  What the kernel's run leaves in its arguments and results.
-/
module

public import proofs.«01_k».proof.Proof.Run
public import proofs.«01_k».proof.Proof.Arrays
public import Idealize.ShloMosaic.Lib.StableHlo.ReadAt

@[expose] public section

noncomputable section

namespace Cert.Proof.Whole

open Cert.KernelIdeal Cert.KernelIdeal.Gen
open Cert.Proof.Fps Cert.Proof.Region Cert.Proof.Rows Cert.Proof.Arrays Cert.Proof.Gather
open Idealize.ShloMosaic Idealize.SL.Sem

/-- Three `[8, 2048]` arrays, one after the other along a new middle axis. -/
theorem stack_apply (X : Fin 3 → S8x2048.Idx → EReal) (b : Fin 8) (c : Fin 3) (j : Fin 2048) :
    concatenate S8x3x2048 1 [⟨S8x1x2048, (bc (X 0) : S8x1x2048.Idx → EReal)⟩, ⟨S8x1x2048, (bc (X 1) : S8x1x2048.Idx → EReal)⟩, ⟨S8x1x2048, (bc (X 2) : S8x1x2048.Idx → EReal)⟩]
      concatenates_S8x1x2048_S8x1x2048_S8x1x2048_S8x3x2048_d1 (ix3 b c j) = X c (ix2 b j) := by
  have hb : ∀ k : Fin 3, (bc (X k) : S8x1x2048.Idx → EReal) (ix3 b 0 j) = X k (ix2 b j) := fun k =>
    broadcastInDim_apply _ _ (X k) _ _ fun a => by match a with | 0 => rfl | 1 => rfl
  refine Eq.trans ?_ (hb c)
  refine concatenate_apply_piece 1 _ _ (ix3 b c j) c.val ?_ S8x1x2048 (bc (X c)) ?_ rfl c.val ?_ (ix3 b 0 j) ?_ ?_
  · exact c.isLt
  · fin_cases c <;> rfl
  · fin_cases c <;> rfl
  · intro a ha
    match a with
    | 0 => rfl
    | 1 => exact absurd rfl ha
    | 2 => rfl
  · rfl

variable (m : (ℓ : Loc nD τ sig) → Buf (Elt Ideal) ℓ) (d : Dev nD)

/-- The arguments are never written. -/
theorem V1_arg0 : V1 m d (rf main_arg0) = m (aLoc d) := by
  unfold V1
  rw [op3.result_of_not_mem _ (b := rf main_arg0) (by decide), op2.result_of_not_mem _ (b := rf main_arg0) (by decide), op1.result_of_not_mem _ (b := rf main_arg0) (by decide)]
  rfl
theorem V1_arg1 : V1 m d (rf main_arg1) = m (bLoc d) := by
  unfold V1
  rw [op3.result_of_not_mem _ (b := rf main_arg1) (by decide), op2.result_of_not_mem _ (b := rf main_arg1) (by decide), op1.result_of_not_mem _ (b := rf main_arg1) (by decide)]
  rfl

theorem V5_arg0 : V5 m d (rf main_arg0) = m (aLoc d) := by
  unfold V5
  rw [op9.result_of_not_mem _ (b := rf main_arg0) (by decide), V4_ne m d (b := rf main_arg0) (by decide)]
  unfold V3
  rw [op8.result_of_not_mem _ (b := rf main_arg0) (by decide), op7.result_of_not_mem _ (b := rf main_arg0) (by decide), op6.result_of_not_mem _ (b := rf main_arg0) (by decide),
    op5.result_of_not_mem _ (b := rf main_arg0) (by decide), op4.result_of_not_mem _ (b := rf main_arg0) (by decide),
    V2_ne m d main_arg0 (by decide) (by decide) (by decide) (by decide), V1_arg0]

/-- The features as the gather's call finds their own reshaped from. -/
theorem W_arg1 : op7.result (op6.result (op5.result (op4.result (V2 m d)))) (rf main_arg1) = m (bLoc d) := by
  rw [op7.result_of_not_mem _ (b := rf main_arg1) (by decide), op6.result_of_not_mem _ (b := rf main_arg1) (by decide),
    op5.result_of_not_mem _ (b := rf main_arg1) (by decide), op4.result_of_not_mem _ (b := rf main_arg1) (by decide),
    V2_ne m d main_arg1 (by decide) (by decide) (by decide) (by decide), V1_arg1]

theorem V5_arg1 : V5 m d (rf main_arg1) = m (bLoc d) := by
  unfold V5
  rw [op9.result_of_not_mem _ (b := rf main_arg1) (by decide), V4_ne m d (b := rf main_arg1) (by decide)]
  unfold V3
  rw [op8.result_of_not_mem _ (b := rf main_arg1) (by decide), W_arg1]

/-- What the sampling call left of each coordinate. -/
theorem V2_x : V2 m d (rf main_v3_1) = crds (clouds m d) 0 := by
  unfold V2
  rw [Function.update_of_ne (by decide), Function.update_of_ne (by decide), Function.update_self]
theorem V2_y : V2 m d (rf main_v3_2) = crds (clouds m d) 1 := by
  unfold V2
  rw [Function.update_of_ne (by decide), Function.update_self]
theorem V2_z : V2 m d (rf main_v3_3) = crds (clouds m d) 2 := by
  unfold V2
  rw [Function.update_self]

/-- The three coordinates as they are put together. -/
theorem W_v4 : op6.result (op5.result (op4.result (V2 m d))) (rf main_v4) = bc (crds (clouds m d) 0) := by
  rw [op6.result_of_not_mem _ (b := rf main_v4) (by decide), op5.result_of_not_mem _ (b := rf main_v4) (by decide)]
  exact (StableHlo.unary_result main_v3_1 main_v4 bc _ _ (V2 m d)).trans (congrArg bc (V2_x m d))
theorem W_v5 : op6.result (op5.result (op4.result (V2 m d))) (rf main_v5) = bc (crds (clouds m d) 1) := by
  rw [op6.result_of_not_mem _ (b := rf main_v5) (by decide)]
  exact (StableHlo.unary_result main_v3_2 main_v5 bc _ _ (op4.result (V2 m d))).trans
    (congrArg bc ((op4.result_of_not_mem _ (b := rf main_v3_2) (by decide)).trans (V2_y m d)))
theorem W_v6 : op6.result (op5.result (op4.result (V2 m d))) (rf main_v6) = bc (crds (clouds m d) 2) :=
  (StableHlo.unary_result main_v3_3 main_v6 bc _ _ (op5.result (op4.result (V2 m d)))).trans
    (congrArg bc ((op5.result_of_not_mem _ (b := rf main_v3_3) (by decide)).trans ((op4.result_of_not_mem _ (b := rf main_v3_3) (by decide)).trans (V2_z m d))))

/-- The first result: at `(b, c, j)` coordinate `c` of cloud `b`'s sample `j`. -/
theorem coords_apply (b : Fin 8) (c : Fin 3) (j : Fin 2048) :
    (V5 m d (rf main_v7) : S8x3x2048.Idx → EReal) (ix3 b c j) = (m (aLoc d) : S8x3x8192.Idx → EReal) (ix3 b c (far (clouds m d b.val) j.val)) := by
  have h : V5 m d (rf main_v7) = concatenate S8x3x2048 1 [⟨S8x1x2048, (bc (crds (clouds m d) 0) : S8x1x2048.Idx → EReal)⟩, ⟨S8x1x2048, (bc (crds (clouds m d) 1) : S8x1x2048.Idx → EReal)⟩,
      ⟨S8x1x2048, (bc (crds (clouds m d) 2) : S8x1x2048.Idx → EReal)⟩] concatenates_S8x1x2048_S8x1x2048_S8x1x2048_S8x3x2048_d1 := by
    unfold V5
    rw [op9.result_of_not_mem _ (b := rf main_v7) (by decide), V4_ne m d (b := rf main_v7) (by decide)]
    unfold V3
    rw [op8.result_of_not_mem _ (b := rf main_v7) (by decide)]
    refine (StableHlo.nary_result ![main_v4, main_v5, main_v6] main_v7 _ _ _ (op6.result (op5.result (op4.result (V2 m d))))).trans ?_
    rw [← W_v4, ← W_v5, ← W_v6]
    rfl
  refine (congrFun h (ix3 b c j)).trans ((stack_apply (crds (clouds m d)) b c j).trans ?_)
  exact cloudsOf_lt _ b c _

/-- The second result: at `(b, c, j)` feature `c` of cloud `b`'s sample `j`. -/
theorem feats_apply (b : Fin 8) (c : Fin 128) (j : Fin 2048) :
    (V5 m d (rf main_v10) : S8x128x2048.Idx → EReal) (ix3 b c j) = (m (bLoc d) : S8x128x8192.Idx → EReal) (ix3 b c (far (clouds m d b.val) j.val)) := by
  have hrow : 128 * b.val + c.val < 1024 := by omega
  have hq : (128 * b.val + c.val) / 128 = b.val := by omega
  have h1 : V5 m d (rf main_v10) = shapeCast S8x128x2048 (V4 m d (rf main_v9) : S1024x2048.Idx → EReal) shapeCasts_S1024x2048_S8x128x2048 := by
    unfold V5
    exact StableHlo.reshape_result' (x := main_v9) (y := main_v10) _ _ _ _ _
  have h2 : fv m d = shapeCast S1024x8192 (m (bLoc d) : S8x128x8192.Idx → EReal) shapeCasts_S8x128x8192_S1024x8192 := by
    unfold fv V3
    refine (StableHlo.reshape_result' (x := main_arg1) (y := main_v8) _ _ _ _ _).trans ?_
    exact congrArg (fun v => shapeCast S1024x8192 (v : S8x128x8192.Idx → EReal) shapeCasts_S8x128x8192_S1024x8192) (W_arg1 m d)
  refine (congrFun h1 (ix3 b c j)).trans ((split_apply _ _ b c j hrow).trans ?_)
  refine (congrFun (V4_o m d) (ix2 ⟨128 * b.val + c.val, hrow⟩ j)).trans ?_
  show at2 (fv m d) (128 * b.val + c.val) (at2 (iv m d) ((128 * b.val + c.val) / 128) j.val).toNat = _
  rw [hq, at2_ix2 (iv m d) b j]
  refine (at2_ix2 (fv m d) ⟨128 * b.val + c.val, hrow⟩ ⟨(iv m d (ix2 b j)).toNat, iv_lt m d _⟩).trans ?_
  rw [h2]
  refine (merge_apply _ _ b c _ hrow).trans ?_
  refine congrArg (fun p => (m (bLoc d) : S8x128x8192.Idx → EReal) (ix3 b c p)) (Fin.ext ?_)
  show (iv m d (ix2 b j)).toNat = _
  rw [iv_eq, idxs_toNat]
  rfl

end Cert.Proof.Whole

end
-- ==== Proof.RefOps.lean ====
/-
  The reference as lists of host operations: those before its loop, the loop's test, one trip of the loop, and those after it.
-/
module

public import proofs.«01_k».proof.Defs
public import proofs.«01_k».proof.Proof.Gen.ReferenceIdeal
public import Idealize.ShloMosaic.Lib.StableHlo.RunLoop
public import Idealize.ShloMosaic.Lib.StableHlo.RunHlo

@[expose] public section

noncomputable section

namespace Cert.Proof.Ref

open Cert.ReferenceIdeal Cert.ReferenceIdeal.Gen
open Idealize.ShloMosaic Idealize.SL.Sem
open Idealize.ShloMosaic.StableHlo (seq after)

variable {F : FTy → Type} [FloatOps F]

/-- The transposes and what the loop starts from. -/
abbrev preOps : List (HloOp τ sig (Elt F)) :=
  [ StableHlo.unary main_arg0 main_v0 ((transpose S8x8192x3 [0, 2, 1] · transposes_S8x3x8192_S8x8192x3_0_2_1) : (⟨S8x3x8192, .f32⟩ : BufTy).Contents (Elt F) → (⟨S8x8192x3, .f32⟩ : BufTy).Contents (Elt F)),
    StableHlo.unary main_arg1 main_v1 ((transpose S8x8192x128 [0, 2, 1] · transposes_S8x128x8192_S8x8192x128_0_2_1) : (⟨S8x128x8192, .f32⟩ : BufTy).Contents (Elt F) → (⟨S8x8192x128, .f32⟩ : BufTy).Contents (Elt F)),
    StableHlo.nullary main_c (constantI S_ 32 0#32),
    StableHlo.unary main_c main_v2 (broadcastInDim S8x2048 ![] bcast_S_S8x2048 : (⟨S_, .i32⟩ : BufTy).Contents (Elt F) → (⟨S8x2048, .i32⟩ : BufTy).Contents (Elt F)),
    StableHlo.nullary main_cst (constant S_ .f32 0x501502F9#32),
    StableHlo.unary main_cst main_v3 (broadcastInDim S8x8192 ![] bcast_S_S8x8192 : (⟨S_, .f32⟩ : BufTy).Contents (Elt F) → (⟨S8x8192, .f32⟩ : BufTy).Contents (Elt F)),
    StableHlo.nullary main_c_0 (constantI S_ 32 0#32),
    StableHlo.unary main_c_0 main_v4 (broadcastInDim S8 ![] bcast_S_S8 : (⟨S_, .i32⟩ : BufTy).Contents (Elt F) → (⟨S8, .i32⟩ : BufTy).Contents (Elt F)),
    StableHlo.nullary main_c_1 (constantI S_ 32 0#32),
    StableHlo.nullary main_c_2 (constantI S_ 32 0#32),
    StableHlo.unary main_v0 main_v5_0 id,
    StableHlo.unary main_c_2 main_v5_1 id,
    StableHlo.unary main_c_1 main_v5_2 id,
    StableHlo.unary main_v2 main_v5_3 id,
    StableHlo.unary main_v3 main_v5_4 id,
    StableHlo.unary main_v4 main_v5_5 id ]

/-- The loop's test. -/
abbrev condOps : List (HloOp τ sig (Elt F)) :=
  [ StableHlo.nullary main_while0c_c_8 (constantI S_ 32 2048#32),
    StableHlo.binary main_v5_1 main_while0c_c_8 main_while0c_v12 (cmpi .slt : (⟨S_, .i32⟩ : BufTy).Contents (Elt F) → (⟨S_, .i32⟩ : BufTy).Contents (Elt F) → (⟨S_, .i1⟩ : BufTy).Contents (Elt F)) ]

/-- One trip, to the point whose distances are taken: the sample is written, and its point named. -/
abbrev headOps : List (HloOp τ sig (Elt F)) :=
  [ StableHlo.nullary main_while0b_c_8 (constantI S_ 32 1#32),
    StableHlo.binary main_v5_2 main_while0b_c_8 main_while0b_v12 (addi : (⟨S_, .i32⟩ : BufTy).Contents (Elt F) → (⟨S_, .i32⟩ : BufTy).Contents (Elt F) → (⟨S_, .i32⟩ : BufTy).Contents (Elt F)),
    StableHlo.nullary main_while0b_c_9 (constantI S_ 32 0#32),
    StableHlo.binary main_v5_2 main_while0b_c_9 main_while0b_v13 (cmpi .slt : (⟨S_, .i32⟩ : BufTy).Contents (Elt F) → (⟨S_, .i32⟩ : BufTy).Contents (Elt F) → (⟨S_, .i1⟩ : BufTy).Contents (Elt F)),
    StableHlo.nullary main_while0b_c_10 (constantI S_ 32 2048#32),
    StableHlo.binary main_v5_2 main_while0b_c_10 main_while0b_v14 (addi : (⟨S_, .i32⟩ : BufTy).Contents (Elt F) → (⟨S_, .i32⟩ : BufTy).Contents (Elt F) → (⟨S_, .i32⟩ : BufTy).Contents (Elt F)),
    StableHlo.ternary main_while0b_v13 main_while0b_v14 main_v5_2 main_while0b_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v15 main_while0b_v16 (id : (⟨S_, .i32⟩ : BufTy).Contents (Elt F) → (⟨S_, .i32⟩ : BufTy).Contents (Elt F)),
    StableHlo.unary main_while0b_v16 main_while0b_v17 (broadcastInDim S1 ![] bcast_S_S1 : (⟨S_, .i32⟩ : BufTy).Contents (Elt F) → (⟨S1, .i32⟩ : BufTy).Contents (Elt F)),
    StableHlo.ternary main_v5_3 main_while0b_v17 main_v5_5 main_while0b_v18 ((fun x i u => Host.scatter scatter_S8x2048_S1_S8_0_1_1_0 (fun _ b => b) x i u) : (⟨S8x2048, .i32⟩ : BufTy).Contents (Elt F) → (⟨S1, .i32⟩ : BufTy).Contents (Elt F) → (⟨S8, .i32⟩ : BufTy).Contents (Elt F) → (⟨S8x2048, .i32⟩ : BufTy).Contents (Elt F)),
    StableHlo.unary main_v5_5 main_while0b_v19 (broadcastInDim S8x1x1 ![0] bcast_S8_S8x1x1_0 : (⟨S8, .i32⟩ : BufTy).Contents (Elt F) → (⟨S8x1x1, .i32⟩ : BufTy).Contents (Elt F)) ]

/-- The coordinates of that point, the bounds test with them. -/
abbrev pickOps : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S8x1x1, .i32⟩) (broadcastInDim S8x1x1 ![] bcast_S_S8x1x1),
    StableHlo.TRef.binary (.of main_while0b_v19 : StableHlo.TRef sig ⟨S8x1x1, .i32⟩) (.of main_while0b_call0_v0 : StableHlo.TRef sig ⟨S8x1x1, .i32⟩) (.of main_while0b_call0_v1 : StableHlo.TRef sig ⟨S8x1x1, .i1⟩) (cmpi .slt),
    StableHlo.TRef.nullary (.of main_while0b_call0_c_0 : StableHlo.TRef sig ⟨S_, .i32⟩) (constantI S_ 32 8192#32),
    StableHlo.TRef.unary (.of main_while0b_call0_c_0 : StableHlo.TRef sig ⟨S_, .i32⟩) (.of main_while0b_call0_v2 : StableHlo.TRef sig ⟨S8x1x1, .i32⟩) (broadcastInDim S8x1x1 ![] bcast_S_S8x1x1),
    StableHlo.TRef.binary (.of main_while0b_v19 : StableHlo.TRef sig ⟨S8x1x1, .i32⟩) (.of main_while0b_call0_v2 : StableHlo.TRef sig ⟨S8x1x1, .i32⟩) (.of main_while0b_call0_v3 : StableHlo.TRef sig ⟨S8x1x1, .i32⟩) addi,
    StableHlo.TRef.ternary (.of main_while0b_call0_v1 : StableHlo.TRef sig ⟨S8x1x1, .i1⟩) (.of main_while0b_call0_v3 : StableHlo.TRef sig ⟨S8x1x1, .i32⟩) (.of main_while0b_v19 : StableHlo.TRef sig ⟨S8x1x1, .i32⟩) (.of main_while0b_call0_v4 : StableHlo.TRef sig ⟨S8x1x1, .i32⟩) select,
    StableHlo.TRef.nullary (.of main_while0b_call0_c_1 : StableHlo.TRef sig ⟨S1, .i32⟩) (constantI S1 32 8191#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S8x1x1, .i32⟩) (broadcastInDim S8x1x1 ![] bcast_S_S8x1x1),
    StableHlo.TRef.binary (.of main_while0b_call0_v4 : StableHlo.TRef sig ⟨S8x1x1, .i32⟩) (.of main_while0b_call0_v5 : StableHlo.TRef sig ⟨S8x1x1, .i32⟩) (.of main_while0b_call0_v6 : StableHlo.TRef sig ⟨S8x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S8x1x1, .i32⟩) (broadcastInDim S8x1x1 ![0, 1, 2] bcast_S1x1x1_S8x1x1_0_1_2),
    StableHlo.TRef.binary (.of main_while0b_call0_v4 : StableHlo.TRef sig ⟨S8x1x1, .i32⟩) (.of main_while0b_call0_v8 : StableHlo.TRef sig ⟨S8x1x1, .i32⟩) (.of main_while0b_call0_v9 : StableHlo.TRef sig ⟨S8x1x1, .i1⟩) (cmpi .sle),
    StableHlo.TRef.binary (.of main_while0b_call0_v6 : StableHlo.TRef sig ⟨S8x1x1, .i1⟩) (.of main_while0b_call0_v9 : StableHlo.TRef sig ⟨S8x1x1, .i1⟩) (.of main_while0b_call0_v10 : StableHlo.TRef sig ⟨S8x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S8x1x1, .i1⟩) (.of main_while0b_call0_c_3 : StableHlo.TRef sig ⟨S_, .i1⟩) (.of main_while0b_call0_v11 : StableHlo.TRef sig ⟨S8x1, .i1⟩) (fun x v => Host.reduce IntOp.andi x v reducesTo_S8x1x1_S8x1_d2 h_S_),
    StableHlo.TRef.binary (.of main_v5_0 : StableHlo.TRef sig ⟨S8x8192x3, .f32⟩) (.of main_while0b_call0_v4 : StableHlo.TRef sig ⟨S8x1x1, .i32⟩) (.of main_while0b_call0_v12 : StableHlo.TRef sig ⟨S8x1x3, .f32⟩) (fun x i => Host.gather gather_S8x8192x3_S8x1x1_S8x1x3_2_1_0_0_1_2_113 x i),
    StableHlo.TRef.unary (.of main_while0b_call0_v11 : StableHlo.TRef sig ⟨S8x1, .i1⟩) (.of main_while0b_call0_v13 : StableHlo.TRef sig ⟨S8x1x3, .i1⟩) (broadcastInDim S8x1x3 ![0, 1] bcast_S8x1_S8x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S8x1x3, .f32⟩) (broadcastInDim S8x1x3 ![] bcast_S_S8x1x3),
    StableHlo.TRef.ternary (.of main_while0b_call0_v13 : StableHlo.TRef sig ⟨S8x1x3, .i1⟩) (.of main_while0b_call0_v12 : StableHlo.TRef sig ⟨S8x1x3, .f32⟩) (.of main_while0b_call0_v14 : StableHlo.TRef sig ⟨S8x1x3, .f32⟩) (.of main_while0b_v20 : StableHlo.TRef sig ⟨S8x1x3, .f32⟩) select ]

/-- The squared distances from it, and the least so far. -/
abbrev distOps : List (HloOp τ sig (Elt F)) :=
  [ StableHlo.unary main_while0b_v20 main_while0b_v21 (broadcastInDim S8x8192x3 ![0, 1, 2] bcast_S8x1x3_S8x8192x3_0_1_2 : (⟨S8x1x3, .f32⟩ : BufTy).Contents (Elt F) → (⟨S8x8192x3, .f32⟩ : BufTy).Contents (Elt F)),
    StableHlo.binary main_v5_0 main_while0b_v21 main_while0b_v22 (subf : (⟨S8x8192x3, .f32⟩ : BufTy).Contents (Elt F) → (⟨S8x8192x3, .f32⟩ : BufTy).Contents (Elt F) → (⟨S8x8192x3, .f32⟩ : BufTy).Contents (Elt F)),
    StableHlo.binary main_while0b_v22 main_while0b_v22 main_while0b_v23 (mulf : (⟨S8x8192x3, .f32⟩ : BufTy).Contents (Elt F) → (⟨S8x8192x3, .f32⟩ : BufTy).Contents (Elt F) → (⟨S8x8192x3, .f32⟩ : BufTy).Contents (Elt F)),
    StableHlo.nullary main_while0b_cst_11 (constant S_ .f32 0x00000000#32),
    StableHlo.binary main_while0b_v23 main_while0b_cst_11 main_while0b_v24 ((fun x v => Host.reduceAdd x v reducesTo_S8x8192x3_S8x8192_d2 h_S_) : (⟨S8x8192x3, .f32⟩ : BufTy).Contents (Elt F) → (⟨S_, .f32⟩ : BufTy).Contents (Elt F) → (⟨S8x8192, .f32⟩ : BufTy).Contents (Elt F)),
    StableHlo.binary main_v5_4 main_while0b_v24 main_while0b_v25 (minimumf : (⟨S8x8192, .f32⟩ : BufTy).Contents (Elt F) → (⟨S8x8192, .f32⟩ : BufTy).Contents (Elt F) → (⟨S8x8192, .f32⟩ : BufTy).Contents (Elt F)) ]

/-- The farthest point of those. -/
abbrev argOps : List (HloOp τ sig (Elt F)) :=
  [ StableHlo.TRef.nullary (.of main_while0b_call1_v0 : StableHlo.TRef sig ⟨S8x8192, .i32⟩) (iotaInDim S8x8192 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v25 : StableHlo.TRef sig ⟨S8x8192, .f32⟩) (.of main_while0b_call1_v0 : StableHlo.TRef sig ⟨S8x8192, .i32⟩) (.of main_while0b_call1_cst : StableHlo.TRef sig ⟨S_, .f32⟩) (.of main_while0b_call1_c : StableHlo.TRef sig ⟨S_, .i32⟩) (.of main_while0b_call1_v1_0 : StableHlo.TRef sig ⟨S8, .f32⟩) (fun x y u v j => (Host.argReduce reducer_argmax_f32_i32 x y u v reducesTo_S8x8192_S8_d1 h_S_ j).1),
    StableHlo.TRef.quaternary (.of main_while0b_v25 : StableHlo.TRef sig ⟨S8x8192, .f32⟩) (.of main_while0b_call1_v0 : StableHlo.TRef sig ⟨S8x8192, .i32⟩) (.of main_while0b_call1_cst : StableHlo.TRef sig ⟨S_, .f32⟩) (.of main_while0b_call1_c : StableHlo.TRef sig ⟨S_, .i32⟩) (.of main_while0b_v26 : StableHlo.TRef sig ⟨S8, .i32⟩) (fun x y u v j => (Host.argReduce reducer_argmax_f32_i32 x y u v reducesTo_S8x8192_S8_d1 h_S_ j).2) ]

/-- The carried arrays replaced. -/
abbrev nextOps : List (HloOp τ sig (Elt F)) :=
  [ StableHlo.nullary main_while0b_c_12 (constantI S_ 32 1#32),
    StableHlo.binary main_v5_1 main_while0b_c_12 main_while0b_v27 (addi : (⟨S_, .i32⟩ : BufTy).Contents (Elt F) → (⟨S_, .i32⟩ : BufTy).Contents (Elt F) → (⟨S_, .i32⟩ : BufTy).Contents (Elt F)),
    StableHlo.unary main_while0b_v27 main_v5_1 id,
    StableHlo.unary main_while0b_v12 main_v5_2 id,
    StableHlo.unary main_while0b_v18 main_v5_3 id,
    StableHlo.unary main_while0b_v25 main_v5_4 id,
    StableHlo.unary main_while0b_v26 main_v5_5 id ]

/-- The samples, one column. -/
abbrev postOps0 : List (HloOp τ sig (Elt F)) :=
  [ StableHlo.unary main_v5_3 main_v6 (broadcastInDim S8x2048x1 ![0, 1] bcast_S8x2048_S8x2048x1_0_1 : (⟨S8x2048, .i32⟩ : BufTy).Contents (Elt F) → (⟨S8x2048x1, .i32⟩ : BufTy).Contents (Elt F)) ]

/-- The gather of the coordinates, with its bounds test. -/
abbrev takeOps0 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x2048x1, .i32⟩) (broadcastInDim S8x2048x1 ![] bcast_S_S8x2048x1),
    StableHlo.TRef.binary (.of main_v6 : StableHlo.TRef sig ⟨S8x2048x1, .i32⟩) (.of main_call2_v0 : StableHlo.TRef sig ⟨S8x2048x1, .i32⟩) (.of main_call2_v1 : StableHlo.TRef sig ⟨S8x2048x1, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S8x2048x1, .i32⟩) (broadcastInDim S8x2048x1 ![] bcast_S_S8x2048x1),
    StableHlo.TRef.binary (.of main_v6 : StableHlo.TRef sig ⟨S8x2048x1, .i32⟩) (.of main_call2_v2 : StableHlo.TRef sig ⟨S8x2048x1, .i32⟩) (.of main_call2_v3 : StableHlo.TRef sig ⟨S8x2048x1, .i32⟩) addi,
    StableHlo.TRef.ternary (.of main_call2_v1 : StableHlo.TRef sig ⟨S8x2048x1, .i1⟩) (.of main_call2_v3 : StableHlo.TRef sig ⟨S8x2048x1, .i32⟩) (.of main_v6 : StableHlo.TRef sig ⟨S8x2048x1, .i32⟩) (.of main_call2_v4 : StableHlo.TRef sig ⟨S8x2048x1, .i32⟩) select,
    StableHlo.TRef.nullary (.of main_call2_c_1 : StableHlo.TRef sig ⟨S1, .i32⟩) (constantI S1 32 8191#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S8x2048x1, .i32⟩) (broadcastInDim S8x2048x1 ![] bcast_S_S8x2048x1),
    StableHlo.TRef.binary (.of main_call2_v4 : StableHlo.TRef sig ⟨S8x2048x1, .i32⟩) (.of main_call2_v5 : StableHlo.TRef sig ⟨S8x2048x1, .i32⟩) (.of main_call2_v6 : StableHlo.TRef sig ⟨S8x2048x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S8x2048x1, .i32⟩) (broadcastInDim S8x2048x1 ![0, 1, 2] bcast_S1x1x1_S8x2048x1_0_1_2),
    StableHlo.TRef.binary (.of main_call2_v4 : StableHlo.TRef sig ⟨S8x2048x1, .i32⟩) (.of main_call2_v8 : StableHlo.TRef sig ⟨S8x2048x1, .i32⟩) (.of main_call2_v9 : StableHlo.TRef sig ⟨S8x2048x1, .i1⟩) (cmpi .sle),
    StableHlo.TRef.binary (.of main_call2_v6 : StableHlo.TRef sig ⟨S8x2048x1, .i1⟩) (.of main_call2_v9 : StableHlo.TRef sig ⟨S8x2048x1, .i1⟩) (.of main_call2_v10 : StableHlo.TRef sig ⟨S8x2048x1, .i1⟩) andi,
    StableHlo.TRef.nullary (.of main_call2_c_3 : StableHlo.TRef sig ⟨S_, .i1⟩) (constantI S_ 1 1#1),
    StableHlo.TRef.binary (.of main_call2_v10 : StableHlo.TRef sig ⟨S8x2048x1, .i1⟩) (.of main_call2_c_3 : StableHlo.TRef sig ⟨S_, .i1⟩) (.of main_call2_v11 : StableHlo.TRef sig ⟨S8x2048, .i1⟩) (fun x v => Host.reduce IntOp.andi x v reducesTo_S8x2048x1_S8x2048_d2 h_S_),
    StableHlo.TRef.binary (.of main_v0 : StableHlo.TRef sig ⟨S8x8192x3, .f32⟩) (.of main_call2_v4 : StableHlo.TRef sig ⟨S8x2048x1, .i32⟩) (.of main_call2_v12 : StableHlo.TRef sig ⟨S8x2048x3, .f32⟩) (fun x i => Host.gather gather_S8x8192x3_S8x2048x1_S8x2048x3_2_1_0_0_1_2_113 x i),
    StableHlo.TRef.unary (.of main_call2_v11 : StableHlo.TRef sig ⟨S8x2048, .i1⟩) (.of main_call2_v13 : StableHlo.TRef sig ⟨S8x2048x3, .i1⟩) (broadcastInDim S8x2048x3 ![0, 1] bcast_S8x2048_S8x2048x3_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x2048x3, .f32⟩) (broadcastInDim S8x2048x3 ![] bcast_S_S8x2048x3),
    StableHlo.TRef.ternary (.of main_call2_v13 : StableHlo.TRef sig ⟨S8x2048x3, .i1⟩) (.of main_call2_v12 : StableHlo.TRef sig ⟨S8x2048x3, .f32⟩) (.of main_call2_v14 : StableHlo.TRef sig ⟨S8x2048x3, .f32⟩) (.of main_v7 : StableHlo.TRef sig ⟨S8x2048x3, .f32⟩) select ]

/-- The samples again. -/
abbrev postOps1 : List (HloOp τ sig (Elt F)) :=
  [ StableHlo.unary main_v5_3 main_v8 (broadcastInDim S8x2048x1 ![0, 1] bcast_S8x2048_S8x2048x1_0_1 : (⟨S8x2048, .i32⟩ : BufTy).Contents (Elt F) → (⟨S8x2048x1, .i32⟩ : BufTy).Contents (Elt F)) ]

/-- The gather of the features, with its bounds test. -/
abbrev takeOps1 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S8x2048x1, .i32⟩) (broadcastInDim S8x2048x1 ![] bcast_S_S8x2048x1),
    StableHlo.TRef.binary (.of main_v8 : StableHlo.TRef sig ⟨S8x2048x1, .i32⟩) (.of main_call3_v0 : StableHlo.TRef sig ⟨S8x2048x1, .i32⟩) (.of main_call3_v1 : StableHlo.TRef sig ⟨S8x2048x1, .i1⟩) (cmpi .slt),
    StableHlo.TRef.nullary (.of main_call3_c_0 : StableHlo.TRef sig ⟨S_, .i32⟩) (constantI S_ 32 8192#32),
    StableHlo.TRef.unary (.of main_call3_c_0 : StableHlo.TRef sig ⟨S_, .i32⟩) (.of main_call3_v2 : StableHlo.TRef sig ⟨S8x2048x1, .i32⟩) (broadcastInDim S8x2048x1 ![] bcast_S_S8x2048x1),
    StableHlo.TRef.binary (.of main_v8 : StableHlo.TRef sig ⟨S8x2048x1, .i32⟩) (.of main_call3_v2 : StableHlo.TRef sig ⟨S8x2048x1, .i32⟩) (.of main_call3_v3 : StableHlo.TRef sig ⟨S8x2048x1, .i32⟩) addi,
    StableHlo.TRef.ternary (.of main_call3_v1 : StableHlo.TRef sig ⟨S8x2048x1, .i1⟩) (.of main_call3_v3 : StableHlo.TRef sig ⟨S8x2048x1, .i32⟩) (.of main_v8 : StableHlo.TRef sig ⟨S8x2048x1, .i32⟩) (.of main_call3_v4 : StableHlo.TRef sig ⟨S8x2048x1, .i32⟩) select,
    StableHlo.TRef.nullary (.of main_call3_c_1 : StableHlo.TRef sig ⟨S1, .i32⟩) (constantI S1 32 8191#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S8x2048x1, .i32⟩) (broadcastInDim S8x2048x1 ![] bcast_S_S8x2048x1),
    StableHlo.TRef.binary (.of main_call3_v4 : StableHlo.TRef sig ⟨S8x2048x1, .i32⟩) (.of main_call3_v5 : StableHlo.TRef sig ⟨S8x2048x1, .i32⟩) (.of main_call3_v6 : StableHlo.TRef sig ⟨S8x2048x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S8x2048x1, .i32⟩) (broadcastInDim S8x2048x1 ![0, 1, 2] bcast_S1x1x1_S8x2048x1_0_1_2),
    StableHlo.TRef.binary (.of main_call3_v4 : StableHlo.TRef sig ⟨S8x2048x1, .i32⟩) (.of main_call3_v8 : StableHlo.TRef sig ⟨S8x2048x1, .i32⟩) (.of main_call3_v9 : StableHlo.TRef sig ⟨S8x2048x1, .i1⟩) (cmpi .sle),
    StableHlo.TRef.binary (.of main_call3_v6 : StableHlo.TRef sig ⟨S8x2048x1, .i1⟩) (.of main_call3_v9 : StableHlo.TRef sig ⟨S8x2048x1, .i1⟩) (.of main_call3_v10 : StableHlo.TRef sig ⟨S8x2048x1, .i1⟩) andi,
    StableHlo.TRef.nullary (.of main_call3_c_3 : StableHlo.TRef sig ⟨S_, .i1⟩) (constantI S_ 1 1#1),
    StableHlo.TRef.binary (.of main_call3_v10 : StableHlo.TRef sig ⟨S8x2048x1, .i1⟩) (.of main_call3_c_3 : StableHlo.TRef sig ⟨S_, .i1⟩) (.of main_call3_v11 : StableHlo.TRef sig ⟨S8x2048, .i1⟩) (fun x v => Host.reduce IntOp.andi x v reducesTo_S8x2048x1_S8x2048_d2 h_S_),
    StableHlo.TRef.binary (.of main_v1 : StableHlo.TRef sig ⟨S8x8192x128, .f32⟩) (.of main_call3_v4 : StableHlo.TRef sig ⟨S8x2048x1, .i32⟩) (.of main_call3_v12 : StableHlo.TRef sig ⟨S8x2048x128, .f32⟩) (fun x i => Host.gather gather_S8x8192x128_S8x2048x1_S8x2048x128_2_1_0_0_1_2_11128 x i),
    StableHlo.TRef.unary (.of main_call3_v11 : StableHlo.TRef sig ⟨S8x2048, .i1⟩) (.of main_call3_v13 : StableHlo.TRef sig ⟨S8x2048x128, .i1⟩) (broadcastInDim S8x2048x128 ![0, 1] bcast_S8x2048_S8x2048x128_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S8x2048x128, .f32⟩) (broadcastInDim S8x2048x128 ![] bcast_S_S8x2048x128),
    StableHlo.TRef.ternary (.of main_call3_v13 : StableHlo.TRef sig ⟨S8x2048x128, .i1⟩) (.of main_call3_v12 : StableHlo.TRef sig ⟨S8x2048x128, .f32⟩) (.of main_call3_v14 : StableHlo.TRef sig ⟨S8x2048x128, .f32⟩) (.of main_v9 : StableHlo.TRef sig ⟨S8x2048x128, .f32⟩) select ]

/-- The results transposed back. -/
abbrev postOps2 : List (HloOp τ sig (Elt F)) :=
  [ StableHlo.unary main_v7 main_v10 ((transpose S8x3x2048 [0, 2, 1] · transposes_S8x2048x3_S8x3x2048_0_2_1) : (⟨S8x2048x3, .f32⟩ : BufTy).Contents (Elt F) → (⟨S8x3x2048, .f32⟩ : BufTy).Contents (Elt F)),
    StableHlo.unary main_v9 main_v11 ((transpose S8x128x2048 [0, 2, 1] · transposes_S8x2048x128_S8x128x2048_0_2_1) : (⟨S8x2048x128, .f32⟩ : BufTy).Contents (Elt F) → (⟨S8x128x2048, .f32⟩ : BufTy).Contents (Elt F)) ]

abbrev preI : List (List (HloOp τ sig (Elt F))) := [preOps]
abbrev bodyI : List (List (HloOp τ sig (Elt F))) := [headOps, pickOps, distOps, argOps, nextOps]
abbrev postI : List (List (HloOp τ sig (Elt F))) := [postOps0, takeOps0, postOps1, takeOps1, postOps2]

/-- The printed loop body is those lists in order. -/
theorem body_eq : main_while0_body (F := F) = Pipeline.chain (bodyI.map fun ops => (seq ops : Prog _ PUnit)) := by
  chain_rfl

theorem main_eq (c : Dev nD) : main (F := F) c
    = Pipeline.chain ((preI.map fun ops => (seq ops : Prog _ PUnit)) ++ HostLoop.enter 0 :: postI.map fun ops => (seq ops : Prog _ PUnit)) := by
  chain_rfl

end Cert.Proof.Ref

end
-- ==== Proof.RefTake.lean ====
/-
  The reference's three takes along the point axis: an index in range is left as it is by the sign correction, passes the bounds test,
  and names the element the gather reads.
-/
module

public import proofs.«01_k».proof.Proof.RefOps
public import proofs.«01_k».proof.Proof.Arrays
public import Idealize.ShloMosaic.Lib.StableHlo.ReadAt
public import Idealize.ShloMosaic.Lib.ReduceAll
public import Idealize.ShloMosaic.Lib.ValueIdxCore
public import Idealize.ShloMosaic.Lib.Affine
public import Idealize.ShloMosaic.Lib.Tactic.WordOmega

@[expose] public section

noncomputable section

namespace Cert.Proof.Ref

open Cert.ReferenceIdeal Cert.ReferenceIdeal.Gen
open Cert.Proof.Arrays
open Idealize.ShloMosaic Idealize.SL.Sem
open Idealize.ShloMosaic.StableHlo (seq after)

/-- The coordinates of the point the trip names. -/
theorem pick_apply (V : Valuation τ sig (Elt Ideal)) (hi : ∀ x, ((V (Proc.devRef .tc main_while0b_v19) : IVec S8x1x1 32) x).toNat < 8192)
    (b : Fin 8) (j : Fin 1) (c : Fin 3) :
    (after pickOps V (Proc.devRef .tc main_while0b_v20) : FVec Ideal S8x1x3 .f32) (ix3 b j c)
      = (V (Proc.devRef .tc main_v5_0) : FVec Ideal S8x8192x3 .f32) (ix3 b ⟨((V (Proc.devRef .tc main_while0b_v19) : IVec S8x1x1 32) (ix3 b j 0)).toNat, hi _⟩ c) := by
  obtain rfl : j = 0 := Subsingleton.elim _ _
  after_reads_at
  have hw : ∀ x, (select (cmpi .slt (V (Proc.devRef .tc main_while0b_v19) : IVec S8x1x1 32) (broadcastInDim S8x1x1 ![] bcast_S_S8x1x1 (constantI S_ 32 0#32))) (addi (V (Proc.devRef .tc main_while0b_v19) : IVec S8x1x1 32) (broadcastInDim S8x1x1 ![] bcast_S_S8x1x1 (constantI S_ 32 8192#32))) (V (Proc.devRef .tc main_while0b_v19) : IVec S8x1x1 32)) x = _ := word_apply (fun _ => rfl) hi
  have hin : ∀ x, (andi (cmpi .sge (select (cmpi .slt (V (Proc.devRef .tc main_while0b_v19) : IVec S8x1x1 32) (broadcastInDim S8x1x1 ![] bcast_S_S8x1x1 (constantI S_ 32 0#32))) (addi (V (Proc.devRef .tc main_while0b_v19) : IVec S8x1x1 32) (broadcastInDim S8x1x1 ![] bcast_S_S8x1x1 (constantI S_ 32 8192#32))) (V (Proc.devRef .tc main_while0b_v19) : IVec S8x1x1 32)) (broadcastInDim S8x1x1 ![] bcast_S_S8x1x1 (constantI S_ 32 0#32)))
      (cmpi .sle (select (cmpi .slt (V (Proc.devRef .tc main_while0b_v19) : IVec S8x1x1 32) (broadcastInDim S8x1x1 ![] bcast_S_S8x1x1 (constantI S_ 32 0#32))) (addi (V (Proc.devRef .tc main_while0b_v19) : IVec S8x1x1 32) (broadcastInDim S8x1x1 ![] bcast_S_S8x1x1 (constantI S_ 32 8192#32))) (V (Proc.devRef .tc main_while0b_v19) : IVec S8x1x1 32)) (broadcastInDim S8x1x1 ![0, 1, 2] bcast_S1x1x1_S8x1x1_0_1_2 (broadcastInDim S1x1x1 ![2] bcast_S1_S1x1x1_2 (constantI S1 32 8191#32))))) x = 1#1 :=
    within_one (fun _ => rfl) (fun _ => rfl) (fun x => by rw [hw]; exact hi x)
  show Scalar.select (Host.reduce IntOp.andi (andi (cmpi .sge (select (cmpi .slt (V (Proc.devRef .tc main_while0b_v19) : IVec S8x1x1 32) (broadcastInDim S8x1x1 ![] bcast_S_S8x1x1 (constantI S_ 32 0#32))) (addi (V (Proc.devRef .tc main_while0b_v19) : IVec S8x1x1 32) (broadcastInDim S8x1x1 ![] bcast_S_S8x1x1 (constantI S_ 32 8192#32))) (V (Proc.devRef .tc main_while0b_v19) : IVec S8x1x1 32)) (broadcastInDim S8x1x1 ![] bcast_S_S8x1x1 (constantI S_ 32 0#32)))
      (cmpi .sle (select (cmpi .slt (V (Proc.devRef .tc main_while0b_v19) : IVec S8x1x1 32) (broadcastInDim S8x1x1 ![] bcast_S_S8x1x1 (constantI S_ 32 0#32))) (addi (V (Proc.devRef .tc main_while0b_v19) : IVec S8x1x1 32) (broadcastInDim S8x1x1 ![] bcast_S_S8x1x1 (constantI S_ 32 8192#32))) (V (Proc.devRef .tc main_while0b_v19) : IVec S8x1x1 32)) (broadcastInDim S8x1x1 ![0, 1, 2] bcast_S1x1x1_S8x1x1_0_1_2 (broadcastInDim S1x1x1 ![2] bcast_S1_S1x1x1_2 (constantI S1 32 8191#32))))) (constantI S_ 1 1#1) reducesTo_S8x1x1_S8x1_d2 h_S_ (ix2 b 0))
    (Host.gather gather_S8x8192x3_S8x1x1_S8x1x3_2_1_0_0_1_2_113 (V (Proc.devRef .tc main_v5_0) : FVec Ideal S8x8192x3 .f32) (select (cmpi .slt (V (Proc.devRef .tc main_while0b_v19) : IVec S8x1x1 32) (broadcastInDim S8x1x1 ![] bcast_S_S8x1x1 (constantI S_ 32 0#32))) (addi (V (Proc.devRef .tc main_while0b_v19) : IVec S8x1x1 32) (broadcastInDim S8x1x1 ![] bcast_S_S8x1x1 (constantI S_ 32 8192#32))) (V (Proc.devRef .tc main_while0b_v19) : IVec S8x1x1 32)) (ix3 b 0 c)) _ = _
  rw [Host.reduce_andi_one _ _ _ _ _ rfl hin]
  refine Eq.trans (if_pos rfl) ?_
  refine (gather_mid_apply (N := 8192) (by decide) _ _ _ b 0 c).trans ?_
  refine congrArg (fun n => (V (Proc.devRef .tc main_v5_0) : FVec Ideal S8x8192x3 .f32) (ix3 b n c)) (Fin.ext ?_)
  have hb := hi (ix3 b 0 0)
  show min ((select (cmpi .slt (V (Proc.devRef .tc main_while0b_v19) : IVec S8x1x1 32) (broadcastInDim S8x1x1 ![] bcast_S_S8x1x1 (constantI S_ 32 0#32))) (addi (V (Proc.devRef .tc main_while0b_v19) : IVec S8x1x1 32) (broadcastInDim S8x1x1 ![] bcast_S_S8x1x1 (constantI S_ 32 8192#32))) (V (Proc.devRef .tc main_while0b_v19) : IVec S8x1x1 32)) (ix3 b 0 0)).toInt.toNat 8191 = ((V (Proc.devRef .tc main_while0b_v19) : IVec S8x1x1 32) (ix3 b 0 0)).toNat
  rw [hw, BitVec.toInt_eq_toNat_of_lt (by omega)]
  omega

/-- The coordinates of the samples. -/
theorem take0_apply (V : Valuation τ sig (Elt Ideal)) (hi : ∀ x, ((V (Proc.devRef .tc main_v6) : IVec S8x2048x1 32) x).toNat < 8192)
    (b : Fin 8) (j : Fin 2048) (c : Fin 3) :
    (after takeOps0 V (Proc.devRef .tc main_v7) : FVec Ideal S8x2048x3 .f32) (ix3 b j c)
      = (V (Proc.devRef .tc main_v0) : FVec Ideal S8x8192x3 .f32) (ix3 b ⟨((V (Proc.devRef .tc main_v6) : IVec S8x2048x1 32) (ix3 b j 0)).toNat, hi _⟩ c) := by
  after_reads_at
  have hw : ∀ x, (select (cmpi .slt (V (Proc.devRef .tc main_v6) : IVec S8x2048x1 32) (broadcastInDim S8x2048x1 ![] bcast_S_S8x2048x1 (constantI S_ 32 0#32))) (addi (V (Proc.devRef .tc main_v6) : IVec S8x2048x1 32) (broadcastInDim S8x2048x1 ![] bcast_S_S8x2048x1 (constantI S_ 32 8192#32))) (V (Proc.devRef .tc main_v6) : IVec S8x2048x1 32)) x = _ := word_apply (fun _ => rfl) hi
  have hin : ∀ x, (andi (cmpi .sge (select (cmpi .slt (V (Proc.devRef .tc main_v6) : IVec S8x2048x1 32) (broadcastInDim S8x2048x1 ![] bcast_S_S8x2048x1 (constantI S_ 32 0#32))) (addi (V (Proc.devRef .tc main_v6) : IVec S8x2048x1 32) (broadcastInDim S8x2048x1 ![] bcast_S_S8x2048x1 (constantI S_ 32 8192#32))) (V (Proc.devRef .tc main_v6) : IVec S8x2048x1 32)) (broadcastInDim S8x2048x1 ![] bcast_S_S8x2048x1 (constantI S_ 32 0#32)))
      (cmpi .sle (select (cmpi .slt (V (Proc.devRef .tc main_v6) : IVec S8x2048x1 32) (broadcastInDim S8x2048x1 ![] bcast_S_S8x2048x1 (constantI S_ 32 0#32))) (addi (V (Proc.devRef .tc main_v6) : IVec S8x2048x1 32) (broadcastInDim S8x2048x1 ![] bcast_S_S8x2048x1 (constantI S_ 32 8192#32))) (V (Proc.devRef .tc main_v6) : IVec S8x2048x1 32)) (broadcastInDim S8x2048x1 ![0, 1, 2] bcast_S1x1x1_S8x2048x1_0_1_2 (broadcastInDim S1x1x1 ![2] bcast_S1_S1x1x1_2 (constantI S1 32 8191#32))))) x = 1#1 :=
    within_one (fun _ => rfl) (fun _ => rfl) (fun x => by rw [hw]; exact hi x)
  show Scalar.select (Host.reduce IntOp.andi (andi (cmpi .sge (select (cmpi .slt (V (Proc.devRef .tc main_v6) : IVec S8x2048x1 32) (broadcastInDim S8x2048x1 ![] bcast_S_S8x2048x1 (constantI S_ 32 0#32))) (addi (V (Proc.devRef .tc main_v6) : IVec S8x2048x1 32) (broadcastInDim S8x2048x1 ![] bcast_S_S8x2048x1 (constantI S_ 32 8192#32))) (V (Proc.devRef .tc main_v6) : IVec S8x2048x1 32)) (broadcastInDim S8x2048x1 ![] bcast_S_S8x2048x1 (constantI S_ 32 0#32)))
      (cmpi .sle (select (cmpi .slt (V (Proc.devRef .tc main_v6) : IVec S8x2048x1 32) (broadcastInDim S8x2048x1 ![] bcast_S_S8x2048x1 (constantI S_ 32 0#32))) (addi (V (Proc.devRef .tc main_v6) : IVec S8x2048x1 32) (broadcastInDim S8x2048x1 ![] bcast_S_S8x2048x1 (constantI S_ 32 8192#32))) (V (Proc.devRef .tc main_v6) : IVec S8x2048x1 32)) (broadcastInDim S8x2048x1 ![0, 1, 2] bcast_S1x1x1_S8x2048x1_0_1_2 (broadcastInDim S1x1x1 ![2] bcast_S1_S1x1x1_2 (constantI S1 32 8191#32))))) (constantI S_ 1 1#1) reducesTo_S8x2048x1_S8x2048_d2 h_S_ (ix2 b j))
    (Host.gather gather_S8x8192x3_S8x2048x1_S8x2048x3_2_1_0_0_1_2_113 (V (Proc.devRef .tc main_v0) : FVec Ideal S8x8192x3 .f32) (select (cmpi .slt (V (Proc.devRef .tc main_v6) : IVec S8x2048x1 32) (broadcastInDim S8x2048x1 ![] bcast_S_S8x2048x1 (constantI S_ 32 0#32))) (addi (V (Proc.devRef .tc main_v6) : IVec S8x2048x1 32) (broadcastInDim S8x2048x1 ![] bcast_S_S8x2048x1 (constantI S_ 32 8192#32))) (V (Proc.devRef .tc main_v6) : IVec S8x2048x1 32)) (ix3 b j c)) _ = _
  rw [Host.reduce_andi_one _ _ _ _ _ rfl hin]
  refine Eq.trans (if_pos rfl) ?_
  refine (gather_mid_apply (N := 8192) (by decide) _ _ _ b j c).trans ?_
  refine congrArg (fun n => (V (Proc.devRef .tc main_v0) : FVec Ideal S8x8192x3 .f32) (ix3 b n c)) (Fin.ext ?_)
  have hb := hi (ix3 b j 0)
  show min ((select (cmpi .slt (V (Proc.devRef .tc main_v6) : IVec S8x2048x1 32) (broadcastInDim S8x2048x1 ![] bcast_S_S8x2048x1 (constantI S_ 32 0#32))) (addi (V (Proc.devRef .tc main_v6) : IVec S8x2048x1 32) (broadcastInDim S8x2048x1 ![] bcast_S_S8x2048x1 (constantI S_ 32 8192#32))) (V (Proc.devRef .tc main_v6) : IVec S8x2048x1 32)) (ix3 b j 0)).toInt.toNat 8191 = ((V (Proc.devRef .tc main_v6) : IVec S8x2048x1 32) (ix3 b j 0)).toNat
  rw [hw, BitVec.toInt_eq_toNat_of_lt (by omega)]
  omega

/-- The features of the samples. -/
theorem take1_apply (V : Valuation τ sig (Elt Ideal)) (hi : ∀ x, ((V (Proc.devRef .tc main_v8) : IVec S8x2048x1 32) x).toNat < 8192)
    (b : Fin 8) (j : Fin 2048) (c : Fin 128) :
    (after takeOps1 V (Proc.devRef .tc main_v9) : FVec Ideal S8x2048x128 .f32) (ix3 b j c)
      = (V (Proc.devRef .tc main_v1) : FVec Ideal S8x8192x128 .f32) (ix3 b ⟨((V (Proc.devRef .tc main_v8) : IVec S8x2048x1 32) (ix3 b j 0)).toNat, hi _⟩ c) := by
  after_reads_at
  have hw : ∀ x, (select (cmpi .slt (V (Proc.devRef .tc main_v8) : IVec S8x2048x1 32) (broadcastInDim S8x2048x1 ![] bcast_S_S8x2048x1 (constantI S_ 32 0#32))) (addi (V (Proc.devRef .tc main_v8) : IVec S8x2048x1 32) (broadcastInDim S8x2048x1 ![] bcast_S_S8x2048x1 (constantI S_ 32 8192#32))) (V (Proc.devRef .tc main_v8) : IVec S8x2048x1 32)) x = _ := word_apply (fun _ => rfl) hi
  have hin : ∀ x, (andi (cmpi .sge (select (cmpi .slt (V (Proc.devRef .tc main_v8) : IVec S8x2048x1 32) (broadcastInDim S8x2048x1 ![] bcast_S_S8x2048x1 (constantI S_ 32 0#32))) (addi (V (Proc.devRef .tc main_v8) : IVec S8x2048x1 32) (broadcastInDim S8x2048x1 ![] bcast_S_S8x2048x1 (constantI S_ 32 8192#32))) (V (Proc.devRef .tc main_v8) : IVec S8x2048x1 32)) (broadcastInDim S8x2048x1 ![] bcast_S_S8x2048x1 (constantI S_ 32 0#32)))
      (cmpi .sle (select (cmpi .slt (V (Proc.devRef .tc main_v8) : IVec S8x2048x1 32) (broadcastInDim S8x2048x1 ![] bcast_S_S8x2048x1 (constantI S_ 32 0#32))) (addi (V (Proc.devRef .tc main_v8) : IVec S8x2048x1 32) (broadcastInDim S8x2048x1 ![] bcast_S_S8x2048x1 (constantI S_ 32 8192#32))) (V (Proc.devRef .tc main_v8) : IVec S8x2048x1 32)) (broadcastInDim S8x2048x1 ![0, 1, 2] bcast_S1x1x1_S8x2048x1_0_1_2 (broadcastInDim S1x1x1 ![2] bcast_S1_S1x1x1_2 (constantI S1 32 8191#32))))) x = 1#1 :=
    within_one (fun _ => rfl) (fun _ => rfl) (fun x => by rw [hw]; exact hi x)
  show Scalar.select (Host.reduce IntOp.andi (andi (cmpi .sge (select (cmpi .slt (V (Proc.devRef .tc main_v8) : IVec S8x2048x1 32) (broadcastInDim S8x2048x1 ![] bcast_S_S8x2048x1 (constantI S_ 32 0#32))) (addi (V (Proc.devRef .tc main_v8) : IVec S8x2048x1 32) (broadcastInDim S8x2048x1 ![] bcast_S_S8x2048x1 (constantI S_ 32 8192#32))) (V (Proc.devRef .tc main_v8) : IVec S8x2048x1 32)) (broadcastInDim S8x2048x1 ![] bcast_S_S8x2048x1 (constantI S_ 32 0#32)))
      (cmpi .sle (select (cmpi .slt (V (Proc.devRef .tc main_v8) : IVec S8x2048x1 32) (broadcastInDim S8x2048x1 ![] bcast_S_S8x2048x1 (constantI S_ 32 0#32))) (addi (V (Proc.devRef .tc main_v8) : IVec S8x2048x1 32) (broadcastInDim S8x2048x1 ![] bcast_S_S8x2048x1 (constantI S_ 32 8192#32))) (V (Proc.devRef .tc main_v8) : IVec S8x2048x1 32)) (broadcastInDim S8x2048x1 ![0, 1, 2] bcast_S1x1x1_S8x2048x1_0_1_2 (broadcastInDim S1x1x1 ![2] bcast_S1_S1x1x1_2 (constantI S1 32 8191#32))))) (constantI S_ 1 1#1) reducesTo_S8x2048x1_S8x2048_d2 h_S_ (ix2 b j))
    (Host.gather gather_S8x8192x128_S8x2048x1_S8x2048x128_2_1_0_0_1_2_11128 (V (Proc.devRef .tc main_v1) : FVec Ideal S8x8192x128 .f32) (select (cmpi .slt (V (Proc.devRef .tc main_v8) : IVec S8x2048x1 32) (broadcastInDim S8x2048x1 ![] bcast_S_S8x2048x1 (constantI S_ 32 0#32))) (addi (V (Proc.devRef .tc main_v8) : IVec S8x2048x1 32) (broadcastInDim S8x2048x1 ![] bcast_S_S8x2048x1 (constantI S_ 32 8192#32))) (V (Proc.devRef .tc main_v8) : IVec S8x2048x1 32)) (ix3 b j c)) _ = _
  rw [Host.reduce_andi_one _ _ _ _ _ rfl hin]
  refine Eq.trans (if_pos rfl) ?_
  refine (gather_mid_apply (N := 8192) (by decide) _ _ _ b j c).trans ?_
  refine congrArg (fun n => (V (Proc.devRef .tc main_v1) : FVec Ideal S8x8192x128 .f32) (ix3 b n c)) (Fin.ext ?_)
  have hb := hi (ix3 b j 0)
  show min ((select (cmpi .slt (V (Proc.devRef .tc main_v8) : IVec S8x2048x1 32) (broadcastInDim S8x2048x1 ![] bcast_S_S8x2048x1 (constantI S_ 32 0#32))) (addi (V (Proc.devRef .tc main_v8) : IVec S8x2048x1 32) (broadcastInDim S8x2048x1 ![] bcast_S_S8x2048x1 (constantI S_ 32 8192#32))) (V (Proc.devRef .tc main_v8) : IVec S8x2048x1 32)) (ix3 b j 0)).toInt.toNat 8191 = ((V (Proc.devRef .tc main_v8) : IVec S8x2048x1 32) (ix3 b j 0)).toNat
  rw [hw, BitVec.toInt_eq_toNat_of_lt (by omega)]
  omega

end Cert.Proof.Ref

end
-- ==== Proof.RefArg.lean ====
/-
  The reference's arg-max along the points: the fold of its (value, index) pairs ends at the first point of the greatest value.
-/
module

public import proofs.«01_k».proof.Proof.RefOps
public import proofs.«01_k».proof.Proof.Spec
public import Idealize.ShloMosaic.PureOps.Ideal.Laws
public import Idealize.ShloMosaic.PureOps.Reduce
public import Idealize.ShloMosaic.Lib.StableHlo.ReadAt
public import Idealize.ShloMosaic.Lib.ValueIdxCore

@[expose] public section

noncomputable section

namespace Cert.Proof.Ref

open Cert.ReferenceIdeal Cert.ReferenceIdeal.Gen
open Cert.Proof.Fps
open Idealize.ShloMosaic Idealize.SL.Sem
open Idealize.ShloMosaic.StableHlo (seq after)

/-- A pair the fold may stand at: a value that bounds those seen, and the first place it was seen at; or the start. -/
structure Best (f : Fin 8192 → EReal) (L : List (EReal × BitVec 32)) (p : EReal × BitVec 32) : Prop where
  at_ : ∃ n : Fin 8192, p.2 = BitVec.ofNat 32 n.val ∧ (p.1 = f n ∨ p.1 = ⊥ ∧ n = 0) ∧
    ∀ k : Fin 8192, (f k, BitVec.ofNat 32 k.val) ∈ L → f k ≤ p.1 ∧ (f k = p.1 → n ≤ k)

/-- One step of the fold: the greater value, and at a tie the lesser index. -/
theorem reducer_eq (v : EReal) (n : Fin 8192) (w : EReal) (k : Fin 8192) :
    reducer_argmax_f32_i32 (F := Ideal) (v, BitVec.ofNat 32 n.val) (w, BitVec.ofNat 32 k.val)
      = if w < v then (v, BitVec.ofNat 32 n.val) else if v = w then (w, BitVec.ofNat 32 (min n k).val) else (w, BitVec.ofNat 32 k.val) := by
  have hslt : (BitVec.ofNat 32 n.val).slt (BitVec.ofNat 32 k.val) = decide (n < k) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  unfold reducer_argmax_f32_i32
  have h1 : FloatOps.cmpf (F := Ideal) (φ := .f32) .ogt v w = if w < v then 1#1 else 0#1 := by
    by_cases e : w < v <;> simp [Ideal.cmpf_def, Ideal.cmp, e]
  have h2 : FloatOps.cmpf (F := Ideal) (φ := .f32) .une v v = 0#1 := by simp [Ideal.cmpf_def, Ideal.cmp]
  have h3 : FloatOps.cmpf (F := Ideal) (φ := .f32) .oeq v w = if v = w then 1#1 else 0#1 := by
    by_cases e : v = w <;> simp [Ideal.cmpf_def, Ideal.cmp, e]
  simp only [h1, h2, h3]
  by_cases hlt : w < v
  · rw [if_pos hlt, if_pos hlt]
    simp only [IntOp.cmpi]
    cases ((BitVec.ofNat 32 n.val).slt (BitVec.ofNat 32 k.val)) <;> by_cases e : v = w <;> simp [e] <;> exact ⟨rfl, rfl⟩
  · rw [if_neg hlt, if_neg hlt]
    by_cases he : v = w
    · rw [if_pos he, if_pos he]
      simp only [IntOp.cmpi, hslt]
      by_cases hnk : n < k
      · rw [min_eq_left hnk.le]; simp [hnk]; exact ⟨rfl, rfl⟩
      · rw [min_eq_right (not_lt.mp hnk)]; simp [hnk]; exact ⟨rfl, rfl⟩
    · rw [if_neg he, if_neg he]
      simp only [IntOp.cmpi]
      cases ((BitVec.ofNat 32 n.val).slt (BitVec.ofNat 32 k.val)) <;> rfl

theorem Best.step {f : Fin 8192 → EReal} {L : List (EReal × BitVec 32)} {p : EReal × BitVec 32} (h : Best f L p) (k : Fin 8192) :
    Best f (L ++ [(f k, BitVec.ofNat 32 k.val)]) (reducer_argmax_f32_i32 (F := Ideal) p (f k, BitVec.ofNat 32 k.val)) := by
  obtain ⟨n, hn, hv, hL⟩ := h.at_
  obtain ⟨v, i⟩ := p
  simp only at hn hv hL
  subst hn
  rw [reducer_eq]
  have hmem : ∀ k' : Fin 8192, (f k', BitVec.ofNat 32 k'.val) ∈ L ++ [(f k, BitVec.ofNat 32 k.val)] → (f k', BitVec.ofNat 32 k'.val) ∈ L ∨ k' = k := by
    intro k' hk'
    rcases List.mem_append.mp hk' with h | h
    · exact Or.inl h
    · right
      have := congrArg (fun q => q.2.toNat) (List.mem_singleton.mp h)
      simp only [BitVec.toNat_ofNat] at this
      rw [Nat.mod_eq_of_lt (by omega), Nat.mod_eq_of_lt (by omega)] at this
      exact Fin.ext this
  by_cases hlt : f k < v
  · rw [if_pos hlt]
    refine ⟨n, rfl, hv, fun k' hk' => ?_⟩
    rcases hmem k' hk' with h | rfl
    · exact hL k' h
    · exact ⟨hlt.le, fun e => absurd e hlt.ne⟩
  · rw [if_neg hlt]
    by_cases he : v = f k
    · rw [if_pos he]
      refine ⟨min n k, rfl, ?_, fun k' hk' => ?_⟩
      · rcases le_total n k with h | h
        · rw [min_eq_left h]; rw [he] at hv; exact hv
        · rw [min_eq_right h]; exact Or.inl rfl
      · rcases hmem k' hk' with h | rfl
        · obtain ⟨a, b⟩ := hL k' h
          exact ⟨he ▸ a, fun e => (min_le_left _ _).trans (b (e.trans he.symm))⟩
        · exact ⟨le_rfl, fun _ => min_le_right _ _⟩
    · rw [if_neg he]
      have hgt : v < f k := lt_of_le_of_ne (not_lt.mp hlt) he
      refine ⟨k, rfl, Or.inl rfl, fun k' hk' => ?_⟩
      rcases hmem k' hk' with h | rfl
      · obtain ⟨a, b⟩ := hL k' h
        exact ⟨a.trans hgt.le, fun e => absurd a (not_le.mpr (lt_of_lt_of_eq hgt e.symm))⟩
      · exact ⟨le_rfl, fun _ => le_rfl⟩

theorem best_fold (f : Fin 8192 → EReal) : ∀ (L L' : List (EReal × BitVec 32)) (p : EReal × BitVec 32), Best f L' p →
    (∀ q ∈ L, ∃ k : Fin 8192, q = (f k, BitVec.ofNat 32 k.val)) → Best f (L' ++ L) (L.foldl (reducer_argmax_f32_i32 (F := Ideal)) p)
  | [], L', p, h, _ => by rw [List.append_nil]; exact h
  | q :: L, L', p, h, hq => by
    obtain ⟨k, rfl⟩ := hq q List.mem_cons_self
    rw [List.foldl_cons, show L' ++ (f k, BitVec.ofNat 32 k.val) :: L = (L' ++ [(f k, BitVec.ofNat 32 k.val)]) ++ L by simp]
    exact best_fold f L _ _ (h.step k) (fun q' hq' => hq q' (List.mem_cons_of_mem _ hq'))

/-- The whole fold, every point seen: the index is that of the arg-max. -/
theorem fold_argmax (f : Fin 8192 → EReal) (L : List (EReal × BitVec 32)) (hq : ∀ q ∈ L, ∃ k : Fin 8192, q = (f k, BitVec.ofNat 32 k.val))
    (hall : ∀ k : Fin 8192, (f k, BitVec.ofNat 32 k.val) ∈ L) :
    (L.foldl (reducer_argmax_f32_i32 (F := Ideal)) (⊥, 0#32)).2 = BitVec.ofNat 32 (argmax f).val := by
  obtain ⟨n, hn, hv, hL⟩ := (best_fold f L [] (⊥, 0#32) ⟨⟨0, rfl, Or.inr ⟨rfl, rfl⟩, fun _ h => nomatch h⟩⟩ hq).at_
  rw [hn]
  congr 2
  refine FirstMax.unique (f := f) ?_ (argmax_spec f)
  rw [List.nil_append] at hL
  rcases hv with e | ⟨e, rfl⟩
  · exact ⟨fun k => e ▸ (hL k (hall k)).1, fun k hk => (hL k (hall k)).2 (hk.trans e.symm)⟩
  · have hb : ∀ k, f k = ⊥ := fun k => le_bot_iff.mp (e ▸ (hL k (hall k)).1)
    exact ⟨fun k => by rw [hb k, hb 0], fun k _ => Fin.zero_le _⟩

theorem neg_inf : Ideal.ofBits .f32 0xFF800000#32 = (⊥ : EReal) := by
  simp [Ideal.ofBits, Ideal.ieee]

/-- The arg-max along the points. -/
theorem argmax_apply (D : FVec Ideal S8x8192 .f32) (b : Fin 8) :
    (Host.argReduce (F := Ideal) (φ := .f32) reducer_argmax_f32_i32 D (iotaInDim S8x8192 32 1)
      (constant (F := Ideal) S_ .f32 0xFF800000#32) (constantI S_ 32 0#32) reducesTo_S8x8192_S8_d1 h_S_ (ix1 b)).2
      = BitVec.ofNat 32 (argmax fun n => D (ix2 b n)).val := by
  rw [Ideal.argReduce_eq_reduce2, Host.reduce2_eq_foldl_fiber]
  have hd0 : ∀ i : S8x8192.Idx, (reducesTo_S8x8192_S8_d1.drop i 0 : ℕ) = i 0 := fun i => Shape.ReducesTo.drop_apply_val_of_eq _ i 0 0
  have hinit : ((constant (F := Ideal) S_ .f32 0xFF800000#32) (Shape.Idx.first h_S_), (constantI S_ 32 0#32) (Shape.Idx.first h_S_)) = ((⊥ : EReal), 0#32) := by
    refine Prod.ext ?_ rfl
    show FloatOps.ofBits (F := Ideal) .f32 0xFF800000#32 = (⊥ : EReal)
    exact neg_inf
  rw [hinit]
  refine fold_argmax (fun n => D (ix2 b n)) _ ?_ ?_
  · intro q hq
    unfold Host.argReduceFiber at hq
    obtain ⟨n, hn, rfl⟩ := List.mem_map.mp hq
    have hj := of_decide_eq_true (List.mem_filter.mp hn).2
    generalize S8x8192.rowMajor.symm n = i at hj ⊢
    have hi : i = ix2 b (i 1) := by
      rw [ValueIdx.eq_ix2 i]
      have h0 := congrArg (fun j : S8.Idx => (j 0).val) hj
      have h0 := (hd0 i).symm.trans h0
      have h0 : i 0 = b := Fin.ext h0
      rw [h0]
      rfl
    exact ⟨i 1, Prod.ext (congrArg D hi) rfl⟩
  · intro k
    unfold Host.argReduceFiber
    refine List.mem_map.mpr ⟨S8x8192.rowMajor (ix2 b k), List.mem_filter.mpr ⟨List.mem_finRange _, decide_eq_true ?_⟩, ?_⟩
    · rw [Equiv.symm_apply_apply]
      funext a
      match a with
      | ⟨0, _⟩ => exact Fin.ext (hd0 _)
    · rw [Equiv.symm_apply_apply]
      rfl

/-- The trip's arg-max of its distances. -/
theorem arg_apply (V : Valuation τ sig (Elt Ideal)) (b : Fin 8) :
    (after argOps V (Proc.devRef .tc main_while0b_v26) : IVec S8 32) (ix1 b)
      = BitVec.ofNat 32 (argmax fun n => (V (Proc.devRef .tc main_while0b_v25) : FVec Ideal S8x8192 .f32) (ix2 b n)).val := by
  after_reads_at
  show (Host.argReduce (F := Ideal) (φ := .f32) reducer_argmax_f32_i32 (V (Proc.devRef .tc main_while0b_v25) : FVec Ideal S8x8192 .f32) (iotaInDim S8x8192 32 1)
    (constant (F := Ideal) S_ .f32 0xFF800000#32) (constantI S_ 32 0#32) reducesTo_S8x8192_S8_d1 h_S_ (ix1 b)).2 = _
  exact argmax_apply _ b

end Cert.Proof.Ref

end
-- ==== Proof.RefTrip.lean ====
/-
  One trip of the reference's loop, stretch by stretch: what each writes at an index, and what it leaves alone.
-/
module

public import proofs.«01_k».proof.Proof.RefTake
public import proofs.«01_k».proof.Proof.RefArg
public import proofs.«01_k».proof.Proof.Points
public import Idealize.ShloMosaic.Lib.Routing.OpsOne

@[expose] public section

noncomputable section

namespace Cert.Proof.Ref

open Cert.ReferenceIdeal Cert.ReferenceIdeal.Gen
open Cert.Proof.Fps
open Idealize.ShloMosaic Idealize.SL.Sem
open Idealize.ShloMosaic.StableHlo (seq after)

variable (V : Valuation τ sig (Elt Ideal))

/-- An element of an array of numbers, and one of an array of words. -/
abbrev gf {s : Shape} (v : FVec Ideal s .f32) (i : s.Idx) : EReal := v i
abbrev gi {s : Shape} (v : IVec s 32) (i : s.Idx) : BitVec 32 := v i

/-! ## What each stretch leaves alone -/

theorem condOps_main_v5_0 : after condOps V (Proc.devRef .tc main_v5_0) = V (Proc.devRef .tc main_v5_0) := by after_reads_simp
theorem condOps_main_v0 : after condOps V (Proc.devRef .tc main_v0) = V (Proc.devRef .tc main_v0) := by after_reads_simp
theorem condOps_main_v1 : after condOps V (Proc.devRef .tc main_v1) = V (Proc.devRef .tc main_v1) := by after_reads_simp
theorem condOps_main_arg0 : after condOps V (Proc.devRef .tc main_arg0) = V (Proc.devRef .tc main_arg0) := by after_reads_simp
theorem condOps_main_arg1 : after condOps V (Proc.devRef .tc main_arg1) = V (Proc.devRef .tc main_arg1) := by after_reads_simp
theorem condOps_main_v5_1 : after condOps V (Proc.devRef .tc main_v5_1) = V (Proc.devRef .tc main_v5_1) := by after_reads_simp
theorem condOps_main_v5_2 : after condOps V (Proc.devRef .tc main_v5_2) = V (Proc.devRef .tc main_v5_2) := by after_reads_simp
theorem condOps_main_v5_3 : after condOps V (Proc.devRef .tc main_v5_3) = V (Proc.devRef .tc main_v5_3) := by after_reads_simp
theorem condOps_main_v5_4 : after condOps V (Proc.devRef .tc main_v5_4) = V (Proc.devRef .tc main_v5_4) := by after_reads_simp
theorem condOps_main_v5_5 : after condOps V (Proc.devRef .tc main_v5_5) = V (Proc.devRef .tc main_v5_5) := by after_reads_simp
theorem headOps_main_v5_0 : after headOps V (Proc.devRef .tc main_v5_0) = V (Proc.devRef .tc main_v5_0) := by after_reads_simp
theorem headOps_main_v0 : after headOps V (Proc.devRef .tc main_v0) = V (Proc.devRef .tc main_v0) := by after_reads_simp
theorem headOps_main_v1 : after headOps V (Proc.devRef .tc main_v1) = V (Proc.devRef .tc main_v1) := by after_reads_simp
theorem headOps_main_arg0 : after headOps V (Proc.devRef .tc main_arg0) = V (Proc.devRef .tc main_arg0) := by after_reads_simp
theorem headOps_main_arg1 : after headOps V (Proc.devRef .tc main_arg1) = V (Proc.devRef .tc main_arg1) := by after_reads_simp
theorem headOps_main_v5_1 : after headOps V (Proc.devRef .tc main_v5_1) = V (Proc.devRef .tc main_v5_1) := by after_reads_simp
theorem headOps_main_v5_4 : after headOps V (Proc.devRef .tc main_v5_4) = V (Proc.devRef .tc main_v5_4) := by after_reads_simp
theorem pickOps_main_v5_0 : after pickOps V (Proc.devRef .tc main_v5_0) = V (Proc.devRef .tc main_v5_0) := by after_reads_simp
theorem pickOps_main_v0 : after pickOps V (Proc.devRef .tc main_v0) = V (Proc.devRef .tc main_v0) := by after_reads_simp
theorem pickOps_main_v1 : after pickOps V (Proc.devRef .tc main_v1) = V (Proc.devRef .tc main_v1) := by after_reads_simp
theorem pickOps_main_arg0 : after pickOps V (Proc.devRef .tc main_arg0) = V (Proc.devRef .tc main_arg0) := by after_reads_simp
theorem pickOps_main_arg1 : after pickOps V (Proc.devRef .tc main_arg1) = V (Proc.devRef .tc main_arg1) := by after_reads_simp
theorem pickOps_main_v5_1 : after pickOps V (Proc.devRef .tc main_v5_1) = V (Proc.devRef .tc main_v5_1) := by after_reads_simp
theorem pickOps_main_v5_4 : after pickOps V (Proc.devRef .tc main_v5_4) = V (Proc.devRef .tc main_v5_4) := by after_reads_simp
theorem pickOps_main_while0b_v12 : after pickOps V (Proc.devRef .tc main_while0b_v12) = V (Proc.devRef .tc main_while0b_v12) := by after_reads_simp
theorem pickOps_main_while0b_v18 : after pickOps V (Proc.devRef .tc main_while0b_v18) = V (Proc.devRef .tc main_while0b_v18) := by after_reads_simp
theorem distOps_main_v5_0 : after distOps V (Proc.devRef .tc main_v5_0) = V (Proc.devRef .tc main_v5_0) := by after_reads_simp
theorem distOps_main_v0 : after distOps V (Proc.devRef .tc main_v0) = V (Proc.devRef .tc main_v0) := by after_reads_simp
theorem distOps_main_v1 : after distOps V (Proc.devRef .tc main_v1) = V (Proc.devRef .tc main_v1) := by after_reads_simp
theorem distOps_main_arg0 : after distOps V (Proc.devRef .tc main_arg0) = V (Proc.devRef .tc main_arg0) := by after_reads_simp
theorem distOps_main_arg1 : after distOps V (Proc.devRef .tc main_arg1) = V (Proc.devRef .tc main_arg1) := by after_reads_simp
theorem distOps_main_v5_1 : after distOps V (Proc.devRef .tc main_v5_1) = V (Proc.devRef .tc main_v5_1) := by after_reads_simp
theorem distOps_main_while0b_v12 : after distOps V (Proc.devRef .tc main_while0b_v12) = V (Proc.devRef .tc main_while0b_v12) := by after_reads_simp
theorem distOps_main_while0b_v18 : after distOps V (Proc.devRef .tc main_while0b_v18) = V (Proc.devRef .tc main_while0b_v18) := by after_reads_simp
theorem argOps_main_v5_0 : after argOps V (Proc.devRef .tc main_v5_0) = V (Proc.devRef .tc main_v5_0) := by after_reads_simp
theorem argOps_main_v0 : after argOps V (Proc.devRef .tc main_v0) = V (Proc.devRef .tc main_v0) := by after_reads_simp
theorem argOps_main_v1 : after argOps V (Proc.devRef .tc main_v1) = V (Proc.devRef .tc main_v1) := by after_reads_simp
theorem argOps_main_arg0 : after argOps V (Proc.devRef .tc main_arg0) = V (Proc.devRef .tc main_arg0) := by after_reads_simp
theorem argOps_main_arg1 : after argOps V (Proc.devRef .tc main_arg1) = V (Proc.devRef .tc main_arg1) := by after_reads_simp
theorem argOps_main_v5_1 : after argOps V (Proc.devRef .tc main_v5_1) = V (Proc.devRef .tc main_v5_1) := by after_reads_simp
theorem argOps_main_while0b_v12 : after argOps V (Proc.devRef .tc main_while0b_v12) = V (Proc.devRef .tc main_while0b_v12) := by after_reads_simp
theorem argOps_main_while0b_v18 : after argOps V (Proc.devRef .tc main_while0b_v18) = V (Proc.devRef .tc main_while0b_v18) := by after_reads_simp
theorem argOps_main_while0b_v25 : after argOps V (Proc.devRef .tc main_while0b_v25) = V (Proc.devRef .tc main_while0b_v25) := by after_reads_simp
theorem nextOps_main_v5_0 : after nextOps V (Proc.devRef .tc main_v5_0) = V (Proc.devRef .tc main_v5_0) := by after_reads_simp
theorem nextOps_main_v0 : after nextOps V (Proc.devRef .tc main_v0) = V (Proc.devRef .tc main_v0) := by after_reads_simp
theorem nextOps_main_v1 : after nextOps V (Proc.devRef .tc main_v1) = V (Proc.devRef .tc main_v1) := by after_reads_simp
theorem nextOps_main_arg0 : after nextOps V (Proc.devRef .tc main_arg0) = V (Proc.devRef .tc main_arg0) := by after_reads_simp
theorem nextOps_main_arg1 : after nextOps V (Proc.devRef .tc main_arg1) = V (Proc.devRef .tc main_arg1) := by after_reads_simp
theorem preOps_main_arg0 : after preOps V (Proc.devRef .tc main_arg0) = V (Proc.devRef .tc main_arg0) := by after_reads_simp
theorem preOps_main_arg1 : after preOps V (Proc.devRef .tc main_arg1) = V (Proc.devRef .tc main_arg1) := by after_reads_simp
theorem postOps0_main_v0 : after postOps0 V (Proc.devRef .tc main_v0) = V (Proc.devRef .tc main_v0) := by after_reads_simp
theorem postOps0_main_v1 : after postOps0 V (Proc.devRef .tc main_v1) = V (Proc.devRef .tc main_v1) := by after_reads_simp
theorem postOps0_main_v5_3 : after postOps0 V (Proc.devRef .tc main_v5_3) = V (Proc.devRef .tc main_v5_3) := by after_reads_simp
theorem postOps0_main_arg0 : after postOps0 V (Proc.devRef .tc main_arg0) = V (Proc.devRef .tc main_arg0) := by after_reads_simp
theorem postOps0_main_arg1 : after postOps0 V (Proc.devRef .tc main_arg1) = V (Proc.devRef .tc main_arg1) := by after_reads_simp
theorem takeOps0_main_v1 : after takeOps0 V (Proc.devRef .tc main_v1) = V (Proc.devRef .tc main_v1) := by after_reads_simp
theorem takeOps0_main_v5_3 : after takeOps0 V (Proc.devRef .tc main_v5_3) = V (Proc.devRef .tc main_v5_3) := by after_reads_simp
theorem takeOps0_main_arg0 : after takeOps0 V (Proc.devRef .tc main_arg0) = V (Proc.devRef .tc main_arg0) := by after_reads_simp
theorem takeOps0_main_arg1 : after takeOps0 V (Proc.devRef .tc main_arg1) = V (Proc.devRef .tc main_arg1) := by after_reads_simp
theorem postOps1_main_v1 : after postOps1 V (Proc.devRef .tc main_v1) = V (Proc.devRef .tc main_v1) := by after_reads_simp
theorem postOps1_main_v7 : after postOps1 V (Proc.devRef .tc main_v7) = V (Proc.devRef .tc main_v7) := by after_reads_simp
theorem postOps1_main_arg0 : after postOps1 V (Proc.devRef .tc main_arg0) = V (Proc.devRef .tc main_arg0) := by after_reads_simp
theorem postOps1_main_arg1 : after postOps1 V (Proc.devRef .tc main_arg1) = V (Proc.devRef .tc main_arg1) := by after_reads_simp
theorem takeOps1_main_v7 : after takeOps1 V (Proc.devRef .tc main_v7) = V (Proc.devRef .tc main_v7) := by after_reads_simp
theorem takeOps1_main_arg0 : after takeOps1 V (Proc.devRef .tc main_arg0) = V (Proc.devRef .tc main_arg0) := by after_reads_simp
theorem takeOps1_main_arg1 : after takeOps1 V (Proc.devRef .tc main_arg1) = V (Proc.devRef .tc main_arg1) := by after_reads_simp
theorem postOps2_main_arg0 : after postOps2 V (Proc.devRef .tc main_arg0) = V (Proc.devRef .tc main_arg0) := by after_reads_simp
theorem postOps2_main_arg1 : after postOps2 V (Proc.devRef .tc main_arg1) = V (Proc.devRef .tc main_arg1) := by after_reads_simp

/-! ## What each writes -/

theorem head_v12 (x : S_.Idx) : gi (s := S_) (after headOps V (Proc.devRef .tc main_while0b_v12)) x = gi (s := S_) (V (Proc.devRef .tc main_v5_2)) x + 1#32 := by
  after_reads_at
  rfl

theorem head_v19 (b : Fin 8) (j c : Fin 1) :
    (after headOps V (Proc.devRef .tc main_while0b_v19) : IVec S8x1x1 32) (ix3 b j c) = (V (Proc.devRef .tc main_v5_5) : IVec S8 32) (ix1 b) := by
  after_reads_at

/-- A count below the number of samples is left as it is by the sign correction. -/
theorem count_word {k : ℕ} (hk : k < 2048) :
    Scalar.select (IntOp.cmpi .slt (BitVec.ofNat 32 k) 0#32) (IntOp.addi (BitVec.ofNat 32 k) 2048#32) (BitVec.ofNat 32 k) = BitVec.ofNat 32 k := by
  have : ¬ (BitVec.ofNat 32 k).slt 0#32 := by
    rw [BitVec.slt_iff_toInt_lt, BitVec.toInt_eq_toNat_of_lt (by rw [BitVec.toNat_ofNat]; omega)]; simp; omega
  have hc : IntOp.cmpi .slt (BitVec.ofNat 32 k) 0#32 = 0#1 := by
    simp only [IntOp.cmpi, this]
    rfl
  rw [hc]
  rfl

/-- The sample is written in column `k`. -/
theorem head_v18 {k : ℕ} (hk : k < 2048) (hp : ∀ x, (V (Proc.devRef .tc main_v5_2) : IVec S_ 32) x = BitVec.ofNat 32 k) (b : Fin 8) (j : Fin 2048) :
    (after headOps V (Proc.devRef .tc main_while0b_v18) : IVec S8x2048 32) (ix2 b j)
      = if j = ⟨k, hk⟩ then (V (Proc.devRef .tc main_v5_5) : IVec S8 32) (ix1 b) else (V (Proc.devRef .tc main_v5_3) : IVec S8x2048 32) (ix2 b j) := by
  after_reads_simp
  refine Routing.scatter_col (A := 8) (N := 2048) scatter_S8x2048_S1_S8_0_1_1_0 rfl rfl _ _ _ ⟨k, hk⟩ (by show k < _; omega) ?_ b j
  show Scalar.select (IntOp.cmpi .slt ((V (Proc.devRef .tc main_v5_2) : IVec S_ 32) _) 0#32) (IntOp.addi ((V (Proc.devRef .tc main_v5_2) : IVec S_ 32) _) 2048#32) ((V (Proc.devRef .tc main_v5_2) : IVec S_ 32) _) = _
  rw [hp, count_word hk]

theorem zero_bits : Ideal.ofBits .f32 0x00000000#32 = (0 : EReal) := by simp [Ideal.ofBits, Ideal.ieee]

theorem reduces_d2 : S8x8192x3.Reduces [2] S8x8192 := by decide

/-- The least distance so far, the squares summed over the three coordinates. -/
theorem dist_v25 (b : Fin 8) (n : Fin 8192) :
    gf (s := S8x8192) (after distOps V (Proc.devRef .tc main_while0b_v25)) (ix2 b n)
      = min (gf (s := S8x8192) (V (Proc.devRef .tc main_v5_4)) (ix2 b n))
          (∑ c : Fin 3, (gf (s := S8x8192x3) (V (Proc.devRef .tc main_v5_0)) (ix3 b n c) - gf (s := S8x1x3) (V (Proc.devRef .tc main_while0b_v20)) (ix3 b 0 c))
            * (gf (s := S8x8192x3) (V (Proc.devRef .tc main_v5_0)) (ix3 b n c) - gf (s := S8x1x3) (V (Proc.devRef .tc main_while0b_v20)) (ix3 b 0 c))) := by
  unfold gf
  after_reads_at
  refine congrArg (min _) ?_
  refine (Ideal.hostReduceAdd_single _ reduces_d2 _ _ _).trans ?_
  rw [show constant (F := Ideal) S_ .f32 0x00000000#32 (Shape.Idx.first h_S_) = (0 : EReal) from zero_bits, zero_add]
  refine Finset.sum_congr rfl fun c _ => ?_
  rw [show reduces_d2.lift (ix2 b n) c = ix3 b n c from funext fun a => by fin_cases a <;> rfl]
  pointwise
  rfl

theorem next_v5_1 (x : S_.Idx) : gi (s := S_) (after nextOps V (Proc.devRef .tc main_v5_1)) x = gi (s := S_) (V (Proc.devRef .tc main_v5_1)) x + 1#32 := by
  after_reads_at
  rfl
theorem next_v5_2 : after nextOps V (Proc.devRef .tc main_v5_2) = V (Proc.devRef .tc main_while0b_v12) := by after_reads_simp; rfl
theorem next_v5_3 : after nextOps V (Proc.devRef .tc main_v5_3) = V (Proc.devRef .tc main_while0b_v18) := by after_reads_simp; rfl
theorem next_v5_4 : after nextOps V (Proc.devRef .tc main_v5_4) = V (Proc.devRef .tc main_while0b_v25) := by after_reads_simp; rfl
theorem next_v5_5 : after nextOps V (Proc.devRef .tc main_v5_5) = V (Proc.devRef .tc main_while0b_v26) := by after_reads_simp; rfl

/-! ## Before the loop, and after it -/

theorem pre_v0 (b : Fin 8) (n : Fin 8192) (c : Fin 3) :
    (after preOps V (Proc.devRef .tc main_v0) : FVec Ideal S8x8192x3 .f32) (ix3 b n c) = (V (Proc.devRef .tc main_arg0) : FVec Ideal S8x3x8192 .f32) (ix3 b c n) := by
  after_reads_at
theorem pre_v5_0 (b : Fin 8) (n : Fin 8192) (c : Fin 3) :
    (after preOps V (Proc.devRef .tc main_v5_0) : FVec Ideal S8x8192x3 .f32) (ix3 b n c) = (V (Proc.devRef .tc main_arg0) : FVec Ideal S8x3x8192 .f32) (ix3 b c n) := by
  after_reads_at
  unfold id
  pointwise
theorem pre_v1 (b : Fin 8) (n : Fin 8192) (c : Fin 128) :
    (after preOps V (Proc.devRef .tc main_v1) : FVec Ideal S8x8192x128 .f32) (ix3 b n c) = (V (Proc.devRef .tc main_arg1) : FVec Ideal S8x128x8192 .f32) (ix3 b c n) := by
  after_reads_at
theorem pre_v5_1 (x : S_.Idx) : (after preOps V (Proc.devRef .tc main_v5_1) : IVec S_ 32) x = 0#32 := by
  after_reads_at
  rfl
theorem pre_v5_2 (x : S_.Idx) : (after preOps V (Proc.devRef .tc main_v5_2) : IVec S_ 32) x = 0#32 := by
  after_reads_at
  rfl
theorem pre_v5_4 (b : Fin 8) (n : Fin 8192) : (after preOps V (Proc.devRef .tc main_v5_4) : FVec Ideal S8x8192 .f32) (ix2 b n) = cap := by
  after_reads_at
  rfl
theorem pre_v5_5 (b : Fin 8) : (after preOps V (Proc.devRef .tc main_v5_5) : IVec S8 32) (ix1 b) = 0#32 := by
  after_reads_at
  rfl

theorem post_v6 (b : Fin 8) (j : Fin 2048) (c : Fin 1) :
    (after postOps0 V (Proc.devRef .tc main_v6) : IVec S8x2048x1 32) (ix3 b j c) = (V (Proc.devRef .tc main_v5_3) : IVec S8x2048 32) (ix2 b j) := by
  after_reads_at
theorem post_v8 (b : Fin 8) (j : Fin 2048) (c : Fin 1) :
    (after postOps1 V (Proc.devRef .tc main_v8) : IVec S8x2048x1 32) (ix3 b j c) = (V (Proc.devRef .tc main_v5_3) : IVec S8x2048 32) (ix2 b j) := by
  after_reads_at
theorem post_v10 (b : Fin 8) (c : Fin 3) (j : Fin 2048) :
    (after postOps2 V (Proc.devRef .tc main_v10) : FVec Ideal S8x3x2048 .f32) (ix3 b c j) = (V (Proc.devRef .tc main_v7) : FVec Ideal S8x2048x3 .f32) (ix3 b j c) := by
  after_reads_at
theorem post_v11 (b : Fin 8) (c : Fin 128) (j : Fin 2048) :
    (after postOps2 V (Proc.devRef .tc main_v11) : FVec Ideal S8x128x2048 .f32) (ix3 b c j) = (V (Proc.devRef .tc main_v9) : FVec Ideal S8x2048x128 .f32) (ix3 b j c) := by
  after_reads_at

end Cert.Proof.Ref

end
-- ==== Proof.RefLoop.lean ====
/-
  The reference's loop: before trip `k` it holds the first `k` samples, the least distances from them and the next sample; and the
  arrays its run ends with.
-/
module

public import proofs.«01_k».proof.Proof.RefTrip
public import Idealize.ShloMosaic.Lib.HostLoop.Rules
public import Idealize.ShloMosaic.Init

@[expose] public section

noncomputable section

namespace Cert.Proof.Ref

open Cert.ReferenceIdeal Cert.ReferenceIdeal.Gen
open Cert.Proof.Fps
open Idealize.ShloMosaic Idealize.SL.Sem
open Idealize.ShloMosaic.StableHlo (seq after)

/-- The contents before trip `k`, over the point clouds `xs` and the contents `V₀` at the loop's entry. -/
structure Inv (xs : Clouds) (V₀ : Valuation τ sig (Elt Ideal)) (k : ℕ) (V : Valuation τ sig (Elt Ideal)) : Prop where
  pts : ∀ (b : Fin 8) (n : Fin 8192) (c : Fin 3), gf (s := S8x8192x3) (V (Proc.devRef .tc main_v5_0)) (ix3 b n c) = xs b.val c n
  ctr : ∀ x, gi (s := S_) (V (Proc.devRef .tc main_v5_1)) x = BitVec.ofNat 32 k
  pos : ∀ x, gi (s := S_) (V (Proc.devRef .tc main_v5_2)) x = BitVec.ofNat 32 k
  idx : ∀ (b : Fin 8) (j : Fin 2048), j.val < k → gi (s := S8x2048) (V (Proc.devRef .tc main_v5_3)) (ix2 b j) = BitVec.ofNat 32 (far (xs b.val) j.val).val
  dst : ∀ (b : Fin 8) (n : Fin 8192), gf (s := S8x8192) (V (Proc.devRef .tc main_v5_4)) (ix2 b n) = dist (xs b.val) k n
  nxt : ∀ b : Fin 8, gi (s := S8) (V (Proc.devRef .tc main_v5_5)) (ix1 b) = BitVec.ofNat 32 (far (xs b.val) k).val
  v0 : V (Proc.devRef .tc main_v0) = V₀ (Proc.devRef .tc main_v0)
  v1 : V (Proc.devRef .tc main_v1) = V₀ (Proc.devRef .tc main_v1)
  a0 : V (Proc.devRef .tc main_arg0) = V₀ (Proc.devRef .tc main_arg0)
  a1 : V (Proc.devRef .tc main_arg1) = V₀ (Proc.devRef .tc main_arg1)

/-- A point's number, as a word. -/
theorem toNat_point (p : Fin 8192) : (BitVec.ofNat 32 p.val).toNat = p.val := by
  rw [BitVec.toNat_ofNat, Nat.mod_eq_of_lt (by omega)]

/-- A count, one more. -/
theorem count_succ (k : ℕ) : BitVec.ofNat 32 k + 1#32 = BitVec.ofNat 32 (k + 1) := by rw [BitVec.ofNat_add]

/-- The loop's test leaves all of it. -/
theorem Inv.cond {xs : Clouds} {V₀ : Valuation τ sig (Elt Ideal)} {k : ℕ} {V : Valuation τ sig (Elt Ideal)} (h : Inv xs V₀ k V) : Inv xs V₀ k (after condOps V) where
  pts b n c := by rw [condOps_main_v5_0]; exact h.pts b n c
  ctr x := by rw [condOps_main_v5_1]; exact h.ctr x
  pos x := by rw [condOps_main_v5_2]; exact h.pos x
  idx b j hj := by rw [condOps_main_v5_3]; exact h.idx b j hj
  dst b n := by rw [condOps_main_v5_4]; exact h.dst b n
  nxt b := by rw [condOps_main_v5_5]; exact h.nxt b
  v0 := by rw [condOps_main_v0]; exact h.v0
  v1 := by rw [condOps_main_v1]; exact h.v1
  a0 := by rw [condOps_main_arg0]; exact h.a0
  a1 := by rw [condOps_main_arg1]; exact h.a1

section Trip
variable {xs : Clouds} {V₀ : Valuation τ sig (Elt Ideal)} {k : ℕ} {V : Valuation τ sig (Elt Ideal)}

/-- The coordinates the trip picks are the sample's. -/
theorem Inv.picked (h : Inv xs V₀ k V) (b : Fin 8) (c : Fin 3) :
    gf (s := S8x1x3) (after pickOps (after headOps V) (Proc.devRef .tc main_while0b_v20)) (ix3 b 0 c) = xs b.val c (far (xs b.val) k) := by
  have hw : ∀ (b : Fin 8) (j c : Fin 1), gi (s := S8x1x1) (after headOps V (Proc.devRef .tc main_while0b_v19)) (ix3 b j c) = BitVec.ofNat 32 (far (xs b.val) k).val :=
    fun b j c => (head_v19 V b j c).trans (h.nxt b)
  have hlt : ∀ x, (gi (s := S8x1x1) (after headOps V (Proc.devRef .tc main_while0b_v19)) x).toNat < 8192 := fun x => by
    have e : gi (s := S8x1x1) (after headOps V (Proc.devRef .tc main_while0b_v19)) x = BitVec.ofNat 32 (far (xs (x 0).val) k).val :=
      (congrArg (gi (s := S8x1x1) (after headOps V (Proc.devRef .tc main_while0b_v19))) (ValueIdx.eq_ix3 x)).trans (hw (x 0) (x 1) (x 2))
    rw [e, toNat_point]; exact (far _ _).isLt
  refine (pick_apply (after headOps V) hlt b 0 c).trans ?_
  rw [headOps_main_v5_0]
  refine (h.pts b _ c).trans ?_
  refine congrArg (xs b.val c) (Fin.ext ?_)
  show (gi (s := S8x1x1) (after headOps V (Proc.devRef .tc main_while0b_v19)) (ix3 b 0 0)).toNat = _
  rw [hw, toNat_point]

/-- The distances the trip leaves. -/
theorem Inv.dist' (h : Inv xs V₀ k V) (b : Fin 8) (n : Fin 8192) :
    gf (s := S8x8192) (after distOps (after pickOps (after headOps V)) (Proc.devRef .tc main_while0b_v25)) (ix2 b n) = dist (xs b.val) (k + 1) n := by
  rw [dist_v25, dist_succ, pickOps_main_v5_4, headOps_main_v5_4, pickOps_main_v5_0, headOps_main_v5_0, h.dst]
  refine congrArg (min _) ?_
  rw [Fin.sum_univ_three, h.picked, h.picked, h.picked, h.pts, h.pts, h.pts]
  rfl

theorem Inv.next (h : Inv xs V₀ k V) (hk : k < 2048) : Inv xs V₀ (k + 1) (StableHlo.afterL bodyI V) where
  pts b n c := by
    simp only [StableHlo.afterL_cons, StableHlo.afterL_nil]
    rw [nextOps_main_v5_0, argOps_main_v5_0, distOps_main_v5_0, pickOps_main_v5_0, headOps_main_v5_0]; exact h.pts b n c
  ctr x := by
    simp only [StableHlo.afterL_cons, StableHlo.afterL_nil]
    rw [next_v5_1, argOps_main_v5_1, distOps_main_v5_1, pickOps_main_v5_1, headOps_main_v5_1, h.ctr, count_succ]
  pos x := by
    simp only [StableHlo.afterL_cons, StableHlo.afterL_nil]
    rw [next_v5_2, argOps_main_while0b_v12, distOps_main_while0b_v12, pickOps_main_while0b_v12, head_v12, h.pos, count_succ]
  idx b j hj := by
    simp only [StableHlo.afterL_cons, StableHlo.afterL_nil]
    rw [next_v5_3, argOps_main_while0b_v18, distOps_main_while0b_v18, pickOps_main_while0b_v18]
    refine (head_v18 V hk h.pos b j).trans ?_
    by_cases e : j = ⟨k, hk⟩
    · rw [if_pos e]; subst e; exact h.nxt b
    · rw [if_neg e]; exact h.idx b j (by have : j.val ≠ k := fun e' => e (Fin.ext e'); omega)
  dst b n := by
    simp only [StableHlo.afterL_cons, StableHlo.afterL_nil]
    rw [next_v5_4, argOps_main_while0b_v25]; exact h.dist' b n
  nxt b := by
    simp only [StableHlo.afterL_cons, StableHlo.afterL_nil]
    rw [next_v5_5]
    refine (arg_apply _ b).trans ?_
    unfold far
    rw [show (fun n => (after distOps (after pickOps (after headOps V)) (Proc.devRef .tc main_while0b_v25) : FVec Ideal S8x8192 .f32) (ix2 b n)) = dist (xs b.val) (k + 1)
      from funext fun n => h.dist' b n]
  v0 := by
    simp only [StableHlo.afterL_cons, StableHlo.afterL_nil]
    rw [nextOps_main_v0, argOps_main_v0, distOps_main_v0, pickOps_main_v0, headOps_main_v0]; exact h.v0
  v1 := by
    simp only [StableHlo.afterL_cons, StableHlo.afterL_nil]
    rw [nextOps_main_v1, argOps_main_v1, distOps_main_v1, pickOps_main_v1, headOps_main_v1]; exact h.v1
  a0 := by
    simp only [StableHlo.afterL_cons, StableHlo.afterL_nil]
    rw [nextOps_main_arg0, argOps_main_arg0, distOps_main_arg0, pickOps_main_arg0, headOps_main_arg0]; exact h.a0
  a1 := by
    simp only [StableHlo.afterL_cons, StableHlo.afterL_nil]
    rw [nextOps_main_arg1, argOps_main_arg1, distOps_main_arg1, pickOps_main_arg1, headOps_main_arg1]; exact h.a1

end Trip

/-- At the loop's entry. -/
theorem inv_zero (V : Valuation τ sig (Elt Ideal)) :
    Inv (cloudsOf (V (Proc.devRef .tc main_arg0))) (after preOps V) 0 (after preOps V) where
  pts b n c := (pre_v5_0 V b n c).trans (cloudsOf_lt _ b c n).symm
  ctr x := pre_v5_1 V x
  pos x := pre_v5_2 V x
  idx b j hj := absurd hj (Nat.not_lt_zero _)
  dst b n := (pre_v5_4 V b n).trans (dist_zero _ n).symm
  nxt b := by rw [far_zero]; exact pre_v5_5 V b
  v0 := rfl
  v1 := rfl
  a0 := rfl
  a1 := rfl

variable (m : (ℓ : Loc nD τ sig) → Buf (Elt Ideal) ℓ) (ρ : Dev nD → PrngReg)

theorem inv_at (d : Dev nD) : ∀ k ≤ 2048,
    Inv (cloudsOf (m ((d.tc : Thread nD τ).loc main_arg0))) (StableHlo.entryContents preI m d) k (StableHlo.atTrip condOps bodyI (StableHlo.entryContents preI m) k d)
  | 0, _ => inv_zero (fun b => m (d, b))
  | k + 1, h => (inv_at d k (by omega)).cond.next (by omega)

end Cert.Proof.Ref

end
-- ==== Proof.RefRun.lean ====
/-
  The whole run of the reference: it ends, its arguments unchanged, with each cloud's samples and their features.
-/
module

public import proofs.«01_k».proof.Proof.RefLoop
public import Idealize.ShloMosaic.Lib.Quiescent
public import Idealize.ShloMosaic.Lib.StableHlo.RunLoop

@[expose] public section

noncomputable section

namespace Cert.Proof.Ref

open Cert.ReferenceIdeal Cert.ReferenceIdeal.Gen
open Cert.Proof.Fps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (seq after)
open Idealize.ShloMosaic.Pipeline (ucRefs)

-- every operation of a stretch works on the core's own arrays
section Subs
variable {F : FTy → Type} [FloatOps F]

theorem preOps_sub : (preOps : List (HloOp τ sig (Elt F))).Forall fun op => op.bufs ⊆ StableHlo.tcRefs τ sig := by
  refine And.intro (StableHlo.unary_bufs_sub ..) ?_
  refine And.intro (StableHlo.unary_bufs_sub ..) ?_
  refine And.intro (StableHlo.nullary_bufs_sub ..) ?_
  refine And.intro (StableHlo.unary_bufs_sub ..) ?_
  refine And.intro (StableHlo.nullary_bufs_sub ..) ?_
  refine And.intro (StableHlo.unary_bufs_sub ..) ?_
  refine And.intro (StableHlo.nullary_bufs_sub ..) ?_
  refine And.intro (StableHlo.unary_bufs_sub ..) ?_
  refine And.intro (StableHlo.nullary_bufs_sub ..) ?_
  refine And.intro (StableHlo.nullary_bufs_sub ..) ?_
  refine And.intro (StableHlo.unary_bufs_sub ..) ?_
  refine And.intro (StableHlo.unary_bufs_sub ..) ?_
  refine And.intro (StableHlo.unary_bufs_sub ..) ?_
  refine And.intro (StableHlo.unary_bufs_sub ..) ?_
  refine And.intro (StableHlo.unary_bufs_sub ..) ?_
  exact StableHlo.unary_bufs_sub ..
theorem headOps_sub : (headOps : List (HloOp τ sig (Elt F))).Forall fun op => op.bufs ⊆ StableHlo.tcRefs τ sig := by
  refine And.intro (StableHlo.nullary_bufs_sub ..) ?_
  refine And.intro (StableHlo.binary_bufs_sub ..) ?_
  refine And.intro (StableHlo.nullary_bufs_sub ..) ?_
  refine And.intro (StableHlo.binary_bufs_sub ..) ?_
  refine And.intro (StableHlo.nullary_bufs_sub ..) ?_
  refine And.intro (StableHlo.binary_bufs_sub ..) ?_
  refine And.intro (StableHlo.ternary_bufs_sub ..) ?_
  refine And.intro (StableHlo.unary_bufs_sub ..) ?_
  refine And.intro (StableHlo.unary_bufs_sub ..) ?_
  refine And.intro (StableHlo.ternary_bufs_sub ..) ?_
  exact StableHlo.unary_bufs_sub ..
theorem pickOps_sub : (pickOps : List (HloOp τ sig (Elt F))).Forall fun op => op.bufs ⊆ StableHlo.tcRefs τ sig := by
  refine And.intro (StableHlo.nullary_bufs_sub ..) ?_
  refine And.intro (StableHlo.unary_bufs_sub ..) ?_
  refine And.intro (StableHlo.binary_bufs_sub ..) ?_
  refine And.intro (StableHlo.nullary_bufs_sub ..) ?_
  refine And.intro (StableHlo.unary_bufs_sub ..) ?_
  refine And.intro (StableHlo.binary_bufs_sub ..) ?_
  refine And.intro (StableHlo.ternary_bufs_sub ..) ?_
  refine And.intro (StableHlo.nullary_bufs_sub ..) ?_
  refine And.intro (StableHlo.nullary_bufs_sub ..) ?_
  refine And.intro (StableHlo.unary_bufs_sub ..) ?_
  refine And.intro (StableHlo.binary_bufs_sub ..) ?_
  refine And.intro (StableHlo.unary_bufs_sub ..) ?_
  refine And.intro (StableHlo.unary_bufs_sub ..) ?_
  refine And.intro (StableHlo.binary_bufs_sub ..) ?_
  refine And.intro (StableHlo.binary_bufs_sub ..) ?_
  refine And.intro (StableHlo.nullary_bufs_sub ..) ?_
  refine And.intro (StableHlo.binary_bufs_sub ..) ?_
  refine And.intro (StableHlo.binary_bufs_sub ..) ?_
  refine And.intro (StableHlo.unary_bufs_sub ..) ?_
  refine And.intro (StableHlo.nullary_bufs_sub ..) ?_
  refine And.intro (StableHlo.unary_bufs_sub ..) ?_
  exact StableHlo.ternary_bufs_sub ..
theorem distOps_sub : (distOps : List (HloOp τ sig (Elt F))).Forall fun op => op.bufs ⊆ StableHlo.tcRefs τ sig := by
  refine And.intro (StableHlo.unary_bufs_sub ..) ?_
  refine And.intro (StableHlo.binary_bufs_sub ..) ?_
  refine And.intro (StableHlo.binary_bufs_sub ..) ?_
  refine And.intro (StableHlo.nullary_bufs_sub ..) ?_
  refine And.intro (StableHlo.binary_bufs_sub ..) ?_
  exact StableHlo.binary_bufs_sub ..
theorem argOps_sub : (argOps : List (HloOp τ sig (Elt F))).Forall fun op => op.bufs ⊆ StableHlo.tcRefs τ sig := by
  refine And.intro (StableHlo.nullary_bufs_sub ..) ?_
  refine And.intro (StableHlo.nullary_bufs_sub ..) ?_
  refine And.intro (StableHlo.nullary_bufs_sub ..) ?_
  refine And.intro (StableHlo.quaternary_bufs_sub ..) ?_
  exact StableHlo.quaternary_bufs_sub ..
theorem nextOps_sub : (nextOps : List (HloOp τ sig (Elt F))).Forall fun op => op.bufs ⊆ StableHlo.tcRefs τ sig := by
  refine And.intro (StableHlo.nullary_bufs_sub ..) ?_
  refine And.intro (StableHlo.binary_bufs_sub ..) ?_
  refine And.intro (StableHlo.unary_bufs_sub ..) ?_
  refine And.intro (StableHlo.unary_bufs_sub ..) ?_
  refine And.intro (StableHlo.unary_bufs_sub ..) ?_
  refine And.intro (StableHlo.unary_bufs_sub ..) ?_
  exact StableHlo.unary_bufs_sub ..
theorem postOps0_sub : (postOps0 : List (HloOp τ sig (Elt F))).Forall fun op => op.bufs ⊆ StableHlo.tcRefs τ sig := by
  exact StableHlo.unary_bufs_sub ..
theorem takeOps0_sub : (takeOps0 : List (HloOp τ sig (Elt F))).Forall fun op => op.bufs ⊆ StableHlo.tcRefs τ sig := by
  refine And.intro (StableHlo.nullary_bufs_sub ..) ?_
  refine And.intro (StableHlo.unary_bufs_sub ..) ?_
  refine And.intro (StableHlo.binary_bufs_sub ..) ?_
  refine And.intro (StableHlo.nullary_bufs_sub ..) ?_
  refine And.intro (StableHlo.unary_bufs_sub ..) ?_
  refine And.intro (StableHlo.binary_bufs_sub ..) ?_
  refine And.intro (StableHlo.ternary_bufs_sub ..) ?_
  refine And.intro (StableHlo.nullary_bufs_sub ..) ?_
  refine And.intro (StableHlo.nullary_bufs_sub ..) ?_
  refine And.intro (StableHlo.unary_bufs_sub ..) ?_
  refine And.intro (StableHlo.binary_bufs_sub ..) ?_
  refine And.intro (StableHlo.unary_bufs_sub ..) ?_
  refine And.intro (StableHlo.unary_bufs_sub ..) ?_
  refine And.intro (StableHlo.binary_bufs_sub ..) ?_
  refine And.intro (StableHlo.binary_bufs_sub ..) ?_
  refine And.intro (StableHlo.nullary_bufs_sub ..) ?_
  refine And.intro (StableHlo.binary_bufs_sub ..) ?_
  refine And.intro (StableHlo.binary_bufs_sub ..) ?_
  refine And.intro (StableHlo.unary_bufs_sub ..) ?_
  refine And.intro (StableHlo.nullary_bufs_sub ..) ?_
  refine And.intro (StableHlo.unary_bufs_sub ..) ?_
  exact StableHlo.ternary_bufs_sub ..
theorem postOps1_sub : (postOps1 : List (HloOp τ sig (Elt F))).Forall fun op => op.bufs ⊆ StableHlo.tcRefs τ sig := by
  exact StableHlo.unary_bufs_sub ..
theorem takeOps1_sub : (takeOps1 : List (HloOp τ sig (Elt F))).Forall fun op => op.bufs ⊆ StableHlo.tcRefs τ sig := by
  refine And.intro (StableHlo.nullary_bufs_sub ..) ?_
  refine And.intro (StableHlo.unary_bufs_sub ..) ?_
  refine And.intro (StableHlo.binary_bufs_sub ..) ?_
  refine And.intro (StableHlo.nullary_bufs_sub ..) ?_
  refine And.intro (StableHlo.unary_bufs_sub ..) ?_
  refine And.intro (StableHlo.binary_bufs_sub ..) ?_
  refine And.intro (StableHlo.ternary_bufs_sub ..) ?_
  refine And.intro (StableHlo.nullary_bufs_sub ..) ?_
  refine And.intro (StableHlo.nullary_bufs_sub ..) ?_
  refine And.intro (StableHlo.unary_bufs_sub ..) ?_
  refine And.intro (StableHlo.binary_bufs_sub ..) ?_
  refine And.intro (StableHlo.unary_bufs_sub ..) ?_
  refine And.intro (StableHlo.unary_bufs_sub ..) ?_
  refine And.intro (StableHlo.binary_bufs_sub ..) ?_
  refine And.intro (StableHlo.binary_bufs_sub ..) ?_
  refine And.intro (StableHlo.nullary_bufs_sub ..) ?_
  refine And.intro (StableHlo.binary_bufs_sub ..) ?_
  refine And.intro (StableHlo.binary_bufs_sub ..) ?_
  refine And.intro (StableHlo.unary_bufs_sub ..) ?_
  refine And.intro (StableHlo.nullary_bufs_sub ..) ?_
  refine And.intro (StableHlo.unary_bufs_sub ..) ?_
  exact StableHlo.ternary_bufs_sub ..
theorem postOps2_sub : (postOps2 : List (HloOp τ sig (Elt F))).Forall fun op => op.bufs ⊆ StableHlo.tcRefs τ sig := by
  refine And.intro (StableHlo.unary_bufs_sub ..) ?_
  exact StableHlo.unary_bufs_sub ..

end Subs

variable (m : (ℓ : Loc nD τ sig) → Buf (Elt Ideal) ℓ) (ρ : Dev nD → PrngReg)

-- the space the loop's run is stated in
local notation "𝕄" => MT nD τ sig Unit (Elt Ideal) ℕ (Option PUnit) ℕ

/-- The loop's test, at the count of trips run. -/
theorem pred_iff (k : ℕ) (hk : k ≤ 2048) : IntOp.cmpi .slt (BitVec.ofNat 32 k) 2048#32 = 1#1 ↔ k < 2048 := by
  have h : (BitVec.ofNat 32 k).slt 2048#32 = decide (k < 2048) := by
    rw [BitVec.slt_eq_decide, BitVec.toInt_eq_toNat_of_lt (by rw [BitVec.toNat_ofNat, Nat.mod_eq_of_lt (by omega)]; omega), BitVec.toNat_ofNat, Nat.mod_eq_of_lt (by omega)]
    simp
  unfold IntOp.cmpi
  simp only [h]
  by_cases e : k < 2048 <;> simp [e]

/-- The loop's test run before trip `k`: it holds exactly while a sample is left. -/
theorem cond_spec (k : ℕ) (hk : k ≤ 2048) (c : Dev nD) (bd : Option (Variants.lift Variants.none).V) (V : Valuation τ sig (Elt Ideal))
    (hctr : ∀ x, gi (s := S_) (V (Proc.devRef .tc main_v5_1)) x = BitVec.ofNat 32 k) :
    (iprop(boundary (c.tc : Thread nD τ) ∗ StableHlo.held (c.tc : Thread nD τ) (ucRefs τ sig) V) : sProp 𝕄)
      ⊢ wp frame (wpE (HostLoop.defs loops (Pipeline.defs pcfgs (defs₀ (F := Ideal)))) (Variants.lift Variants.none) (c.tc : Thread nD τ) bd) Set.univ main_while0_cond
          (fun v => iprop(⌜v = 1#1 ↔ k < 2048⌝ ∗ boundary (c.tc : Thread nD τ) ∗ StableHlo.held (c.tc : Thread nD τ) (ucRefs τ sig) (after condOps V))) := by
  unfold main_while0_cond
  simp only [bind_pure]
  rw [wp_bind]
  iintro ⟨Hb, Hh⟩
  iapply (StableHlo.wp_hlo_within (Variants.lift Variants.none) (c.tc : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c.tc : Thread nD τ) bd Set.univ (Pipeline.sub_ucRefs _ (StableHlo.binary_bufs_sub ..))) $$ [Hb Hh]
  · isplitl [Hb]; · iexact Hb
    iexact Hh
  iintro ⟨Hb, Hh⟩
  rw [wp_ret]; imodintro
  isplitr
  · ipureintro
    show Iff (IntOp.cmpi .slt (HloOp.result _ V (Proc.devRef .tc main_v5_1) HostLoop.idx0)
        (HloOp.result _ V (Proc.devRef .tc main_while0c_c_8) HostLoop.idx0) = 1#1) (k < 2048)
    rw [StableHlo.nullary_result_ne _ _ _ _ (by decide), StableHlo.nullary_result]
    refine Iff.trans (iff_of_eq ?_) (pred_iff k hk)
    exact congrArg (fun w : BitVec 32 => IntOp.cmpi .slt w 2048#32 = 1#1) (hctr _)
  isplitl [Hb]; · iexact Hb
  rw [StableHlo.after_cons, StableHlo.after_cons, StableHlo.after_nil]; iexact Hh

/-- A sample's number stays below the cloud's size. -/
theorem Inv.idx_lt {xs : Clouds} {V₀ V : Valuation τ sig (Elt Ideal)} (h : Inv xs V₀ 2048 V) (x : S8x2048.Idx) :
    gi (s := S8x2048) (V (Proc.devRef .tc main_v5_3)) x = BitVec.ofNat 32 (far (xs (x 0).val) (x 1).val).val :=
  (congrArg (gi (s := S8x2048) (V (Proc.devRef .tc main_v5_3))) (ValueIdx.eq_ix2 x)).trans (h.idx (x 0) (x 1) (x 1).isLt)

/-- A gathered point's number, over any array of the samples' numbers. -/
theorem word_lt {w : IVec S8x2048x1 32} {xs : Clouds} (hw : ∀ (b : Fin 8) (j : Fin 2048) (c : Fin 1), w (ix3 b j c) = BitVec.ofNat 32 (far (xs b.val) j.val).val)
    (x : S8x2048x1.Idx) : (w x).toNat < 8192 := by
  have e : w x = BitVec.ofNat 32 (far (xs (x 0).val) (x 1).val).val := (congrArg w (ValueIdx.eq_ix3 x)).trans (hw (x 0) (x 1) (x 2))
  rw [e, toNat_point]; exact (far _ _).isLt

section Ends
variable {xs : Clouds} {V₀ V : Valuation τ sig (Elt Ideal)}

/-- The samples' coordinates, after the loop. -/
theorem Inv.end0 (h : Inv xs V₀ 2048 V) (b : Fin 8) (c : Fin 3) (j : Fin 2048) :
    gf (s := S8x3x2048) (StableHlo.afterL postI V (Proc.devRef .tc main_v10)) (ix3 b c j) = gf (s := S8x8192x3) (V₀ (Proc.devRef .tc main_v0)) (ix3 b (far (xs b.val) j.val) c) := by
  have hw : ∀ (b : Fin 8) (j : Fin 2048) (c : Fin 1), gi (s := S8x2048x1) (after postOps0 V (Proc.devRef .tc main_v6)) (ix3 b j c) = BitVec.ofNat 32 (far (xs b.val) j.val).val :=
    fun b j c => (post_v6 V b j c).trans (h.idx b j j.isLt)
  simp only [StableHlo.afterL_cons, StableHlo.afterL_nil]
  refine (post_v10 _ b c j).trans ?_
  rw [takeOps1_main_v7, postOps1_main_v7]
  refine (take0_apply (after postOps0 V) (word_lt hw) b j c).trans ?_
  rw [postOps0_main_v0, h.v0]
  refine congrArg (fun p => gf (s := S8x8192x3) (V₀ (Proc.devRef .tc main_v0)) (ix3 b p c)) (Fin.ext ?_)
  show (gi (s := S8x2048x1) (after postOps0 V (Proc.devRef .tc main_v6)) (ix3 b j 0)).toNat = _
  rw [hw, toNat_point]

/-- The samples' features, after the loop. -/
theorem Inv.end1 (h : Inv xs V₀ 2048 V) (b : Fin 8) (c : Fin 128) (j : Fin 2048) :
    gf (s := S8x128x2048) (StableHlo.afterL postI V (Proc.devRef .tc main_v11)) (ix3 b c j) = gf (s := S8x8192x128) (V₀ (Proc.devRef .tc main_v1)) (ix3 b (far (xs b.val) j.val) c) := by
  have hw : ∀ (b : Fin 8) (j : Fin 2048) (c : Fin 1),
      gi (s := S8x2048x1) (after postOps1 (after takeOps0 (after postOps0 V)) (Proc.devRef .tc main_v8)) (ix3 b j c) = BitVec.ofNat 32 (far (xs b.val) j.val).val := fun b j c => by
    refine (post_v8 _ b j c).trans ?_
    rw [takeOps0_main_v5_3, postOps0_main_v5_3]; exact h.idx b j j.isLt
  simp only [StableHlo.afterL_cons, StableHlo.afterL_nil]
  refine (post_v11 _ b c j).trans ?_
  refine (take1_apply (after postOps1 (after takeOps0 (after postOps0 V))) (word_lt hw) b j c).trans ?_
  rw [postOps1_main_v1, takeOps0_main_v1, postOps0_main_v1, h.v1]
  refine congrArg (fun p => gf (s := S8x8192x128) (V₀ (Proc.devRef .tc main_v1)) (ix3 b p c)) (Fin.ext ?_)
  show (gi (s := S8x2048x1) (after postOps1 (after takeOps0 (after postOps0 V)) (Proc.devRef .tc main_v8)) (ix3 b j 0)).toNat = _
  rw [hw, toNat_point]

theorem Inv.end_a0 (h : Inv xs V₀ 2048 V) : StableHlo.afterL postI V (Proc.devRef .tc main_arg0) = V₀ (Proc.devRef .tc main_arg0) := by
  simp only [StableHlo.afterL_cons, StableHlo.afterL_nil]
  rw [postOps2_main_arg0, takeOps1_main_arg0, postOps1_main_arg0, takeOps0_main_arg0, postOps0_main_arg0, h.a0]
theorem Inv.end_a1 (h : Inv xs V₀ 2048 V) : StableHlo.afterL postI V (Proc.devRef .tc main_arg1) = V₀ (Proc.devRef .tc main_arg1) := by
  simp only [StableHlo.afterL_cons, StableHlo.afterL_nil]
  rw [postOps2_main_arg1, takeOps1_main_arg1, postOps1_main_arg1, takeOps0_main_arg1, postOps0_main_arg1, h.a1]

end Ends

/-- An argument of the reference, on core `d`. -/
abbrev xLoc (d : Dev nD) : Loc nD τ sig := (d.tc : Thread nD τ).loc main_arg0
abbrev yLoc (d : Dev nD) : Loc nD τ sig := (d.tc : Thread nD τ).loc main_arg1

/-- How the reference's run ends. -/
def QR (r : PUnit × MemSt nD τ sig (Elt Ideal)) : Prop :=
  (∀ d : Dev nD, r.2.mem (xLoc d) = m (xLoc d) ∧ r.2.mem (yLoc d) = m (yLoc d)
    ∧ (∀ (b : Fin 8) (c : Fin 3) (j : Fin 2048), gf (s := S8x3x2048) (r.2.mem ((d.tc : Thread nD τ).loc main_v10)) (ix3 b c j)
        = gf (s := S8x3x8192) (m (xLoc d)) (ix3 b c (far (cloudsOf (m (xLoc d)) b.val) j.val)))
    ∧ (∀ (b : Fin 8) (c : Fin 128) (j : Fin 2048), gf (s := S8x128x2048) (r.2.mem ((d.tc : Thread nD τ).loc main_v11)) (ix3 b c j)
        = gf (s := S8x128x8192) (m (yLoc d)) (ix3 b c (far (cloudsOf (m (xLoc d)) b.val) j.val))))
  ∧ r.2.sem = fun _ => 0

theorem run_ref : θ_run (Cert.ReferenceIdeal.defs (F := Ideal)) (onTc (τ := τ) (Cert.ReferenceIdeal.main (F := Ideal))) ⟨m, fun _ => 0, ρ⟩ (QR m) := by
  have hcond : StableHlo.CondSpec pcfgs (defs₀ (F := Ideal)) loops main_while0_cond condOps bodyI (StableHlo.entryContents preI m) 2048 :=
    fun k hk c bd => cond_spec k hk c bd _ fun x => (inv_at m c k hk).ctr x
  refine θ_run_mono (StableHlo.run_loop pcfgs defs₀ loops main 0 main_while0_cond main_while0_body rfl preI bodyI postI condOps
    (.cons preOps_sub .nil)
    (.cons headOps_sub (.cons pickOps_sub (.cons distOps_sub (.cons argOps_sub (.cons nextOps_sub .nil)))))
    (.cons postOps0_sub (.cons takeOps0_sub (.cons postOps1_sub (.cons takeOps1_sub (.cons postOps2_sub .nil)))))
    main_eq body_eq 2048 m ρ hcond) fun r hr => ?_
  refine ⟨fun d => ?_, sem_eq_zero_of_no_sems (by decide) r.2⟩
  have hI := (inv_at m d 2048 le_rfl).cond
  have e0 : StableHlo.entryContents preI m d = after preOps (fun b => m (d, b)) := rfl
  refine ⟨(hr d main_arg0 rfl).trans (hI.end_a0.trans ?_), (hr d main_arg1 rfl).trans (hI.end_a1.trans ?_), fun b c j => ?_, fun b c j => ?_⟩
  · rw [e0, preOps_main_arg0]
  · rw [e0, preOps_main_arg1]
  · rw [hr d main_v10 rfl]
    refine (hI.end0 b c j).trans ?_
    rw [e0]; exact pre_v0 _ b _ c
  · rw [hr d main_v11 rfl]
    refine (hI.end1 b c j).trans ?_
    rw [e0]; exact pre_v1 _ b _ c

end Cert.Proof.Ref

end
-- ==== Proof.Alone.Setup.lean ====
/-
  The gather as the launch theorem sees it: the program's configuration, the ghost state, the buffers by the names the
  subcores use, and the value every element of the result is to have.

  The kernel runs on two SparseCores of sixteen vector subcores. Subcore `(c, i)` owns thirty-two rows of the (1024, 8192)
  feature array, those from `64 i + 32 c` on, and the same rows of the (1024, 2048) result; all of its rows belong to one
  batch entry (128 rows each), whose row of the (8, 2048) index array it fetches once. Result row `r` holds, at `j`, the
  element of feature row `r` the index array names at `(r / 128, j)`.
-/
module

public import proofs.«01_k».proof.Defs
public import proofs.«01_k».proof.Proof.Rules
public import proofs.«01_k».proof.Proof.Rows
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.Alone

open Cert.GatherIdeal Cert.GatherIdeal.Gen
open Cert.Proof.Rules Cert.Proof.Rows

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch's handshakes, write mode, the transfers' counters -/

abbrev UH : Type := URounds (GSem nD τ sig) ℕ
abbrev UU (F : FTy → Type) : Type := UH × (WmRA nD τ sig (Elt F) × Counters)

local notation "𝕄" => MT nD τ sig (HIx 1) (Elt F) ℕ (UU F) ℕ

abbrev EH : Emb UH (MT nD τ sig (HIx 1) (Elt F) ℕ (UU F) ℕ) := embL
/-- Where the write-mode library's algebra sits. -/
abbrev EW : UEmb (WmRA nD τ sig (Elt F)) (UU F) := (UEmb.inl : UEmb (WmRA nD τ sig (Elt F)) (WmRA nD τ sig (Elt F) × Counters)).trans UEmb.inr
/-- Where the transfers' counters sit. -/
abbrev EC : UEmb Counters (MT nD τ sig (HIx 1) (Elt F) ℕ (UU F) ℕ) := countersEmb

/-! ## The buffers -/

/-- The feature array, the index array and the result, as locations of device `d`. -/
abbrev xLoc (d : Dev nD) : Loc nD τ sig := (SparseCore.T d).loc main_v0
abbrev iLoc (d : Dev nD) : Loc nD τ sig := (SparseCore.T d).loc main_arg1
abbrev oLoc (d : Dev nD) : Loc nD τ sig := (SparseCore.T d).loc main_v1

/-- The same as a subcore names them, and its three scratches: the indices, the two feature slots, the two result slots. -/
abbrev xV : Memref sig .scVector .hbm S1024x8192 .f32 := Memref.whole main_v0_scv
abbrev iV : Memref sig .scVector .hbm S8x2048 .i32 := Memref.whole main_arg1_scv
abbrev oV : Memref sig .scVector .hbm S1024x2048 .f32 := Memref.whole main_v1_scv
abbrev sI : Memref sig .scVector .vmem S2048 .i32 := Memref.whole cc0_scratch0
abbrev sR : Memref sig .scVector .vmem S2x8192 .f32 := Memref.whole cc0_scratch1
abbrev sO : Memref sig .scVector .vmem S2x2048 .f32 := Memref.whole cc0_scratch2

/-! ## The values -/

/-- A feature array's contents and an index array's. -/
abbrev Feat (F : FTy → Type) : Type := S1024x8192.Idx → Elt F .f32
abbrev Inds : Type := S8x2048.Idx → BitVec 32

/-- The value of the result at row `r`, column `j`. -/
def gath (fv : Feat F) (iv : Inds) (r j : ℕ) : Elt F .f32 := at2 fv r (at2 iv (r / 128) j).toNat

/-- The whole result. -/
def result (fv : Feat F) (iv : Inds) : S1024x2048.Idx → Elt F .f32 := fun x => gath fv iv (x 0).val (x 1).val

/-- A slot's contents when feature row `r` fills it (every row of the buffer alike: only the slot's is read). -/
def featSlot (fv : Feat F) (r : ℕ) : S2x8192.Idx → Elt F .f32 := fun x => at2 fv r (x 1).val
/-- A result slot's contents when row `r` has been gathered into it. -/
def outSlot (fv : Feat F) (iv : Inds) (r : ℕ) : S2x2048.Idx → Elt F .f32 := fun x => gath fv iv r (x 1).val
/-- The index scratch's contents for batch entry `b`. -/
def indBuf (iv : Inds) (b : ℕ) : S2048.Idx → BitVec 32 := fun x => at2 iv b (x 0).val

/-! ## The rows of a subcore -/

/-- Subcore `(c, i)`'s first row. -/
def base (c i : ℕ) : ℕ := 64 * i + 32 * c
abbrev tileX (lo hi : ℕ) : Finset S1024x8192.Idx := rows 1024 8192 lo hi
abbrev tileO (lo hi : ℕ) : Finset S1024x2048.Idx := rows 1024 2048 lo hi
abbrev slotR (b : ℕ) : Finset S2x8192.Idx := rows 2 8192 b (b + 1)
abbrev slotO (b : ℕ) : Finset S2x2048.Idx := rows 2 2048 b (b + 1)

abbrev cV (L : grid0.Coords) : Fin τ.nSC := (L 0).castLE hcore0
abbrev jV (L : grid0.Coords) : Fin τ.nSub := (L 1).castLE hsub0
/-- The thread of the subcore at grid coordinates `L` of device `d`. -/
abbrev thr (d : Dev nD) (L : grid0.Coords) : Thread nD τ := V d (cV L) (jV L)

end Cert.Proof.Alone

end

end
-- ==== Proof.Alone.Trip.lean ====
/-
  One trip of the gather's inner loop: four times, sixteen index words are loaded, the sixteen elements they name are
  gathered from a feature slot, and stored in the result slot. The trip is stated once, for either slot.
-/
module

public import proofs.«01_k».proof.Proof.Alone.Setup

@[expose] public section

noncomputable section

namespace Cert.Proof.Alone

open Cert.GatherIdeal Cert.GatherIdeal.Gen
open Cert.Proof.Rules Cert.Proof.Rows

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid0.Coords) (fv : Feat F) (iv : Inds)

/-- The index scratch holds batch entry `b`'s indices. -/
def IndPts (b : ℕ) : sProp 𝕄 := (sI).view.loc (thr d L) ↦[Finset.univ]{fullShare} (indBuf iv b : Buf (Elt F) ((sI).view.loc (thr d L)))

/-- Feature slot `b` holds feature row `r`. -/
def SlotPts (b r : ℕ) : sProp 𝕄 := (sR).view.loc (thr d L) ↦[slotR b]{fullShare} (featSlot fv r : Buf (Elt F) ((sR).view.loc (thr d L)))

/-- Feature slot `b` is in write mode. -/
def Beside (b : ℕ) (q : PosShare TreeShare) (f : Buf (Elt F) ((sR).view.loc (thr d L))) (g : Tgt (Elt F) ((sR).view.loc (thr d L)))
    (W : Finset (Idx ((sR).view.loc (thr d L)))) : sProp 𝕄 := willBeTo EW ((sR).view.loc (thr d L)) (slotR b) q f g W

/-- The first `n` columns of result slot `b` hold row `r`'s values. -/
def Gathered (b r n : ℕ) : sProp 𝕄 :=
  iprop(∃ fo : Buf (Elt F) ((sO).view.loc (thr d L)),
    ⌜∀ x : S2x2048.Idx, (x 0).val = b → (x 1).val < n → (fo x : Elt F .f32) = gath fv iv r (x 1).val⌝
      ∗ (sO).view.loc (thr d L) ↦[slotO b]{fullShare} fo)

/-- What an inner trip runs on, `n` columns done: slot `b`, row `r`, of batch entry `e`. -/
def InTrip (b b' e r : ℕ) (q : PosShare TreeShare) (f : Buf (Elt F) ((sR).view.loc (thr d L))) (g : Tgt (Elt F) ((sR).view.loc (thr d L)))
    (W : Finset (Idx ((sR).view.loc (thr d L)))) (n : ℕ) : sProp 𝕄 :=
  iprop(IndPts d L iv e ∗ SlotPts d L fv b r ∗ Beside d L b' q f g W ∗ Gathered d L fv iv b r n)

/-- The columns a group's index load names. -/
theorem ind_read {n : ℕ} (hn : n + 16 ≤ 2048) (in1 : ∀ a, (![n] : Fin 1 → ℕ) a + S16.size a ≤ S2048.size a) (b : ℕ) (x : S16.Idx) :
    (sI).view.readAt (Elt F) (Rect.unit (s := S2048) ![n] S16.size in1).toLoadRect (indBuf iv b) x = at2 iv b (n + (x 0).val) := by
  show at2 iv b _ = _
  congr 1
  show n + 1 * (x 0).val = _
  omega

/-- After a group's store the first `n + 16` columns are done. -/
theorem stored {b r n : ℕ} {fo : S2x2048.Idx → Elt F .f32} (hfo : ∀ x : S2x2048.Idx, (x 0).val = b → (x 1).val < n → fo x = gath fv iv r (x 1).val)
    {in2 : ∀ a, (![b, n] : Fin 2 → ℕ) a + S1x16.size a ≤ S2x2048.size a} {y : Vec F S16 .f32} (hy : ∀ x : S16.Idx, y x = gath fv iv r (n + (x 0).val)) :
    ∀ x : S2x2048.Idx, (x 0).val = b → (x 1).val < n + 16 →
      ((sO).access (Rect.unit (s := S2x2048) ![b, n] S1x16.size in2)).write (Elt F) fo (shapeCast S1x16 y shapeCasts_S16_S1x16) Finset.univ x = gath fv iv r (x 1).val := by
  intro x hx0 hx1
  by_cases h : (x 1).val < n
  · rw [View.write_of_not_mem]
    · exact hfo x hx0 h
    · intro hm
      obtain ⟨z, -, hz⟩ := Finset.mem_map.mp hm
      have := congrArg (fun i : S2x2048.Idx => (i 1).val) hz
      have h1 : n + 1 * (z 1).val = (x 1).val := this
      omega
  · have hlt : (x 1).val - n < 16 := by omega
    have hz : ((sO).access (Rect.unit (s := S2x2048) ![b, n] S1x16.size in2)).emb (ix2 (0 : Fin 1) (⟨(x 1).val - n, hlt⟩ : Fin 16)) = x := by
      funext a
      apply Fin.ext
      match a with
      | ⟨0, _⟩ => show b + 1 * 0 = (x 0).val; omega
      | ⟨1, _⟩ => show n + 1 * ((x 1).val - n) = (x 1).val; omega
    have hw := View.write_emb_of_mem (v := (sO).access (Rect.unit (s := S2x2048) ![b, n] S1x16.size in2)) (Val := Elt F) fo
      (shapeCast S1x16 y shapeCasts_S16_S1x16) (M := Finset.univ) (Finset.mem_univ (ix2 (0 : Fin 1) (⟨(x 1).val - n, hlt⟩ : Fin 16)))
    rw [hz] at hw
    refine hw.trans ?_
    have hcast : shapeCast S1x16 y shapeCasts_S16_S1x16 (ix2 (0 : Fin 1) (⟨(x 1).val - n, hlt⟩ : Fin 16)) = gath fv iv r (n + ((x 1).val - n)) :=
      (congrArg y (Shape.reshapeEquiv_eq_of_rowMajor _ (by
        rw [Shape.rowMajor_val_one]
        refine Eq.trans ?_ (Shape.rowMajor_val_two (d := ![1, 16]) _).symm
        show (x 1).val - n = 0 * 16 + ((x 1).val - n)
        omega))).trans (hy (ix1 (⟨(x 1).val - n, hlt⟩ : Fin 16)))
    rw [show n + ((x 1).val - n) = (x 1).val by omega] at hcast
    exact hcast

/-- One group of sixteen columns. -/
theorem group_wp {α : Type} {Q : α → sProp 𝕄} {ι : ℕ} {b b' e r n : ℕ} (hb : (b = 0 ∧ b' = 1) ∨ (b = 1 ∧ b' = 0)) (hn : n + 16 ≤ 2048) (he : e = r / 128)
    (hr : ∀ x, (iv x).toNat < 8192)
    {q : PosShare TreeShare} {f : Buf (Elt F) ((sR).view.loc (thr d L))} {g : Tgt (Elt F) ((sR).view.loc (thr d L))}
    {W : Finset (Idx ((sR).view.loc (thr d L)))}
    {vb : IVec S16 32} (hvb : ∀ x, (vb x).toNat = b)
    {o1 : Fin 1 → ℕ} (ho1 : o1 = ![n]) {o2 : Fin 2 → ℕ} (ho2 : o2 = ![b, n]) {in1 : ∀ a, o1 a + S16.size a ≤ S2048.size a}
    {in2 : ∀ a, o2 a + S1x16.size a ≤ S2x2048.size a}
    {C : IVec S16 32 → Prop} {dec : ∀ v, Decidable (C v)} (hinb : ∀ v, C v → ∀ a x, ((![vb, v] : Fin 2 → IVec S16 32) a x).toNat < S2x8192.size a)
    (hC : ∀ v, (∀ a x, ((![vb, v] : Fin 2 → IVec S16 32) a x).toNat < S2x8192.size a) → C v)
    {k : Prog (TpuEff nD τ sig (Elt F) Λ₀ (.scVector (cV L) (jV L))) α} :
    (iprop(wmInv EW ι ∗ InTrip d L fv iv b b' e r q f g W n) : sProp 𝕄)
      ⊢ iprop((InTrip d L fv iv b b' e r q f g W (n + 16) -∗ wp frame (wpE (defs₀ (F := F)) 𝒱₀ (thr d L) none) Set.univ k Q)
        -∗ wp frame (wpE (defs₀ (F := F)) 𝒱₀ (thr d L) none) Set.univ (do
          let v : Vec F S16 .i32 ← Prog.lift (.load sI (Rect.unit (s := S2048) o1 S16.size in1).toLoadRect (View.loadsAt_vmem h_S16))
          have hw : C v := (← Prog.lift (TpuEff.assume (C v) (dec v))).down
          let y : Vec F S16 .f32 ← SparseCore.vectorLoadIdx sR ![vb, v] (hinb v hw) (View.loads_vmem h_S2x8192)
          let _ld : Vec F S1x16 .f32 ← Prog.lift (.load sO (Rect.unit (s := S2x2048) o2 S1x16.size in2).toLoadRect (View.loadsAt_vmem h_S1x16))
          Prog.lift (.store sO (Rect.unit (s := S2x2048) o2 S1x16.size in2) (shapeCast S1x16 y shapeCasts_S16_S1x16) Finset.univ (View.stores_vmem_bits_univ h_S1x16 rfl) (.inl rfl))
          k) Q) := by
  subst ho1 ho2
  unfold InTrip IndPts SlotPts Beside Gathered
  iintro ⟨#Hi, HI, HS, HB, %fo, %hfo, HO⟩ Hk
  simp only [SparseCore.vectorLoadIdx, Prog.lift, Prog.bind_op, Prog.bind_ret, Prog.bind_assoc]
  iapply (wp_load 𝒱₀ (thr d L) none Set.univ (m := sI) (Finset.subset_univ _)) $$ HI
  iintro HI
  generalize hv : (sI).view.readAt (Elt F) (Rect.unit (s := S2048) ![n] S16.size in1).toLoadRect (indBuf iv e) = v
  have hv' : ∀ x, v x = at2 iv e (n + (x 0).val) := fun x => by rw [← hv]; exact ind_read iv hn in1 e x
  have hvlt : ∀ x, (v x).toNat < 8192 := fun x => by rw [hv']; exact hr _
  have hCv : C v := hC v fun a x => by
    match a with
    | ⟨0, _⟩ => show (vb x).toNat < 2; rw [hvb]; omega
    | ⟨1, _⟩ => exact hvlt x
  rw [wp_assume_of 𝒱₀ (thr d L) none Set.univ hCv]
  have hsl : slotR b ∪ slotR b' = Finset.univ := by
    ext x
    have := (x 0).isLt
    simp only [Finset.mem_union, mem_rows, Finset.mem_univ, iff_true]
    have h2 : (x 0).val < 2 := (x 0).isLt
    omega
  have hdj : Disjoint (slotR b) (slotR b') := by
    rcases hb with ⟨rfl, rfl⟩ | ⟨rfl, rfl⟩
    · exact rows_disjoint (by omega)
    · exact (rows_disjoint (by omega)).symm
  iapply (wp_load_beside (emb := EW) 𝒱₀ (thr d L) none (m := sR) (by rw [hsl]; exact Finset.subset_univ _) hdj) $$ [HS HB]
  · isplitr; · iexact Hi
    isplitl [HS]
    · iexact HS
    · iexact HB
  iintro %cur %hcur HS HB
  generalize hy : loadIdx ((sR).view.readAt (Elt F) (LoadRect.whole S2x8192) cur) ![vb, v] (hinb v hCv) = y
  have hy' : ∀ x : S16.Idx, y x = gath fv iv r (n + (x 0).val) := by
    intro x
    rw [← hy]
    have hidx : idxAt ![vb, v] (hinb v hCv) x ∈ slotR b := mem_rows.mpr (by
      show b ≤ (vb x).toNat ∧ (vb x).toNat < b + 1
      rw [hvb]; omega)
    have h1 : loadIdx ((sR).view.readAt (Elt F) (LoadRect.whole S2x8192) cur) ![vb, v] (hinb v hCv) x
        = cur (idxAt ![vb, v] (hinb v hCv) x) := by
      show cur _ = _
      congr 1
      funext a
      apply Fin.ext
      match a with
      | ⟨0, _⟩ => show 0 + 1 * (vb x).toNat = (vb x).toNat; omega
      | ⟨1, _⟩ => show 0 + 1 * (v x).toNat = (v x).toNat; omega
    rw [h1, hcur _ hidx]
    show at2 fv r (v x).toNat = _
    rw [hv', he]
    rfl
  have hwin : ∀ z ∈ (Rect.unit (s := S2x2048) ![b, n] S1x16.size in2).set, (z : S2x2048.Idx) ∈ slotO b := fun z hz => by
    have h0 := (Rect.mem_set_unit.mp hz) 0
    have h0' : b ≤ (z 0).val ∧ (z 0).val < b + 1 := h0
    exact mem_rows.mpr h0'
  iapply (wp_load 𝒱₀ (thr d L) none Set.univ (m := sO) (S := slotO b) (r := (Rect.unit (s := S2x2048) ![b, n] S1x16.size in2).toLoadRect) ?hl) $$ HO
  case hl =>
    intro x hx
    obtain ⟨z, hz, rfl⟩ := Finset.mem_map.mp hx
    exact hwin z hz
  iintro HO
  iapply (wp_store 𝒱₀ (thr d L) none Set.univ (m := sO) (S := slotO b) (r := (Rect.unit (s := S2x2048) ![b, n] S1x16.size in2)) ?hst) $$ HO
  case hst =>
    intro x hx
    obtain ⟨z, -, rfl⟩ := Finset.mem_map.mp hx
    have hz : (z 0).val < 1 := (z 0).isLt
    exact mem_rows.mpr (show b ≤ b + 1 * (z 0).val ∧ b + 1 * (z 0).val < b + 1 by omega)
  iintro HO
  iapply Hk
  isplitl [HI]; · iexact HI
  isplitl [HS]; · iexact HS
  isplitl [HB]; · iexact HB
  iexists (((sO).access (Rect.unit (s := S2x2048) ![b, n] S1x16.size in2)).write (Elt F) fo (shapeCast S1x16 y shapeCasts_S16_S1x16) Finset.univ)
  isplitr
  · ipureintro; exact stored fv iv hfo hy'
  · iexact HO

/-- An inner trip of slot 0. -/
theorem trip0 {ι e r : ℕ} (he : e = r / 128) (hr : ∀ x, (iv x).toNat < 8192) (t1 : Fin k0_t1_loop.trips) (v2 c0 c1 : BitVec 32)
    {q : PosShare TreeShare} {f : Buf (Elt F) ((sR).view.loc (thr d L))} {g : Tgt (Elt F) ((sR).view.loc (thr d L))}
    {W : Finset (Idx ((sR).view.loc (thr d L)))} (t : Fin k0_t2_loop.trips) (acc : BitVec 32) :
    (iprop(wmInv EW ι ∗ InTrip d L fv iv 0 1 e r q f g W (64 * t.val)) : sProp 𝕄)
      ⊢ wp frame (wpE (defs₀ (F := F)) 𝒱₀ (thr d L) none) Set.univ
          (k0_t2_body L xV (Memref.isWhole_whole _) iV (Memref.isWhole_whole _) oV (Memref.isWhole_whole _) sI (Memref.isWhole_whole _)
            sR (Memref.isWhole_whole _) sO (Memref.isWhole_whole _) cc0_scratch3 cc0_scratch4 cc0_scratch5 cc0_scratch6 cc0_scoped0 v2 c0 c1 t1
            (broadcast S16 0#32) t acc)
          (fun _ => InTrip d L fv iv 0 1 e r q f g W (64 * (t.val + 1))) := by
  have ht : t.val < 32 := lt_of_lt_of_le t.isLt k0_t2_abs.2.1
  unfold k0_t2_body
  iintro ⟨#Hi, H⟩
  iapply (group_wp d L fv iv (n := 64 * t.val) (C := k0_chk1 (broadcast S16 0#32)) (.inl ⟨rfl, rfl⟩) (by omega) he hr (fun _ => rfl)
    (k0_off5_eq t) (k0_off6_eq t) (fun v h => k0_idx1_inb _ v h) (fun _ h => h)) $$ [H]
  · isplitr
    · iexact Hi
    · iexact H
  iintro H
  iapply (group_wp d L fv iv (n := 64 * t.val + 16) (C := k0_chk2 (broadcast S16 0#32)) (.inl ⟨rfl, rfl⟩) (by omega) he hr (fun _ => rfl)
    (k0_off7_eq t) (k0_off8_eq t) (fun v h => k0_idx2_inb _ v h) (fun _ h => h)) $$ [H]
  · isplitr
    · iexact Hi
    · iexact H
  iintro H
  iapply (group_wp d L fv iv (n := 64 * t.val + 32) (C := k0_chk3 (broadcast S16 0#32)) (.inl ⟨rfl, rfl⟩) (by omega) he hr (fun _ => rfl)
    (k0_off9_eq t) (k0_off10_eq t) (fun v h => k0_idx3_inb _ v h) (fun _ h => h)) $$ [H]
  · isplitr
    · iexact Hi
    · iexact H
  iintro H
  iapply (group_wp d L fv iv (n := 64 * t.val + 48) (C := k0_chk4 (broadcast S16 0#32)) (.inl ⟨rfl, rfl⟩) (by omega) he hr (fun _ => rfl)
    (k0_off11_eq t) (k0_off12_eq t) (fun v h => k0_idx4_inb _ v h) (fun _ h => h)) $$ [H]
  · isplitr
    · iexact Hi
    · iexact H
  iintro H
  rw [Prog.pure_eq_ret, wp_ret]
  imodintro
  iexact H

/-- An inner trip of slot 1. -/
theorem trip1 {ι e r : ℕ} (he : e = r / 128) (hr : ∀ x, (iv x).toNat < 8192)
    {q : PosShare TreeShare} {f : Buf (Elt F) ((sR).view.loc (thr d L))} {g : Tgt (Elt F) ((sR).view.loc (thr d L))}
    {W : Finset (Idx ((sR).view.loc (thr d L)))} (t : Fin k0_t3_loop.trips) (acc : BitVec 32) :
    (iprop(wmInv EW ι ∗ InTrip d L fv iv 1 0 e r q f g W (64 * t.val)) : sProp 𝕄)
      ⊢ wp frame (wpE (defs₀ (F := F)) 𝒱₀ (thr d L) none) Set.univ
          (k0_t3_body L xV (Memref.isWhole_whole _) iV (Memref.isWhole_whole _) oV (Memref.isWhole_whole _) sI (Memref.isWhole_whole _)
            sR (Memref.isWhole_whole _) sO (Memref.isWhole_whole _) cc0_scratch3 cc0_scratch4 cc0_scratch5 cc0_scratch6 cc0_scoped0
            (broadcast S16 1#32) t acc)
          (fun _ => InTrip d L fv iv 1 0 e r q f g W (64 * (t.val + 1))) := by
  have ht : t.val < 32 := lt_of_lt_of_le t.isLt k0_t3_abs.2.1
  unfold k0_t3_body
  iintro ⟨#Hi, H⟩
  iapply (group_wp d L fv iv (n := 64 * t.val) (C := k0_chk5 (broadcast S16 1#32)) (.inr ⟨rfl, rfl⟩) (by omega) he hr (fun _ => rfl)
    (k0_off17_eq t) (k0_off18_eq t) (fun v h => k0_idx5_inb _ v h) (fun _ h => h)) $$ [H]
  · isplitr
    · iexact Hi
    · iexact H
  iintro H
  iapply (group_wp d L fv iv (n := 64 * t.val + 16) (C := k0_chk6 (broadcast S16 1#32)) (.inr ⟨rfl, rfl⟩) (by omega) he hr (fun _ => rfl)
    (k0_off19_eq t) (k0_off20_eq t) (fun v h => k0_idx6_inb _ v h) (fun _ h => h)) $$ [H]
  · isplitr
    · iexact Hi
    · iexact H
  iintro H
  iapply (group_wp d L fv iv (n := 64 * t.val + 32) (C := k0_chk7 (broadcast S16 1#32)) (.inr ⟨rfl, rfl⟩) (by omega) he hr (fun _ => rfl)
    (k0_off21_eq t) (k0_off22_eq t) (fun v h => k0_idx7_inb _ v h) (fun _ h => h)) $$ [H]
  · isplitr
    · iexact Hi
    · iexact H
  iintro H
  iapply (group_wp d L fv iv (n := 64 * t.val + 48) (C := k0_chk8 (broadcast S16 1#32)) (.inr ⟨rfl, rfl⟩) (by omega) he hr (fun _ => rfl)
    (k0_off23_eq t) (k0_off24_eq t) (fun v h => k0_idx8_inb _ v h) (fun _ h => h)) $$ [H]
  · isplitr
    · iexact Hi
    · iexact H
  iintro H
  rw [Prog.pure_eq_ret, wp_ret]
  imodintro
  iexact H

end Cert.Proof.Alone

end

end
-- ==== Proof.Alone.Copy.lean ====
/-
  The four copies and waits a row goes through, each at any row and either slot: a feature row into its slot and the wait
  for it, a gathered row out of its slot and the wait for that.
-/
module

public import proofs.«01_k».proof.Proof.Alone.Trip

@[expose] public section

noncomputable section

namespace Cert.Proof.Alone

open Cert.GatherIdeal Cert.GatherIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid0.Coords) (fv : Feat F) (iv : Inds)

/-- Feature rows `lo` to `hi`. -/
def FeatRows (lo hi : ℕ) : sProp 𝕄 := (xV).view.loc (thr d L) ↦[tileX lo hi]{fullShare} (fv : Buf (Elt F) ((xV).view.loc (thr d L)))

/-- Result rows `lo` to `hi`, holding `f`. -/
def OutRows (lo hi : ℕ) (f : S1024x2048.Idx → Elt F .f32) : sProp 𝕄 :=
  (oV).view.loc (thr d L) ↦[tileO lo hi]{fullShare} (f : Buf (Elt F) ((oV).view.loc (thr d L)))

/-- A slot nothing is known of, and its semaphore at zero. -/
def SlotFree (sm : DmaSem sig) (b : ℕ) : sProp 𝕄 :=
  iprop((∃ f, (sR).view.loc (thr d L) ↦[slotR b]{fullShare} f) ∗ semVal (thr d L, .dma sm) 0)
def OutFree (sm : DmaSem sig) (b : ℕ) : sProp 𝕄 :=
  iprop((∃ f, (sO).view.loc (thr d L) ↦[slotO b]{fullShare} f) ∗ semVal (thr d L, .dma sm) 0)

/-- What a feature row's copy, and a result row's, signal. -/
abbrev nX : ℕ := (((sR).slice (Rect.unit (s := S2x8192) ![0, 0] S1x8192.size inb_S2x8192_S1x8192_0_0) (fun _ => rfl)).squeeze S8192 squeezes_S1x8192_S8192).view.dmaCredit
abbrev nO : ℕ := (((sO).slice (Rect.unit (s := S2x2048) ![0, 0] S1x2048.size inb_S2x2048_S1x2048_0_0) (fun _ => rfl)).squeeze S2048 squeezes_S1x2048_S2048).view.dmaCredit

/-- Feature row `r` on its way into slot `b`: the half of the slot that stays. -/
def Staying (b r : ℕ) (f : Buf (Elt F) ((sR).view.loc (thr d L))) : sProp 𝕄 :=
  Kept EW ((sR).view.loc (thr d L)) (slotR b) f (featSlot fv r)

/-- The copy under way; it brings the other half, and gives the feature row back. -/
def Coming (sm : DmaSem sig) (b r : ℕ) (f : Buf (Elt F) ((sR).view.loc (thr d L))) : sProp 𝕄 :=
  Flight EC (thr d L) (.dma sm) none nX iprop(Filled EW ((sR).view.loc (thr d L)) (slotR b) f (featSlot fv r) ∗ FeatRows d L fv r (r + 1))

/-- Feature row `r` on its way into slot `b`. -/
def FeatIn (sm : DmaSem sig) (b r : ℕ) : sProp 𝕄 := iprop(∃ f, Staying d L fv b r f ∗ Coming d L fv sm b r f)

/-- Result row `r` on its way out of slot `b`. -/
def OutGo (sm : DmaSem sig) (b r : ℕ) : sProp 𝕄 :=
  Flight EC (thr d L) (.dma sm) none nO
    iprop(OutRows d L r (r + 1) (result fv iv) ∗ ∃ f, (sO).view.loc (thr d L) ↦[slotO b]{fullShare} f)

/-! ## The windows the copies name -/

/-- Feature row at `o`, slot at `o`, result slot at `o`, result row at `o`, each as a vector. -/
abbrev winX (o : Fin 2 → ℕ) (inb : ∀ a, o a + S1x8192.size a ≤ S1024x8192.size a) : Memref sig .scVector .hbm S8192 .f32 :=
  (xV.slice (Rect.unit (s := S1024x8192) o S1x8192.size inb) (fun _ => rfl)).squeeze S8192 squeezes_S1x8192_S8192
abbrev winR (o : Fin 2 → ℕ) (inb : ∀ a, o a + S1x8192.size a ≤ S2x8192.size a) : Memref sig .scVector .vmem S8192 .f32 :=
  (sR.slice (Rect.unit (s := S2x8192) o S1x8192.size inb) (fun _ => rfl)).squeeze S8192 squeezes_S1x8192_S8192
abbrev winO (o : Fin 2 → ℕ) (inb : ∀ a, o a + S1x2048.size a ≤ S2x2048.size a) : Memref sig .scVector .vmem S2048 .f32 :=
  (sO.slice (Rect.unit (s := S2x2048) o S1x2048.size inb) (fun _ => rfl)).squeeze S2048 squeezes_S1x2048_S2048
abbrev winY (o : Fin 2 → ℕ) (inb : ∀ a, o a + S1x2048.size a ≤ S1024x2048.size a) : Memref sig .scVector .hbm S2048 .f32 :=
  (oV.slice (Rect.unit (s := S1024x2048) o S1x2048.size inb) (fun _ => rfl)).squeeze S2048 squeezes_S1x2048_S2048

theorem setOn_whole {κ : Kind} (r : Ref sig κ) (M : Finset r.ty.shape.Idx) : (View.whole r).setOn M = M := by
  ext x; exact ⟨fun h => (View.mem_setOn (v := View.whole r)).mp h, fun h => (View.mem_setOn (v := View.whole r)).mpr h⟩

theorem winX_set {o : Fin 2 → ℕ} {r : ℕ} (ho : o = ![r, 0]) (inb : ∀ a, o a + S1x8192.size a ≤ S1024x8192.size a) :
    (winX o inb).view.set = tileX r (r + 1) := (row_set (xV).view r ho rfl inb squeezes_S1x8192_S8192.numel_eq).trans (setOn_whole _ _)
theorem winR_set {o : Fin 2 → ℕ} {b : ℕ} (ho : o = ![b, 0]) (inb : ∀ a, o a + S1x8192.size a ≤ S2x8192.size a) :
    (winR o inb).view.set = slotR b := (row_set (sR).view b ho rfl inb squeezes_S1x8192_S8192.numel_eq).trans (setOn_whole _ _)
theorem winO_set {o : Fin 2 → ℕ} {b : ℕ} (ho : o = ![b, 0]) (inb : ∀ a, o a + S1x2048.size a ≤ S2x2048.size a) :
    (winO o inb).view.set = slotO b := (row_set (sO).view b ho rfl inb squeezes_S1x2048_S2048.numel_eq).trans (setOn_whole _ _)
theorem winY_set {o : Fin 2 → ℕ} {r : ℕ} (ho : o = ![r, 0]) (inb : ∀ a, o a + S1x2048.size a ≤ S1024x2048.size a) :
    (winY o inb).view.set = tileO r (r + 1) := (row_set (oV).view r ho rfl inb squeezes_S1x2048_S2048.numel_eq).trans (setOn_whole _ _)

section Rules

/-- A feature row's copy is started. -/
theorem featStart {α : Type} {Q : α → sProp 𝕄} {k : PUnit → Prog (TpuEff nD τ sig (Elt F) Λ₀ (.scVector (cV L) (jV L))) α}
    {ι b r : ℕ} {sm : DmaSem sig} (hb : b < 2) (hr : r < 1024) {o : Fin 2 → ℕ} (ho : o = ![r, 0]) {ob : Fin 2 → ℕ} (hob : ob = ![b, 0])
    {inb : ∀ a, o a + S1x8192.size a ≤ S1024x8192.size a} {inbb : ∀ a, ob a + S1x8192.size a ≤ S2x8192.size a}
    {hs : (winX o inb).view.WordExact} {hd : (winR ob inbb).view.WordExact} :
    (iprop(wmInv EW ι ∗ FeatRows d L fv r (r + 1) ∗ SlotFree d L sm b) : sProp 𝕄)
      ⊢ iprop((FeatIn d L fv sm b r -∗ wp frame (wpE (defs₀ (F := F)) 𝒱₀ (thr d L) none) Set.univ (k ⟨⟩) Q)
        -∗ wp frame (wpE (defs₀ (F := F)) 𝒱₀ (thr d L) none) Set.univ
          (.op (.enqueueDma (winX o inb) (.here (winR ob inbb)) (.dma sm) hs hd ⟨Or.inl rfl, trivial⟩) k) Q) := by
  have hg : (winR ob inbb).view.read (Elt F) (featSlot fv r) = (winX o inb).view.read (Elt F) fv := by
    funext y
    refine (row_read (sR).view b hb hob rfl inbb squeezes_S1x8192_S8192.numel_eq (featSlot fv r) y).trans
      (Eq.trans ?_ (row_read (xV).view r hr ho rfl inb squeezes_S1x8192_S8192.numel_eq fv y).symm)
    exact at2_ix2 fv ⟨r, hr⟩ (y 0)
  unfold SlotFree
  iintro ⟨#Hi, HX, ⟨%f0, HS⟩, Hsm⟩ Hk
  have h := wp_dmaFill (Val := Elt F) (emb := EW) (ιwm := ι) EC (defs := defs₀ (F := F)) 𝒱₀ (thr d L) none (Q := Q) (src := winX o inb) (dst := winR ob inbb)
    (sm := .dma sm) (hsrc := hs) (hdst := hd) (hsem := ⟨Or.inl rfl, trivial⟩)
    (k := k) (q := fullShare) (fs := fv) (fd := f0) (featSlot fv r) none nX rfl (by decide) hg
  rw [winX_set ho, winR_set hob] at h
  unfold FeatRows FeatIn Staying Coming
  iapply h $$ [HX HS Hsm]
  · isplitr; · iexact Hi
    isplitl [HX]; · iexact HX
    isplitl [HS]; · iexact HS
    iexact Hsm
  iintro ⟨H1, H2⟩
  iapply Hk
  iexists f0
  isplitl [H1]
  · iexact H1
  · iexact H2

/-- The wait for a feature row: the slot holds the row. -/
theorem featWait {α : Type} {Q : α → sProp 𝕄} {k : PUnit → Prog (TpuEff nD τ sig (Elt F) Λ₀ (.scVector (cV L) (jV L))) α}
    {ι b r : ℕ} {sm : DmaSem sig} {o : Fin 2 → ℕ} {ob : Fin 2 → ℕ}
    {inb : ∀ a, o a + S1x8192.size a ≤ S1024x8192.size a} {inbb : ∀ a, ob a + S1x8192.size a ≤ S2x8192.size a}
    {hs : (winX o inb).view.WordExact} {hd : (winR ob inbb).view.WordExact}
    {O : CellTallies nD τ sig (HIx 1)} :
    (iprop(wmInv EW ι ∗ FeatIn d L fv sm b r ∗ MayWaits (thr d L) none O ∗ ∃ W, owes (thr d L) O W) : sProp 𝕄)
      ⊢ iprop((SlotPts d L fv b r -∗ semVal (thr d L, .dma sm) 0 -∗ FeatRows d L fv r (r + 1) -∗ (∃ W, owes (thr d L) O W)
            -∗ wp frame (wpE (defs₀ (F := F)) 𝒱₀ (thr d L) none) Set.univ (k ⟨⟩) Q)
        -∗ wp frame (wpE (defs₀ (F := F)) 𝒱₀ (thr d L) none) Set.univ
          (.op (.waitDma2 sm (winX o inb) (winR ob inbb) hs hd) k) Q) := by
  unfold FeatIn Staying Coming
  iintro ⟨#Hi, ⟨%f0, Hs, Hc⟩, #Hmw, %W, HO⟩ Hk
  ihave Hm := (MayWaits.elim (SemLoc.dma sm)) $$ Hmw
  iapply (wp_waitLocalO EC 𝒱₀ (thr d L) none (srcw := winX o inb) (dstw := winR ob inbb) none (N := nX) rfl) $$ [Hc HO Hm]
  · isplitl [Hc]; · iexact Hc
    isplitl [HO]; · iexact HO
    iexact Hm
  iintro ⟨⟨Hf, HX⟩, Hsm, HO⟩
  imod (fill_done (emb := EW) (ιwm := ι)) $$ [Hs Hf] with HS
  · isplitr; · iexact Hi
    isplitl [Hs]; · iexact Hs
    iexact Hf
  iapply Hk $$ [HS] Hsm HX [HO]
  · unfold SlotPts; iexact HS
  · iexists _; iexact HO

/-- A result row's copy is started. -/
theorem outStart {α : Type} {Q : α → sProp 𝕄} {k : PUnit → Prog (TpuEff nD τ sig (Elt F) Λ₀ (.scVector (cV L) (jV L))) α}
    {b r : ℕ} {sm : DmaSem sig} (hb : b < 2) (hr : r < 1024) {o : Fin 2 → ℕ} (ho : o = ![r, 0]) {ob : Fin 2 → ℕ} (hob : ob = ![b, 0])
    {inb : ∀ a, o a + S1x2048.size a ≤ S1024x2048.size a} {inbb : ∀ a, ob a + S1x2048.size a ≤ S2x2048.size a}
    {hs : (winO ob inbb).view.WordExact} {hd : (winY o inb).view.WordExact} {f0 : S1024x2048.Idx → Elt F .f32} :
    (iprop(Gathered d L fv iv b r 2048 ∗ OutRows d L r (r + 1) f0 ∗ semVal (thr d L, .dma sm) 0) : sProp 𝕄)
      ⊢ iprop((OutGo d L fv iv sm b r -∗ wp frame (wpE (defs₀ (F := F)) 𝒱₀ (thr d L) none) Set.univ (k ⟨⟩) Q)
        -∗ wp frame (wpE (defs₀ (F := F)) 𝒱₀ (thr d L) none) Set.univ
          (.op (.enqueueDma (winO ob inbb) (.here (winY o inb)) (.dma sm) hs hd ⟨Or.inl rfl, trivial⟩) k) Q) := by
  unfold Gathered OutRows OutGo
  iintro ⟨⟨%fo, %hfo, HS⟩, HY, Hsm⟩ Hk
  have hval : (winY o inb).view.read (Elt F) ((winY o inb).view.write (Elt F) f0 ((winO ob inbb).view.read (Elt F) fo) Finset.univ)
      = (winY o inb).view.read (Elt F) (result fv iv) := by
    rw [View.read_write_univ]
    funext y
    refine (row_read (sO).view b hb hob rfl inbb squeezes_S1x2048_S2048.numel_eq fo y).trans
      (Eq.trans ?_ (row_read (oV).view r hr ho rfl inb squeezes_S1x2048_S2048.numel_eq (result fv iv) y).symm)
    exact hfo (ix2 ⟨b, hb⟩ (y 0)) rfl (y 0).isLt
  have hpts := pts_of_read (Ix := HIx 1) (Name := ℕ) (U := UU F) (Lvl := ℕ) (c := thr d L) (winY o inb).view (q := fullShare) hval
  have h := wp_dmaLocal EC (defs := defs₀ (F := F)) 𝒱₀ (thr d L) none (Q := Q) (src := winO ob inbb) (dst := winY o inb) (via := .same)
    (sm := .dma sm) (hsrc := hs) (hdst := hd) (hsem := ⟨Or.inl rfl, trivial⟩)
    (k := k) (q := fullShare) (fs := fo) (fd := f0) none nO rfl (by decide) subset_rfl
  rw [winO_set hob, winY_set ho] at h
  rw [winY_set ho] at hpts
  iapply h $$ [HS HY Hsm]
  · isplitl [HS]; · iexact HS
    isplitl [HY]; · iexact HY
    iexact Hsm
  iintro H
  iapply Hk
  iapply (Flight_mono EC (thr d L) ?_) $$ H
  iintro ⟨HY, HS⟩
  isplitl [HY]
  · unfold OutRows; iapply (Entails.of_eq hpts) $$ HY
  · iexists fo; iexact HS

/-- The wait for a result row: it holds its values, and the slot is free. -/
theorem outWait {α : Type} {Q : α → sProp 𝕄} {k : PUnit → Prog (TpuEff nD τ sig (Elt F) Λ₀ (.scVector (cV L) (jV L))) α}
    {b r : ℕ} {sm : DmaSem sig} {o : Fin 2 → ℕ} {ob : Fin 2 → ℕ}
    {inb : ∀ a, o a + S1x2048.size a ≤ S1024x2048.size a} {inbb : ∀ a, ob a + S1x2048.size a ≤ S2x2048.size a}
    {hs : (winO ob inbb).view.WordExact} {hd : (winY o inb).view.WordExact}
    {O : CellTallies nD τ sig (HIx 1)} :
    (iprop(OutGo d L fv iv sm b r ∗ MayWaits (thr d L) none O ∗ ∃ W, owes (thr d L) O W) : sProp 𝕄)
      ⊢ iprop((OutRows d L r (r + 1) (result fv iv) -∗ OutFree d L sm b -∗ (∃ W, owes (thr d L) O W)
            -∗ wp frame (wpE (defs₀ (F := F)) 𝒱₀ (thr d L) none) Set.univ (k ⟨⟩) Q)
        -∗ wp frame (wpE (defs₀ (F := F)) 𝒱₀ (thr d L) none) Set.univ
          (.op (.waitDma2 sm (winO ob inbb) (winY o inb) hs hd) k) Q) := by
  unfold OutGo OutFree
  iintro ⟨Hc, #Hmw, %W, HO⟩ Hk
  ihave Hm := (MayWaits.elim (SemLoc.dma sm)) $$ Hmw
  iapply (wp_waitLocalO EC 𝒱₀ (thr d L) none (srcw := winO ob inbb) (dstw := winY o inb) none (N := nO) rfl) $$ [Hc HO Hm]
  · isplitl [Hc]; · iexact Hc
    isplitl [HO]; · iexact HO
    iexact Hm
  iintro ⟨⟨HY, HS⟩, Hsm, HO⟩
  iapply Hk $$ HY [HS Hsm] [HO]
  · isplitl [HS]; · iexact HS
    iexact Hsm
  · iexists _; iexact HO

end Rules

end Cert.Proof.Alone

end

end
-- ==== Proof.Alone.Half.lean ====
/-
  Half a trip of the outer loop: one row, through one slot. The row's slot is waited for and gathered from while the other
  slot's copy is under way, the result row is sent out, and the copy of the row two further on is started into the slot.
-/
module

public import proofs.«01_k».proof.Proof.Alone.Copy

@[expose] public section

noncomputable section

namespace Cert.Proof.Alone

open Cert.GatherIdeal Cert.GatherIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid0.Coords) (fv : Feat F) (iv : Inds)

theorem feat_rows {lo mid hi : ℕ} (h : lo ≤ mid) (h' : mid ≤ hi) :
    (FeatRows d L fv lo hi : sProp 𝕄) ⊣⊢ iprop(FeatRows d L fv lo mid ∗ FeatRows d L fv mid hi) := by
  unfold FeatRows
  rw [show tileX lo hi = tileX lo mid ∪ tileX mid hi from (rows_union h h').symm]
  exact pointsTo_union (rows_disjoint le_rfl)

theorem out_rows {lo mid hi : ℕ} (h : lo ≤ mid) (h' : mid ≤ hi) (f : S1024x2048.Idx → Elt F .f32) :
    (OutRows d L lo hi f : sProp 𝕄) ⊣⊢ iprop(OutRows d L lo mid f ∗ OutRows d L mid hi f) := by
  unfold OutRows
  rw [show tileO lo hi = tileO lo mid ∪ tileO mid hi from (rows_union h h').symm]
  exact pointsTo_union (rows_disjoint le_rfl)

/-- Feature slot `b` when row `B + h` is the next to use it: the row is on its way in, or there is none. -/
def FeatSt (sm : DmaSem sig) (B b h : ℕ) : sProp 𝕄 := if h < 32 then FeatIn d L fv sm b (B + h) else SlotFree d L sm b

/-- Result slot `b` when row `B + h` is the next to use it: row `B + h - 2` is on its way out, or none has been. -/
def OutSt (sm : DmaSem sig) (B b h : ℕ) : sProp 𝕄 := if 2 ≤ h then OutGo d L fv iv sm b (B + h - 2) else OutFree d L sm b

/-- The subcore's state before row `B + h`, which uses slot `b`; `f0` is what the result array held. -/
def Half (B : ℕ) (f0 : S1024x2048.Idx → Elt F .f32) (b b' : ℕ) (sx so sx' so' : DmaSem sig) (h : ℕ) : sProp 𝕄 :=
  iprop(IndPts d L iv (B / 128) ∗ (FeatSt d L fv sx B b h ∗ FeatSt d L fv sx' B b' (h + 1))
    ∗ (OutSt d L fv iv so B b h ∗ OutSt d L fv iv so' B b' (h + 1))
    ∗ (FeatRows d L fv B (B + h) ∗ FeatRows d L fv (B + min (h + 2) 32) (B + 32))
    ∗ (OutRows d L B (B + (h - 2)) (result fv iv) ∗ OutRows d L (B + h) (B + 32) f0))

/-- The other slot, whatever its state, can stand in write mode for a while. -/
theorem beside {ι B b h : ℕ} {sm : DmaSem sig} :
    (iprop(wmInv EW ι ∗ FeatSt d L fv sm B b h) : sProp 𝕄)
      ⊢ iprop(|={Set.univ}=> ∃ (q : PosShare TreeShare) (f : Buf (Elt F) ((sR).view.loc (thr d L))) (g : Tgt (Elt F) ((sR).view.loc (thr d L)))
          (W : Finset (Idx ((sR).view.loc (thr d L)))), Beside d L b q f g W
            ∗ (Beside d L b q f g W -∗ |={Set.univ}=> FeatSt d L fv sm B b h)) := by
  unfold FeatSt
  by_cases hh : h < 32
  · simp only [if_pos hh]
    unfold FeatIn Staying Kept
    iintro ⟨#Hi, %f, Hs, Hc⟩
    imodintro
    iexists _, _, _, _
    isplitl [Hs]
    · unfold Beside; iexact Hs
    iintro Hs
    imodintro
    iexists f
    isplitl [Hs]
    · unfold Beside; iexact Hs
    iexact Hc
  · simp only [if_neg hh]
    unfold SlotFree
    iintro ⟨#Hi, ⟨%f, Hs⟩, Hsm⟩
    imod (pointsTo_castIn (emb := EW) (ιwm := ι) (fun i => some (f i))) $$ [Hs] with Hs
    · isplitr; · iexact Hi
      iexact Hs
    imodintro
    iexists _, _, _, _
    isplitl [Hs]
    · unfold Beside; iexact Hs
    iintro Hs
    unfold Beside
    imod (willBeTo_castOut (emb := EW) (ιwm := ι)) $$ [Hs] with ⟨%f', -, Hs⟩
    · isplitr; · iexact Hi
      iexact Hs
    imodintro
    isplitl [Hs]
    · iexists f'; iexact Hs
    iexact Hsm

/-- The wait for the row two back, where there is one. -/
theorem outFirst {α : Type} {Q : α → sProp 𝕄} {p : Prog (TpuEff nD τ sig (Elt F) Λ₀ (.scVector (cV L) (jV L))) α} {B b h : ℕ} {sm : DmaSem sig}
    {c : BitVec 1} (hc : c = 1#1 ↔ 2 ≤ h) {o : Fin 2 → ℕ} {ob : Fin 2 → ℕ}
    {inb : c = 1#1 → ∀ a, o a + S1x2048.size a ≤ S1024x2048.size a} {inbb : ∀ a, ob a + S1x2048.size a ≤ S2x2048.size a}
    {hs : (winO ob inbb).view.WordExact} {hd : ∀ hA, (winY o (inb hA)).view.WordExact} {O : CellTallies nD τ sig (HIx 1)} :
    (iprop(OutSt d L fv iv sm B b h ∗ OutRows d L B (B + (h - 2)) (result fv iv) ∗ MayWaits (thr d L) none O ∗ ∃ W, owes (thr d L) O W) : sProp 𝕄)
      ⊢ iprop((OutFree d L sm b -∗ OutRows d L B (B + (h + 1 - 2)) (result fv iv) -∗ (∃ W, owes (thr d L) O W)
            -∗ wp frame (wpE (defs₀ (F := F)) 𝒱₀ (thr d L) none) Set.univ p Q)
        -∗ wp frame (wpE (defs₀ (F := F)) 𝒱₀ (thr d L) none) Set.univ
          (if hA : c = 1#1 then Prog.op (.waitDma2 sm (winO ob inbb) (winY o (inb hA)) hs (hd hA)) (fun _ => p) else p) Q) := by
  unfold OutSt
  by_cases hh : 2 ≤ h
  · rw [dif_pos (hc.mpr hh), if_pos hh]
    iintro ⟨Hgo, HY, #Hmw, HO⟩ Hk
    iapply (outWait d L fv iv) $$ [Hgo HO]
    · isplitl [Hgo]; · iexact Hgo
      isplitr; · iexact Hmw
      iexact HO
    iintro Hrow Hfree HO
    iapply Hk $$ Hfree [HY Hrow] HO
    have e1 : B + h - 2 = B + (h - 2) := by omega
    have e2 : B + h - 2 + 1 = B + (h + 1 - 2) := by omega
    iapply (out_rows d L (mid := B + (h - 2)) (by omega) (by omega) (result fv iv)).2
    rw [e2, e1]
    isplitl [HY] <;> iassumption
  · rw [dif_neg (fun h' => hh (hc.mp h')), if_neg hh, show h + 1 - 2 = h - 2 by omega]
    iintro ⟨Hfree, HY, #Hmw, HO⟩ Hk
    iapply Hk $$ Hfree HY HO

/-- The copy of the row two further on, where there is one. -/
theorem featLast {α : Type} {Q : α → sProp 𝕄} {p : Prog (TpuEff nD τ sig (Elt F) Λ₀ (.scVector (cV L) (jV L))) α} {ι B b h : ℕ} {sm : DmaSem sig}
    (hb : b < 2) (hB : B + 32 ≤ 1024) (hh32 : h < 32)
    {c : BitVec 1} (hc : c = 1#1 ↔ h + 2 < 32) {o : Fin 2 → ℕ} (ho : o = ![B + h + 2, 0]) {ob : Fin 2 → ℕ} (hob : ob = ![b, 0])
    {inb : c = 1#1 → ∀ a, o a + S1x8192.size a ≤ S1024x8192.size a} {inbb : ∀ a, ob a + S1x8192.size a ≤ S2x8192.size a}
    {hs : ∀ hA, (winX o (inb hA)).view.WordExact} {hd : (winR ob inbb).view.WordExact} :
    (iprop(wmInv EW ι ∗ SlotFree d L sm b ∗ FeatRows d L fv (B + min (h + 2) 32) (B + 32)) : sProp 𝕄)
      ⊢ iprop((FeatSt d L fv sm B b (h + 2) -∗ FeatRows d L fv (B + min (h + 3) 32) (B + 32)
            -∗ wp frame (wpE (defs₀ (F := F)) 𝒱₀ (thr d L) none) Set.univ p Q)
        -∗ wp frame (wpE (defs₀ (F := F)) 𝒱₀ (thr d L) none) Set.univ
          (if hA : c = 1#1 then Prog.op (.enqueueDma (winX o (inb hA)) (.here (winR ob inbb)) (.dma sm) (hs hA) hd ⟨Or.inl rfl, trivial⟩) (fun _ => p) else p) Q) := by
  unfold FeatSt
  by_cases hh : h + 2 < 32
  · rw [dif_pos (hc.mpr hh), if_pos hh, show min (h + 2) 32 = h + 2 by omega, show min (h + 3) 32 = h + 3 by omega]
    iintro ⟨#Hi, Hfree, HX⟩ Hk
    ihave HX := (feat_rows d L fv (mid := B + (h + 2) + 1) (by omega) (by omega)).1 $$ HX
    icases HX with ⟨Hrow, HX⟩
    iapply (featStart d L fv (r := B + (h + 2)) hb (by omega) ho hob) $$ [Hfree Hrow]
    · isplitr; · iexact Hi
      isplitl [Hrow] <;> iassumption
    iintro Hin
    iapply Hk $$ Hin HX
  · rw [dif_neg (fun h' => hh (hc.mp h')), if_neg hh, show min (h + 2) 32 = 32 by omega, show min (h + 3) 32 = 32 by omega]
    iintro ⟨#Hi, Hfree, HX⟩ Hk
    iapply Hk $$ Hfree HX

/-- Half a trip. -/
theorem half_wp {α : Type} {Q : α → sProp 𝕄} {k : Prog (TpuEff nD τ sig (Elt F) Λ₀ (.scVector (cV L) (jV L))) α} {ι B b b' h : ℕ}
    {sx so sx' so' : DmaSem sig} {f0 : S1024x2048.Idx → Elt F .f32} {O : CellTallies nD τ sig (HIx 1)}
    (hb : b < 2) (hB : B + 32 ≤ 1024) (hB' : B % 32 = 0) (hh : h < 32)
    {cA cB : BitVec 1} (hcA : cA = 1#1 ↔ 2 ≤ h) (hcB : cB = 1#1 ↔ h + 2 < 32)
    {oA oX oY oZ oR oO : Fin 2 → ℕ} (hoY : oY = ![B + h, 0]) (hoZ : oZ = ![B + h + 2, 0]) (hoR : oR = ![b, 0]) (hoO : oO = ![b, 0])
    {inA : cA = 1#1 → ∀ a, oA a + S1x2048.size a ≤ S1024x2048.size a} {inX : ∀ a, oX a + S1x8192.size a ≤ S1024x8192.size a}
    {inY : ∀ a, oY a + S1x2048.size a ≤ S1024x2048.size a} {inZ : cB = 1#1 → ∀ a, oZ a + S1x8192.size a ≤ S1024x8192.size a}
    {inR : ∀ a, oR a + S1x8192.size a ≤ S2x8192.size a} {inO : ∀ a, oO a + S1x2048.size a ≤ S2x2048.size a}
    {l : Scf.Loop 32} {hok : l.OK} (hl : l.trips = 32) {init : BitVec 32}
    {body : Fin l.trips → BitVec 32 → Prog (TpuEff nD τ sig (Elt F) Λ₀ (.scVector (cV L) (jV L))) (BitVec 32)}
    (hbody : ∀ q f g W t acc, (iprop(wmInv EW ι ∗ InTrip d L fv iv b b' (B / 128) (B + h) q f g W (64 * t.val)) : sProp 𝕄)
      ⊢ wp frame (wpE (defs₀ (F := F)) 𝒱₀ (thr d L) none) Set.univ (body t acc)
          (fun _ => InTrip d L fv iv b b' (B / 128) (B + h) q f g W (64 * (t.val + 1)))) :
    (iprop(wmInv EW ι ∗ MayWaits (thr d L) none O ∗ Half d L fv iv B f0 b b' sx so sx' so' h ∗ ∃ W, owes (thr d L) O W) : sProp 𝕄)
      ⊢ iprop((Half d L fv iv B f0 b' b sx' so' sx so (h + 1) -∗ (∃ W, owes (thr d L) O W)
            -∗ wp frame (wpE (defs₀ (F := F)) 𝒱₀ (thr d L) none) Set.univ k Q)
        -∗ wp frame (wpE (defs₀ (F := F)) 𝒱₀ (thr d L) none) Set.univ (do
          if hA : cA = 1#1 then do
            Prog.lift (.waitDma2 so (winO oO inO) (winY oA (inA hA)) ((View.wordExact_bits rfl).reshape _ _) ((View.wordExact_bits rfl).reshape _ _))
            pure ⟨⟩
          else do
            pure ⟨⟩
          Prog.lift (.waitDma2 sx (winX oX inX) (winR oR inR) ((View.wordExact_bits rfl).reshape _ _) ((View.wordExact_bits rfl).reshape _ _))
          let _v : BitVec 32 ← Scf.Loop.for l hok init body
          Prog.lift (.enqueueDma (winO oO inO) (.here (winY oY inY)) (.dma so) ((View.wordExact_bits rfl).reshape _ _) ((View.wordExact_bits rfl).reshape _ _) ⟨Or.inl rfl, trivial⟩)
          if hC : cB = 1#1 then do
            Prog.lift (.enqueueDma (winX oZ (inZ hC)) (.here (winR oR inR)) (.dma sx) ((View.wordExact_bits rfl).reshape _ _) ((View.wordExact_bits rfl).reshape _ _) ⟨Or.inl rfl, trivial⟩)
            pure ⟨⟩
          else do
            pure ⟨⟩
          k) Q) := by
  have hor : (b = 0 ∨ b = 1) := by omega
  unfold Half
  iintro ⟨#Hi, #Hmw, ⟨HI, ⟨HF, HF'⟩, ⟨HG, HG'⟩, ⟨HXd, HXr⟩, ⟨HYd, HYr⟩⟩, HO⟩ Hk
  simp only [Prog.lift, Prog.bind_op, Prog.bind_ret]
  iapply (outFirst d L fv iv (B := B) (b := b) (h := h) (sm := so) (c := cA) hcA) $$ [HG HYd HO]
  · isplitl [HG]; · iexact HG
    isplitl [HYd]; · iexact HYd
    isplitr; · iexact Hmw
    iexact HO
  iintro HG HYd HO
  ihave HF := (Entails.of_eq (show FeatSt d L fv sx B b h = FeatIn d L fv sx b (B + h) from if_pos hh)) $$ HF
  iapply (featWait d L fv) $$ [HF HO]
  · isplitr; · iexact Hi
    isplitl [HF]; · iexact HF
    isplitr; · iexact Hmw
    iexact HO
  iintro HS Hsx Hrow HO
  imod (beside d L fv) $$ [HF'] with ⟨%q, %f, %g, %W, HB, Hback⟩
  · isplitr; · iexact Hi
    iexact HF'
  unfold OutFree
  icases HG with ⟨⟨%fo, Hfo⟩, Hso⟩
  iapply (Scf.wp_for_bind _ _ _ l.lb l.ub l.st hok init body
    (fun t _ => iprop(wmInv EW ι ∗ InTrip d L fv iv b b' (B / 128) (B + h) q f g W (64 * t)))
    (fun t acc => by
      iintro ⟨#Hi, H⟩
      iapply (wp_wand_r _ _ _)
      isplitl [H]
      · iapply (hbody q f g W t acc)
        isplitr; · iexact Hi
        iexact H
      iintro %v H
      isplitr; · iexact Hi
      iexact H)) $$ [HI HS HB Hfo]
  · isplitr; · iexact Hi
    unfold InTrip Gathered
    isplitl [HI]; · iexact HI
    isplitl [HS]; · iexact HS
    isplitl [HB]; · iexact HB
    iexists fo
    isplitr
    · ipureintro; intro x _ hx; omega
    · iexact Hfo
  iintro %acc ⟨-, H⟩
  rw [show Scf.trips l.lb l.ub l.st = 32 from hl]
  unfold InTrip
  icases H with ⟨HI, HS, HB, Hfo⟩
  imod Hback $$ HB with HF'
  ihave HYr := (out_rows d L (mid := B + h + 1) (by omega) (by omega) f0).1 $$ HYr
  icases HYr with ⟨HY1, HYr⟩
  iapply (outStart d L fv iv hb (by omega) hoY hoO) $$ [Hfo HY1 Hso]
  · isplitl [Hfo]; · iexact Hfo
    isplitl [HY1]; · iexact HY1
    iexact Hso
  iintro Hgo
  iapply (featLast d L fv (B := B) (b := b) (h := h) (sm := sx) (c := cB) hb hB hh hcB hoZ hoR) $$ [HS Hsx HXr]
  · isplitr; · iexact Hi
    isplitl [HS Hsx]
    · unfold SlotFree SlotPts
      isplitl [HS]
      · iexists _; iexact HS
      · iexact Hsx
    iexact HXr
  iintro HF HXr
  iapply Hk $$ [HI HF HF' Hgo HG' HXd Hrow HXr HYd HYr] HO
  isplitl [HI]; · iexact HI
  isplitl [HF HF']
  · isplitl [HF']
    · iexact HF'
    · iexact HF
  isplitl [Hgo HG']
  · isplitl [HG']; · iexact HG'
    unfold OutSt
    rw [if_pos (show 2 ≤ h + 1 + 1 by omega), show B + (h + 1 + 1) - 2 = B + h by omega]
    iexact Hgo
  isplitl [HXd Hrow HXr]
  · isplitl [HXd Hrow]
    · iapply (feat_rows d L fv (mid := B + h) (by omega) (by omega)).2
      isplitl [HXd]
      · iexact HXd
      · iexact Hrow
    · iexact HXr
  · isplitl [HYd]
    · iexact HYd
    · iexact HYr

end Cert.Proof.Alone

end

end
-- ==== Proof.Alone.Tile.lean ====
/-
  One subcore's run: the index row fetched, the first two feature rows started, sixteen trips of two rows each, the last two
  result rows waited for.
-/
module

public import proofs.«01_k».proof.Proof.Alone.Half

@[expose] public section

noncomputable section

namespace Cert.Proof.Alone

open Cert.GatherIdeal Cert.GatherIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid0.Coords) (fv : Feat F) (iv : Inds)

/-- The subcore's first row. -/
abbrev row0 : ℕ := base (L 0).val (L 1).val

theorem row0_le : row0 L + 32 ≤ 1024 := by
  have h0 : (L 0).val < 2 := (L 0).isLt
  have h1 : (L 1).val < 16 := (L 1).isLt
  unfold row0 base; omega

theorem row0_mod : row0 L % 32 = 0 := by unfold row0 base; omega

theorem off_row {a b : ℕ} (h : a = b) : (![a, 0] : Fin 2 → ℕ) = ![b, 0] := by rw [h]

/-! ## When the copies' conditions hold -/

theorem cond1_iff : ∀ t : Fin k0_t1_loop.trips, k0_cond1 t = 1#1 ↔ 2 ≤ 2 * t.val := by decide +kernel
theorem cond2_iff : ∀ t : Fin k0_t1_loop.trips, k0_cond2 t = 1#1 ↔ 2 * t.val + 2 < 32 := by decide +kernel
theorem cond3_iff : ∀ t : Fin k0_t1_loop.trips, k0_cond3 t = 1#1 ↔ 2 ≤ 2 * t.val + 1 := by decide +kernel
theorem cond4_iff : ∀ t : Fin k0_t1_loop.trips, k0_cond4 t = 1#1 ↔ 2 * t.val + 1 + 2 < 32 := by decide +kernel

/-- The state between trips. -/
abbrev Rows (f0 : S1024x2048.Idx → Elt F .f32) (n : ℕ) : sProp 𝕄 :=
  Half d L fv iv (row0 L) f0 0 1 cc0_scratch3.sem cc0_scratch5.sem cc0_scratch4.sem cc0_scratch6.sem n

/-- One trip: two rows. -/
theorem trip {ι : ℕ} {O : CellTallies nD τ sig (HIx 1)} {f0 : S1024x2048.Idx → Elt F .f32} (hr : ∀ x, (iv x).toNat < 8192) (v2 : BitVec 32)
    (t : Fin k0_t1_loop.trips) (acc : BitVec 32) :
    (iprop(wmInv EW ι ∗ MayWaits (thr d L) none O ∗ Rows d L fv iv f0 (2 * t.val) ∗ ∃ W, owes (thr d L) O W) : sProp 𝕄)
      ⊢ wp frame (wpE (defs₀ (F := F)) 𝒱₀ (thr d L) none) Set.univ
          (k0_t1_body L xV (Memref.isWhole_whole _) iV (Memref.isWhole_whole _) oV (Memref.isWhole_whole _) sI (Memref.isWhole_whole _)
            sR (Memref.isWhole_whole _) sO (Memref.isWhole_whole _) cc0_scratch3 cc0_scratch4 cc0_scratch5 cc0_scratch6 cc0_scoped0 v2 t acc)
          (fun _ => iprop(Rows d L fv iv f0 (2 * (t.val + 1)) ∗ ∃ W, owes (thr d L) O W)) := by
  have ht : t.val < 16 := lt_of_lt_of_le t.isLt k0_t1_abs.2.1
  have hB := row0_le L
  have hB' := row0_mod L
  unfold k0_t1_body
  rw [k0_part1_eq_skeleton]
  unfold k0_part1_skel
  iintro ⟨#Hi, #Hmw, H, HO⟩
  rw [wp_bind]
  iapply (half_wp d L fv iv (B := row0 L) (b := 0) (b' := 1) (h := 2 * t.val) (by omega) hB hB' (by omega) (cond1_iff t) (cond2_iff t)
    ((k0_off13_eq L t).trans (off_row (by unfold row0 base; omega))) ((k0_off14_eq L t).trans (off_row (by unfold row0 base; omega))) rfl rfl
    (by decide +kernel : k0_t2_loop.trips = 32)
    (fun q f g W t' acc' => trip0 d L fv iv (by omega) hr t v2 0#32 1#32 t' acc')) $$ [H HO]
  · isplitr; · iexact Hi
    isplitr; · iexact Hmw
    isplitl [H]; · iexact H
    iexact HO
  iintro H HO
  rw [Prog.pure_eq_ret, wp_ret]
  imodintro
  iapply (half_wp d L fv iv (B := row0 L) (b := 1) (b' := 0) (h := 2 * t.val + 1) (by omega) hB hB' (by omega) (cond3_iff t) (cond4_iff t)
    ((k0_off25_eq L t).trans (off_row (by unfold row0 base; omega))) ((k0_off26_eq L t).trans (off_row (by unfold row0 base; omega))) rfl rfl
    (by decide +kernel : k0_t3_loop.trips = 32)
    (fun q f g W t' acc' => trip1 d L fv iv (by omega) hr t' acc')) $$ [H HO]
  · isplitr; · iexact Hi
    isplitr; · iexact Hmw
    isplitl [H]; · iexact H
    iexact HO
  iintro H HO
  rw [Prog.pure_eq_ret, wp_ret]
  imodintro
  isplitl [H]
  · iexact H
  · iexact HO

/-! ## The index row -/

/-- The subcore's batch entry: the index row it fetches. -/
theorem off1_eq : ∀ i : grid0.Coords, k0_off1 i = ![base (i 0).val (i 1).val / 128, 0] := by decide +kernel

abbrev winI : Memref sig .scVector .hbm S2048 .i32 :=
  (iV.slice (Rect.unit (s := S8x2048) (k0_off1 L) S1x2048.size (k0_off1_inb L)) (fun _ => rfl)).squeeze S2048 squeezes_S1x2048_S2048

/-- What the index row reads. -/
theorem winI_read : (winI L).view.read (Elt F) iv = indBuf iv (row0 L / 128) := by
  have hlt : row0 L / 128 < 8 := by have := row0_le L; omega
  funext y
  exact (row_read (Val := Elt F) (iV).view (row0 L / 128) hlt (off1_eq L) rfl (k0_off1_inb L) squeezes_S1x2048_S2048.numel_eq iv y).trans
    (at2_ix2 iv ⟨row0 L / 128, hlt⟩ (y 0)).symm

abbrev nI : ℕ := (sI).view.dmaCredit

/-- The index array, at the share the subcore has of it. -/
def IndArr (q : PosShare TreeShare) : sProp 𝕄 := (iV).view.loc (thr d L) ↦[Finset.univ]{q} (iv : Buf (Elt F) ((iV).view.loc (thr d L)))

/-- The index row's fetch, start to end. -/
theorem fetch {α : Type} {Q : α → sProp 𝕄} {k : PUnit → Prog (TpuEff nD τ sig (Elt F) Λ₀ (.scVector (cV L) (jV L))) α} {q : PosShare TreeShare}
    {sm : DmaSem sig} {O : CellTallies nD τ sig (HIx 1)} {hs : (winI L).view.WordExact} {hd : (sI).view.WordExact} :
    (iprop(IndArr d L iv q ∗ (∃ f, (sI).view.loc (thr d L) ↦{fullShare} f) ∗ semVal (thr d L, .dma sm) 0
        ∗ MayWaits (thr d L) none O ∗ ∃ W, owes (thr d L) O W) : sProp 𝕄)
      ⊢ iprop((IndArr d L iv q -∗ IndPts d L iv (row0 L / 128) -∗ semVal (thr d L, .dma sm) 0 -∗ (∃ W, owes (thr d L) O W)
            -∗ wp frame (wpE (defs₀ (F := F)) 𝒱₀ (thr d L) none) Set.univ (k ⟨⟩) Q)
        -∗ wp frame (wpE (defs₀ (F := F)) 𝒱₀ (thr d L) none) Set.univ
          (.op (.enqueueDma (winI L) (.here sI) (.dma sm) hs hd ⟨Or.inl rfl, trivial⟩) fun _ => .op (.waitDma2 sm (winI L) sI hs hd) k) Q) := by
  unfold IndArr
  iintro ⟨HA, ⟨%f, HI⟩, Hsm, #Hmw, %W, HO⟩ Hk
  ihave HA := (pointsTo_split_subset (Finset.subset_univ (winI L).view.set)).1 $$ HA
  icases HA with ⟨Hrow, HA⟩
  iapply (wp_dmaLocal EC (defs := defs₀ (F := F)) 𝒱₀ (thr d L) none (Q := Q) (src := winI L) (dst := sI) (via := .same) (sm := .dma sm)
    (hsrc := hs) (hdst := hd) (hsem := ⟨Or.inl rfl, trivial⟩) (q := q) (fs := iv) (fd := f) none nI rfl (by decide) (Finset.subset_univ _)) $$ [Hrow HI Hsm]
  · isplitl [Hrow]; · iexact Hrow
    isplitl [HI]; · iexact HI
    iexact Hsm
  iintro H
  ihave Hm := (MayWaits.elim (SemLoc.dma sm)) $$ Hmw
  iapply (wp_waitLocalO EC 𝒱₀ (thr d L) none (srcw := winI L) (dstw := sI) none (N := nI) rfl) $$ [H HO Hm]
  · isplitl [H]; · iexact H
    isplitl [HO]; · iexact HO
    iexact Hm
  iintro ⟨⟨HI, Hrow⟩, Hsm, HO⟩
  iapply Hk $$ [HA Hrow] [HI] Hsm [HO]
  · iapply (pointsTo_split_subset (Finset.subset_univ (winI L).view.set)).2
    isplitl [Hrow] <;> iassumption
  · unfold IndPts
    rw [← winI_read (F := F) L iv]
    rw [show (sI).view.write (Elt F) f ((winI L).view.read (Elt F) iv) Finset.univ = (winI L).view.read (Elt F) iv from View.write_whole_univ _ _ _]
    iexact HI
  · iexists _; iexact HO

end Cert.Proof.Alone

end

end
-- ==== Proof.Alone.Task.lean ====
/-
  One subcore's run from its first copy to its last wait, from what it is handed to what it gives back.
-/
module

public import proofs.«01_k».proof.Proof.Alone.Tile

@[expose] public section

noncomputable section

namespace Cert.Proof.Alone

open Cert.GatherIdeal Cert.GatherIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (d : Dev nD) (L : grid0.Coords) (fv : Feat F) (iv : Inds)

/-- The subcore's scratch buffers, and its semaphores at zero. -/
def Scr : sProp 𝕄 :=
  iprop((∃ f, (sI).view.loc (thr d L) ↦{fullShare} f) ∗ (∃ f, (sR).view.loc (thr d L) ↦{fullShare} f) ∗ ∃ f, (sO).view.loc (thr d L) ↦{fullShare} f)
def Sems : sProp 𝕄 :=
  iprop(semVal (thr d L, .dma cc0_scratch3.sem) 0 ∗ semVal (thr d L, .dma cc0_scratch4.sem) 0 ∗ semVal (thr d L, .dma cc0_scratch5.sem) 0
    ∗ semVal (thr d L, .dma cc0_scratch6.sem) 0 ∗ semVal (thr d L, .dma cc0_scoped0.sem) 0)

theorem slotR_all : (Finset.univ : Finset S2x8192.Idx) = slotR 0 ∪ slotR 1 := rows_all.symm.trans (rows_union (by omega) (by omega)).symm
theorem slotO_all : (Finset.univ : Finset S2x2048.Idx) = slotO 0 ∪ slotO 1 := rows_all.symm.trans (rows_union (by omega) (by omega)).symm

/-- The two slots of a scratch buffer, out of the whole and back. -/
theorem slotsR : (iprop(∃ f, (sR).view.loc (thr d L) ↦{fullShare} f) : sProp 𝕄)
    ⊢ iprop((∃ f, (sR).view.loc (thr d L) ↦[slotR 0]{fullShare} f) ∗ ∃ f, (sR).view.loc (thr d L) ↦[slotR 1]{fullShare} f) := by
  iintro ⟨%f, H⟩
  ihave H := (Entails.of_eq (show ((sR).view.loc (thr d L) ↦{fullShare} f : sProp 𝕄) = (sR).view.loc (thr d L) ↦[slotR 0 ∪ slotR 1]{fullShare} f from by
    rw [← slotR_all])) $$ H
  ihave H := (pointsTo_union (rows_disjoint le_rfl)).1 $$ H
  icases H with ⟨H0, H1⟩
  isplitl [H0] <;> iexists f <;> iassumption
theorem slotsO : (iprop(∃ f, (sO).view.loc (thr d L) ↦{fullShare} f) : sProp 𝕄)
    ⊢ iprop((∃ f, (sO).view.loc (thr d L) ↦[slotO 0]{fullShare} f) ∗ ∃ f, (sO).view.loc (thr d L) ↦[slotO 1]{fullShare} f) := by
  iintro ⟨%f, H⟩
  ihave H := (Entails.of_eq (show ((sO).view.loc (thr d L) ↦{fullShare} f : sProp 𝕄) = (sO).view.loc (thr d L) ↦[slotO 0 ∪ slotO 1]{fullShare} f from by
    rw [← slotO_all])) $$ H
  ihave H := (pointsTo_union (rows_disjoint le_rfl)).1 $$ H
  icases H with ⟨H0, H1⟩
  isplitl [H0] <;> iexists f <;> iassumption
theorem slotsR_join : (iprop((∃ f, (sR).view.loc (thr d L) ↦[slotR 0]{fullShare} f) ∗ ∃ f, (sR).view.loc (thr d L) ↦[slotR 1]{fullShare} f) : sProp 𝕄)
    ⊢ iprop(∃ f, (sR).view.loc (thr d L) ↦{fullShare} f) := by
  iintro ⟨⟨%f, H0⟩, %g, H1⟩
  ihave H := (pointsTo_join (ℓ := (sR).view.loc (thr d L)) (I := slotR 0) (J := slotR 1) (rows_disjoint le_rfl)) $$ [H0 H1]
  · isplitl [H0] <;> iassumption
  iexists _
  iapply (Entails.of_eq (congrArg (fun S => ((sR).view.loc (thr d L) ↦[S]{fullShare} _ : sProp 𝕄)) slotR_all.symm)) $$ H
theorem slotsO_join : (iprop((∃ f, (sO).view.loc (thr d L) ↦[slotO 0]{fullShare} f) ∗ ∃ f, (sO).view.loc (thr d L) ↦[slotO 1]{fullShare} f) : sProp 𝕄)
    ⊢ iprop(∃ f, (sO).view.loc (thr d L) ↦{fullShare} f) := by
  iintro ⟨⟨%f, H0⟩, %g, H1⟩
  ihave H := (pointsTo_join (ℓ := (sO).view.loc (thr d L)) (I := slotO 0) (J := slotO 1) (rows_disjoint le_rfl)) $$ [H0 H1]
  · isplitl [H0] <;> iassumption
  iexists _
  iapply (Entails.of_eq (congrArg (fun S => ((sO).view.loc (thr d L) ↦[S]{fullShare} _ : sProp 𝕄)) slotO_all.symm)) $$ H

/-- The whole task. -/
theorem task {ι : ℕ} {O : CellTallies nD τ sig (HIx 1)} {f0 : S1024x2048.Idx → Elt F .f32} {q : PosShare TreeShare} (hr : ∀ x, (iv x).toNat < 8192) :
    (iprop(wmInv EW ι ∗ MayWaits (thr d L) none O
        ∗ (FeatRows d L fv (row0 L) (row0 L + 32) ∗ IndArr d L iv q ∗ OutRows d L (row0 L) (row0 L + 32) f0)
        ∗ Scr d L ∗ Sems d L ∗ ∃ W, owes (thr d L) O W) : sProp 𝕄)
      ⊢ wp frame (wpE (defs₀ (F := F)) 𝒱₀ (thr d L) none) Set.univ
          (cc0_k L xV (Memref.isWhole_whole _) iV (Memref.isWhole_whole _) oV (Memref.isWhole_whole _) sI (Memref.isWhole_whole _)
            sR (Memref.isWhole_whole _) sO (Memref.isWhole_whole _) cc0_scratch3 cc0_scratch4 cc0_scratch5 cc0_scratch6 cc0_scoped0)
          (fun _ => iprop((FeatRows d L fv (row0 L) (row0 L + 32) ∗ IndArr d L iv q ∗ OutRows d L (row0 L) (row0 L + 32) (result fv iv))
            ∗ Scr d L ∗ Sems d L ∗ ∃ W, owes (thr d L) O W)) := by
  have hB := row0_le L
  rw [cc0_k_eq_skeleton]
  unfold cc0_k_skel
  rw [k0_part2_eq_skeleton]
  unfold k0_part2_skel Scr Sems
  iintro ⟨#Hi, #Hmw, ⟨HX, HA, HY⟩, ⟨HsI, HsR, HsO⟩, ⟨H3, H4, H5, H6, H0⟩, HO⟩
  simp only [Prog.lift, Prog.bind_op, Prog.bind_ret, Prog.pure_eq_ret]
  iapply (fetch d L iv) $$ [HA HsI H0 HO]
  · isplitl [HA]; · iexact HA
    isplitl [HsI]; · iexact HsI
    isplitl [H0]; · iexact H0
    isplitr; · iexact Hmw
    iexact HO
  iintro HA HI H0 HO
  ihave HsR := (slotsR (F := F) d L) $$ HsR
  ihave HsO := (slotsO (F := F) d L) $$ HsO
  icases HsR with ⟨HR0, HR1⟩
  icases HsO with ⟨HO0, HO1⟩
  ihave HX := (feat_rows d L fv (lo := row0 L) (mid := row0 L + 1) (hi := row0 L + 32) (by omega) (by omega)).1 $$ HX
  icases HX with ⟨HX0, HX⟩
  ihave HX := (feat_rows d L fv (lo := row0 L + 1) (mid := row0 L + 1 + 1) (hi := row0 L + 32) (by omega) (by omega)).1 $$ HX
  icases HX with ⟨HX1, HX⟩
  iapply (featStart d L fv (ι := ι) (b := 0) (r := row0 L) (by omega) (by omega) ((k0_off2_eq L 0).trans (off_row (by unfold row0 base; simp))) rfl) $$ [HX0 HR0 H3]
  · isplitr; · iexact Hi
    isplitl [HX0]; · iexact HX0
    unfold SlotFree
    isplitl [HR0]; · iexact HR0
    iexact H3
  iintro HF0
  iapply (featStart d L fv (ι := ι) (b := 1) (r := row0 L + 1) (by omega) (by omega) ((k0_off2_eq L 1).trans (off_row (by unfold row0 base; simp))) rfl) $$ [HX1 HR1 H4]
  · isplitr; · iexact Hi
    isplitl [HX1]; · iexact HX1
    unfold SlotFree
    isplitl [HR1]; · iexact HR1
    iexact H4
  iintro HF1
  iapply (Scf.wp_for_bind _ _ _ k0_t1_loop.lb k0_t1_loop.ub k0_t1_loop.st k0_t1_ok 0#32 _
    (fun t _ => iprop(wmInv EW ι ∗ MayWaits (thr d L) none O ∗ Rows d L fv iv f0 (2 * t) ∗ ∃ W, owes (thr d L) O W))
    (fun t acc => by
      iintro ⟨#Hi, #Hmw, H⟩
      iapply (wp_wand_r _ _ _)
      isplitl [H]
      · iapply (trip d L fv iv hr _ t acc)
        isplitr; · iexact Hi
        isplitr; · iexact Hmw
        iexact H
      iintro %v H
      isplitr; · iexact Hi
      isplitr; · iexact Hmw
      iexact H)) $$ [HI HF0 HF1 HO0 HO1 H5 H6 HX HY HO]
  · isplitr; · iexact Hi
    isplitr; · iexact Hmw
    isplitr [HO]
    · unfold Rows Half
      isplitl [HI]; · iexact HI
      isplitl [HF0 HF1]
      · isplitl [HF0]
        · iapply (Entails.of_eq (show FeatIn d L fv cc0_scratch3.sem 0 (row0 L) = FeatSt d L fv cc0_scratch3.sem (row0 L) 0 (2 * 0) from (if_pos (by omega)).symm)) $$ HF0
        · iapply (Entails.of_eq (show FeatIn d L fv cc0_scratch4.sem 1 (row0 L + 1) = FeatSt d L fv cc0_scratch4.sem (row0 L) 1 (2 * 0 + 1) from (if_pos (by omega)).symm)) $$ HF1
      isplitl [HO0 HO1 H5 H6]
      · isplitl [HO0 H5]
        · iapply (Entails.of_eq (show OutFree d L cc0_scratch5.sem 0 = OutSt d L fv iv cc0_scratch5.sem (row0 L) 0 (2 * 0) from (if_neg (by omega)).symm))
          unfold OutFree
          isplitl [HO0]; · iexact HO0
          iexact H5
        · iapply (Entails.of_eq (show OutFree d L cc0_scratch6.sem 1 = OutSt d L fv iv cc0_scratch6.sem (row0 L) 1 (2 * 0 + 1) from (if_neg (by omega)).symm))
          unfold OutFree
          isplitl [HO1]; · iexact HO1
          iexact H6
      isplitl [HX]
      · isplitr
        · unfold FeatRows
          rw [show tileX (row0 L) (row0 L + 2 * 0) = ∅ from rows_empty, pointsTo_empty]
          itrivial
        · iexact HX
      · isplitr
        · unfold OutRows
          rw [show tileO (row0 L) (row0 L + (2 * 0 - 2)) = ∅ from rows_empty, pointsTo_empty]
          itrivial
        · iexact HY
    · iexact HO
  iintro %acc ⟨-, -, H, HO⟩
  rw [show Scf.trips k0_t1_loop.lb k0_t1_loop.ub k0_t1_loop.st = 16 from by decide +kernel]
  unfold Rows Half
  icases H with ⟨HI, ⟨HF0, HF1⟩, ⟨HG0, HG1⟩, ⟨HX, -⟩, ⟨HY, -⟩⟩
  ihave HG0 := (Entails.of_eq (show OutSt d L fv iv cc0_scratch5.sem (row0 L) 0 (2 * 16) = OutGo d L fv iv cc0_scratch5.sem 0 (row0 L + 30) from if_pos (by omega))) $$ HG0
  ihave HG1 := (Entails.of_eq (show OutSt d L fv iv cc0_scratch6.sem (row0 L) 1 (2 * 16 + 1) = OutGo d L fv iv cc0_scratch6.sem 1 (row0 L + 30 + 1) from if_pos (by omega))) $$ HG1
  ihave HF0 := (Entails.of_eq (show FeatSt d L fv cc0_scratch3.sem (row0 L) 0 (2 * 16) = SlotFree d L cc0_scratch3.sem 0 from if_neg (by omega))) $$ HF0
  ihave HF1 := (Entails.of_eq (show FeatSt d L fv cc0_scratch4.sem (row0 L) 1 (2 * 16 + 1) = SlotFree d L cc0_scratch4.sem 1 from if_neg (by omega))) $$ HF1
  iapply (outWait d L fv iv) $$ [HG0 HO]
  · isplitl [HG0]; · iexact HG0
    isplitr; · iexact Hmw
    iexact HO
  iintro HY0 HG0 HO
  iapply (outWait d L fv iv) $$ [HG1 HO]
  · isplitl [HG1]; · iexact HG1
    isplitr; · iexact Hmw
    iexact HO
  iintro HY1 HG1 HO
  unfold SlotFree OutFree
  icases HF0 with ⟨HR0, H3⟩
  icases HF1 with ⟨HR1, H4⟩
  icases HG0 with ⟨HO0, H5⟩
  icases HG1 with ⟨HO1, H6⟩
  rw [wp_ret]
  imodintro
  isplitl [HX HA HY HY0 HY1]
  · isplitl [HX]; · iexact HX
    isplitl [HA]; · iexact HA
    iapply (out_rows d L (lo := row0 L) (mid := row0 L + 30) (hi := row0 L + 32) (by omega) (by omega) (result fv iv)).2
    isplitl [HY]; · iexact HY
    iapply (out_rows d L (lo := row0 L + 30) (mid := row0 L + 30 + 1) (hi := row0 L + 32) (by omega) (by omega) (result fv iv)).2
    isplitl [HY0]
    · iexact HY0
    · iexact HY1
  isplitl [HI HR0 HR1 HO0 HO1]
  · isplitl [HI]
    · unfold IndPts; iexists _; iexact HI
    isplitl [HR0 HR1]
    · iapply (slotsR_join (F := F) d L)
      isplitl [HR0] <;> iassumption
    · iapply (slotsO_join (F := F) d L)
      isplitl [HO0] <;> iassumption
  isplitr [HO]
  · isplitl [H3]; · iexact H3
    isplitl [H4]; · iexact H4
    isplitl [H5]; · iexact H5
    isplitl [H6]; · iexact H6
    iexact H0
  · iexact HO

end Cert.Proof.Alone

end

end
-- ==== Proof.Alone.Deal.lean ====
/-
  What the call's handshakes carry: each subcore's 32 feature rows, its share of the index array and its 32 result rows; how
  the three arrays are dealt to the thirty-two subcores and put together again; and a subcore's run between its handshakes.
-/
module

public import proofs.«01_k».proof.Proof.Alone.Task

@[expose] public section

noncomputable section

namespace Cert.Proof.Alone

open Cert.GatherIdeal Cert.GatherIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-! ## The thirty-two parts -/

/-- Subcore `i` of core `c`, counted by the rows it takes. -/
def num (c : Fin 2) (i : Fin 16) : Fin 32 := ⟨c.val + 2 * i.val, by omega⟩

/-- Its share of the index array. -/
def share (n : Fin 32) : PosShare TreeShare := dealOf fullShare Finset.univ n

/-- The part of subcore `n`, the result array holding `fo`. -/
def piece (d : Dev nD) (fv : Feat F) (iv : Inds) (fo : S1024x2048.Idx → Elt F .f32) (n : Fin 32) : sProp 𝕄 :=
  iprop((xLoc d ↦[tileX (32 * n.val) (32 * n.val + 32)]{fullShare} (fv : Buf (Elt F) (xLoc d)))
    ∗ (iLoc d ↦[Finset.univ]{share n} (iv : Buf (Elt F) (iLoc d)))
    ∗ oLoc d ↦[tileO (32 * n.val) (32 * n.val + 32)]{fullShare} (fo : Buf (Elt F) (oLoc d)))

theorem blocks_cover (m : ℕ) : ((Finset.univ : Finset (Fin 32)).biUnion fun n => rows 1024 m (32 * n.val) (32 * n.val + 32)) = Finset.univ := by
  ext x
  have hx : (x 0).val < 1024 := (x 0).isLt
  simp only [Finset.mem_biUnion, Finset.mem_univ, true_and, iff_true, mem_rows]
  exact ⟨⟨(x 0).val / 32, by omega⟩, by show 32 * ((x 0).val / 32) ≤ _; omega, by show _ < 32 * ((x 0).val / 32) + 32; omega⟩
theorem blocks_disjoint (m : ℕ) : ∀ n ∈ (Finset.univ : Finset (Fin 32)), ∀ n' ∈ (Finset.univ : Finset (Fin 32)), n ≠ n' →
    Disjoint (rows 1024 m (32 * n.val) (32 * n.val + 32)) (rows 1024 m (32 * n'.val) (32 * n'.val + 32)) := fun n _ n' _ h => by
  have h' : n.val ≠ n'.val := fun e => h (Fin.ext e)
  refine Finset.disjoint_left.mpr fun x h1 h2 => ?_
  have h1 := mem_rows.mp h1
  have h2 := mem_rows.mp h2
  omega

/-- The three arrays are the thirty-two parts. -/
theorem pieces (d : Dev nD) (fv : Feat F) (iv : Inds) (fo : S1024x2048.Idx → Elt F .f32) :
    (iprop((xLoc d ↦{fullShare} (fv : Buf (Elt F) (xLoc d))) ∗ (iLoc d ↦{fullShare} (iv : Buf (Elt F) (iLoc d)))
        ∗ oLoc d ↦{fullShare} (fo : Buf (Elt F) (oLoc d))) : sProp 𝕄)
      = bigSep Finset.univ fun n => piece d fv iv fo n := by
  have hx : (xLoc d ↦{fullShare} (fv : Buf (Elt F) (xLoc d)) : sProp 𝕄)
      = bigSep Finset.univ fun n : Fin 32 => xLoc d ↦[tileX (32 * n.val) (32 * n.val + 32)]{fullShare} (fv : Buf (Elt F) (xLoc d)) :=
    (congrArg (fun S => (xLoc d ↦[S]{fullShare} (fv : Buf (Elt F) (xLoc d)) : sProp 𝕄)) (blocks_cover 8192).symm).trans
      (pointsTo_biUnion Finset.univ (ℓ := xLoc d) (fun n : Fin 32 => tileX (32 * n.val) (32 * n.val + 32)) (blocks_disjoint 8192))
  have ho : (oLoc d ↦{fullShare} (fo : Buf (Elt F) (oLoc d)) : sProp 𝕄)
      = bigSep Finset.univ fun n : Fin 32 => oLoc d ↦[tileO (32 * n.val) (32 * n.val + 32)]{fullShare} (fo : Buf (Elt F) (oLoc d)) :=
    (congrArg (fun S => (oLoc d ↦[S]{fullShare} (fo : Buf (Elt F) (oLoc d)) : sProp 𝕄)) (blocks_cover 2048).symm).trans
      (pointsTo_biUnion Finset.univ (ℓ := oLoc d) (fun n : Fin 32 => tileO (32 * n.val) (32 * n.val + 32)) (blocks_disjoint 2048))
  have hi : (iLoc d ↦{fullShare} (iv : Buf (Elt F) (iLoc d)) : sProp 𝕄)
      = bigSep Finset.univ fun n : Fin 32 => iLoc d ↦[Finset.univ]{share n} (iv : Buf (Elt F) (iLoc d)) :=
    pointsTo_deal Finset.univ Finset.univ_nonempty fullShare
  unfold piece
  rw [hx, hi, ho, bigSep_sep', bigSep_sep']

/-- Core by core and subcore by subcore they are the same parts. -/
theorem byCore (Φ : Fin 32 → sProp 𝕄) :
    (bigSep Finset.univ fun c : Fin 2 => bigSep Finset.univ fun i : Fin 16 => Φ (num c i)) = bigSep Finset.univ Φ := by
  rw [BI.bigSep_univ_comm, ← BI.bigSep_univ_prod (fun x : Fin 16 × Fin 2 => Φ (num x.2 x.1)),
    BI.bigSep_univ_equiv (finProdFinEquiv : Fin 16 × Fin 2 ≃ Fin 32) Φ]
  exact bigSep_congr fun x _ => congrArg Φ (Fin.ext rfl)

/-! ## The handshakes -/

variable (fv : Dev nD → Feat F) (iv : Dev nD → Inds) (f0 : Dev nD → S1024x2048.Idx → Elt F .f32)

abbrev numK (c : Fin ((K (F := F)).nCore 0)) (i : Fin ((K (F := F)).nSub 0)) : Fin 32 := num (Fin.cast nCore_zero c) (Fin.cast nSub_zero i)

/-- A core's start and end carry its subcores' parts, the result holding `f0` before and the gathered values after; every
    subcore knows the write-mode invariant. -/
def P : (K (F := F)).Pay (nD := nD) (Val := Elt F) (Name := ℕ) (U := UU F) where
  st := fun q d c => match q with | 0 => bigSep Finset.univ fun i : Fin ((K (F := F)).nSub 0) => piece d (fv d) (iv d) (f0 d) (numK c i)
  dn := fun q d c => match q with | 0 => bigSep Finset.univ fun i : Fin ((K (F := F)).nSub 0) => piece d (fv d) (iv d) (result (fv d) (iv d)) (numK c i)
  go := fun q d c i => match q with | 0 => piece d (fv d) (iv d) (f0 d) (numK c i)
  td := fun q d c i => match q with | 0 => piece d (fv d) (iv d) (result (fv d) (iv d)) (numK c i)
  x := fun _ _ => iprop(∃ ι : ℕ, wmInv EW ι)

instance piece_storable (d : Dev nD) (fv : Feat F) (iv : Inds) (fo : S1024x2048.Idx → Elt F .f32) (n : Fin 32) :
    BI.Storable (upEmb : UEmb _ 𝕄) (piece d fv iv fo n) := by
  unfold piece; infer_instance

instance P_storable : (P fv iv f0).IsStorable where
  st q d c := match q with
    | 0 => (inferInstance : BI.Storable (upEmb : UEmb _ 𝕄)
        (bigSep Finset.univ fun i : Fin ((K (F := F)).nSub 0) => piece d (fv d) (iv d) (f0 d) (numK c i)))
  dn q d c := match q with
    | 0 => (inferInstance : BI.Storable (upEmb : UEmb _ 𝕄)
        (bigSep Finset.univ fun i : Fin ((K (F := F)).nSub 0) => piece d (fv d) (iv d) (result (fv d) (iv d)) (numK c i)))
  go q d c i := match q with | 0 => piece_storable d (fv d) (iv d) (f0 d) (numK c i)
  td q d c i := match q with | 0 => piece_storable d (fv d) (iv d) (result (fv d) (iv d)) (numK c i)

/-- A core's start is its subcores' starts, their ends its end. -/
theorem vecSplit : (K (F := F)).VecSplit' (P fv iv f0) 0 := by
  intro d c
  show (bigSep Finset.univ fun i : Fin ((K (F := F)).nSub 0) => piece d (fv d) (iv d) (f0 d) (numK c i)) ⊢ |={Set.univ}=> iprop(
    (bigSep Finset.univ fun i : Fin ((K (F := F)).nSub 0) => piece d (fv d) (iv d) (f0 d) (numK c i))
      ∗ ((bigSep Finset.univ fun i : Fin ((K (F := F)).nSub 0) => piece d (fv d) (iv d) (result (fv d) (iv d)) (numK c i))
        -∗ bigSep Finset.univ fun i : Fin ((K (F := F)).nSub 0) => piece d (fv d) (iv d) (result (fv d) (iv d)) (numK c i)))
  iintro H
  imodintro
  isplitl [H]; · iexact H
  iintro H
  iexact H

/-- What the call takes and gives back on the host's side: the three arrays whole. -/
theorem st_eq (d : Dev nD) : (bigSep Finset.univ fun c : Fin ((K (F := F)).nCore 0) => (P fv iv f0).st 0 d c)
    = iprop((xLoc d ↦{fullShare} (fv d : Buf (Elt F) (xLoc d))) ∗ (iLoc d ↦{fullShare} (iv d : Buf (Elt F) (iLoc d)))
        ∗ oLoc d ↦{fullShare} (f0 d : Buf (Elt F) (oLoc d))) :=
  (byCore fun n => piece d (fv d) (iv d) (f0 d) n).trans (pieces d (fv d) (iv d) (f0 d)).symm
theorem dn_eq (d : Dev nD) : (bigSep Finset.univ fun c : Fin ((K (F := F)).nCore 0) => (P fv iv f0).dn 0 d c)
    = iprop((xLoc d ↦{fullShare} (fv d : Buf (Elt F) (xLoc d))) ∗ (iLoc d ↦{fullShare} (iv d : Buf (Elt F) (iLoc d)))
        ∗ oLoc d ↦{fullShare} (result (fv d) (iv d) : Buf (Elt F) (oLoc d))) :=
  (byCore fun n => piece d (fv d) (iv d) (result (fv d) (iv d)) n).trans (pieces d (fv d) (iv d) (result (fv d) (iv d))).symm

/-! ## The subcore between its handshakes -/

section Tile

variable (d : Dev nD) (L : grid0.Coords)

abbrev cell (sm : DmaSem sig) : GSem nD τ sig := (thr d L, .dma sm)

theorem cell_ne {s s' : DmaSem sig} (h : s ≠ s') : cell d L s ≠ cell d L s' := fun e => h (SemLoc.dma.inj (congrArg Prod.snd e))

theorem sep_right (A B C : sProp 𝕄) : iprop((A ∗ B) ∗ C) = iprop(A ∗ B ∗ C) := equiv_iff.mp ⟨BI.sep_assoc, BI.sep_assoc'⟩

theorem cell_mem {s : DmaSem sig} (h : (SemLoc.dma s : SemLoc sig).isScoped .scVector = true) : cell d L s ∈ ownCells (thr d L) :=
  (mem_ownCells (g := cell d L s)).mpr ⟨rfl, h⟩

/-- The subcore's semaphores are the five the kernel names, and the rest. -/
theorem ownSems0_V : ∃ R : sProp 𝕄, (ownSems0 (thr d L) : sProp 𝕄) = iprop(Sems d L ∗ R) := by
  refine ⟨bigSep ((((((ownCells (thr d L)).erase (cell d L cc0_scratch3.sem)).erase (cell d L cc0_scratch4.sem)).erase (cell d L cc0_scratch5.sem)).erase
    (cell d L cc0_scratch6.sem)).erase (cell d L cc0_scoped0.sem)) fun g => semVal g 0, ?_⟩
  unfold ownSems0 Sems
  rw [SparseCore.bigSep_erase' (cell_mem d L (s := cc0_scratch3.sem) (by decide)),
    SparseCore.bigSep_erase' (Finset.mem_erase.mpr ⟨cell_ne d L (by decide), cell_mem d L (s := cc0_scratch4.sem) (by decide)⟩),
    SparseCore.bigSep_erase' (Finset.mem_erase.mpr ⟨cell_ne d L (by decide), Finset.mem_erase.mpr ⟨cell_ne d L (by decide),
      cell_mem d L (s := cc0_scratch5.sem) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (s := cc0_scratch6.sem) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L (s := cc0_scoped0.sem) (by decide)⟩⟩⟩⟩)]
  simp only [sep_right]

/-- The subcore's buffers are its three scratches, and the rest. -/
theorem ownBufs_V : ∃ R : sProp 𝕄, (ownBufs (thr d L) : sProp 𝕄) = iprop(Scr d L ∗ R) := by
  refine ⟨bigSep ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2))
      fun b => iprop(∃ f, ((d, b) : Loc nD τ sig) ↦{fullShare} f), ?_⟩
  have hne : ∀ {r r' : Ref sig .scVector}, r ≠ r' → (Proc.scVector (cV L) (jV L)).devRef r ≠ (Proc.scVector (cV L) (jV L)).devRef r' :=
    fun h e => h (Proc.devRef_injective _ e)
  unfold ownBufs Scr
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (by decide), Finset.mem_erase.mpr ⟨hne (by decide),
      SparseCore.Cfg.mem_ownRefs_of_owner (p := Proc.scVector (cV L) (jV L)) (b := (Proc.scVector (cV L) (jV L)).devRef cc0_scratch2) rfl⟩⟩)]
  simp only [sep_right]

/-- Its part, in the words of its own run. -/
theorem piece_eq (fv : Feat F) (iv : Inds) (fo : S1024x2048.Idx → Elt F .f32) :
    (piece d fv iv fo (num (L 0) (L 1)) : sProp 𝕄)
      = iprop(FeatRows d L fv (row0 L) (row0 L + 32) ∗ IndArr d L iv (share (num (L 0) (L 1))) ∗ OutRows d L (row0 L) (row0 L + 32) fo) := by
  unfold piece
  rw [show 32 * (num (L 0) (L 1)).val = row0 L by unfold row0 base; show 32 * ((L 0).val + 2 * (L 1).val) = _; omega]
  rfl

theorem tile_body (hr : ∀ d x, (iv d x).toNat < 8192) (hF : (K (F := F)).Facts) (O : CellTallies nD τ sig (HIx 1)) (W : Waits sig (HIx 1))
    (hO : ∀ g, O g none = 0) :
    iprop(levAts (K (F := F)).L (K (F := F)).lev ∗ (∃ ι : ℕ, wmInv EW ι) ∗ piece d (fv d) (iv d) (f0 d) (num (L 0) (L 1))
        ∗ scopedBufs (thr d L) ∗ scopedSems0 (thr d L) ∗ owes (thr d L) O W)
      ⊢ wp frame (wpE (defs₀ (F := F)) 𝒱₀ (thr d L) none) Set.univ
          (cc0_k L xV (Memref.isWhole_whole _) iV (Memref.isWhole_whole _) oV (Memref.isWhole_whole _) sI (Memref.isWhole_whole _)
            sR (Memref.isWhole_whole _) sO (Memref.isWhole_whole _) cc0_scratch3 cc0_scratch4 cc0_scratch5 cc0_scratch6 cc0_scoped0)
          fun _ => iprop(piece d (fv d) (iv d) (result (fv d) (iv d)) (num (L 0) (L 1))
            ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨RS, hS⟩ := ownSems0_V (F := F) d L
  obtain ⟨RB, hB⟩ := ownBufs_V (F := F) d L
  rw [(K (F := F)).scopedBufs_V hF d (cV L) (jV L), SparseCore.Cfg.scopedSems0_V (Val := Elt F) d (cV L) (jV L), hS, hB, piece_eq, piece_eq]
  iintro ⟨#Hlv, ⟨%ι, #Hi⟩, Hp, ⟨Hscr, HRB⟩, ⟨Hsem, HRS⟩, HO⟩
  ihave Hmw := (show levAts (K (F := F)).L (K (F := F)).lev ⊢ Transfers.MayWaits (thr d L) (none : HIx 1) O from
    (K (F := F)).mayWaits_none (thr := thr d L) hO) $$ Hlv
  iapply (wp_wand_r _ _ _)
  isplitl [Hp Hscr Hsem HO Hmw]
  · iapply (task d L (fv d) (iv d) (ι := ι) (O := O) (f0 := f0 d) (q := share (num (L 0) (L 1))) (hr d))
    isplitr; · iexact Hi
    isplitl [Hmw]; · iexact Hmw
    isplitl [Hp]; · iexact Hp
    isplitl [Hscr]; · iexact Hscr
    isplitl [Hsem]; · iexact Hsem
    iexists _; iexact HO
  iintro %_ ⟨Hp, Hscr, Hsem, %W', HO⟩
  isplitl [Hp]; · iexact Hp
  isplitl [Hscr HRB]
  · isplitl [Hscr] <;> iassumption
  isplitl [Hsem HRS]
  · isplitl [Hsem] <;> iassumption
  iexists W'
  isplitr
  · ipureintro
    intro p _
    rcases p.2 with _ | q
    · exact .inr (.inl rfl)
    · exact .inr (.inr (congrArg some (Subsingleton.elim q 0)))
  · iexact HO

/-- The grid coordinates of subcore `s` of core `c`. -/
def coords (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coords c s) xV (Memref.isWhole_whole _) iV (Memref.isWhole_whole _) oV (Memref.isWhole_whole _)
          sI (Memref.isWhole_whole _) sR (Memref.isWhole_whole _) sO (Memref.isWhole_whole _) cc0_scratch3 cc0_scratch4 cc0_scratch5 cc0_scratch6 cc0_scoped0)
          ⟨⟩ c s := rfl

theorem tileObl (hr : ∀ d x, (iv d x).toNat < 8192) (hF : (K (F := F)).Facts) : (K (F := F)).TileObl (D (F := F)) 𝒱 (P fv iv f0) v₀ 0 := by
  intro d c i O W hO _ _
  simp only [show (P fv iv f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body fv iv f0 d (coords ⟨_, hci.1⟩ ⟨_, hci.2⟩) hr hF O W hO

end Tile

end Cert.Proof.Alone

end

end
-- ==== Proof.Alone.Run.lean ====
/-
  The whole program: the feature array reshaped, the call, its result reshaped; what it leaves where.
-/
module

public import proofs.«01_k».proof.Proof.Alone.Deal

@[expose] public section

noncomputable section

namespace Cert.Proof.Alone

open Cert.GatherIdeal Cert.GatherIdeal.Gen
open Cert.Proof.Rules Cert.Proof.Rows

open Idealize.ShloMosaic Idealize.ShloMosaic.ValueIdx Idealize.ShloMosaic.Transfers
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

variable (m : (ℓ : Loc nD τ sig) → Buf (Elt F) ℓ) (ρ : Dev nD → PrngReg)

/-! ## The arrays of the host -/

abbrev a' : DevRef τ sig := Proc.devRef .tc (main_arg0 : Ref sig .tc)
abbrev i' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) shapeCasts_S8x128x8192_S1024x8192
abbrev opOut : HloOp τ sig (Elt F) := StableHlo.reshape main_v1 main_v2 (rfl : (.f32 : EltTy) = .f32) shapeCasts_S1024x2048_S8x128x2048

abbrev S5 : Finset (DevRef τ sig) := {a', i', x', o', r'}

abbrev aLoc (d : Dev nD) : Loc nD τ sig := (SparseCore.T d).loc main_arg0
abbrev rLoc (d : Dev nD) : Loc nD τ sig := (SparseCore.T d).loc main_v2

theorem held_S5 (d : Dev nD) (W : Valuation τ sig (Elt F)) :
    (held (T d) S5 W : sProp 𝕄) = iprop((aLoc d ↦{fullShare} W a') ∗ (iLoc d ↦{fullShare} W i') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The contents at launch, after the first reshape, after the call, after the second reshape. -/
def V0 (d : Dev nD) : Valuation τ sig (Elt F) := fun b => m (d, b)
def V1 (d : Dev nD) : Valuation τ sig (Elt F) := (opIn (F := F)).result (V0 m d)

/-- What the call is handed. -/
def fv (d : Dev nD) : Feat F := V1 m d x'
def iv (d : Dev nD) : Inds := V0 m d i'
def f0 (d : Dev nD) : S1024x2048.Idx → Elt F .f32 := V0 m d o'

def V2 (d : Dev nD) : Valuation τ sig (Elt F) := Function.update (V1 m d) o' (result (fv m d) (iv m d))
def V3 (d : Dev nD) : Valuation τ sig (Elt F) := (opOut (F := F)).result (V2 m d)

/-- The program's result. -/
def out (d : Dev nD) : Buf (Elt F) (rLoc d) := V3 m d r'

theorem unscopedBufs_eq (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

theorem V1_of_ne (d : Dev nD) {b : DevRef τ sig} (h : b ≠ x') : V1 m d b = V0 m d b :=
  (opIn (F := F)).result_of_not_mem (V0 m d) (b := b) (fun hb => h (Finset.mem_singleton.mp hb))
theorem V2_of_ne (d : Dev nD) {b : DevRef τ sig} (h : b ≠ o') : V2 m d b = V1 m d b := Function.update_of_ne h _ _
theorem V2_o (d : Dev nD) : V2 m d o' = result (fv m d) (iv m d) := Function.update_self _ _ _
theorem V3_of_ne (d : Dev nD) {b : DevRef τ sig} (h : b ≠ r') : V3 m d b = V2 m d b :=
  (opOut (F := F)).result_of_not_mem (V2 m d) (b := b) (fun hb => h (Finset.mem_singleton.mp hb))

theorem hIn : (opIn (F := F)).bufs ⊆ S5 := show ({a', x'} : Finset (DevRef τ sig)) ⊆ S5 by decide
theorem hOut : (opOut (F := F)).bufs ⊆ S5 := show ({o', r'} : Finset (DevRef τ sig)) ⊆ S5 by decide

/-! ## The launch's ghost state -/

def u₀ : UU F := (initOf (K (F := F)).hsCells (K (F := F)).hsToks, (wm₀ nD τ sig (Elt F), (1 : Counters)))

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (fv m) (iv m) (f0 m)).x q thr) := by
  unfold u₀
  iintro Hu
  ihave H := (ownU_pair (initOf (K (F := F)).hsCells (K (F := F)).hsToks) ((wm₀ nD τ sig (Elt F), (1 : Counters)))) $$ Hu
  icases H with ⟨HH, HW⟩
  ihave HW := (show (BI.own (embR (wm₀ nD τ sig (Elt F), (1 : Counters))) : sProp 𝕄) ⊢ ownU (EW (wm₀ nD τ sig (Elt F))) from Entails.of_eq rfl) $$ HW
  imod (wmInv_alloc (emb := EW) (Ix := HIx 1) (Name := ℕ) (Lvl := ℕ) ⟨m, fun _ => 0, fun _ => default⟩ ∅) $$ HW with ⟨%ι, -, #Hi⟩
  imodintro
  isplitl [HH]; · iexact HH
  isplitr
  · iapply (Entails.of_eq (BI.bigSep_emp_const (Finset.univ : Finset (Dev nD))).symm); iempintro
  iapply (bigSep_intro_persistent (R := wmInv EW ι) (fun thr _ => bigSep_intro_persistent (R := wmInv EW ι) (fun q _ => by
    show wmInv EW ι ⊢ iprop(∃ ι : ℕ, wmInv EW ι)
    iintro #H
    iexists ι
    iexact H)))
  iexact Hi

/-! ## The host's own thread -/

/-- What it leaves the claim: the arguments as they were, the result. -/
abbrev FIN (d : Dev nD) : sProp 𝕄 :=
  iprop((aLoc d ↦{fullShare} m (aLoc d)) ∗ (iLoc d ↦{fullShare} m (iLoc d)) ∗ rLoc d ↦{fullShare} out m d)

theorem hmain (κ : GSem nD τ sig → ℕ) (d : Dev nD) :
    iprop((K (F := F)).ctx EH (P (fv m) (iv m) (f0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hh, Hts, -⟩, -⟩
  iapply (wp_hlo_within 𝒱 (SparseCore.T d) none Set.univ (op := opIn) (S := S5) hIn (V := V0 m d)) $$ [Hb Hh]
  · isplitl [Hb] <;> iassumption
  iintro ⟨Hb, Hh⟩
  rw [wp_ret]; imodintro
  ihave Hh := (Entails.of_eq (show held (SparseCore.T d) S5 ((opIn (F := F)).result (V0 m d)) = _ from held_S5 (F := F) d (V1 m d))) $$ Hh
  icases Hh with ⟨Ha, Hi, Hx, Ho, Hr⟩
  rw [V1_of_ne m d (b := a') (by decide), V1_of_ne m d (b := i') (by decide), V1_of_ne m d (b := o') (by decide), V1_of_ne m d (b := r') (by decide)]
  iapply ((K (F := F)).wp_run (D (F := F)) 𝒱 (EH := EH) (P := P (fv m) (iv m) (f0 m)) κ d 0) $$ [Hst Ha Hi Hx Ho Hr Hb Hts]
  isplitr; · iexact Hctx
  isplitl [Hst]; · iexact Hst
  isplitl [Hx Hi Ho]
  · rw [st_eq]
    isplitl [Hx]; · iexact Hx
    isplitl [Hi]; · iexact Hi
    iexact Ho
  iintro ⟨Hst, Hdn⟩
  ihave Hdn := (Entails.of_eq (dn_eq (fv m) (iv m) (f0 m) d)) $$ Hdn
  icases Hdn with ⟨Hx, Hi, Ho⟩
  iapply (wp_hlo_within 𝒱 (SparseCore.T d) none Set.univ (op := opOut) (S := S5) hOut (V := V2 m d)) $$ [Hb Ha Hi Hx Ho Hr]
  · isplitl [Hb]; · iexact Hb
    rw [held_S5, V2_of_ne m d (b := a') (by decide), V2_of_ne m d (b := i') (by decide), V2_of_ne m d (b := x') (by decide), V2_o,
      V2_of_ne m d (b := r') (by decide), V1_of_ne m d (b := a') (by decide), V1_of_ne m d (b := i') (by decide), V1_of_ne m d (b := r') (by decide)]
    isplitl [Ha]; · iexact Ha
    isplitl [Hi]; · iexact Hi
    isplitl [Hx]; · iexact Hx
    isplitl [Ho]; · iexact Ho
    iexact Hr
  iintro ⟨Hb, Hh⟩
  ihave Hh := (Entails.of_eq (show held (SparseCore.T d) S5 ((opOut (F := F)).result (V2 m d)) = _ from held_S5 (F := F) d (V3 m d))) $$ Hh
  icases Hh with ⟨Ha, Hi, -, -, Hr⟩
  rw [V3_of_ne m d (b := a') (by decide), V3_of_ne m d (b := i') (by decide), V2_of_ne m d (b := a') (by decide), V2_of_ne m d (b := i') (by decide),
    V1_of_ne m d (b := a') (by decide), V1_of_ne m d (b := i') (by decide)]
  rw [wp_ret]; imodintro; imodintro
  isplitl [Hst]; · iexact Hst
  isplitr [Hb Hts]
  · isplitl [Ha]; · iexact Ha
    isplitl [Hi]; · iexact Hi
    iexact Hr
  isplitl [Hb] <;> iassumption

/-! ## The run -/

def fq (d : Dev nD) (s' : Phys nD τ sig (Elt F)) : Prop :=
  s'.mem.mem (rLoc d) = out m d ∧ s'.mem.mem (aLoc d) = m (aLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hi, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (SI_pointsTo_agree (st := s') (ℓ := rLoc d) (I := Finset.univ) (q := fullShare) (f := out m d)) $$ [HSI Hr]
  · isplitl [HSI] <;> iassumption
  icases H with %hr
  ipureintro
  exact ⟨funext fun i => hr i (Finset.mem_univ i), funext fun i => ha i (Finset.mem_univ i), funext fun i => hi i (Finset.mem_univ i)⟩

def QC : PUnit × MemSt nD τ sig (Elt F) → Prop := fun r =>
  (∀ c : Dev nD, r.2.mem (rLoc c) = out m c ∧ r.2.mem (aLoc c) = m (aLoc c) ∧ r.2.mem (iLoc c) = m (iLoc c)) ∧ r.2.sem = fun _ => 0

theorem run_main [∀ e, Nonempty (Elt F e)] (hr : ∀ d x, (iv m d x).toNat < 8192) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (fv m) (iv m) (f0 m)) (A := ∅) facts v₀
    (fun q hq => match q with | 0 => nomatch hq)
    (fun q _ => match q with | 0 => tileObl (fv m) (iv m) (f0 m) hr facts)
    (fun q _ => match q with | 0 => SparseCore.Cfg.VecSplit.of_plain (vecSplit (fv m) (iv m) (f0 m)))
    m ρ main (fun _ => iprop(emp)) (FIN m) (u₀ (F := F)) (sep_elim_left.trans (hu₀ m)) (hmain m ρ) (fq m) (hfin m) (QC m) (fun _ h hz => ⟨h, hz⟩)

end Cert.Proof.Alone

end

end
-- ==== Proof.Alone.Values.lean ====
/-
  What the precondition says of the indices, and the element the program leaves at each position of its result.
-/
module

public import proofs.«01_k».proof.Proof.Alone.Run
public import proofs.«01_k».proof.Proof.Arrays
public import proofs.«01_k».proof.Proof.Gen.Pre_in_range
public import Idealize.ShloMosaic.Lib.ReduceAll
public import Idealize.ShloMosaic.Lib.StableHlo.ReadAt
public import Idealize.ShloMosaic.Lib.Tactic.WordOmega

@[expose] public section

noncomputable section

namespace Cert.Proof.Alone

open Cert.GatherIdeal Cert.GatherIdeal.Gen
open Cert.Proof.Rules Cert.Proof.Rows Cert.Proof.Arrays
open Idealize.ShloMosaic Idealize.SL.Sem

/-- The precondition bounds every index. -/
theorem in_range {F : FTy → Type} [FloatOps F] {x : FVec F S8x128x8192 .f32} {i : IVec S8x2048 32}
    (h : Cert.Pre_in_range.fn (F := F) x i = fun _ => 1#1) (y : S8x2048.Idx) : (i y).toNat < 8192 := by
  have h1 := congrFun h (fun a => a.elim0)
  dsimp only [Cert.Pre_in_range.fn] at h1
  have h2 := Host.reduce_andi_all _ _ _ _ _ h1 y
  obtain ⟨h3, h4⟩ := IntOp.andi_eq_one.1 h2
  have h5 : (0 : Int) ≤ (i y).toInt := IntOp.cmpi_sge.1 h3
  have h6 : (i y).toInt < 8192 := IntOp.cmpi_slt.1 h4
  rw [BitVec.toInt_eq_toNat_cond] at h5 h6
  have := (i y).isLt
  split at h5 <;> omega

variable {F : FTy → Type} [FloatOps F] (m : (ℓ : Loc nD τ sig) → Buf (Elt F) ℓ)

/-- The element of the result at `(b, c, j)`: the feature at `(b, c, idx[b, j])`. -/
theorem out_apply (d : Dev nD) (hr : ∀ x, (iv m d x).toNat < 8192) (b : Fin 8) (c : Fin 128) (j : Fin 2048) :
    (out m d : FVec F S8x128x2048 .f32) (ix3 b c j)
      = (m (aLoc d) : FVec F S8x128x8192 .f32) (ix3 b c ⟨(iv m d (ix2 b j)).toNat, hr _⟩) := by
  have hrow : 128 * b.val + c.val < 1024 := by omega
  have hq : (128 * b.val + c.val) / 128 = b.val := by omega
  have h1 : out m d = shapeCast S8x128x2048 (V2 m d o' : FVec F S1024x2048 .f32) shapeCasts_S1024x2048_S8x128x2048 := by
    unfold out V3
    exact StableHlo.reshape_result' (x := main_v1) (y := main_v2) _ _ _ _ _
  have h2 : fv m d = shapeCast S1024x8192 (m (aLoc d) : FVec F S8x128x8192 .f32) shapeCasts_S8x128x8192_S1024x8192 := by
    unfold fv V1
    exact StableHlo.reshape_result' (x := main_arg0) (y := main_v0) _ _ _ _ _
  refine (congrFun h1 (ix3 b c j)).trans ((split_apply _ _ b c j hrow).trans ?_)
  refine (congrFun (V2_o m d) (ix2 ⟨128 * b.val + c.val, hrow⟩ j)).trans ?_
  show at2 (fv m d) (128 * b.val + c.val) (at2 (iv m d) ((128 * b.val + c.val) / 128) j.val).toNat = _
  rw [hq, at2_ix2 (iv m d) b j]
  refine (at2_ix2 (fv m d) ⟨128 * b.val + c.val, hrow⟩ ⟨(iv m d (ix2 b j)).toNat, hr _⟩).trans ?_
  rw [h2]
  exact merge_apply _ _ b c _ hrow

end Cert.Proof.Alone

end
-- ==== Proof.Alone.RefRun.lean ====
/-
  The reference's run: its index array broadcast, the gather with its bounds test, the transposes; and the element it
  leaves at each position.
-/
module

public import proofs.«01_k».proof.Defs
public import proofs.«01_k».proof.Proof.Arrays
public import proofs.«01_k».proof.Proof.Gen.GatheredIdeal
public import Idealize.ShloMosaic.Lib.StableHlo.RunHlo
public import Idealize.ShloMosaic.Lib.StableHlo.ReadAt
public import Idealize.ShloMosaic.Lib.Claim
public import Idealize.ShloMosaic.Lib.ReduceAll
public import Idealize.ShloMosaic.Lib.ValueIdxCore
public import Idealize.ShloMosaic.Lib.Affine
public import Idealize.ShloMosaic.Lib.Tactic.WordOmega
public import Idealize.ShloMosaic.Adequacy
public import Idealize.ShloMosaic.Init

@[expose] public section

noncomputable section

namespace Cert.Proof.AloneRef

open Cert.GatheredIdeal Cert.GatheredIdeal.Gen
open Cert.Proof.Arrays
open Idealize.ShloMosaic Idealize.SL.Sem

variable {F : FTy → Type} [FloatOps F] (m : (ℓ : Loc nD τ sig) → Buf (Elt F) ℓ) (g : Dev nD → PrngReg)

/-- The feature array and the indices. -/
abbrev feat (c : Dev nD) : FVec F S8x128x8192 .f32 := m ((c.tc : Thread nD τ).loc main_arg0)
abbrev inds (c : Dev nD) : IVec S8x2048 32 := m ((c.tc : Thread nD τ).loc main_arg1)

/-- The words the gather reads: each index, with the extent added where it is negative. -/
def words (i : IVec S8x2048 32) : IVec S8x2048x1 32 :=
  select
    (cmpi .slt (broadcastInDim S8x2048x1 ![0, 1] bcast_S8x2048_S8x2048x1_0_1 i) (broadcastInDim S8x2048x1 ![] bcast_S_S8x2048x1 (constantI S_ 32 0#32)))
    (addi (broadcastInDim S8x2048x1 ![0, 1] bcast_S8x2048_S8x2048x1_0_1 i) (broadcastInDim S8x2048x1 ![] bcast_S_S8x2048x1 (constantI S_ 32 8192#32)))
    (broadcastInDim S8x2048x1 ![0, 1] bcast_S8x2048_S8x2048x1_0_1 i)

/-- The indices, each in an axis of its own. -/
theorem spread_apply (i : IVec S8x2048 32) (b : Fin 8) (j : Fin 2048) (k : Fin 1) :
    broadcastInDim S8x2048x1 ![0, 1] bcast_S8x2048_S8x2048x1_0_1 i (ix3 b j k) = i (ix2 b j) := by
  pointwise

/-- An index in range is left as it is. -/
theorem words_apply {i : IVec S8x2048 32} (h : ∀ x, (i x).toNat < 8192) (b : Fin 8) (j : Fin 2048) (k : Fin 1) :
    words i (ix3 b j k) = i (ix2 b j) :=
  (word_apply (fun _ => rfl) (fun _ => h _) (ix3 b j k)).trans (spread_apply i b j k)

/-- The bounds test of them: 1 where the word is within the extent. -/
def within (i : IVec S8x2048 32) : IVec S8x2048x1 1 :=
  andi (cmpi .sge (words i) (broadcastInDim S8x2048x1 ![] bcast_S_S8x2048x1 (constantI S_ 32 0#32)))
    (cmpi .sle (words i) (broadcastInDim S8x2048x1 ![0, 1, 2] bcast_S1x1x1_S8x2048x1_0_1_2 (broadcastInDim S1x1x1 ![2] bcast_S1_S1x1x1_2 (constantI S1 32 8191#32))))

theorem within_eq_one {i : IVec S8x2048 32} (h : ∀ x, (i x).toNat < 8192) (x : S8x2048x1.Idx) : within i x = 1#1 :=
  within_one (fun _ => rfl) (fun _ => rfl)
    (fun y => by rw [show words i y = i (ix2 (y 0) (y 1)) from (congrArg (words i) (ValueIdx.eq_ix3 y)).trans (words_apply h _ _ _)]; exact h _) x

/-- The reference leaves its arguments alone, and holds at `(b, c, j)` the feature at `(b, c, idx[b, j])`. -/
theorem run_ref : θ_run (Cert.GatheredIdeal.defs (F := F)) (onTc (τ := Cert.GatheredIdeal.τ) (Cert.GatheredIdeal.main (F := F))) ⟨m, fun _ => 0, g⟩ (fun r => (∀ d : Dev nD,
      (∀ (h : ∀ x, (inds m d x).toNat < 8192) (b : Fin 8) (c : Fin 128) (j : Fin 2048),
        (r.2.mem ((d.tc : Thread nD τ).loc main_v3) : FVec F S8x128x2048 .f32) (ix3 b c j)
          = feat m d (ix3 b c ⟨(inds m d (ix2 b j)).toNat, h _⟩))
      ∧ r.2.mem ((d.tc : Thread nD τ).loc main_arg0) = m ((d.tc : Thread nD τ).loc main_arg0)
      ∧ r.2.mem ((d.tc : Thread nD τ).loc main_arg1) = m ((d.tc : Thread nD τ).loc main_arg1))
      ∧ r.2.sem = fun _ => 0) := by
  refine θ_run_mono (Idealize.ShloMosaic.StableHlo.run_hlo _ _ (by hlo_seq) (by decide) (by decide) (by simp)
      (by intro _ h; (repeat (cases h with | head => rfl | tail _ h => ?_)); exact nomatch h) _ _) ?_
  intro r hr
  refine ⟨fun d => ⟨fun h b c j => ?_, ?_, ?_⟩, Idealize.ShloMosaic.sem_eq_zero_of_no_sems (by decide) r.2⟩
  · rw [show r.2.mem ((d.tc : Thread nD τ).loc main_v3) = _ from hr d main_v3]
    after_reads_at
    show Scalar.select (Host.reduce IntOp.andi (within (inds m d)) (constantI S_ 1 1#1) reducesTo_S8x2048x1_S8x2048_d2 h_S_ (ix2 b j))
      (Host.gather gather_S8x8192x128_S8x2048x1_S8x2048x128_2_1_0_0_1_2_11128
        (transpose S8x8192x128 [0, 2, 1] (feat m d) transposes_S8x128x8192_S8x8192x128_0_2_1) (words (inds m d)) (ix3 b j c)) _ = _
    rw [Host.reduce_andi_one _ _ _ _ _ rfl (within_eq_one h)]
    refine Eq.trans (if_pos rfl) ?_
    refine (gather_mid_apply (N := 8192) (by decide) _ _ _ b j c).trans ?_
    pointwise
    refine congrArg (fun n => feat m d (ix3 b c n)) (Fin.ext ?_)
    have hb := h (ix2 b j)
    show min (words (inds m d) (ix3 b j 0)).toInt.toNat 8191 = (inds m d (ix2 b j)).toNat
    rw [words_apply h, BitVec.toInt_eq_toNat_of_lt (by omega)]
    omega
  · rw [hr d main_arg0]; after_results
  · rw [hr d main_arg1]; after_results

end Cert.Proof.AloneRef

end
-- ==== Proof.lean ====
/-
  The claims. Of the whole kernel: the exact kernel and the exact reference each run to their end, leave their arguments as
  they were and every semaphore at zero, and end with equal results. Of the gather on the SparseCore alone: the same of its
  own program and reference, over the machine's floats too.
-/
module

public import proofs.«01_k».proof.Defs
public import proofs.«01_k».proof.Proof.Gen.KernelIdeal
public import proofs.«01_k».proof.Proof.Gen.ReferenceIdeal
public import proofs.«01_k».proof.Proof.Gen.Gather
public import proofs.«01_k».proof.Proof.Gen.GatherIdeal
public import proofs.«01_k».proof.Proof.Gen.Gathered
public import proofs.«01_k».proof.Proof.Gen.GatheredIdeal
public import proofs.«01_k».proof.Proof.Gen.Pre_in_range
public import proofs.«01_k».proof.Proof.Values
public import proofs.«01_k».proof.Proof.RefRun
public import proofs.«01_k».proof.Proof.Alone.Values
public import proofs.«01_k».proof.Proof.Alone.RefRun

@[expose] public section

noncomputable section

namespace Cert.Proof

open Idealize.ShloMosaic Idealize.SL.Sem

/-! ## The whole kernel -/

/-- The kernel's frame. -/
theorem frame_kernel : Cert.quiescent_KernelIdeal := fun m g _ =>
  θ_run_mono (Whole.run_main m g) fun _ h => ⟨fun c => ⟨(h.1 c).1.trans (Whole.V5_arg0 m c), (h.1 c).2.1.trans (Whole.V5_arg1 m c)⟩, h.2⟩

/-- The reference's frame. -/
theorem frame_ref : Cert.quiescent_ReferenceIdeal := fun m g _ =>
  θ_run_mono (Ref.run_ref m g) fun _ h => ⟨fun c => ⟨(h.1 c).1, (h.1 c).2.1⟩, h.2⟩

/-- The two programs' results are equal: both hold the same samples' coordinates, and the same samples' features. -/
theorem value : Cert.algebraic_KernelIdeal_ReferenceIdeal := by
  intro m g m' g' _ hagree
  refine ⟨fun c => Whole.V5 m c (Whole.rf Cert.KernelIdeal.main_v7), fun c => Whole.V5 m c (Whole.rf Cert.KernelIdeal.main_v10),
    θ_run_mono (Whole.run_main m g) fun _ h c =>
      ⟨(h.1 c).2.2.1, (h.1 c).2.2.2, (h.1 c).1.trans (Whole.V5_arg0 m c), (h.1 c).2.1.trans (Whole.V5_arg1 m c)⟩, ?_⟩
  refine θ_run_mono (Ref.run_ref m' g') fun r h c => ⟨?_, ?_, (h.1 c).1, (h.1 c).2.1⟩
  · have hx : m' (Ref.xLoc c) = m (Whole.aLoc c) := (hagree c).1
    funext y
    rw [show y = _ from ValueIdx.eq_ix3 (n0 := 8) (n1 := 3) (n2 := 2048) y]
    refine ((h.1 c).2.2.1 _ _ _).trans ?_
    refine Eq.trans ?_ (Whole.coords_apply m c _ _ _).symm
    rw [hx]
    rfl
  · have hx : m' (Ref.xLoc c) = m (Whole.aLoc c) := (hagree c).1
    have hy : m' (Ref.yLoc c) = m (Whole.bLoc c) := (hagree c).2
    funext y
    rw [show y = _ from ValueIdx.eq_ix3 (n0 := 8) (n1 := 128) (n2 := 2048) y]
    refine ((h.1 c).2.2.2 _ _ _).trans ?_
    refine Eq.trans ?_ (Whole.feats_apply m c _ _ _).symm
    rw [hx, hy]
    rfl

/-! ## The gather alone -/

/-- The precondition bounds the indices the gather is handed. -/
theorem bound {m : (ℓ : Loc Cert.GatherIdeal.nD Cert.GatherIdeal.τ Cert.GatherIdeal.sig) → Buf (Elt Ideal) ℓ} (h : Cert.Pre_GatherIdeal m) (d : Dev Cert.GatherIdeal.nD) (x) :
    (Alone.iv m d x).toNat < 8192 := Alone.in_range (h d) x

theorem bound_bits {m : (ℓ : Loc Cert.Gather.nD Cert.Gather.τ Cert.Gather.sig) → Buf (Elt Bits) ℓ} (h : Cert.Pre_Gather m) (d : Dev Cert.Gather.nD) (x) :
    (Alone.iv (F := Bits) m d x).toNat < 8192 := Alone.in_range (h d) x

/-- The exact gather's frame. -/
theorem frame_gather_ideal : Cert.quiescent_GatherIdeal := fun m ρ hp =>
  θ_run_mono (Alone.run_main (F := Ideal) m ρ (bound hp)) fun _ h => ⟨fun c => ⟨(h.1 c).2.1, (h.1 c).2.2⟩, h.2⟩

/-- The machine gather's frame: the same run, over the machine's words. -/
theorem frame_gather : Cert.quiescent_Gather := fun m ρ hp =>
  (θ_run Cert.GatherIdeal.defs _ _).mono (fun _ h => ⟨fun c => ⟨(h.1 c).2.1, (h.1 c).2.2⟩, h.2⟩) (Alone.run_main (F := Bits) m ρ (bound_bits hp))

/-- The frames of the gather's reference, exact and over the machine's words; they need no precondition. -/
theorem frame_gathered_ideal : Cert.quiescent_GatheredIdeal := fun m g _ =>
  θ_run_mono (AloneRef.run_ref (F := Ideal) m g) fun _ h => ⟨fun c => ⟨(h.1 c).2.1, (h.1 c).2.2⟩, h.2⟩

theorem frame_gathered_ideal_pre : Cert.quiescent_GatheredIdeal_pre_in_range := fun m g _ =>
  θ_run_mono (AloneRef.run_ref (F := Ideal) m g) fun _ h => ⟨fun c => ⟨(h.1 c).2.1, (h.1 c).2.2⟩, h.2⟩

theorem frame_gathered : Cert.quiescent_Gathered := fun m g _ =>
  (θ_run Cert.GatheredIdeal.defs _ _).mono (fun _ h => ⟨fun c => ⟨(h.1 c).2.1, (h.1 c).2.2⟩, h.2⟩) (AloneRef.run_ref (F := Bits) m g)

theorem frame_gathered_pre : Cert.quiescent_Gathered_pre_in_range := fun m g _ =>
  (θ_run Cert.GatheredIdeal.defs _ _).mono (fun _ h => ⟨fun c => ⟨(h.1 c).2.1, (h.1 c).2.2⟩, h.2⟩) (AloneRef.run_ref (F := Bits) m g)

/-- What the gather leaves is what its reference leaves, over either kind of float: both hold at `(b, c, j)` the feature at
    `(b, c, idx[b, j])`. -/
theorem same {F : FTy → Type} [FloatOps F] (m : (ℓ : Loc Cert.GatherIdeal.nD Cert.GatherIdeal.τ Cert.GatherIdeal.sig) → Buf (Elt F) ℓ)
    (m' : (ℓ : Loc Cert.GatheredIdeal.nD Cert.GatheredIdeal.τ Cert.GatheredIdeal.sig) → Buf (Elt F) ℓ) (c : Dev Cert.GatherIdeal.nD)
    (hx : AloneRef.feat m' c = m (Alone.aLoc c)) (hi : AloneRef.inds m' c = Alone.iv m c) (hr : ∀ x, (Alone.iv m c x).toNat < 8192)
    (v : FVec F Cert.GatheredIdeal.S8x128x2048 .f32)
    (hv : ∀ (h : ∀ x, (AloneRef.inds m' c x).toNat < 8192) (b : Fin 8) (k : Fin 128) (j : Fin 2048),
      v (ix3 b k j) = AloneRef.feat m' c (ix3 b k ⟨(AloneRef.inds m' c (ix2 b j)).toNat, h _⟩)) :
    v = Alone.out m c := by
  have hv := hv (fun x => by rw [hi]; exact hr x)
  funext y
  rw [show y = _ from ValueIdx.eq_ix3 (n0 := 8) (n1 := 128) (n2 := 2048) y]
  refine (hv _ _ _).trans ?_
  refine Eq.trans ?_ (Alone.out_apply m c hr _ _ _).symm
  rw [hx]
  simp only [hi]

/-- The exact gather's result is its exact reference's. -/
theorem value_gather : Cert.algebraic_GatherIdeal_GatheredIdeal := by
  intro m g m' g' hp hagree
  refine ⟨fun c => Alone.out m c, θ_run_mono (Alone.run_main (F := Ideal) m g (bound hp)) fun _ h => h.1, ?_⟩
  exact θ_run_mono (AloneRef.run_ref (F := Ideal) m' g') fun r h c =>
    ⟨same m m' c (hagree c).1 (hagree c).2 (bound hp c) _ (h.1 c).1, (h.1 c).2.1, (h.1 c).2.2⟩

/-- The machine gather's result is its machine reference's, bit for bit. -/
theorem bits_gather : Cert.bitexact_Gather_Gathered := by
  intro m g m' g' hp hagree
  refine ⟨fun c => Alone.out (F := Bits) m c,
    (θ_run Cert.GatherIdeal.defs _ _).mono (fun _ h => h.1) (Alone.run_main (F := Bits) m g (bound_bits hp)), ?_⟩
  exact (θ_run Cert.GatheredIdeal.defs _ _).mono
    (fun r h c => ⟨same (F := Bits) m m' c (hagree c).1 (hagree c).2 (bound_bits hp c) _ (h.1 c).1, (h.1 c).2.1, (h.1 c).2.2⟩)
    (AloneRef.run_ref (F := Bits) m' g')

theorem claim : Cert.Claim :=
  ⟨Cert.KernelIdeal.Gen.facts, Cert.ReferenceIdeal.Gen.facts, Cert.Gather.Gen.facts, Cert.GatherIdeal.Gen.facts,
    Cert.Gathered.Gen.facts, Cert.GatheredIdeal.Gen.facts, Cert.Pre_in_range.Gen.facts,
    frame_kernel, frame_ref, frame_gather, frame_gather_ideal, frame_gathered, frame_gathered_pre,
    frame_gathered_ideal, frame_gathered_ideal_pre, value, trivial, value_gather, bits_gather⟩

end Cert.Proof

end
